-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_DWout (m : (ℓ : Loc Cert.DWout.nD Cert.DWout.τ Cert.DWout.sig) → Buf (Elt Bits) ℓ) : Prop :=
  True

def Pre_DWoutIdeal (m : (ℓ : Loc Cert.DWoutIdeal.nD Cert.DWoutIdeal.τ Cert.DWoutIdeal.sig) → Buf (Elt Ideal) ℓ) : Prop :=
  True

def Pre_DWoutRefIdeal (m : (ℓ : Loc Cert.DWoutRefIdeal.nD Cert.DWoutRefIdeal.τ Cert.DWoutRefIdeal.sig) → Buf (Elt Ideal) ℓ) : Prop :=
  True

def Pre_DY (m : (ℓ : Loc Cert.DY.nD Cert.DY.τ Cert.DY.sig) → Buf (Elt Bits) ℓ) : Prop :=
  True

def Pre_DYIdeal (m : (ℓ : Loc Cert.DYIdeal.nD Cert.DYIdeal.τ Cert.DYIdeal.sig) → Buf (Elt Ideal) ℓ) : Prop :=
  True

def Pre_DYRefIdeal (m : (ℓ : Loc Cert.DYRefIdeal.nD Cert.DYRefIdeal.τ Cert.DYRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite_qk [hPre_finite_qk : Cert.Pre_finite_qk.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite_qk.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))) = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_finite_qk [hPre_finite_qk : Cert.Pre_finite_qk.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_finite_qk.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))) = (fun _ => 1#1)

def Pre_DWin (m : (ℓ : Loc Cert.DWin.nD Cert.DWin.τ Cert.DWin.sig) → Buf (Elt Bits) ℓ) : Prop :=
  True

def Pre_DWinIdeal (m : (ℓ : Loc Cert.DWinIdeal.nD Cert.DWinIdeal.τ Cert.DWinIdeal.sig) → Buf (Elt Ideal) ℓ) : Prop :=
  True

def Pre_DWinRefIdeal (m : (ℓ : Loc Cert.DWinRefIdeal.nD Cert.DWinRefIdeal.τ Cert.DWinRefIdeal.sig) → Buf (Elt Ideal) ℓ) : Prop :=
  True

def Pre_DH (m : (ℓ : Loc Cert.DH.nD Cert.DH.τ Cert.DH.sig) → Buf (Elt Bits) ℓ) : Prop :=
  True

def Pre_DHIdeal (m : (ℓ : Loc Cert.DHIdeal.nD Cert.DHIdeal.τ Cert.DHIdeal.sig) → Buf (Elt Ideal) ℓ) : Prop :=
  True

def Pre_DHRefIdeal (m : (ℓ : Loc Cert.DHRefIdeal.nD Cert.DHRefIdeal.τ Cert.DHRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsBwdRefIdeal (m : (ℓ : Loc Cert.RmsBwdRefIdeal.nD Cert.RmsBwdRefIdeal.τ Cert.RmsBwdRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_AdamwIn (m : (ℓ : Loc Cert.AdamwIn.nD Cert.AdamwIn.τ Cert.AdamwIn.sig) → Buf (Elt Bits) ℓ) : Prop :=
  True

def Pre_AdamwInIdeal (m : (ℓ : Loc Cert.AdamwInIdeal.nD Cert.AdamwInIdeal.τ Cert.AdamwInIdeal.sig) → Buf (Elt Ideal) ℓ) : Prop :=
  True

def Pre_AdamwInRefIdeal (m : (ℓ : Loc Cert.AdamwInRefIdeal.nD Cert.AdamwInRefIdeal.τ Cert.AdamwInRefIdeal.sig) → Buf (Elt Ideal) ℓ) : Prop :=
  True

def Pre_AdamwOut (m : (ℓ : Loc Cert.AdamwOut.nD Cert.AdamwOut.τ Cert.AdamwOut.sig) → Buf (Elt Bits) ℓ) : Prop :=
  True

def Pre_AdamwOutIdeal (m : (ℓ : Loc Cert.AdamwOutIdeal.nD Cert.AdamwOutIdeal.τ Cert.AdamwOutIdeal.sig) → Buf (Elt Ideal) ℓ) : Prop :=
  True

def Pre_AdamwOutRefIdeal (m : (ℓ : Loc Cert.AdamwOutRefIdeal.nD Cert.AdamwOutRefIdeal.τ Cert.AdamwOutRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_DWout [hDWout : Cert.DWout.Facts] : Prop :=
  ∀ (m : (ℓ : Loc Cert.DWout.nD Cert.DWout.τ Cert.DWout.sig) → Buf (Elt Bits) ℓ) (g : Dev Cert.DWout.nD → PrngReg), Pre_DWout m →
    θ_run (Cert.DWout.defs (F := Bits)) (onTc (τ := Cert.DWout.τ) (Cert.DWout.main (F := Bits))) ⟨m, fun _ => 0, g⟩ (fun r => (∀ c : Dev Cert.DWout.nD,
      r.2.mem ((c.tc : Thread Cert.DWout.nD Cert.DWout.τ).loc Cert.DWout.main_arg0) = m ((c.tc : Thread Cert.DWout.nD Cert.DWout.τ).loc Cert.DWout.main_arg0)
      ∧ r.2.mem ((c.tc : Thread Cert.DWout.nD Cert.DWout.τ).loc Cert.DWout.main_arg1) = m ((c.tc : Thread Cert.DWout.nD Cert.DWout.τ).loc Cert.DWout.main_arg1))
      ∧ r.2.sem = fun _ => 0)

def quiescent_DWoutIdeal [hDWoutIdeal : Cert.DWoutIdeal.Facts] : Prop :=
  ∀ (m : (ℓ : Loc Cert.DWoutIdeal.nD Cert.DWoutIdeal.τ Cert.DWoutIdeal.sig) → Buf (Elt Ideal) ℓ) (g : Dev Cert.DWoutIdeal.nD → PrngReg), Pre_DWoutIdeal m →
    θ_run (Cert.DWoutIdeal.defs (F := Ideal)) (onTc (τ := Cert.DWoutIdeal.τ) (Cert.DWoutIdeal.main (F := Ideal))) ⟨m, fun _ => 0, g⟩ (fun r => (∀ c : Dev Cert.DWoutIdeal.nD,
      r.2.mem ((c.tc : Thread Cert.DWoutIdeal.nD Cert.DWoutIdeal.τ).loc Cert.DWoutIdeal.main_arg0) = m ((c.tc : Thread Cert.DWoutIdeal.nD Cert.DWoutIdeal.τ).loc Cert.DWoutIdeal.main_arg0)
      ∧ r.2.mem ((c.tc : Thread Cert.DWoutIdeal.nD Cert.DWoutIdeal.τ).loc Cert.DWoutIdeal.main_arg1) = m ((c.tc : Thread Cert.DWoutIdeal.nD Cert.DWoutIdeal.τ).loc Cert.DWoutIdeal.main_arg1))
      ∧ r.2.sem = fun _ => 0)

def quiescent_DWoutRefIdeal [hDWoutRefIdeal : Cert.DWoutRefIdeal.Facts] : Prop :=
  ∀ (m : (ℓ : Loc Cert.DWoutRefIdeal.nD Cert.DWoutRefIdeal.τ Cert.DWoutRefIdeal.sig) → Buf (Elt Ideal) ℓ) (g : Dev Cert.DWoutRefIdeal.nD → PrngReg), Pre_DWoutRefIdeal m →
    θ_run (Cert.DWoutRefIdeal.defs (F := Ideal)) (onTc (τ := Cert.DWoutRefIdeal.τ) (Cert.DWoutRefIdeal.main (F := Ideal))) ⟨m, fun _ => 0, g⟩ (fun r => (∀ c : Dev Cert.DWoutRefIdeal.nD,
      r.2.mem ((c.tc : Thread Cert.DWoutRefIdeal.nD Cert.DWoutRefIdeal.τ).loc Cert.DWoutRefIdeal.main_arg0) = m ((c.tc : Thread Cert.DWoutRefIdeal.nD Cert.DWoutRefIdeal.τ).loc Cert.DWoutRefIdeal.main_arg0)
      ∧ r.2.mem ((c.tc : Thread Cert.DWoutRefIdeal.nD Cert.DWoutRefIdeal.τ).loc Cert.DWoutRefIdeal.main_arg1) = m ((c.tc : Thread Cert.DWoutRefIdeal.nD Cert.DWoutRefIdeal.τ).loc Cert.DWoutRefIdeal.main_arg1))
      ∧ r.2.sem = fun _ => 0)

def quiescent_DY [hDY : Cert.DY.Facts] : Prop :=
  ∀ (m : (ℓ : Loc Cert.DY.nD Cert.DY.τ Cert.DY.sig) → Buf (Elt Bits) ℓ) (g : Dev Cert.DY.nD → PrngReg), Pre_DY m →
    θ_run (Cert.DY.defs (F := Bits)) (onTc (τ := Cert.DY.τ) (Cert.DY.main (F := Bits))) ⟨m, fun _ => 0, g⟩ (fun r => (∀ c : Dev Cert.DY.nD,
      r.2.mem ((c.tc : Thread Cert.DY.nD Cert.DY.τ).loc Cert.DY.main_arg0) = m ((c.tc : Thread Cert.DY.nD Cert.DY.τ).loc Cert.DY.main_arg0)
      ∧ r.2.mem ((c.tc : Thread Cert.DY.nD Cert.DY.τ).loc Cert.DY.main_arg1) = m ((c.tc : Thread Cert.DY.nD Cert.DY.τ).loc Cert.DY.main_arg1))
      ∧ r.2.sem = fun _ => 0)

def quiescent_DYIdeal [hDYIdeal : Cert.DYIdeal.Facts] : Prop :=
  ∀ (m : (ℓ : Loc Cert.DYIdeal.nD Cert.DYIdeal.τ Cert.DYIdeal.sig) → Buf (Elt Ideal) ℓ) (g : Dev Cert.DYIdeal.nD → PrngReg), Pre_DYIdeal m →
    θ_run (Cert.DYIdeal.defs (F := Ideal)) (onTc (τ := Cert.DYIdeal.τ) (Cert.DYIdeal.main (F := Ideal))) ⟨m, fun _ => 0, g⟩ (fun r => (∀ c : Dev Cert.DYIdeal.nD,
      r.2.mem ((c.tc : Thread Cert.DYIdeal.nD Cert.DYIdeal.τ).loc Cert.DYIdeal.main_arg0) = m ((c.tc : Thread Cert.DYIdeal.nD Cert.DYIdeal.τ).loc Cert.DYIdeal.main_arg0)
      ∧ r.2.mem ((c.tc : Thread Cert.DYIdeal.nD Cert.DYIdeal.τ).loc Cert.DYIdeal.main_arg1) = m ((c.tc : Thread Cert.DYIdeal.nD Cert.DYIdeal.τ).loc Cert.DYIdeal.main_arg1))
      ∧ r.2.sem = fun _ => 0)

def quiescent_DYRefIdeal [hDYRefIdeal : Cert.DYRefIdeal.Facts] : Prop :=
  ∀ (m : (ℓ : Loc Cert.DYRefIdeal.nD Cert.DYRefIdeal.τ Cert.DYRefIdeal.sig) → Buf (Elt Ideal) ℓ) (g : Dev Cert.DYRefIdeal.nD → PrngReg), Pre_DYRefIdeal m →
    θ_run (Cert.DYRefIdeal.defs (F := Ideal)) (onTc (τ := Cert.DYRefIdeal.τ) (Cert.DYRefIdeal.main (F := Ideal))) ⟨m, fun _ => 0, g⟩ (fun r => (∀ c : Dev Cert.DYRefIdeal.nD,
      r.2.mem ((c.tc : Thread Cert.DYRefIdeal.nD Cert.DYRefIdeal.τ).loc Cert.DYRefIdeal.main_arg0) = m ((c.tc : Thread Cert.DYRefIdeal.nD Cert.DYRefIdeal.τ).loc Cert.DYRefIdeal.main_arg0)
      ∧ r.2.mem ((c.tc : Thread Cert.DYRefIdeal.nD Cert.DYRefIdeal.τ).loc Cert.DYRefIdeal.main_arg1) = m ((c.tc : Thread Cert.DYRefIdeal.nD Cert.DYRefIdeal.τ).loc Cert.DYRefIdeal.main_arg1))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdIdeal_pre_finite_qk [hAttnFwdIdeal : Cert.AttnFwdIdeal.Facts] [hPre_finite_qk : Cert.Pre_finite_qk.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite_qk m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_AttnFwdRefIdeal_pre_finite_qk [hAttnFwdRefIdeal : Cert.AttnFwdRefIdeal.Facts] [hPre_finite_qk : Cert.Pre_finite_qk.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_finite_qk m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_DWin [hDWin : Cert.DWin.Facts] : Prop :=
  ∀ (m : (ℓ : Loc Cert.DWin.nD Cert.DWin.τ Cert.DWin.sig) → Buf (Elt Bits) ℓ) (g : Dev Cert.DWin.nD → PrngReg), Pre_DWin m →
    θ_run (Cert.DWin.defs (F := Bits)) (onTc (τ := Cert.DWin.τ) (Cert.DWin.main (F := Bits))) ⟨m, fun _ => 0, g⟩ (fun r => (∀ c : Dev Cert.DWin.nD,
      r.2.mem ((c.tc : Thread Cert.DWin.nD Cert.DWin.τ).loc Cert.DWin.main_arg0) = m ((c.tc : Thread Cert.DWin.nD Cert.DWin.τ).loc Cert.DWin.main_arg0)
      ∧ r.2.mem ((c.tc : Thread Cert.DWin.nD Cert.DWin.τ).loc Cert.DWin.main_arg1) = m ((c.tc : Thread Cert.DWin.nD Cert.DWin.τ).loc Cert.DWin.main_arg1))
      ∧ r.2.sem = fun _ => 0)

def quiescent_DWinIdeal [hDWinIdeal : Cert.DWinIdeal.Facts] : Prop :=
  ∀ (m : (ℓ : Loc Cert.DWinIdeal.nD Cert.DWinIdeal.τ Cert.DWinIdeal.sig) → Buf (Elt Ideal) ℓ) (g : Dev Cert.DWinIdeal.nD → PrngReg), Pre_DWinIdeal m →
    θ_run (Cert.DWinIdeal.defs (F := Ideal)) (onTc (τ := Cert.DWinIdeal.τ) (Cert.DWinIdeal.main (F := Ideal))) ⟨m, fun _ => 0, g⟩ (fun r => (∀ c : Dev Cert.DWinIdeal.nD,
      r.2.mem ((c.tc : Thread Cert.DWinIdeal.nD Cert.DWinIdeal.τ).loc Cert.DWinIdeal.main_arg0) = m ((c.tc : Thread Cert.DWinIdeal.nD Cert.DWinIdeal.τ).loc Cert.DWinIdeal.main_arg0)
      ∧ r.2.mem ((c.tc : Thread Cert.DWinIdeal.nD Cert.DWinIdeal.τ).loc Cert.DWinIdeal.main_arg1) = m ((c.tc : Thread Cert.DWinIdeal.nD Cert.DWinIdeal.τ).loc Cert.DWinIdeal.main_arg1))
      ∧ r.2.sem = fun _ => 0)

def quiescent_DWinRefIdeal [hDWinRefIdeal : Cert.DWinRefIdeal.Facts] : Prop :=
  ∀ (m : (ℓ : Loc Cert.DWinRefIdeal.nD Cert.DWinRefIdeal.τ Cert.DWinRefIdeal.sig) → Buf (Elt Ideal) ℓ) (g : Dev Cert.DWinRefIdeal.nD → PrngReg), Pre_DWinRefIdeal m →
    θ_run (Cert.DWinRefIdeal.defs (F := Ideal)) (onTc (τ := Cert.DWinRefIdeal.τ) (Cert.DWinRefIdeal.main (F := Ideal))) ⟨m, fun _ => 0, g⟩ (fun r => (∀ c : Dev Cert.DWinRefIdeal.nD,
      r.2.mem ((c.tc : Thread Cert.DWinRefIdeal.nD Cert.DWinRefIdeal.τ).loc Cert.DWinRefIdeal.main_arg0) = m ((c.tc : Thread Cert.DWinRefIdeal.nD Cert.DWinRefIdeal.τ).loc Cert.DWinRefIdeal.main_arg0)
      ∧ r.2.mem ((c.tc : Thread Cert.DWinRefIdeal.nD Cert.DWinRefIdeal.τ).loc Cert.DWinRefIdeal.main_arg1) = m ((c.tc : Thread Cert.DWinRefIdeal.nD Cert.DWinRefIdeal.τ).loc Cert.DWinRefIdeal.main_arg1))
      ∧ r.2.sem = fun _ => 0)

def quiescent_DH [hDH : Cert.DH.Facts] : Prop :=
  ∀ (m : (ℓ : Loc Cert.DH.nD Cert.DH.τ Cert.DH.sig) → Buf (Elt Bits) ℓ) (g : Dev Cert.DH.nD → PrngReg), Pre_DH m →
    θ_run (Cert.DH.defs (F := Bits)) (onTc (τ := Cert.DH.τ) (Cert.DH.main (F := Bits))) ⟨m, fun _ => 0, g⟩ (fun r => (∀ c : Dev Cert.DH.nD,
      r.2.mem ((c.tc : Thread Cert.DH.nD Cert.DH.τ).loc Cert.DH.main_arg0) = m ((c.tc : Thread Cert.DH.nD Cert.DH.τ).loc Cert.DH.main_arg0)
      ∧ r.2.mem ((c.tc : Thread Cert.DH.nD Cert.DH.τ).loc Cert.DH.main_arg1) = m ((c.tc : Thread Cert.DH.nD Cert.DH.τ).loc Cert.DH.main_arg1))
      ∧ r.2.sem = fun _ => 0)

def quiescent_DHIdeal [hDHIdeal : Cert.DHIdeal.Facts] : Prop :=
  ∀ (m : (ℓ : Loc Cert.DHIdeal.nD Cert.DHIdeal.τ Cert.DHIdeal.sig) → Buf (Elt Ideal) ℓ) (g : Dev Cert.DHIdeal.nD → PrngReg), Pre_DHIdeal m →
    θ_run (Cert.DHIdeal.defs (F := Ideal)) (onTc (τ := Cert.DHIdeal.τ) (Cert.DHIdeal.main (F := Ideal))) ⟨m, fun _ => 0, g⟩ (fun r => (∀ c : Dev Cert.DHIdeal.nD,
      r.2.mem ((c.tc : Thread Cert.DHIdeal.nD Cert.DHIdeal.τ).loc Cert.DHIdeal.main_arg0) = m ((c.tc : Thread Cert.DHIdeal.nD Cert.DHIdeal.τ).loc Cert.DHIdeal.main_arg0)
      ∧ r.2.mem ((c.tc : Thread Cert.DHIdeal.nD Cert.DHIdeal.τ).loc Cert.DHIdeal.main_arg1) = m ((c.tc : Thread Cert.DHIdeal.nD Cert.DHIdeal.τ).loc Cert.DHIdeal.main_arg1))
      ∧ r.2.sem = fun _ => 0)

def quiescent_DHRefIdeal [hDHRefIdeal : Cert.DHRefIdeal.Facts] : Prop :=
  ∀ (m : (ℓ : Loc Cert.DHRefIdeal.nD Cert.DHRefIdeal.τ Cert.DHRefIdeal.sig) → Buf (Elt Ideal) ℓ) (g : Dev Cert.DHRefIdeal.nD → PrngReg), Pre_DHRefIdeal m →
    θ_run (Cert.DHRefIdeal.defs (F := Ideal)) (onTc (τ := Cert.DHRefIdeal.τ) (Cert.DHRefIdeal.main (F := Ideal))) ⟨m, fun _ => 0, g⟩ (fun r => (∀ c : Dev Cert.DHRefIdeal.nD,
      r.2.mem ((c.tc : Thread Cert.DHRefIdeal.nD Cert.DHRefIdeal.τ).loc Cert.DHRefIdeal.main_arg0) = m ((c.tc : Thread Cert.DHRefIdeal.nD Cert.DHRefIdeal.τ).loc Cert.DHRefIdeal.main_arg0)
      ∧ r.2.mem ((c.tc : Thread Cert.DHRefIdeal.nD Cert.DHRefIdeal.τ).loc Cert.DHRefIdeal.main_arg1) = m ((c.tc : Thread Cert.DHRefIdeal.nD Cert.DHRefIdeal.τ).loc Cert.DHRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdRefIdeal [hRmsBwdRefIdeal : Cert.RmsBwdRefIdeal.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_AdamwIn [hAdamwIn : Cert.AdamwIn.Facts] : Prop :=
  ∀ (m : (ℓ : Loc Cert.AdamwIn.nD Cert.AdamwIn.τ Cert.AdamwIn.sig) → Buf (Elt Bits) ℓ) (g : Dev Cert.AdamwIn.nD → PrngReg), Pre_AdamwIn m →
    θ_run (Cert.AdamwIn.defs (F := Bits)) (onTc (τ := Cert.AdamwIn.τ) (Cert.AdamwIn.main (F := Bits))) ⟨m, fun _ => 0, g⟩ (fun r => (∀ c : Dev Cert.AdamwIn.nD,
      r.2.mem ((c.tc : Thread Cert.AdamwIn.nD Cert.AdamwIn.τ).loc Cert.AdamwIn.main_arg0) = m ((c.tc : Thread Cert.AdamwIn.nD Cert.AdamwIn.τ).loc Cert.AdamwIn.main_arg0)
      ∧ r.2.mem ((c.tc : Thread Cert.AdamwIn.nD Cert.AdamwIn.τ).loc Cert.AdamwIn.main_arg1) = m ((c.tc : Thread Cert.AdamwIn.nD Cert.AdamwIn.τ).loc Cert.AdamwIn.main_arg1)
      ∧ r.2.mem ((c.tc : Thread Cert.AdamwIn.nD Cert.AdamwIn.τ).loc Cert.AdamwIn.main_arg2) = m ((c.tc : Thread Cert.AdamwIn.nD Cert.AdamwIn.τ).loc Cert.AdamwIn.main_arg2)
      ∧ r.2.mem ((c.tc : Thread Cert.AdamwIn.nD Cert.AdamwIn.τ).loc Cert.AdamwIn.main_arg3) = m ((c.tc : Thread Cert.AdamwIn.nD Cert.AdamwIn.τ).loc Cert.AdamwIn.main_arg3)
      ∧ r.2.mem ((c.tc : Thread Cert.AdamwIn.nD Cert.AdamwIn.τ).loc Cert.AdamwIn.main_arg4) = m ((c.tc : Thread Cert.AdamwIn.nD Cert.AdamwIn.τ).loc Cert.AdamwIn.main_arg4)
      ∧ r.2.mem ((c.tc : Thread Cert.AdamwIn.nD Cert.AdamwIn.τ).loc Cert.AdamwIn.main_arg5) = m ((c.tc : Thread Cert.AdamwIn.nD Cert.AdamwIn.τ).loc Cert.AdamwIn.main_arg5)
      ∧ r.2.mem ((c.tc : Thread Cert.AdamwIn.nD Cert.AdamwIn.τ).loc Cert.AdamwIn.main_arg6) = m ((c.tc : Thread Cert.AdamwIn.nD Cert.AdamwIn.τ).loc Cert.AdamwIn.main_arg6)
      ∧ r.2.mem ((c.tc : Thread Cert.AdamwIn.nD Cert.AdamwIn.τ).loc Cert.AdamwIn.main_arg7) = m ((c.tc : Thread Cert.AdamwIn.nD Cert.AdamwIn.τ).loc Cert.AdamwIn.main_arg7)
      ∧ r.2.mem ((c.tc : Thread Cert.AdamwIn.nD Cert.AdamwIn.τ).loc Cert.AdamwIn.main_arg8) = m ((c.tc : Thread Cert.AdamwIn.nD Cert.AdamwIn.τ).loc Cert.AdamwIn.main_arg8)
      ∧ r.2.mem ((c.tc : Thread Cert.AdamwIn.nD Cert.AdamwIn.τ).loc Cert.AdamwIn.main_arg9) = m ((c.tc : Thread Cert.AdamwIn.nD Cert.AdamwIn.τ).loc Cert.AdamwIn.main_arg9)
      ∧ r.2.mem ((c.tc : Thread Cert.AdamwIn.nD Cert.AdamwIn.τ).loc Cert.AdamwIn.main_arg10) = m ((c.tc : Thread Cert.AdamwIn.nD Cert.AdamwIn.τ).loc Cert.AdamwIn.main_arg10)
      ∧ r.2.mem ((c.tc : Thread Cert.AdamwIn.nD Cert.AdamwIn.τ).loc Cert.AdamwIn.main_arg11) = m ((c.tc : Thread Cert.AdamwIn.nD Cert.AdamwIn.τ).loc Cert.AdamwIn.main_arg11)
      ∧ r.2.mem ((c.tc : Thread Cert.AdamwIn.nD Cert.AdamwIn.τ).loc Cert.AdamwIn.main_arg12) = m ((c.tc : Thread Cert.AdamwIn.nD Cert.AdamwIn.τ).loc Cert.AdamwIn.main_arg12)
      ∧ r.2.mem ((c.tc : Thread Cert.AdamwIn.nD Cert.AdamwIn.τ).loc Cert.AdamwIn.main_arg13) = m ((c.tc : Thread Cert.AdamwIn.nD Cert.AdamwIn.τ).loc Cert.AdamwIn.main_arg13)
      ∧ r.2.mem ((c.tc : Thread Cert.AdamwIn.nD Cert.AdamwIn.τ).loc Cert.AdamwIn.main_arg14) = m ((c.tc : Thread Cert.AdamwIn.nD Cert.AdamwIn.τ).loc Cert.AdamwIn.main_arg14)
      ∧ r.2.mem ((c.tc : Thread Cert.AdamwIn.nD Cert.AdamwIn.τ).loc Cert.AdamwIn.main_arg15) = m ((c.tc : Thread Cert.AdamwIn.nD Cert.AdamwIn.τ).loc Cert.AdamwIn.main_arg15))
      ∧ r.2.sem = fun _ => 0)

def quiescent_AdamwInIdeal [hAdamwInIdeal : Cert.AdamwInIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg), Pre_AdamwInIdeal m →
    θ_run (Cert.AdamwInIdeal.defs (F := Ideal)) (onTc (τ := Cert.AdamwInIdeal.τ) (Cert.AdamwInIdeal.main (F := Ideal))) ⟨m, fun _ => 0, g⟩ (fun r => (∀ c : Dev Cert.AdamwInIdeal.nD,
      r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
      ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
      ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
      ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3)
      ∧ r.2.mem ((c.tc : Thread Cert.AdamwInIdeal.nD Cert.AdamwInIdeal.τ).loc Cert.AdamwInIdeal.main_arg4) = m ((c.tc : Thread Cert.AdamwInIdeal.nD Cert.AdamwInIdeal.τ).loc Cert.AdamwInIdeal.main_arg4)
      ∧ r.2.mem ((c.tc : Thread Cert.AdamwInIdeal.nD Cert.AdamwInIdeal.τ).loc Cert.AdamwInIdeal.main_arg5) = m ((c.tc : Thread Cert.AdamwInIdeal.nD Cert.AdamwInIdeal.τ).loc Cert.AdamwInIdeal.main_arg5)
      ∧ r.2.mem ((c.tc : Thread Cert.AdamwInIdeal.nD Cert.AdamwInIdeal.τ).loc Cert.AdamwInIdeal.main_arg6) = m ((c.tc : Thread Cert.AdamwInIdeal.nD Cert.AdamwInIdeal.τ).loc Cert.AdamwInIdeal.main_arg6)
      ∧ r.2.mem ((c.tc : Thread Cert.AdamwInIdeal.nD Cert.AdamwInIdeal.τ).loc Cert.AdamwInIdeal.main_arg7) = m ((c.tc : Thread Cert.AdamwInIdeal.nD Cert.AdamwInIdeal.τ).loc Cert.AdamwInIdeal.main_arg7)
      ∧ r.2.mem ((c.tc : Thread Cert.AdamwInIdeal.nD Cert.AdamwInIdeal.τ).loc Cert.AdamwInIdeal.main_arg8) = m ((c.tc : Thread Cert.AdamwInIdeal.nD Cert.AdamwInIdeal.τ).loc Cert.AdamwInIdeal.main_arg8)
      ∧ r.2.mem ((c.tc : Thread Cert.AdamwInIdeal.nD Cert.AdamwInIdeal.τ).loc Cert.AdamwInIdeal.main_arg9) = m ((c.tc : Thread Cert.AdamwInIdeal.nD Cert.AdamwInIdeal.τ).loc Cert.AdamwInIdeal.main_arg9)
      ∧ r.2.mem ((c.tc : Thread Cert.AdamwInIdeal.nD Cert.AdamwInIdeal.τ).loc Cert.AdamwInIdeal.main_arg10) = m ((c.tc : Thread Cert.AdamwInIdeal.nD Cert.AdamwInIdeal.τ).loc Cert.AdamwInIdeal.main_arg10)
      ∧ r.2.mem ((c.tc : Thread Cert.AdamwInIdeal.nD Cert.AdamwInIdeal.τ).loc Cert.AdamwInIdeal.main_arg11) = m ((c.tc : Thread Cert.AdamwInIdeal.nD Cert.AdamwInIdeal.τ).loc Cert.AdamwInIdeal.main_arg11)
      ∧ r.2.mem ((c.tc : Thread Cert.AdamwInIdeal.nD Cert.AdamwInIdeal.τ).loc Cert.AdamwInIdeal.main_arg12) = m ((c.tc : Thread Cert.AdamwInIdeal.nD Cert.AdamwInIdeal.τ).loc Cert.AdamwInIdeal.main_arg12)
      ∧ r.2.mem ((c.tc : Thread Cert.AdamwInIdeal.nD Cert.AdamwInIdeal.τ).loc Cert.AdamwInIdeal.main_arg13) = m ((c.tc : Thread Cert.AdamwInIdeal.nD Cert.AdamwInIdeal.τ).loc Cert.AdamwInIdeal.main_arg13)
      ∧ r.2.mem ((c.tc : Thread Cert.AdamwInIdeal.nD Cert.AdamwInIdeal.τ).loc Cert.AdamwInIdeal.main_arg14) = m ((c.tc : Thread Cert.AdamwInIdeal.nD Cert.AdamwInIdeal.τ).loc Cert.AdamwInIdeal.main_arg14)
      ∧ r.2.mem ((c.tc : Thread Cert.AdamwInIdeal.nD Cert.AdamwInIdeal.τ).loc Cert.AdamwInIdeal.main_arg15) = m ((c.tc : Thread Cert.AdamwInIdeal.nD Cert.AdamwInIdeal.τ).loc Cert.AdamwInIdeal.main_arg15))
      ∧ r.2.sem = fun _ => 0)

def quiescent_AdamwInRefIdeal [hAdamwInRefIdeal : Cert.AdamwInRefIdeal.Facts] : Prop :=
  ∀ (m : (ℓ : Loc Cert.AdamwInRefIdeal.nD Cert.AdamwInRefIdeal.τ Cert.AdamwInRefIdeal.sig) → Buf (Elt Ideal) ℓ) (g : Dev Cert.AdamwInRefIdeal.nD → PrngReg), Pre_AdamwInRefIdeal m →
    θ_run (Cert.AdamwInRefIdeal.defs (F := Ideal)) (onTc (τ := Cert.AdamwInRefIdeal.τ) (Cert.AdamwInRefIdeal.main (F := Ideal))) ⟨m, fun _ => 0, g⟩ (fun r => (∀ c : Dev Cert.AdamwInRefIdeal.nD,
      r.2.mem ((c.tc : Thread Cert.AdamwInRefIdeal.nD Cert.AdamwInRefIdeal.τ).loc Cert.AdamwInRefIdeal.main_arg0) = m ((c.tc : Thread Cert.AdamwInRefIdeal.nD Cert.AdamwInRefIdeal.τ).loc Cert.AdamwInRefIdeal.main_arg0)
      ∧ r.2.mem ((c.tc : Thread Cert.AdamwInRefIdeal.nD Cert.AdamwInRefIdeal.τ).loc Cert.AdamwInRefIdeal.main_arg1) = m ((c.tc : Thread Cert.AdamwInRefIdeal.nD Cert.AdamwInRefIdeal.τ).loc Cert.AdamwInRefIdeal.main_arg1)
      ∧ r.2.mem ((c.tc : Thread Cert.AdamwInRefIdeal.nD Cert.AdamwInRefIdeal.τ).loc Cert.AdamwInRefIdeal.main_arg2) = m ((c.tc : Thread Cert.AdamwInRefIdeal.nD Cert.AdamwInRefIdeal.τ).loc Cert.AdamwInRefIdeal.main_arg2)
      ∧ r.2.mem ((c.tc : Thread Cert.AdamwInRefIdeal.nD Cert.AdamwInRefIdeal.τ).loc Cert.AdamwInRefIdeal.main_arg3) = m ((c.tc : Thread Cert.AdamwInRefIdeal.nD Cert.AdamwInRefIdeal.τ).loc Cert.AdamwInRefIdeal.main_arg3)
      ∧ r.2.mem ((c.tc : Thread Cert.AdamwInRefIdeal.nD Cert.AdamwInRefIdeal.τ).loc Cert.AdamwInRefIdeal.main_arg4) = m ((c.tc : Thread Cert.AdamwInRefIdeal.nD Cert.AdamwInRefIdeal.τ).loc Cert.AdamwInRefIdeal.main_arg4)
      ∧ r.2.mem ((c.tc : Thread Cert.AdamwInRefIdeal.nD Cert.AdamwInRefIdeal.τ).loc Cert.AdamwInRefIdeal.main_arg5) = m ((c.tc : Thread Cert.AdamwInRefIdeal.nD Cert.AdamwInRefIdeal.τ).loc Cert.AdamwInRefIdeal.main_arg5)
      ∧ r.2.mem ((c.tc : Thread Cert.AdamwInRefIdeal.nD Cert.AdamwInRefIdeal.τ).loc Cert.AdamwInRefIdeal.main_arg6) = m ((c.tc : Thread Cert.AdamwInRefIdeal.nD Cert.AdamwInRefIdeal.τ).loc Cert.AdamwInRefIdeal.main_arg6)
      ∧ r.2.mem ((c.tc : Thread Cert.AdamwInRefIdeal.nD Cert.AdamwInRefIdeal.τ).loc Cert.AdamwInRefIdeal.main_arg7) = m ((c.tc : Thread Cert.AdamwInRefIdeal.nD Cert.AdamwInRefIdeal.τ).loc Cert.AdamwInRefIdeal.main_arg7)
      ∧ r.2.mem ((c.tc : Thread Cert.AdamwInRefIdeal.nD Cert.AdamwInRefIdeal.τ).loc Cert.AdamwInRefIdeal.main_arg8) = m ((c.tc : Thread Cert.AdamwInRefIdeal.nD Cert.AdamwInRefIdeal.τ).loc Cert.AdamwInRefIdeal.main_arg8)
      ∧ r.2.mem ((c.tc : Thread Cert.AdamwInRefIdeal.nD Cert.AdamwInRefIdeal.τ).loc Cert.AdamwInRefIdeal.main_arg9) = m ((c.tc : Thread Cert.AdamwInRefIdeal.nD Cert.AdamwInRefIdeal.τ).loc Cert.AdamwInRefIdeal.main_arg9)
      ∧ r.2.mem ((c.tc : Thread Cert.AdamwInRefIdeal.nD Cert.AdamwInRefIdeal.τ).loc Cert.AdamwInRefIdeal.main_arg10) = m ((c.tc : Thread Cert.AdamwInRefIdeal.nD Cert.AdamwInRefIdeal.τ).loc Cert.AdamwInRefIdeal.main_arg10)
      ∧ r.2.mem ((c.tc : Thread Cert.AdamwInRefIdeal.nD Cert.AdamwInRefIdeal.τ).loc Cert.AdamwInRefIdeal.main_arg11) = m ((c.tc : Thread Cert.AdamwInRefIdeal.nD Cert.AdamwInRefIdeal.τ).loc Cert.AdamwInRefIdeal.main_arg11)
      ∧ r.2.mem ((c.tc : Thread Cert.AdamwInRefIdeal.nD Cert.AdamwInRefIdeal.τ).loc Cert.AdamwInRefIdeal.main_arg12) = m ((c.tc : Thread Cert.AdamwInRefIdeal.nD Cert.AdamwInRefIdeal.τ).loc Cert.AdamwInRefIdeal.main_arg12)
      ∧ r.2.mem ((c.tc : Thread Cert.AdamwInRefIdeal.nD Cert.AdamwInRefIdeal.τ).loc Cert.AdamwInRefIdeal.main_arg13) = m ((c.tc : Thread Cert.AdamwInRefIdeal.nD Cert.AdamwInRefIdeal.τ).loc Cert.AdamwInRefIdeal.main_arg13)
      ∧ r.2.mem ((c.tc : Thread Cert.AdamwInRefIdeal.nD Cert.AdamwInRefIdeal.τ).loc Cert.AdamwInRefIdeal.main_arg14) = m ((c.tc : Thread Cert.AdamwInRefIdeal.nD Cert.AdamwInRefIdeal.τ).loc Cert.AdamwInRefIdeal.main_arg14)
      ∧ r.2.mem ((c.tc : Thread Cert.AdamwInRefIdeal.nD Cert.AdamwInRefIdeal.τ).loc Cert.AdamwInRefIdeal.main_arg15) = m ((c.tc : Thread Cert.AdamwInRefIdeal.nD Cert.AdamwInRefIdeal.τ).loc Cert.AdamwInRefIdeal.main_arg15))
      ∧ r.2.sem = fun _ => 0)

def quiescent_AdamwOut [hAdamwOut : Cert.AdamwOut.Facts] : Prop :=
  ∀ (m : (ℓ : Loc Cert.AdamwOut.nD Cert.AdamwOut.τ Cert.AdamwOut.sig) → Buf (Elt Bits) ℓ) (g : Dev Cert.AdamwOut.nD → PrngReg), Pre_AdamwOut m →
    θ_run (Cert.AdamwOut.defs (F := Bits)) (onTc (τ := Cert.AdamwOut.τ) (Cert.AdamwOut.main (F := Bits))) ⟨m, fun _ => 0, g⟩ (fun r => (∀ c : Dev Cert.AdamwOut.nD,
      r.2.mem ((c.tc : Thread Cert.AdamwOut.nD Cert.AdamwOut.τ).loc Cert.AdamwOut.main_arg0) = m ((c.tc : Thread Cert.AdamwOut.nD Cert.AdamwOut.τ).loc Cert.AdamwOut.main_arg0)
      ∧ r.2.mem ((c.tc : Thread Cert.AdamwOut.nD Cert.AdamwOut.τ).loc Cert.AdamwOut.main_arg1) = m ((c.tc : Thread Cert.AdamwOut.nD Cert.AdamwOut.τ).loc Cert.AdamwOut.main_arg1)
      ∧ r.2.mem ((c.tc : Thread Cert.AdamwOut.nD Cert.AdamwOut.τ).loc Cert.AdamwOut.main_arg2) = m ((c.tc : Thread Cert.AdamwOut.nD Cert.AdamwOut.τ).loc Cert.AdamwOut.main_arg2)
      ∧ r.2.mem ((c.tc : Thread Cert.AdamwOut.nD Cert.AdamwOut.τ).loc Cert.AdamwOut.main_arg3) = m ((c.tc : Thread Cert.AdamwOut.nD Cert.AdamwOut.τ).loc Cert.AdamwOut.main_arg3)
      ∧ r.2.mem ((c.tc : Thread Cert.AdamwOut.nD Cert.AdamwOut.τ).loc Cert.AdamwOut.main_arg4) = m ((c.tc : Thread Cert.AdamwOut.nD Cert.AdamwOut.τ).loc Cert.AdamwOut.main_arg4)
      ∧ r.2.mem ((c.tc : Thread Cert.AdamwOut.nD Cert.AdamwOut.τ).loc Cert.AdamwOut.main_arg5) = m ((c.tc : Thread Cert.AdamwOut.nD Cert.AdamwOut.τ).loc Cert.AdamwOut.main_arg5)
      ∧ r.2.mem ((c.tc : Thread Cert.AdamwOut.nD Cert.AdamwOut.τ).loc Cert.AdamwOut.main_arg6) = m ((c.tc : Thread Cert.AdamwOut.nD Cert.AdamwOut.τ).loc Cert.AdamwOut.main_arg6)
      ∧ r.2.mem ((c.tc : Thread Cert.AdamwOut.nD Cert.AdamwOut.τ).loc Cert.AdamwOut.main_arg7) = m ((c.tc : Thread Cert.AdamwOut.nD Cert.AdamwOut.τ).loc Cert.AdamwOut.main_arg7)
      ∧ r.2.mem ((c.tc : Thread Cert.AdamwOut.nD Cert.AdamwOut.τ).loc Cert.AdamwOut.main_arg8) = m ((c.tc : Thread Cert.AdamwOut.nD Cert.AdamwOut.τ).loc Cert.AdamwOut.main_arg8)
      ∧ r.2.mem ((c.tc : Thread Cert.AdamwOut.nD Cert.AdamwOut.τ).loc Cert.AdamwOut.main_arg9) = m ((c.tc : Thread Cert.AdamwOut.nD Cert.AdamwOut.τ).loc Cert.AdamwOut.main_arg9)
      ∧ r.2.mem ((c.tc : Thread Cert.AdamwOut.nD Cert.AdamwOut.τ).loc Cert.AdamwOut.main_arg10) = m ((c.tc : Thread Cert.AdamwOut.nD Cert.AdamwOut.τ).loc Cert.AdamwOut.main_arg10)
      ∧ r.2.mem ((c.tc : Thread Cert.AdamwOut.nD Cert.AdamwOut.τ).loc Cert.AdamwOut.main_arg11) = m ((c.tc : Thread Cert.AdamwOut.nD Cert.AdamwOut.τ).loc Cert.AdamwOut.main_arg11))
      ∧ r.2.sem = fun _ => 0)

def quiescent_AdamwOutIdeal [hAdamwOutIdeal : Cert.AdamwOutIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg), Pre_AdamwOutIdeal m →
    θ_run (Cert.AdamwOutIdeal.defs (F := Ideal)) (onTc (τ := Cert.AdamwOutIdeal.τ) (Cert.AdamwOutIdeal.main (F := Ideal))) ⟨m, fun _ => 0, g⟩ (fun r => (∀ c : Dev Cert.AdamwOutIdeal.nD,
      r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
      ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
      ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
      ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3)
      ∧ r.2.mem ((c.tc : Thread Cert.AdamwOutIdeal.nD Cert.AdamwOutIdeal.τ).loc Cert.AdamwOutIdeal.main_arg4) = m ((c.tc : Thread Cert.AdamwOutIdeal.nD Cert.AdamwOutIdeal.τ).loc Cert.AdamwOutIdeal.main_arg4)
      ∧ r.2.mem ((c.tc : Thread Cert.AdamwOutIdeal.nD Cert.AdamwOutIdeal.τ).loc Cert.AdamwOutIdeal.main_arg5) = m ((c.tc : Thread Cert.AdamwOutIdeal.nD Cert.AdamwOutIdeal.τ).loc Cert.AdamwOutIdeal.main_arg5)
      ∧ r.2.mem ((c.tc : Thread Cert.AdamwOutIdeal.nD Cert.AdamwOutIdeal.τ).loc Cert.AdamwOutIdeal.main_arg6) = m ((c.tc : Thread Cert.AdamwOutIdeal.nD Cert.AdamwOutIdeal.τ).loc Cert.AdamwOutIdeal.main_arg6)
      ∧ r.2.mem ((c.tc : Thread Cert.AdamwOutIdeal.nD Cert.AdamwOutIdeal.τ).loc Cert.AdamwOutIdeal.main_arg7) = m ((c.tc : Thread Cert.AdamwOutIdeal.nD Cert.AdamwOutIdeal.τ).loc Cert.AdamwOutIdeal.main_arg7)
      ∧ r.2.mem ((c.tc : Thread Cert.AdamwOutIdeal.nD Cert.AdamwOutIdeal.τ).loc Cert.AdamwOutIdeal.main_arg8) = m ((c.tc : Thread Cert.AdamwOutIdeal.nD Cert.AdamwOutIdeal.τ).loc Cert.AdamwOutIdeal.main_arg8)
      ∧ r.2.mem ((c.tc : Thread Cert.AdamwOutIdeal.nD Cert.AdamwOutIdeal.τ).loc Cert.AdamwOutIdeal.main_arg9) = m ((c.tc : Thread Cert.AdamwOutIdeal.nD Cert.AdamwOutIdeal.τ).loc Cert.AdamwOutIdeal.main_arg9)
      ∧ r.2.mem ((c.tc : Thread Cert.AdamwOutIdeal.nD Cert.AdamwOutIdeal.τ).loc Cert.AdamwOutIdeal.main_arg10) = m ((c.tc : Thread Cert.AdamwOutIdeal.nD Cert.AdamwOutIdeal.τ).loc Cert.AdamwOutIdeal.main_arg10)
      ∧ r.2.mem ((c.tc : Thread Cert.AdamwOutIdeal.nD Cert.AdamwOutIdeal.τ).loc Cert.AdamwOutIdeal.main_arg11) = m ((c.tc : Thread Cert.AdamwOutIdeal.nD Cert.AdamwOutIdeal.τ).loc Cert.AdamwOutIdeal.main_arg11))
      ∧ r.2.sem = fun _ => 0)

def quiescent_AdamwOutRefIdeal [hAdamwOutRefIdeal : Cert.AdamwOutRefIdeal.Facts] : Prop :=
  ∀ (m : (ℓ : Loc Cert.AdamwOutRefIdeal.nD Cert.AdamwOutRefIdeal.τ Cert.AdamwOutRefIdeal.sig) → Buf (Elt Ideal) ℓ) (g : Dev Cert.AdamwOutRefIdeal.nD → PrngReg), Pre_AdamwOutRefIdeal m →
    θ_run (Cert.AdamwOutRefIdeal.defs (F := Ideal)) (onTc (τ := Cert.AdamwOutRefIdeal.τ) (Cert.AdamwOutRefIdeal.main (F := Ideal))) ⟨m, fun _ => 0, g⟩ (fun r => (∀ c : Dev Cert.AdamwOutRefIdeal.nD,
      r.2.mem ((c.tc : Thread Cert.AdamwOutRefIdeal.nD Cert.AdamwOutRefIdeal.τ).loc Cert.AdamwOutRefIdeal.main_arg0) = m ((c.tc : Thread Cert.AdamwOutRefIdeal.nD Cert.AdamwOutRefIdeal.τ).loc Cert.AdamwOutRefIdeal.main_arg0)
      ∧ r.2.mem ((c.tc : Thread Cert.AdamwOutRefIdeal.nD Cert.AdamwOutRefIdeal.τ).loc Cert.AdamwOutRefIdeal.main_arg1) = m ((c.tc : Thread Cert.AdamwOutRefIdeal.nD Cert.AdamwOutRefIdeal.τ).loc Cert.AdamwOutRefIdeal.main_arg1)
      ∧ r.2.mem ((c.tc : Thread Cert.AdamwOutRefIdeal.nD Cert.AdamwOutRefIdeal.τ).loc Cert.AdamwOutRefIdeal.main_arg2) = m ((c.tc : Thread Cert.AdamwOutRefIdeal.nD Cert.AdamwOutRefIdeal.τ).loc Cert.AdamwOutRefIdeal.main_arg2)
      ∧ r.2.mem ((c.tc : Thread Cert.AdamwOutRefIdeal.nD Cert.AdamwOutRefIdeal.τ).loc Cert.AdamwOutRefIdeal.main_arg3) = m ((c.tc : Thread Cert.AdamwOutRefIdeal.nD Cert.AdamwOutRefIdeal.τ).loc Cert.AdamwOutRefIdeal.main_arg3)
      ∧ r.2.mem ((c.tc : Thread Cert.AdamwOutRefIdeal.nD Cert.AdamwOutRefIdeal.τ).loc Cert.AdamwOutRefIdeal.main_arg4) = m ((c.tc : Thread Cert.AdamwOutRefIdeal.nD Cert.AdamwOutRefIdeal.τ).loc Cert.AdamwOutRefIdeal.main_arg4)
      ∧ r.2.mem ((c.tc : Thread Cert.AdamwOutRefIdeal.nD Cert.AdamwOutRefIdeal.τ).loc Cert.AdamwOutRefIdeal.main_arg5) = m ((c.tc : Thread Cert.AdamwOutRefIdeal.nD Cert.AdamwOutRefIdeal.τ).loc Cert.AdamwOutRefIdeal.main_arg5)
      ∧ r.2.mem ((c.tc : Thread Cert.AdamwOutRefIdeal.nD Cert.AdamwOutRefIdeal.τ).loc Cert.AdamwOutRefIdeal.main_arg6) = m ((c.tc : Thread Cert.AdamwOutRefIdeal.nD Cert.AdamwOutRefIdeal.τ).loc Cert.AdamwOutRefIdeal.main_arg6)
      ∧ r.2.mem ((c.tc : Thread Cert.AdamwOutRefIdeal.nD Cert.AdamwOutRefIdeal.τ).loc Cert.AdamwOutRefIdeal.main_arg7) = m ((c.tc : Thread Cert.AdamwOutRefIdeal.nD Cert.AdamwOutRefIdeal.τ).loc Cert.AdamwOutRefIdeal.main_arg7)
      ∧ r.2.mem ((c.tc : Thread Cert.AdamwOutRefIdeal.nD Cert.AdamwOutRefIdeal.τ).loc Cert.AdamwOutRefIdeal.main_arg8) = m ((c.tc : Thread Cert.AdamwOutRefIdeal.nD Cert.AdamwOutRefIdeal.τ).loc Cert.AdamwOutRefIdeal.main_arg8)
      ∧ r.2.mem ((c.tc : Thread Cert.AdamwOutRefIdeal.nD Cert.AdamwOutRefIdeal.τ).loc Cert.AdamwOutRefIdeal.main_arg9) = m ((c.tc : Thread Cert.AdamwOutRefIdeal.nD Cert.AdamwOutRefIdeal.τ).loc Cert.AdamwOutRefIdeal.main_arg9)
      ∧ r.2.mem ((c.tc : Thread Cert.AdamwOutRefIdeal.nD Cert.AdamwOutRefIdeal.τ).loc Cert.AdamwOutRefIdeal.main_arg10) = m ((c.tc : Thread Cert.AdamwOutRefIdeal.nD Cert.AdamwOutRefIdeal.τ).loc Cert.AdamwOutRefIdeal.main_arg10)
      ∧ r.2.mem ((c.tc : Thread Cert.AdamwOutRefIdeal.nD Cert.AdamwOutRefIdeal.τ).loc Cert.AdamwOutRefIdeal.main_arg11) = m ((c.tc : Thread Cert.AdamwOutRefIdeal.nD Cert.AdamwOutRefIdeal.τ).loc Cert.AdamwOutRefIdeal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v42_0)) (v1 : (c : Dev Cert.KernelIdeal.nD) → Buf (Elt Ideal) ((c.tc : Thread Cert.KernelIdeal.nD Cert.KernelIdeal.τ).loc Cert.KernelIdeal.main_v42_1)) (v2 : (c : Dev Cert.KernelIdeal.nD) → Buf (Elt Ideal) ((c.tc : Thread Cert.KernelIdeal.nD Cert.KernelIdeal.τ).loc Cert.KernelIdeal.main_v42_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42_0) = v0 c
          ∧ r.2.mem ((c.tc : Thread Cert.KernelIdeal.nD Cert.KernelIdeal.τ).loc Cert.KernelIdeal.main_v42_1) = v1 c
          ∧ r.2.mem ((c.tc : Thread Cert.KernelIdeal.nD Cert.KernelIdeal.τ).loc Cert.KernelIdeal.main_v42_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_DWout_DWoutIdeal : Prop :=
  True

def algebraic_DWoutIdeal_DWoutRefIdeal [hDWoutIdeal : Cert.DWoutIdeal.Facts] [hDWoutRefIdeal : Cert.DWoutRefIdeal.Facts] : Prop :=
  ∀ (m : (ℓ : Loc Cert.DWoutIdeal.nD Cert.DWoutIdeal.τ Cert.DWoutIdeal.sig) → Buf (Elt Ideal) ℓ) (g : Dev Cert.DWoutIdeal.nD → PrngReg)
    (m' : (ℓ : Loc Cert.DWoutRefIdeal.nD Cert.DWoutRefIdeal.τ Cert.DWoutRefIdeal.sig) → Buf (Elt Ideal) ℓ) (g' : Dev Cert.DWoutRefIdeal.nD → PrngReg), Pre_DWoutIdeal m →
    (∀ c : Dev Cert.DWoutIdeal.nD,
      m' ((c.tc : Thread Cert.DWoutRefIdeal.nD Cert.DWoutRefIdeal.τ).loc Cert.DWoutRefIdeal.main_arg0) = m ((c.tc : Thread Cert.DWoutIdeal.nD Cert.DWoutIdeal.τ).loc Cert.DWoutIdeal.main_arg0)
      ∧ m' ((c.tc : Thread Cert.DWoutRefIdeal.nD Cert.DWoutRefIdeal.τ).loc Cert.DWoutRefIdeal.main_arg1) = m ((c.tc : Thread Cert.DWoutIdeal.nD Cert.DWoutIdeal.τ).loc Cert.DWoutIdeal.main_arg1)) →
    ∃ (v0 : (c : Dev Cert.DWoutIdeal.nD) → Buf (Elt Ideal) ((c.tc : Thread Cert.DWoutIdeal.nD Cert.DWoutIdeal.τ).loc Cert.DWoutIdeal.main_v0)),
      θ_run (Cert.DWoutIdeal.defs (F := Ideal)) (onTc (τ := Cert.DWoutIdeal.τ) (Cert.DWoutIdeal.main (F := Ideal))) ⟨m, fun _ => 0, g⟩ (fun r => ∀ c : Dev Cert.DWoutIdeal.nD,
          r.2.mem ((c.tc : Thread Cert.DWoutIdeal.nD Cert.DWoutIdeal.τ).loc Cert.DWoutIdeal.main_v0) = v0 c
          ∧ r.2.mem ((c.tc : Thread Cert.DWoutIdeal.nD Cert.DWoutIdeal.τ).loc Cert.DWoutIdeal.main_arg0) = m ((c.tc : Thread Cert.DWoutIdeal.nD Cert.DWoutIdeal.τ).loc Cert.DWoutIdeal.main_arg0)
          ∧ r.2.mem ((c.tc : Thread Cert.DWoutIdeal.nD Cert.DWoutIdeal.τ).loc Cert.DWoutIdeal.main_arg1) = m ((c.tc : Thread Cert.DWoutIdeal.nD Cert.DWoutIdeal.τ).loc Cert.DWoutIdeal.main_arg1))
      ∧ θ_run (Cert.DWoutRefIdeal.defs (F := Ideal)) (onTc (τ := Cert.DWoutRefIdeal.τ) (Cert.DWoutRefIdeal.main (F := Ideal))) ⟨m', fun _ => 0, g'⟩ (fun r => ∀ c : Dev Cert.DWoutRefIdeal.nD,
          r.2.mem ((c.tc : Thread Cert.DWoutRefIdeal.nD Cert.DWoutRefIdeal.τ).loc Cert.DWoutRefIdeal.main_v7) = v0 c
          ∧ r.2.mem ((c.tc : Thread Cert.DWoutRefIdeal.nD Cert.DWoutRefIdeal.τ).loc Cert.DWoutRefIdeal.main_arg0) = m' ((c.tc : Thread Cert.DWoutRefIdeal.nD Cert.DWoutRefIdeal.τ).loc Cert.DWoutRefIdeal.main_arg0)
          ∧ r.2.mem ((c.tc : Thread Cert.DWoutRefIdeal.nD Cert.DWoutRefIdeal.τ).loc Cert.DWoutRefIdeal.main_arg1) = m' ((c.tc : Thread Cert.DWoutRefIdeal.nD Cert.DWoutRefIdeal.τ).loc Cert.DWoutRefIdeal.main_arg1))

def preserves_DY_DYIdeal : Prop :=
  True

def algebraic_DYIdeal_DYRefIdeal [hDYIdeal : Cert.DYIdeal.Facts] [hDYRefIdeal : Cert.DYRefIdeal.Facts] : Prop :=
  ∀ (m : (ℓ : Loc Cert.DYIdeal.nD Cert.DYIdeal.τ Cert.DYIdeal.sig) → Buf (Elt Ideal) ℓ) (g : Dev Cert.DYIdeal.nD → PrngReg)
    (m' : (ℓ : Loc Cert.DYRefIdeal.nD Cert.DYRefIdeal.τ Cert.DYRefIdeal.sig) → Buf (Elt Ideal) ℓ) (g' : Dev Cert.DYRefIdeal.nD → PrngReg), Pre_DYIdeal m →
    (∀ c : Dev Cert.DYIdeal.nD,
      m' ((c.tc : Thread Cert.DYRefIdeal.nD Cert.DYRefIdeal.τ).loc Cert.DYRefIdeal.main_arg0) = m ((c.tc : Thread Cert.DYIdeal.nD Cert.DYIdeal.τ).loc Cert.DYIdeal.main_arg0)
      ∧ m' ((c.tc : Thread Cert.DYRefIdeal.nD Cert.DYRefIdeal.τ).loc Cert.DYRefIdeal.main_arg1) = m ((c.tc : Thread Cert.DYIdeal.nD Cert.DYIdeal.τ).loc Cert.DYIdeal.main_arg1)) →
    ∃ (v0 : (c : Dev Cert.DYIdeal.nD) → Buf (Elt Ideal) ((c.tc : Thread Cert.DYIdeal.nD Cert.DYIdeal.τ).loc Cert.DYIdeal.main_v0)),
      θ_run (Cert.DYIdeal.defs (F := Ideal)) (onTc (τ := Cert.DYIdeal.τ) (Cert.DYIdeal.main (F := Ideal))) ⟨m, fun _ => 0, g⟩ (fun r => ∀ c : Dev Cert.DYIdeal.nD,
          r.2.mem ((c.tc : Thread Cert.DYIdeal.nD Cert.DYIdeal.τ).loc Cert.DYIdeal.main_v0) = v0 c
          ∧ r.2.mem ((c.tc : Thread Cert.DYIdeal.nD Cert.DYIdeal.τ).loc Cert.DYIdeal.main_arg0) = m ((c.tc : Thread Cert.DYIdeal.nD Cert.DYIdeal.τ).loc Cert.DYIdeal.main_arg0)
          ∧ r.2.mem ((c.tc : Thread Cert.DYIdeal.nD Cert.DYIdeal.τ).loc Cert.DYIdeal.main_arg1) = m ((c.tc : Thread Cert.DYIdeal.nD Cert.DYIdeal.τ).loc Cert.DYIdeal.main_arg1))
      ∧ θ_run (Cert.DYRefIdeal.defs (F := Ideal)) (onTc (τ := Cert.DYRefIdeal.τ) (Cert.DYRefIdeal.main (F := Ideal))) ⟨m', fun _ => 0, g'⟩ (fun r => ∀ c : Dev Cert.DYRefIdeal.nD,
          r.2.mem ((c.tc : Thread Cert.DYRefIdeal.nD Cert.DYRefIdeal.τ).loc Cert.DYRefIdeal.main_v4) = v0 c
          ∧ r.2.mem ((c.tc : Thread Cert.DYRefIdeal.nD Cert.DYRefIdeal.τ).loc Cert.DYRefIdeal.main_arg0) = m' ((c.tc : Thread Cert.DYRefIdeal.nD Cert.DYRefIdeal.τ).loc Cert.DYRefIdeal.main_arg0)
          ∧ r.2.mem ((c.tc : Thread Cert.DYRefIdeal.nD Cert.DYRefIdeal.τ).loc Cert.DYRefIdeal.main_arg1) = m' ((c.tc : Thread Cert.DYRefIdeal.nD Cert.DYRefIdeal.τ).loc Cert.DYRefIdeal.main_arg1))

def preserves_AttnFwd_AttnFwdIdeal : Prop :=
  True

def algebraic_AttnFwdIdeal_AttnFwdRefIdeal_pre_finite_qk [hAttnFwdIdeal : Cert.AttnFwdIdeal.Facts] [hAttnFwdRefIdeal : Cert.AttnFwdRefIdeal.Facts] [hPre_finite_qk : Cert.Pre_finite_qk.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_finite_qk m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v0_0)) (v1 : (c : Dev Cert.AttnFwdIdeal.nD) → Buf (Elt Ideal) ((c.tc : Thread Cert.AttnFwdIdeal.nD Cert.AttnFwdIdeal.τ).loc Cert.AttnFwdIdeal.main_v0_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v0_0) = v0 c
          ∧ r.2.mem ((c.tc : Thread Cert.AttnFwdIdeal.nD Cert.AttnFwdIdeal.τ).loc Cert.AttnFwdIdeal.main_v0_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v38) = v0 c
          ∧ r.2.mem ((c.tc : Thread Cert.AttnFwdRefIdeal.nD Cert.AttnFwdRefIdeal.τ).loc Cert.AttnFwdRefIdeal.main_v41) = v1 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2))

def preserves_DWin_DWinIdeal : Prop :=
  True

def algebraic_DWinIdeal_DWinRefIdeal [hDWinIdeal : Cert.DWinIdeal.Facts] [hDWinRefIdeal : Cert.DWinRefIdeal.Facts] : Prop :=
  ∀ (m : (ℓ : Loc Cert.DWinIdeal.nD Cert.DWinIdeal.τ Cert.DWinIdeal.sig) → Buf (Elt Ideal) ℓ) (g : Dev Cert.DWinIdeal.nD → PrngReg)
    (m' : (ℓ : Loc Cert.DWinRefIdeal.nD Cert.DWinRefIdeal.τ Cert.DWinRefIdeal.sig) → Buf (Elt Ideal) ℓ) (g' : Dev Cert.DWinRefIdeal.nD → PrngReg), Pre_DWinIdeal m →
    (∀ c : Dev Cert.DWinIdeal.nD,
      m' ((c.tc : Thread Cert.DWinRefIdeal.nD Cert.DWinRefIdeal.τ).loc Cert.DWinRefIdeal.main_arg0) = m ((c.tc : Thread Cert.DWinIdeal.nD Cert.DWinIdeal.τ).loc Cert.DWinIdeal.main_arg0)
      ∧ m' ((c.tc : Thread Cert.DWinRefIdeal.nD Cert.DWinRefIdeal.τ).loc Cert.DWinRefIdeal.main_arg1) = m ((c.tc : Thread Cert.DWinIdeal.nD Cert.DWinIdeal.τ).loc Cert.DWinIdeal.main_arg1)) →
    ∃ (v0 : (c : Dev Cert.DWinIdeal.nD) → Buf (Elt Ideal) ((c.tc : Thread Cert.DWinIdeal.nD Cert.DWinIdeal.τ).loc Cert.DWinIdeal.main_v0)),
      θ_run (Cert.DWinIdeal.defs (F := Ideal)) (onTc (τ := Cert.DWinIdeal.τ) (Cert.DWinIdeal.main (F := Ideal))) ⟨m, fun _ => 0, g⟩ (fun r => ∀ c : Dev Cert.DWinIdeal.nD,
          r.2.mem ((c.tc : Thread Cert.DWinIdeal.nD Cert.DWinIdeal.τ).loc Cert.DWinIdeal.main_v0) = v0 c
          ∧ r.2.mem ((c.tc : Thread Cert.DWinIdeal.nD Cert.DWinIdeal.τ).loc Cert.DWinIdeal.main_arg0) = m ((c.tc : Thread Cert.DWinIdeal.nD Cert.DWinIdeal.τ).loc Cert.DWinIdeal.main_arg0)
          ∧ r.2.mem ((c.tc : Thread Cert.DWinIdeal.nD Cert.DWinIdeal.τ).loc Cert.DWinIdeal.main_arg1) = m ((c.tc : Thread Cert.DWinIdeal.nD Cert.DWinIdeal.τ).loc Cert.DWinIdeal.main_arg1))
      ∧ θ_run (Cert.DWinRefIdeal.defs (F := Ideal)) (onTc (τ := Cert.DWinRefIdeal.τ) (Cert.DWinRefIdeal.main (F := Ideal))) ⟨m', fun _ => 0, g'⟩ (fun r => ∀ c : Dev Cert.DWinRefIdeal.nD,
          r.2.mem ((c.tc : Thread Cert.DWinRefIdeal.nD Cert.DWinRefIdeal.τ).loc Cert.DWinRefIdeal.main_v7) = v0 c
          ∧ r.2.mem ((c.tc : Thread Cert.DWinRefIdeal.nD Cert.DWinRefIdeal.τ).loc Cert.DWinRefIdeal.main_arg0) = m' ((c.tc : Thread Cert.DWinRefIdeal.nD Cert.DWinRefIdeal.τ).loc Cert.DWinRefIdeal.main_arg0)
          ∧ r.2.mem ((c.tc : Thread Cert.DWinRefIdeal.nD Cert.DWinRefIdeal.τ).loc Cert.DWinRefIdeal.main_arg1) = m' ((c.tc : Thread Cert.DWinRefIdeal.nD Cert.DWinRefIdeal.τ).loc Cert.DWinRefIdeal.main_arg1))

def preserves_DH_DHIdeal : Prop :=
  True

def algebraic_DHIdeal_DHRefIdeal [hDHIdeal : Cert.DHIdeal.Facts] [hDHRefIdeal : Cert.DHRefIdeal.Facts] : Prop :=
  ∀ (m : (ℓ : Loc Cert.DHIdeal.nD Cert.DHIdeal.τ Cert.DHIdeal.sig) → Buf (Elt Ideal) ℓ) (g : Dev Cert.DHIdeal.nD → PrngReg)
    (m' : (ℓ : Loc Cert.DHRefIdeal.nD Cert.DHRefIdeal.τ Cert.DHRefIdeal.sig) → Buf (Elt Ideal) ℓ) (g' : Dev Cert.DHRefIdeal.nD → PrngReg), Pre_DHIdeal m →
    (∀ c : Dev Cert.DHIdeal.nD,
      m' ((c.tc : Thread Cert.DHRefIdeal.nD Cert.DHRefIdeal.τ).loc Cert.DHRefIdeal.main_arg0) = m ((c.tc : Thread Cert.DHIdeal.nD Cert.DHIdeal.τ).loc Cert.DHIdeal.main_arg0)
      ∧ m' ((c.tc : Thread Cert.DHRefIdeal.nD Cert.DHRefIdeal.τ).loc Cert.DHRefIdeal.main_arg1) = m ((c.tc : Thread Cert.DHIdeal.nD Cert.DHIdeal.τ).loc Cert.DHIdeal.main_arg1)) →
    ∃ (v0 : (c : Dev Cert.DHIdeal.nD) → Buf (Elt Ideal) ((c.tc : Thread Cert.DHIdeal.nD Cert.DHIdeal.τ).loc Cert.DHIdeal.main_v0)),
      θ_run (Cert.DHIdeal.defs (F := Ideal)) (onTc (τ := Cert.DHIdeal.τ) (Cert.DHIdeal.main (F := Ideal))) ⟨m, fun _ => 0, g⟩ (fun r => ∀ c : Dev Cert.DHIdeal.nD,
          r.2.mem ((c.tc : Thread Cert.DHIdeal.nD Cert.DHIdeal.τ).loc Cert.DHIdeal.main_v0) = v0 c
          ∧ r.2.mem ((c.tc : Thread Cert.DHIdeal.nD Cert.DHIdeal.τ).loc Cert.DHIdeal.main_arg0) = m ((c.tc : Thread Cert.DHIdeal.nD Cert.DHIdeal.τ).loc Cert.DHIdeal.main_arg0)
          ∧ r.2.mem ((c.tc : Thread Cert.DHIdeal.nD Cert.DHIdeal.τ).loc Cert.DHIdeal.main_arg1) = m ((c.tc : Thread Cert.DHIdeal.nD Cert.DHIdeal.τ).loc Cert.DHIdeal.main_arg1))
      ∧ θ_run (Cert.DHRefIdeal.defs (F := Ideal)) (onTc (τ := Cert.DHRefIdeal.τ) (Cert.DHRefIdeal.main (F := Ideal))) ⟨m', fun _ => 0, g'⟩ (fun r => ∀ c : Dev Cert.DHRefIdeal.nD,
          r.2.mem ((c.tc : Thread Cert.DHRefIdeal.nD Cert.DHRefIdeal.τ).loc Cert.DHRefIdeal.main_v4) = v0 c
          ∧ r.2.mem ((c.tc : Thread Cert.DHRefIdeal.nD Cert.DHRefIdeal.τ).loc Cert.DHRefIdeal.main_arg0) = m' ((c.tc : Thread Cert.DHRefIdeal.nD Cert.DHRefIdeal.τ).loc Cert.DHRefIdeal.main_arg0)
          ∧ r.2.mem ((c.tc : Thread Cert.DHRefIdeal.nD Cert.DHRefIdeal.τ).loc Cert.DHRefIdeal.main_arg1) = m' ((c.tc : Thread Cert.DHRefIdeal.nD Cert.DHRefIdeal.τ).loc Cert.DHRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_RmsBwd_RmsBwdIdeal : Prop :=
  True

def algebraic_RmsBwdIdeal_RmsBwdRefIdeal [hRmsBwdIdeal : Cert.RmsBwdIdeal.Facts] [hRmsBwdRefIdeal : Cert.RmsBwdRefIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsBwdRefIdeal.nD Cert.RmsBwdRefIdeal.τ Cert.RmsBwdRefIdeal.sig) → Buf (Elt Ideal) ℓ) (g' : Dev Cert.RmsBwdRefIdeal.nD → PrngReg), Pre_RmsBwdIdeal m →
    (∀ c : Dev Cert.RmsBwdIdeal.nD,
      m' ((c.tc : Thread Cert.RmsBwdRefIdeal.nD Cert.RmsBwdRefIdeal.τ).loc Cert.RmsBwdRefIdeal.main_arg0) = m ((c.tc : Thread Cert.RmsBwdIdeal.nD Cert.RmsBwdIdeal.τ).loc Cert.RmsBwdIdeal.main_arg0)
      ∧ m' ((c.tc : Thread Cert.RmsBwdRefIdeal.nD Cert.RmsBwdRefIdeal.τ).loc Cert.RmsBwdRefIdeal.main_arg1) = m ((c.tc : Thread Cert.RmsBwdIdeal.nD Cert.RmsBwdIdeal.τ).loc Cert.RmsBwdIdeal.main_arg1)
      ∧ m' ((c.tc : Thread Cert.RmsBwdRefIdeal.nD Cert.RmsBwdRefIdeal.τ).loc Cert.RmsBwdRefIdeal.main_arg2) = m ((c.tc : Thread Cert.RmsBwdIdeal.nD Cert.RmsBwdIdeal.τ).loc Cert.RmsBwdIdeal.main_arg2)
      ∧ m' ((c.tc : Thread Cert.RmsBwdRefIdeal.nD Cert.RmsBwdRefIdeal.τ).loc Cert.RmsBwdRefIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v1_0)) (v1 : (c : Dev Cert.RmsBwdIdeal.nD) → Buf (Elt Ideal) ((c.tc : Thread Cert.RmsBwdIdeal.nD Cert.RmsBwdIdeal.τ).loc Cert.RmsBwdIdeal.main_v1_1)) (v2 : (c : Dev Cert.RmsBwdIdeal.nD) → Buf (Elt Ideal) ((c.tc : Thread Cert.RmsBwdIdeal.nD Cert.RmsBwdIdeal.τ).loc Cert.RmsBwdIdeal.main_v1_2)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v1_0) = v0 c
          ∧ r.2.mem ((c.tc : Thread Cert.RmsBwdIdeal.nD Cert.RmsBwdIdeal.τ).loc Cert.RmsBwdIdeal.main_v1_1) = v1 c
          ∧ r.2.mem ((c.tc : Thread Cert.RmsBwdIdeal.nD Cert.RmsBwdIdeal.τ).loc Cert.RmsBwdIdeal.main_v1_2) = v2 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RmsBwdRefIdeal.defs (F := Ideal)) (onTc (τ := Cert.RmsBwdRefIdeal.τ) (Cert.RmsBwdRefIdeal.main (F := Ideal))) ⟨m', fun _ => 0, g'⟩ (fun r => ∀ c : Dev Cert.RmsBwdRefIdeal.nD,
          r.2.mem ((c.tc : Thread Cert.RmsBwdRefIdeal.nD Cert.RmsBwdRefIdeal.τ).loc Cert.RmsBwdRefIdeal.main_v36) = v0 c
          ∧ r.2.mem ((c.tc : Thread Cert.RmsBwdRefIdeal.nD Cert.RmsBwdRefIdeal.τ).loc Cert.RmsBwdRefIdeal.main_v37) = v1 c
          ∧ r.2.mem ((c.tc : Thread Cert.RmsBwdRefIdeal.nD Cert.RmsBwdRefIdeal.τ).loc Cert.RmsBwdRefIdeal.main_v38) = v2 c
          ∧ r.2.mem ((c.tc : Thread Cert.RmsBwdRefIdeal.nD Cert.RmsBwdRefIdeal.τ).loc Cert.RmsBwdRefIdeal.main_arg0) = m' ((c.tc : Thread Cert.RmsBwdRefIdeal.nD Cert.RmsBwdRefIdeal.τ).loc Cert.RmsBwdRefIdeal.main_arg0)
          ∧ r.2.mem ((c.tc : Thread Cert.RmsBwdRefIdeal.nD Cert.RmsBwdRefIdeal.τ).loc Cert.RmsBwdRefIdeal.main_arg1) = m' ((c.tc : Thread Cert.RmsBwdRefIdeal.nD Cert.RmsBwdRefIdeal.τ).loc Cert.RmsBwdRefIdeal.main_arg1)
          ∧ r.2.mem ((c.tc : Thread Cert.RmsBwdRefIdeal.nD Cert.RmsBwdRefIdeal.τ).loc Cert.RmsBwdRefIdeal.main_arg2) = m' ((c.tc : Thread Cert.RmsBwdRefIdeal.nD Cert.RmsBwdRefIdeal.τ).loc Cert.RmsBwdRefIdeal.main_arg2)
          ∧ r.2.mem ((c.tc : Thread Cert.RmsBwdRefIdeal.nD Cert.RmsBwdRefIdeal.τ).loc Cert.RmsBwdRefIdeal.main_arg3) = m' ((c.tc : Thread Cert.RmsBwdRefIdeal.nD Cert.RmsBwdRefIdeal.τ).loc Cert.RmsBwdRefIdeal.main_arg3))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)) →
    ∃ (v0 : (c : Dev Cert.AdamwIdeal.nD) → Buf (Elt Ideal) ((c.tc : Thread Cert.AdamwIdeal.nD Cert.AdamwIdeal.τ).loc Cert.AdamwIdeal.main_v0_0)) (v1 : (c : Dev Cert.AdamwIdeal.nD) → Buf (Elt Ideal) ((c.tc : Thread Cert.AdamwIdeal.nD Cert.AdamwIdeal.τ).loc Cert.AdamwIdeal.main_v0_1)) (v2 : (c : Dev Cert.AdamwIdeal.nD) → Buf (Elt Ideal) ((c.tc : Thread Cert.AdamwIdeal.nD Cert.AdamwIdeal.τ).loc Cert.AdamwIdeal.main_v0_2)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v0_0) = v0 c
          ∧ r.2.mem ((c.tc : Thread Cert.AdamwIdeal.nD Cert.AdamwIdeal.τ).loc Cert.AdamwIdeal.main_v0_1) = v1 c
          ∧ r.2.mem ((c.tc : Thread Cert.AdamwIdeal.nD Cert.AdamwIdeal.τ).loc Cert.AdamwIdeal.main_v0_2) = v2 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v23) = v0 c
          ∧ r.2.mem ((c.tc : Thread Cert.AdamwRefIdeal.nD Cert.AdamwRefIdeal.τ).loc Cert.AdamwRefIdeal.main_v4) = v1 c
          ∧ r.2.mem ((c.tc : Thread Cert.AdamwRefIdeal.nD Cert.AdamwRefIdeal.τ).loc Cert.AdamwRefIdeal.main_v10) = v2 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v1_0)) (v1 : (c : Dev Cert.RmsFwdIdeal.nD) → Buf (Elt Ideal) ((c.tc : Thread Cert.RmsFwdIdeal.nD Cert.RmsFwdIdeal.τ).loc Cert.RmsFwdIdeal.main_v1_1)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v1_0) = v0 c
          ∧ r.2.mem ((c.tc : Thread Cert.RmsFwdIdeal.nD Cert.RmsFwdIdeal.τ).loc Cert.RmsFwdIdeal.main_v1_1) = v1 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v13) = v0 c
          ∧ r.2.mem ((c.tc : Thread Cert.RmsFwdRefIdeal.nD Cert.RmsFwdRefIdeal.τ).loc Cert.RmsFwdRefIdeal.main_v14) = v1 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)) (v3 : (c : Dev Cert.LossIdeal.nD) → Buf (Elt Ideal) ((c.tc : Thread Cert.LossIdeal.nD Cert.LossIdeal.τ).loc Cert.LossIdeal.main_v1_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_v1_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v51) = v0 c
          ∧ r.2.mem ((c.tc : Thread Cert.LossRefIdeal.nD Cert.LossRefIdeal.τ).loc Cert.LossRefIdeal.main_v50) = v1 c
          ∧ r.2.mem ((c.tc : Thread Cert.LossRefIdeal.nD Cert.LossRefIdeal.τ).loc Cert.LossRefIdeal.main_v52) = v2 c
          ∧ r.2.mem ((c.tc : Thread Cert.LossRefIdeal.nD Cert.LossRefIdeal.τ).loc Cert.LossRefIdeal.main_v53) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_AdamwIn_AdamwInIdeal : Prop :=
  True

def algebraic_AdamwInIdeal_AdamwInRefIdeal [hAdamwInIdeal : Cert.AdamwInIdeal.Facts] [hAdamwInRefIdeal : Cert.AdamwInRefIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg)
    (m' : (ℓ : Loc Cert.AdamwInRefIdeal.nD Cert.AdamwInRefIdeal.τ Cert.AdamwInRefIdeal.sig) → Buf (Elt Ideal) ℓ) (g' : Dev Cert.AdamwInRefIdeal.nD → PrngReg), Pre_AdamwInIdeal m →
    (∀ c : Dev Cert.AdamwInIdeal.nD,
      m' ((c.tc : Thread Cert.AdamwInRefIdeal.nD Cert.AdamwInRefIdeal.τ).loc Cert.AdamwInRefIdeal.main_arg0) = m ((c.tc : Thread Cert.AdamwInIdeal.nD Cert.AdamwInIdeal.τ).loc Cert.AdamwInIdeal.main_arg0)
      ∧ m' ((c.tc : Thread Cert.AdamwInRefIdeal.nD Cert.AdamwInRefIdeal.τ).loc Cert.AdamwInRefIdeal.main_arg1) = m ((c.tc : Thread Cert.AdamwInIdeal.nD Cert.AdamwInIdeal.τ).loc Cert.AdamwInIdeal.main_arg1)
      ∧ m' ((c.tc : Thread Cert.AdamwInRefIdeal.nD Cert.AdamwInRefIdeal.τ).loc Cert.AdamwInRefIdeal.main_arg2) = m ((c.tc : Thread Cert.AdamwInIdeal.nD Cert.AdamwInIdeal.τ).loc Cert.AdamwInIdeal.main_arg2)
      ∧ m' ((c.tc : Thread Cert.AdamwInRefIdeal.nD Cert.AdamwInRefIdeal.τ).loc Cert.AdamwInRefIdeal.main_arg3) = m ((c.tc : Thread Cert.AdamwInIdeal.nD Cert.AdamwInIdeal.τ).loc Cert.AdamwInIdeal.main_arg3)
      ∧ m' ((c.tc : Thread Cert.AdamwInRefIdeal.nD Cert.AdamwInRefIdeal.τ).loc Cert.AdamwInRefIdeal.main_arg4) = m ((c.tc : Thread Cert.AdamwInIdeal.nD Cert.AdamwInIdeal.τ).loc Cert.AdamwInIdeal.main_arg4)
      ∧ m' ((c.tc : Thread Cert.AdamwInRefIdeal.nD Cert.AdamwInRefIdeal.τ).loc Cert.AdamwInRefIdeal.main_arg5) = m ((c.tc : Thread Cert.AdamwInIdeal.nD Cert.AdamwInIdeal.τ).loc Cert.AdamwInIdeal.main_arg5)
      ∧ m' ((c.tc : Thread Cert.AdamwInRefIdeal.nD Cert.AdamwInRefIdeal.τ).loc Cert.AdamwInRefIdeal.main_arg6) = m ((c.tc : Thread Cert.AdamwInIdeal.nD Cert.AdamwInIdeal.τ).loc Cert.AdamwInIdeal.main_arg6)
      ∧ m' ((c.tc : Thread Cert.AdamwInRefIdeal.nD Cert.AdamwInRefIdeal.τ).loc Cert.AdamwInRefIdeal.main_arg7) = m ((c.tc : Thread Cert.AdamwInIdeal.nD Cert.AdamwInIdeal.τ).loc Cert.AdamwInIdeal.main_arg7)
      ∧ m' ((c.tc : Thread Cert.AdamwInRefIdeal.nD Cert.AdamwInRefIdeal.τ).loc Cert.AdamwInRefIdeal.main_arg8) = m ((c.tc : Thread Cert.AdamwInIdeal.nD Cert.AdamwInIdeal.τ).loc Cert.AdamwInIdeal.main_arg8)
      ∧ m' ((c.tc : Thread Cert.AdamwInRefIdeal.nD Cert.AdamwInRefIdeal.τ).loc Cert.AdamwInRefIdeal.main_arg9) = m ((c.tc : Thread Cert.AdamwInIdeal.nD Cert.AdamwInIdeal.τ).loc Cert.AdamwInIdeal.main_arg9)
      ∧ m' ((c.tc : Thread Cert.AdamwInRefIdeal.nD Cert.AdamwInRefIdeal.τ).loc Cert.AdamwInRefIdeal.main_arg10) = m ((c.tc : Thread Cert.AdamwInIdeal.nD Cert.AdamwInIdeal.τ).loc Cert.AdamwInIdeal.main_arg10)
      ∧ m' ((c.tc : Thread Cert.AdamwInRefIdeal.nD Cert.AdamwInRefIdeal.τ).loc Cert.AdamwInRefIdeal.main_arg11) = m ((c.tc : Thread Cert.AdamwInIdeal.nD Cert.AdamwInIdeal.τ).loc Cert.AdamwInIdeal.main_arg11)
      ∧ m' ((c.tc : Thread Cert.AdamwInRefIdeal.nD Cert.AdamwInRefIdeal.τ).loc Cert.AdamwInRefIdeal.main_arg12) = m ((c.tc : Thread Cert.AdamwInIdeal.nD Cert.AdamwInIdeal.τ).loc Cert.AdamwInIdeal.main_arg12)
      ∧ m' ((c.tc : Thread Cert.AdamwInRefIdeal.nD Cert.AdamwInRefIdeal.τ).loc Cert.AdamwInRefIdeal.main_arg13) = m ((c.tc : Thread Cert.AdamwInIdeal.nD Cert.AdamwInIdeal.τ).loc Cert.AdamwInIdeal.main_arg13)
      ∧ m' ((c.tc : Thread Cert.AdamwInRefIdeal.nD Cert.AdamwInRefIdeal.τ).loc Cert.AdamwInRefIdeal.main_arg14) = m ((c.tc : Thread Cert.AdamwInIdeal.nD Cert.AdamwInIdeal.τ).loc Cert.AdamwInIdeal.main_arg14)
      ∧ m' ((c.tc : Thread Cert.AdamwInRefIdeal.nD Cert.AdamwInRefIdeal.τ).loc Cert.AdamwInRefIdeal.main_arg15) = m ((c.tc : Thread Cert.AdamwInIdeal.nD Cert.AdamwInIdeal.τ).loc Cert.AdamwInIdeal.main_arg15)) →
    ∃ (v0 : (c : Dev Cert.AdamwInIdeal.nD) → Buf (Elt Ideal) ((c.tc : Thread Cert.AdamwInIdeal.nD Cert.AdamwInIdeal.τ).loc Cert.AdamwInIdeal.main_v3_0)) (v1 : (c : Dev Cert.AdamwInIdeal.nD) → Buf (Elt Ideal) ((c.tc : Thread Cert.AdamwInIdeal.nD Cert.AdamwInIdeal.τ).loc Cert.AdamwInIdeal.main_v3_1)) (v2 : (c : Dev Cert.AdamwInIdeal.nD) → Buf (Elt Ideal) ((c.tc : Thread Cert.AdamwInIdeal.nD Cert.AdamwInIdeal.τ).loc Cert.AdamwInIdeal.main_v3_2)) (v3 : (c : Dev Cert.AdamwInIdeal.nD) → Buf (Elt Ideal) ((c.tc : Thread Cert.AdamwInIdeal.nD Cert.AdamwInIdeal.τ).loc Cert.AdamwInIdeal.main_v3_3)),
      θ_run (Cert.AdamwInIdeal.defs (F := Ideal)) (onTc (τ := Cert.AdamwInIdeal.τ) (Cert.AdamwInIdeal.main (F := Ideal))) ⟨m, fun _ => 0, g⟩ (fun r => ∀ c : Dev Cert.AdamwInIdeal.nD,
          r.2.mem ((c.tc : Thread Cert.AdamwInIdeal.nD Cert.AdamwInIdeal.τ).loc Cert.AdamwInIdeal.main_v3_0) = v0 c
          ∧ r.2.mem ((c.tc : Thread Cert.AdamwInIdeal.nD Cert.AdamwInIdeal.τ).loc Cert.AdamwInIdeal.main_v3_1) = v1 c
          ∧ r.2.mem ((c.tc : Thread Cert.AdamwInIdeal.nD Cert.AdamwInIdeal.τ).loc Cert.AdamwInIdeal.main_v3_2) = v2 c
          ∧ r.2.mem ((c.tc : Thread Cert.AdamwInIdeal.nD Cert.AdamwInIdeal.τ).loc Cert.AdamwInIdeal.main_v3_3) = v3 c
          ∧ r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
          ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
          ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
          ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3)
          ∧ r.2.mem ((c.tc : Thread Cert.AdamwInIdeal.nD Cert.AdamwInIdeal.τ).loc Cert.AdamwInIdeal.main_arg4) = m ((c.tc : Thread Cert.AdamwInIdeal.nD Cert.AdamwInIdeal.τ).loc Cert.AdamwInIdeal.main_arg4)
          ∧ r.2.mem ((c.tc : Thread Cert.AdamwInIdeal.nD Cert.AdamwInIdeal.τ).loc Cert.AdamwInIdeal.main_arg5) = m ((c.tc : Thread Cert.AdamwInIdeal.nD Cert.AdamwInIdeal.τ).loc Cert.AdamwInIdeal.main_arg5)
          ∧ r.2.mem ((c.tc : Thread Cert.AdamwInIdeal.nD Cert.AdamwInIdeal.τ).loc Cert.AdamwInIdeal.main_arg6) = m ((c.tc : Thread Cert.AdamwInIdeal.nD Cert.AdamwInIdeal.τ).loc Cert.AdamwInIdeal.main_arg6)
          ∧ r.2.mem ((c.tc : Thread Cert.AdamwInIdeal.nD Cert.AdamwInIdeal.τ).loc Cert.AdamwInIdeal.main_arg7) = m ((c.tc : Thread Cert.AdamwInIdeal.nD Cert.AdamwInIdeal.τ).loc Cert.AdamwInIdeal.main_arg7)
          ∧ r.2.mem ((c.tc : Thread Cert.AdamwInIdeal.nD Cert.AdamwInIdeal.τ).loc Cert.AdamwInIdeal.main_arg8) = m ((c.tc : Thread Cert.AdamwInIdeal.nD Cert.AdamwInIdeal.τ).loc Cert.AdamwInIdeal.main_arg8)
          ∧ r.2.mem ((c.tc : Thread Cert.AdamwInIdeal.nD Cert.AdamwInIdeal.τ).loc Cert.AdamwInIdeal.main_arg9) = m ((c.tc : Thread Cert.AdamwInIdeal.nD Cert.AdamwInIdeal.τ).loc Cert.AdamwInIdeal.main_arg9)
          ∧ r.2.mem ((c.tc : Thread Cert.AdamwInIdeal.nD Cert.AdamwInIdeal.τ).loc Cert.AdamwInIdeal.main_arg10) = m ((c.tc : Thread Cert.AdamwInIdeal.nD Cert.AdamwInIdeal.τ).loc Cert.AdamwInIdeal.main_arg10)
          ∧ r.2.mem ((c.tc : Thread Cert.AdamwInIdeal.nD Cert.AdamwInIdeal.τ).loc Cert.AdamwInIdeal.main_arg11) = m ((c.tc : Thread Cert.AdamwInIdeal.nD Cert.AdamwInIdeal.τ).loc Cert.AdamwInIdeal.main_arg11)
          ∧ r.2.mem ((c.tc : Thread Cert.AdamwInIdeal.nD Cert.AdamwInIdeal.τ).loc Cert.AdamwInIdeal.main_arg12) = m ((c.tc : Thread Cert.AdamwInIdeal.nD Cert.AdamwInIdeal.τ).loc Cert.AdamwInIdeal.main_arg12)
          ∧ r.2.mem ((c.tc : Thread Cert.AdamwInIdeal.nD Cert.AdamwInIdeal.τ).loc Cert.AdamwInIdeal.main_arg13) = m ((c.tc : Thread Cert.AdamwInIdeal.nD Cert.AdamwInIdeal.τ).loc Cert.AdamwInIdeal.main_arg13)
          ∧ r.2.mem ((c.tc : Thread Cert.AdamwInIdeal.nD Cert.AdamwInIdeal.τ).loc Cert.AdamwInIdeal.main_arg14) = m ((c.tc : Thread Cert.AdamwInIdeal.nD Cert.AdamwInIdeal.τ).loc Cert.AdamwInIdeal.main_arg14)
          ∧ r.2.mem ((c.tc : Thread Cert.AdamwInIdeal.nD Cert.AdamwInIdeal.τ).loc Cert.AdamwInIdeal.main_arg15) = m ((c.tc : Thread Cert.AdamwInIdeal.nD Cert.AdamwInIdeal.τ).loc Cert.AdamwInIdeal.main_arg15))
      ∧ θ_run (Cert.AdamwInRefIdeal.defs (F := Ideal)) (onTc (τ := Cert.AdamwInRefIdeal.τ) (Cert.AdamwInRefIdeal.main (F := Ideal))) ⟨m', fun _ => 0, g'⟩ (fun r => ∀ c : Dev Cert.AdamwInRefIdeal.nD,
          r.2.mem ((c.tc : Thread Cert.AdamwInRefIdeal.nD Cert.AdamwInRefIdeal.τ).loc Cert.AdamwInRefIdeal.main_v32) = v0 c
          ∧ r.2.mem ((c.tc : Thread Cert.AdamwInRefIdeal.nD Cert.AdamwInRefIdeal.τ).loc Cert.AdamwInRefIdeal.main_v56) = v1 c
          ∧ r.2.mem ((c.tc : Thread Cert.AdamwInRefIdeal.nD Cert.AdamwInRefIdeal.τ).loc Cert.AdamwInRefIdeal.main_v37) = v2 c
          ∧ r.2.mem ((c.tc : Thread Cert.AdamwInRefIdeal.nD Cert.AdamwInRefIdeal.τ).loc Cert.AdamwInRefIdeal.main_v43) = v3 c
          ∧ r.2.mem ((c.tc : Thread Cert.AdamwInRefIdeal.nD Cert.AdamwInRefIdeal.τ).loc Cert.AdamwInRefIdeal.main_arg0) = m' ((c.tc : Thread Cert.AdamwInRefIdeal.nD Cert.AdamwInRefIdeal.τ).loc Cert.AdamwInRefIdeal.main_arg0)
          ∧ r.2.mem ((c.tc : Thread Cert.AdamwInRefIdeal.nD Cert.AdamwInRefIdeal.τ).loc Cert.AdamwInRefIdeal.main_arg1) = m' ((c.tc : Thread Cert.AdamwInRefIdeal.nD Cert.AdamwInRefIdeal.τ).loc Cert.AdamwInRefIdeal.main_arg1)
          ∧ r.2.mem ((c.tc : Thread Cert.AdamwInRefIdeal.nD Cert.AdamwInRefIdeal.τ).loc Cert.AdamwInRefIdeal.main_arg2) = m' ((c.tc : Thread Cert.AdamwInRefIdeal.nD Cert.AdamwInRefIdeal.τ).loc Cert.AdamwInRefIdeal.main_arg2)
          ∧ r.2.mem ((c.tc : Thread Cert.AdamwInRefIdeal.nD Cert.AdamwInRefIdeal.τ).loc Cert.AdamwInRefIdeal.main_arg3) = m' ((c.tc : Thread Cert.AdamwInRefIdeal.nD Cert.AdamwInRefIdeal.τ).loc Cert.AdamwInRefIdeal.main_arg3)
          ∧ r.2.mem ((c.tc : Thread Cert.AdamwInRefIdeal.nD Cert.AdamwInRefIdeal.τ).loc Cert.AdamwInRefIdeal.main_arg4) = m' ((c.tc : Thread Cert.AdamwInRefIdeal.nD Cert.AdamwInRefIdeal.τ).loc Cert.AdamwInRefIdeal.main_arg4)
          ∧ r.2.mem ((c.tc : Thread Cert.AdamwInRefIdeal.nD Cert.AdamwInRefIdeal.τ).loc Cert.AdamwInRefIdeal.main_arg5) = m' ((c.tc : Thread Cert.AdamwInRefIdeal.nD Cert.AdamwInRefIdeal.τ).loc Cert.AdamwInRefIdeal.main_arg5)
          ∧ r.2.mem ((c.tc : Thread Cert.AdamwInRefIdeal.nD Cert.AdamwInRefIdeal.τ).loc Cert.AdamwInRefIdeal.main_arg6) = m' ((c.tc : Thread Cert.AdamwInRefIdeal.nD Cert.AdamwInRefIdeal.τ).loc Cert.AdamwInRefIdeal.main_arg6)
          ∧ r.2.mem ((c.tc : Thread Cert.AdamwInRefIdeal.nD Cert.AdamwInRefIdeal.τ).loc Cert.AdamwInRefIdeal.main_arg7) = m' ((c.tc : Thread Cert.AdamwInRefIdeal.nD Cert.AdamwInRefIdeal.τ).loc Cert.AdamwInRefIdeal.main_arg7)
          ∧ r.2.mem ((c.tc : Thread Cert.AdamwInRefIdeal.nD Cert.AdamwInRefIdeal.τ).loc Cert.AdamwInRefIdeal.main_arg8) = m' ((c.tc : Thread Cert.AdamwInRefIdeal.nD Cert.AdamwInRefIdeal.τ).loc Cert.AdamwInRefIdeal.main_arg8)
          ∧ r.2.mem ((c.tc : Thread Cert.AdamwInRefIdeal.nD Cert.AdamwInRefIdeal.τ).loc Cert.AdamwInRefIdeal.main_arg9) = m' ((c.tc : Thread Cert.AdamwInRefIdeal.nD Cert.AdamwInRefIdeal.τ).loc Cert.AdamwInRefIdeal.main_arg9)
          ∧ r.2.mem ((c.tc : Thread Cert.AdamwInRefIdeal.nD Cert.AdamwInRefIdeal.τ).loc Cert.AdamwInRefIdeal.main_arg10) = m' ((c.tc : Thread Cert.AdamwInRefIdeal.nD Cert.AdamwInRefIdeal.τ).loc Cert.AdamwInRefIdeal.main_arg10)
          ∧ r.2.mem ((c.tc : Thread Cert.AdamwInRefIdeal.nD Cert.AdamwInRefIdeal.τ).loc Cert.AdamwInRefIdeal.main_arg11) = m' ((c.tc : Thread Cert.AdamwInRefIdeal.nD Cert.AdamwInRefIdeal.τ).loc Cert.AdamwInRefIdeal.main_arg11)
          ∧ r.2.mem ((c.tc : Thread Cert.AdamwInRefIdeal.nD Cert.AdamwInRefIdeal.τ).loc Cert.AdamwInRefIdeal.main_arg12) = m' ((c.tc : Thread Cert.AdamwInRefIdeal.nD Cert.AdamwInRefIdeal.τ).loc Cert.AdamwInRefIdeal.main_arg12)
          ∧ r.2.mem ((c.tc : Thread Cert.AdamwInRefIdeal.nD Cert.AdamwInRefIdeal.τ).loc Cert.AdamwInRefIdeal.main_arg13) = m' ((c.tc : Thread Cert.AdamwInRefIdeal.nD Cert.AdamwInRefIdeal.τ).loc Cert.AdamwInRefIdeal.main_arg13)
          ∧ r.2.mem ((c.tc : Thread Cert.AdamwInRefIdeal.nD Cert.AdamwInRefIdeal.τ).loc Cert.AdamwInRefIdeal.main_arg14) = m' ((c.tc : Thread Cert.AdamwInRefIdeal.nD Cert.AdamwInRefIdeal.τ).loc Cert.AdamwInRefIdeal.main_arg14)
          ∧ r.2.mem ((c.tc : Thread Cert.AdamwInRefIdeal.nD Cert.AdamwInRefIdeal.τ).loc Cert.AdamwInRefIdeal.main_arg15) = m' ((c.tc : Thread Cert.AdamwInRefIdeal.nD Cert.AdamwInRefIdeal.τ).loc Cert.AdamwInRefIdeal.main_arg15))

def preserves_AdamwOut_AdamwOutIdeal : Prop :=
  True

def algebraic_AdamwOutIdeal_AdamwOutRefIdeal [hAdamwOutIdeal : Cert.AdamwOutIdeal.Facts] [hAdamwOutRefIdeal : Cert.AdamwOutRefIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg)
    (m' : (ℓ : Loc Cert.AdamwOutRefIdeal.nD Cert.AdamwOutRefIdeal.τ Cert.AdamwOutRefIdeal.sig) → Buf (Elt Ideal) ℓ) (g' : Dev Cert.AdamwOutRefIdeal.nD → PrngReg), Pre_AdamwOutIdeal m →
    (∀ c : Dev Cert.AdamwOutIdeal.nD,
      m' ((c.tc : Thread Cert.AdamwOutRefIdeal.nD Cert.AdamwOutRefIdeal.τ).loc Cert.AdamwOutRefIdeal.main_arg0) = m ((c.tc : Thread Cert.AdamwOutIdeal.nD Cert.AdamwOutIdeal.τ).loc Cert.AdamwOutIdeal.main_arg0)
      ∧ m' ((c.tc : Thread Cert.AdamwOutRefIdeal.nD Cert.AdamwOutRefIdeal.τ).loc Cert.AdamwOutRefIdeal.main_arg1) = m ((c.tc : Thread Cert.AdamwOutIdeal.nD Cert.AdamwOutIdeal.τ).loc Cert.AdamwOutIdeal.main_arg1)
      ∧ m' ((c.tc : Thread Cert.AdamwOutRefIdeal.nD Cert.AdamwOutRefIdeal.τ).loc Cert.AdamwOutRefIdeal.main_arg2) = m ((c.tc : Thread Cert.AdamwOutIdeal.nD Cert.AdamwOutIdeal.τ).loc Cert.AdamwOutIdeal.main_arg2)
      ∧ m' ((c.tc : Thread Cert.AdamwOutRefIdeal.nD Cert.AdamwOutRefIdeal.τ).loc Cert.AdamwOutRefIdeal.main_arg3) = m ((c.tc : Thread Cert.AdamwOutIdeal.nD Cert.AdamwOutIdeal.τ).loc Cert.AdamwOutIdeal.main_arg3)
      ∧ m' ((c.tc : Thread Cert.AdamwOutRefIdeal.nD Cert.AdamwOutRefIdeal.τ).loc Cert.AdamwOutRefIdeal.main_arg4) = m ((c.tc : Thread Cert.AdamwOutIdeal.nD Cert.AdamwOutIdeal.τ).loc Cert.AdamwOutIdeal.main_arg4)
      ∧ m' ((c.tc : Thread Cert.AdamwOutRefIdeal.nD Cert.AdamwOutRefIdeal.τ).loc Cert.AdamwOutRefIdeal.main_arg5) = m ((c.tc : Thread Cert.AdamwOutIdeal.nD Cert.AdamwOutIdeal.τ).loc Cert.AdamwOutIdeal.main_arg5)
      ∧ m' ((c.tc : Thread Cert.AdamwOutRefIdeal.nD Cert.AdamwOutRefIdeal.τ).loc Cert.AdamwOutRefIdeal.main_arg6) = m ((c.tc : Thread Cert.AdamwOutIdeal.nD Cert.AdamwOutIdeal.τ).loc Cert.AdamwOutIdeal.main_arg6)
      ∧ m' ((c.tc : Thread Cert.AdamwOutRefIdeal.nD Cert.AdamwOutRefIdeal.τ).loc Cert.AdamwOutRefIdeal.main_arg7) = m ((c.tc : Thread Cert.AdamwOutIdeal.nD Cert.AdamwOutIdeal.τ).loc Cert.AdamwOutIdeal.main_arg7)
      ∧ m' ((c.tc : Thread Cert.AdamwOutRefIdeal.nD Cert.AdamwOutRefIdeal.τ).loc Cert.AdamwOutRefIdeal.main_arg8) = m ((c.tc : Thread Cert.AdamwOutIdeal.nD Cert.AdamwOutIdeal.τ).loc Cert.AdamwOutIdeal.main_arg8)
      ∧ m' ((c.tc : Thread Cert.AdamwOutRefIdeal.nD Cert.AdamwOutRefIdeal.τ).loc Cert.AdamwOutRefIdeal.main_arg9) = m ((c.tc : Thread Cert.AdamwOutIdeal.nD Cert.AdamwOutIdeal.τ).loc Cert.AdamwOutIdeal.main_arg9)
      ∧ m' ((c.tc : Thread Cert.AdamwOutRefIdeal.nD Cert.AdamwOutRefIdeal.τ).loc Cert.AdamwOutRefIdeal.main_arg10) = m ((c.tc : Thread Cert.AdamwOutIdeal.nD Cert.AdamwOutIdeal.τ).loc Cert.AdamwOutIdeal.main_arg10)
      ∧ m' ((c.tc : Thread Cert.AdamwOutRefIdeal.nD Cert.AdamwOutRefIdeal.τ).loc Cert.AdamwOutRefIdeal.main_arg11) = m ((c.tc : Thread Cert.AdamwOutIdeal.nD Cert.AdamwOutIdeal.τ).loc Cert.AdamwOutIdeal.main_arg11)) →
    ∃ (v0 : (c : Dev Cert.AdamwOutIdeal.nD) → Buf (Elt Ideal) ((c.tc : Thread Cert.AdamwOutIdeal.nD Cert.AdamwOutIdeal.τ).loc Cert.AdamwOutIdeal.main_v3_0)) (v1 : (c : Dev Cert.AdamwOutIdeal.nD) → Buf (Elt Ideal) ((c.tc : Thread Cert.AdamwOutIdeal.nD Cert.AdamwOutIdeal.τ).loc Cert.AdamwOutIdeal.main_v3_1)) (v2 : (c : Dev Cert.AdamwOutIdeal.nD) → Buf (Elt Ideal) ((c.tc : Thread Cert.AdamwOutIdeal.nD Cert.AdamwOutIdeal.τ).loc Cert.AdamwOutIdeal.main_v3_2)) (v3 : (c : Dev Cert.AdamwOutIdeal.nD) → Buf (Elt Ideal) ((c.tc : Thread Cert.AdamwOutIdeal.nD Cert.AdamwOutIdeal.τ).loc Cert.AdamwOutIdeal.main_v3_3)),
      θ_run (Cert.AdamwOutIdeal.defs (F := Ideal)) (onTc (τ := Cert.AdamwOutIdeal.τ) (Cert.AdamwOutIdeal.main (F := Ideal))) ⟨m, fun _ => 0, g⟩ (fun r => ∀ c : Dev Cert.AdamwOutIdeal.nD,
          r.2.mem ((c.tc : Thread Cert.AdamwOutIdeal.nD Cert.AdamwOutIdeal.τ).loc Cert.AdamwOutIdeal.main_v3_0) = v0 c
          ∧ r.2.mem ((c.tc : Thread Cert.AdamwOutIdeal.nD Cert.AdamwOutIdeal.τ).loc Cert.AdamwOutIdeal.main_v3_1) = v1 c
          ∧ r.2.mem ((c.tc : Thread Cert.AdamwOutIdeal.nD Cert.AdamwOutIdeal.τ).loc Cert.AdamwOutIdeal.main_v3_2) = v2 c
          ∧ r.2.mem ((c.tc : Thread Cert.AdamwOutIdeal.nD Cert.AdamwOutIdeal.τ).loc Cert.AdamwOutIdeal.main_v3_3) = v3 c
          ∧ r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
          ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
          ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
          ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3)
          ∧ r.2.mem ((c.tc : Thread Cert.AdamwOutIdeal.nD Cert.AdamwOutIdeal.τ).loc Cert.AdamwOutIdeal.main_arg4) = m ((c.tc : Thread Cert.AdamwOutIdeal.nD Cert.AdamwOutIdeal.τ).loc Cert.AdamwOutIdeal.main_arg4)
          ∧ r.2.mem ((c.tc : Thread Cert.AdamwOutIdeal.nD Cert.AdamwOutIdeal.τ).loc Cert.AdamwOutIdeal.main_arg5) = m ((c.tc : Thread Cert.AdamwOutIdeal.nD Cert.AdamwOutIdeal.τ).loc Cert.AdamwOutIdeal.main_arg5)
          ∧ r.2.mem ((c.tc : Thread Cert.AdamwOutIdeal.nD Cert.AdamwOutIdeal.τ).loc Cert.AdamwOutIdeal.main_arg6) = m ((c.tc : Thread Cert.AdamwOutIdeal.nD Cert.AdamwOutIdeal.τ).loc Cert.AdamwOutIdeal.main_arg6)
          ∧ r.2.mem ((c.tc : Thread Cert.AdamwOutIdeal.nD Cert.AdamwOutIdeal.τ).loc Cert.AdamwOutIdeal.main_arg7) = m ((c.tc : Thread Cert.AdamwOutIdeal.nD Cert.AdamwOutIdeal.τ).loc Cert.AdamwOutIdeal.main_arg7)
          ∧ r.2.mem ((c.tc : Thread Cert.AdamwOutIdeal.nD Cert.AdamwOutIdeal.τ).loc Cert.AdamwOutIdeal.main_arg8) = m ((c.tc : Thread Cert.AdamwOutIdeal.nD Cert.AdamwOutIdeal.τ).loc Cert.AdamwOutIdeal.main_arg8)
          ∧ r.2.mem ((c.tc : Thread Cert.AdamwOutIdeal.nD Cert.AdamwOutIdeal.τ).loc Cert.AdamwOutIdeal.main_arg9) = m ((c.tc : Thread Cert.AdamwOutIdeal.nD Cert.AdamwOutIdeal.τ).loc Cert.AdamwOutIdeal.main_arg9)
          ∧ r.2.mem ((c.tc : Thread Cert.AdamwOutIdeal.nD Cert.AdamwOutIdeal.τ).loc Cert.AdamwOutIdeal.main_arg10) = m ((c.tc : Thread Cert.AdamwOutIdeal.nD Cert.AdamwOutIdeal.τ).loc Cert.AdamwOutIdeal.main_arg10)
          ∧ r.2.mem ((c.tc : Thread Cert.AdamwOutIdeal.nD Cert.AdamwOutIdeal.τ).loc Cert.AdamwOutIdeal.main_arg11) = m ((c.tc : Thread Cert.AdamwOutIdeal.nD Cert.AdamwOutIdeal.τ).loc Cert.AdamwOutIdeal.main_arg11))
      ∧ θ_run (Cert.AdamwOutRefIdeal.defs (F := Ideal)) (onTc (τ := Cert.AdamwOutRefIdeal.τ) (Cert.AdamwOutRefIdeal.main (F := Ideal))) ⟨m', fun _ => 0, g'⟩ (fun r => ∀ c : Dev Cert.AdamwOutRefIdeal.nD,
          r.2.mem ((c.tc : Thread Cert.AdamwOutRefIdeal.nD Cert.AdamwOutRefIdeal.τ).loc Cert.AdamwOutRefIdeal.main_v12) = v0 c
          ∧ r.2.mem ((c.tc : Thread Cert.AdamwOutRefIdeal.nD Cert.AdamwOutRefIdeal.τ).loc Cert.AdamwOutRefIdeal.main_v36) = v1 c
          ∧ r.2.mem ((c.tc : Thread Cert.AdamwOutRefIdeal.nD Cert.AdamwOutRefIdeal.τ).loc Cert.AdamwOutRefIdeal.main_v17) = v2 c
          ∧ r.2.mem ((c.tc : Thread Cert.AdamwOutRefIdeal.nD Cert.AdamwOutRefIdeal.τ).loc Cert.AdamwOutRefIdeal.main_v23) = v3 c
          ∧ r.2.mem ((c.tc : Thread Cert.AdamwOutRefIdeal.nD Cert.AdamwOutRefIdeal.τ).loc Cert.AdamwOutRefIdeal.main_arg0) = m' ((c.tc : Thread Cert.AdamwOutRefIdeal.nD Cert.AdamwOutRefIdeal.τ).loc Cert.AdamwOutRefIdeal.main_arg0)
          ∧ r.2.mem ((c.tc : Thread Cert.AdamwOutRefIdeal.nD Cert.AdamwOutRefIdeal.τ).loc Cert.AdamwOutRefIdeal.main_arg1) = m' ((c.tc : Thread Cert.AdamwOutRefIdeal.nD Cert.AdamwOutRefIdeal.τ).loc Cert.AdamwOutRefIdeal.main_arg1)
          ∧ r.2.mem ((c.tc : Thread Cert.AdamwOutRefIdeal.nD Cert.AdamwOutRefIdeal.τ).loc Cert.AdamwOutRefIdeal.main_arg2) = m' ((c.tc : Thread Cert.AdamwOutRefIdeal.nD Cert.AdamwOutRefIdeal.τ).loc Cert.AdamwOutRefIdeal.main_arg2)
          ∧ r.2.mem ((c.tc : Thread Cert.AdamwOutRefIdeal.nD Cert.AdamwOutRefIdeal.τ).loc Cert.AdamwOutRefIdeal.main_arg3) = m' ((c.tc : Thread Cert.AdamwOutRefIdeal.nD Cert.AdamwOutRefIdeal.τ).loc Cert.AdamwOutRefIdeal.main_arg3)
          ∧ r.2.mem ((c.tc : Thread Cert.AdamwOutRefIdeal.nD Cert.AdamwOutRefIdeal.τ).loc Cert.AdamwOutRefIdeal.main_arg4) = m' ((c.tc : Thread Cert.AdamwOutRefIdeal.nD Cert.AdamwOutRefIdeal.τ).loc Cert.AdamwOutRefIdeal.main_arg4)
          ∧ r.2.mem ((c.tc : Thread Cert.AdamwOutRefIdeal.nD Cert.AdamwOutRefIdeal.τ).loc Cert.AdamwOutRefIdeal.main_arg5) = m' ((c.tc : Thread Cert.AdamwOutRefIdeal.nD Cert.AdamwOutRefIdeal.τ).loc Cert.AdamwOutRefIdeal.main_arg5)
          ∧ r.2.mem ((c.tc : Thread Cert.AdamwOutRefIdeal.nD Cert.AdamwOutRefIdeal.τ).loc Cert.AdamwOutRefIdeal.main_arg6) = m' ((c.tc : Thread Cert.AdamwOutRefIdeal.nD Cert.AdamwOutRefIdeal.τ).loc Cert.AdamwOutRefIdeal.main_arg6)
          ∧ r.2.mem ((c.tc : Thread Cert.AdamwOutRefIdeal.nD Cert.AdamwOutRefIdeal.τ).loc Cert.AdamwOutRefIdeal.main_arg7) = m' ((c.tc : Thread Cert.AdamwOutRefIdeal.nD Cert.AdamwOutRefIdeal.τ).loc Cert.AdamwOutRefIdeal.main_arg7)
          ∧ r.2.mem ((c.tc : Thread Cert.AdamwOutRefIdeal.nD Cert.AdamwOutRefIdeal.τ).loc Cert.AdamwOutRefIdeal.main_arg8) = m' ((c.tc : Thread Cert.AdamwOutRefIdeal.nD Cert.AdamwOutRefIdeal.τ).loc Cert.AdamwOutRefIdeal.main_arg8)
          ∧ r.2.mem ((c.tc : Thread Cert.AdamwOutRefIdeal.nD Cert.AdamwOutRefIdeal.τ).loc Cert.AdamwOutRefIdeal.main_arg9) = m' ((c.tc : Thread Cert.AdamwOutRefIdeal.nD Cert.AdamwOutRefIdeal.τ).loc Cert.AdamwOutRefIdeal.main_arg9)
          ∧ r.2.mem ((c.tc : Thread Cert.AdamwOutRefIdeal.nD Cert.AdamwOutRefIdeal.τ).loc Cert.AdamwOutRefIdeal.main_arg10) = m' ((c.tc : Thread Cert.AdamwOutRefIdeal.nD Cert.AdamwOutRefIdeal.τ).loc Cert.AdamwOutRefIdeal.main_arg10)
          ∧ r.2.mem ((c.tc : Thread Cert.AdamwOutRefIdeal.nD Cert.AdamwOutRefIdeal.τ).loc Cert.AdamwOutRefIdeal.main_arg11) = m' ((c.tc : Thread Cert.AdamwOutRefIdeal.nD Cert.AdamwOutRefIdeal.τ).loc Cert.AdamwOutRefIdeal.main_arg11))

def Claim : Prop :=
  ∃ (hKernel : Cert.Kernel.Facts) (hKernelIdeal : Cert.KernelIdeal.Facts) (hReferenceIdeal : Cert.ReferenceIdeal.Facts) (hDWout : Cert.DWout.Facts) (hDWoutIdeal : Cert.DWoutIdeal.Facts) (hDWoutRefIdeal : Cert.DWoutRefIdeal.Facts) (hDY : Cert.DY.Facts) (hDYIdeal : Cert.DYIdeal.Facts) (hDYRefIdeal : Cert.DYRefIdeal.Facts) (hAttnFwd : Cert.AttnFwd.Facts) (hAttnFwdIdeal : Cert.AttnFwdIdeal.Facts) (hAttnFwdRefIdeal : Cert.AttnFwdRefIdeal.Facts) (hDWin : Cert.DWin.Facts) (hDWinIdeal : Cert.DWinIdeal.Facts) (hDWinRefIdeal : Cert.DWinRefIdeal.Facts) (hDH : Cert.DH.Facts) (hDHIdeal : Cert.DHIdeal.Facts) (hDHRefIdeal : Cert.DHRefIdeal.Facts) (hOutProj : Cert.OutProj.Facts) (hOutProjIdeal : Cert.OutProjIdeal.Facts) (hOutProjRefIdeal : Cert.OutProjRefIdeal.Facts) (hRmsBwd : Cert.RmsBwd.Facts) (hRmsBwdIdeal : Cert.RmsBwdIdeal.Facts) (hRmsBwdRefIdeal : Cert.RmsBwdRefIdeal.Facts) (hAdamw : Cert.Adamw.Facts) (hAdamwIdeal : Cert.AdamwIdeal.Facts) (hAdamwRefIdeal : Cert.AdamwRefIdeal.Facts) (hRmsFwd : Cert.RmsFwd.Facts) (hRmsFwdIdeal : Cert.RmsFwdIdeal.Facts) (hRmsFwdRefIdeal : Cert.RmsFwdRefIdeal.Facts) (hLoss : Cert.Loss.Facts) (hLossIdeal : Cert.LossIdeal.Facts) (hLossRefIdeal : Cert.LossRefIdeal.Facts) (hAdamwIn : Cert.AdamwIn.Facts) (hAdamwInIdeal : Cert.AdamwInIdeal.Facts) (hAdamwInRefIdeal : Cert.AdamwInRefIdeal.Facts) (hAdamwOut : Cert.AdamwOut.Facts) (hAdamwOutIdeal : Cert.AdamwOutIdeal.Facts) (hAdamwOutRefIdeal : Cert.AdamwOutRefIdeal.Facts) (hPre_finite : Cert.Pre_finite.Facts) (hPre_finite_qk : Cert.Pre_finite_qk.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DWout (hDWout := hDWout)
    ∧ quiescent_DWoutIdeal (hDWoutIdeal := hDWoutIdeal)
    ∧ quiescent_DWoutRefIdeal (hDWoutRefIdeal := hDWoutRefIdeal)
    ∧ quiescent_DY (hDY := hDY)
    ∧ quiescent_DYIdeal (hDYIdeal := hDYIdeal)
    ∧ quiescent_DYRefIdeal (hDYRefIdeal := hDYRefIdeal)
    ∧ quiescent_AttnFwd (hAttnFwd := hAttnFwd)
    ∧ quiescent_AttnFwdIdeal (hAttnFwdIdeal := hAttnFwdIdeal)
    ∧ quiescent_AttnFwdIdeal_pre_finite_qk (hAttnFwdIdeal := hAttnFwdIdeal) (hPre_finite_qk := hPre_finite_qk)
    ∧ quiescent_AttnFwdRefIdeal (hAttnFwdRefIdeal := hAttnFwdRefIdeal)
    ∧ quiescent_AttnFwdRefIdeal_pre_finite_qk (hAttnFwdRefIdeal := hAttnFwdRefIdeal) (hPre_finite_qk := hPre_finite_qk)
    ∧ quiescent_DWin (hDWin := hDWin)
    ∧ quiescent_DWinIdeal (hDWinIdeal := hDWinIdeal)
    ∧ quiescent_DWinRefIdeal (hDWinRefIdeal := hDWinRefIdeal)
    ∧ quiescent_DH (hDH := hDH)
    ∧ quiescent_DHIdeal (hDHIdeal := hDHIdeal)
    ∧ quiescent_DHRefIdeal (hDHRefIdeal := hDHRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_RmsBwd (hRmsBwd := hRmsBwd)
    ∧ quiescent_RmsBwdIdeal (hRmsBwdIdeal := hRmsBwdIdeal)
    ∧ quiescent_RmsBwdRefIdeal (hRmsBwdRefIdeal := hRmsBwdRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_Loss (hLoss := hLoss)
    ∧ quiescent_LossIdeal (hLossIdeal := hLossIdeal)
    ∧ quiescent_LossRefIdeal (hLossRefIdeal := hLossRefIdeal)
    ∧ quiescent_AdamwIn (hAdamwIn := hAdamwIn)
    ∧ quiescent_AdamwInIdeal (hAdamwInIdeal := hAdamwInIdeal)
    ∧ quiescent_AdamwInRefIdeal (hAdamwInRefIdeal := hAdamwInRefIdeal)
    ∧ quiescent_AdamwOut (hAdamwOut := hAdamwOut)
    ∧ quiescent_AdamwOutIdeal (hAdamwOutIdeal := hAdamwOutIdeal)
    ∧ quiescent_AdamwOutRefIdeal (hAdamwOutRefIdeal := hAdamwOutRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DWout_DWoutIdeal
    ∧ algebraic_DWoutIdeal_DWoutRefIdeal (hDWoutIdeal := hDWoutIdeal) (hDWoutRefIdeal := hDWoutRefIdeal)
    ∧ preserves_DY_DYIdeal
    ∧ algebraic_DYIdeal_DYRefIdeal (hDYIdeal := hDYIdeal) (hDYRefIdeal := hDYRefIdeal)
    ∧ preserves_AttnFwd_AttnFwdIdeal
    ∧ algebraic_AttnFwdIdeal_AttnFwdRefIdeal_pre_finite_qk (hAttnFwdIdeal := hAttnFwdIdeal) (hAttnFwdRefIdeal := hAttnFwdRefIdeal) (hPre_finite_qk := hPre_finite_qk)
    ∧ preserves_DWin_DWinIdeal
    ∧ algebraic_DWinIdeal_DWinRefIdeal (hDWinIdeal := hDWinIdeal) (hDWinRefIdeal := hDWinRefIdeal)
    ∧ preserves_DH_DHIdeal
    ∧ algebraic_DHIdeal_DHRefIdeal (hDHIdeal := hDHIdeal) (hDHRefIdeal := hDHRefIdeal)
    ∧ preserves_OutProj_OutProjIdeal
    ∧ algebraic_OutProjIdeal_OutProjRefIdeal (hOutProjIdeal := hOutProjIdeal) (hOutProjRefIdeal := hOutProjRefIdeal)
    ∧ preserves_RmsBwd_RmsBwdIdeal
    ∧ algebraic_RmsBwdIdeal_RmsBwdRefIdeal (hRmsBwdIdeal := hRmsBwdIdeal) (hRmsBwdRefIdeal := hRmsBwdRefIdeal)
    ∧ preserves_Adamw_AdamwIdeal
    ∧ algebraic_AdamwIdeal_AdamwRefIdeal (hAdamwIdeal := hAdamwIdeal) (hAdamwRefIdeal := hAdamwRefIdeal)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_Loss_LossIdeal
    ∧ algebraic_LossIdeal_LossRefIdeal (hLossIdeal := hLossIdeal) (hLossRefIdeal := hLossRefIdeal)
    ∧ preserves_AdamwIn_AdamwInIdeal
    ∧ algebraic_AdamwInIdeal_AdamwInRefIdeal (hAdamwInIdeal := hAdamwInIdeal) (hAdamwInRefIdeal := hAdamwInRefIdeal)
    ∧ preserves_AdamwOut_AdamwOutIdeal
    ∧ algebraic_AdamwOutIdeal_AdamwOutRefIdeal (hAdamwOutIdeal := hAdamwOutIdeal) (hAdamwOutRefIdeal := hAdamwOutRefIdeal)
-- ==== Pre_finite.lean ====
abbrev S4096x2048 : Shape := ⟨2, ![4096, 2048]⟩
abbrev S4096x512 : Shape := ⟨2, ![4096, 512]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_

variable [Facts]

def fn_part1 {F : FTy → Type} [FloatOps F] (main_v8 : IVec S_ 1) (main_v12 : IVec S_ 1) (main_v15 : IVec S4096x2048 1) (main_c_5 : IVec S_ 1) : IVec S_ 1 :=
  let main_v16 : IVec S_ 1 := (fun x v => Host.reduce IntOp.andi x v reducesTo_S4096x2048_S_d0_1 h_S_) main_v15 main_c_5
  let main_v17 : IVec S_ 1 := andi main_v12 main_v16
  let main_v18 : IVec S_ 1 := andi main_v8 main_v17
  main_v18

def fn {F : FTy → Type} [FloatOps F] (main_arg0 : FVec F S4096x2048 .bf16) (main_arg1 : FVec F S4096x512 .bf16) (main_arg2 : FVec F S4096x512 .bf16) (main_arg3 : FVec F S4096x2048 .bf16) : IVec S_ 1 :=
  let main_v0 : FVec F S4096x2048 .bf16 := Host.absf main_arg0
  let main_cst : FVec F S_ .bf16 := constant S_ .bf16 0x7F80#16
  let main_v1 : FVec F S4096x2048 .bf16 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x512 .bf16 := Host.absf main_arg1
  let main_cst_0 : FVec F S_ .bf16 := constant S_ .bf16 0x7F80#16
  let main_v5 : FVec F S4096x512 .bf16 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .bf16 := Host.absf main_arg2
  let main_cst_2 : FVec F S_ .bf16 := constant S_ .bf16 0x7F80#16
  let main_v10 : FVec F S4096x512 .bf16 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : FVec F S4096x2048 .bf16 := Host.absf main_arg3
  let main_cst_4 : FVec F S_ .bf16 := constant S_ .bf16 0x7F80#16
  let main_v14 : FVec F S4096x2048 .bf16 := broadcastInDim S4096x2048 ![] bcast_S_S4096x2048 main_cst_4
  let main_v15 : IVec S4096x2048 1 := cmpf .olt main_v13 main_v14
  let main_c_5 : IVec S_ 1 := constantI S_ 1 1#1
  fn_part1 (F := F) main_v8 main_v12 main_v15 main_c_5
-- ==== Pre_finite_qk.lean ====
abbrev S4096x2048 : Shape := ⟨2, ![4096, 2048]⟩
abbrev S4096x512 : Shape := ⟨2, ![4096, 512]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_

variable [Facts]

def fn {F : FTy → Type} [FloatOps F] (main_arg0 : FVec F S4096x2048 .bf16) (main_arg1 : FVec F S4096x512 .bf16) (main_arg2 : FVec F S4096x512 .bf16) : IVec S_ 1 :=
  let main_v0 : FVec F S4096x2048 .bf16 := Host.absf main_arg0
  let main_cst : FVec F S_ .bf16 := constant S_ .bf16 0x7F80#16
  let main_v1 : FVec F S4096x2048 .bf16 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x512 .bf16 := Host.absf main_arg1
  let main_cst_0 : FVec F S_ .bf16 := constant S_ .bf16 0x7F80#16
  let main_v5 : FVec F S4096x512 .bf16 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Kernel.lean ====
abbrev S4096x2048 : Shape := ⟨2, ![4096, 2048]⟩
abbrev S4096x512 : Shape := ⟨2, ![4096, 512]⟩
abbrev S4096x4x4x128 : Shape := ⟨4, ![4096, 4, 4, 128]⟩
abbrev S4x4x4096x128 : Shape := ⟨4, ![4, 4, 4096, 128]⟩
abbrev S4096x4x128 : Shape := ⟨3, ![4096, 4, 128]⟩
abbrev S4x4096x128 : Shape := ⟨3, ![4, 4096, 128]⟩
abbrev S4x4x4096x4096 : Shape := ⟨4, ![4, 4, 4096, 4096]⟩
abbrev S_ : Shape := ⟨0, ![]⟩
abbrev S4x4x4096 : Shape := ⟨3, ![4, 4, 4096]⟩
abbrev S4x4x4096x1 : Shape := ⟨4, ![4, 4, 4096, 1]⟩
abbrev S4096x4x4 : Shape := ⟨3, ![4096, 4, 4]⟩
abbrev S4096x4x4x1 : Shape := ⟨4, ![4096, 4, 4, 1]⟩
abbrev S1024x128 : Shape := ⟨2, ![1024, 128]⟩
abbrev S4096x128 : Shape := ⟨2, ![4096, 128]⟩
abbrev S1024x4096 : Shape := ⟨2, ![1024, 4096]⟩
abbrev S256x128 : Shape := ⟨2, ![256, 128]⟩
abbrev S256x4096 : Shape := ⟨2, ![256, 4096]⟩
abbrev S256x1 : Shape := ⟨2, ![256, 1]⟩
abbrev S256 : Shape := ⟨1, ![256]⟩

abbrev nBuf : Space → Nat
  | .hbm => 54
  | .vmem => 22
  | .smem => 0
  | _ => 0

abbrev bufTy : (tb : Table) → Fin (tcTables nBuf tb) → BufTy
  | .hbm, ⟨0, _⟩ => ⟨S4096x2048, .bf16⟩
  | .hbm, ⟨1, _⟩ => ⟨S4096x512, .bf16⟩
  | .hbm, ⟨2, _⟩ => ⟨S4096x512, .bf16⟩
  | .hbm, ⟨3, _⟩ => ⟨S4096x2048, .bf16⟩
  | .hbm, ⟨4, _⟩ => ⟨S4096x2048, .f32⟩
  | .hbm, ⟨5, _⟩ => ⟨S4096x512, .f32⟩
  | .hbm, ⟨6, _⟩ => ⟨S4096x512, .f32⟩
  | .hbm, ⟨7, _⟩ => ⟨S4096x4x4x128, .f32⟩
  | .hbm, ⟨8, _⟩ => ⟨S4x4x4096x128, .f32⟩
  | .hbm, ⟨9, _⟩ => ⟨S4096x4x128, .f32⟩
  | .hbm, ⟨10, _⟩ => ⟨S4x4096x128, .f32⟩
  | .hbm, ⟨11, _⟩ => ⟨S4x4x4096x4096, .f32⟩
  | .hbm, ⟨12, _⟩ => ⟨S_, .f32⟩
  | .hbm, ⟨13, _⟩ => ⟨S4x4x4096, .f32⟩
  | .hbm, ⟨14, _⟩ => ⟨S4x4x4096x1, .f32⟩
  | .hbm, ⟨15, _⟩ => ⟨S4x4x4096x4096, .f32⟩
  | .hbm, ⟨16, _⟩ => ⟨S4x4x4096x4096, .f32⟩
  | .hbm, ⟨17, _⟩ => ⟨S4x4x4096x4096, .f32⟩
  | .hbm, ⟨18, _⟩ => ⟨S_, .f32⟩
  | .hbm, ⟨19, _⟩ => ⟨S4x4x4096, .f32⟩
  | .hbm, ⟨20, _⟩ => ⟨S4x4x4096, .f32⟩
  | .hbm, ⟨21, _⟩ => ⟨S4x4x4096, .f32⟩
  | .hbm, ⟨22, _⟩ => ⟨S4096x4x4, .f32⟩
  | .hbm, ⟨23, _⟩ => ⟨S4096x4x4x128, .f32⟩
  | .hbm, ⟨24, _⟩ => ⟨S4x4x4096x128, .f32⟩
  | .hbm, ⟨25, _⟩ => ⟨S4096x4x128, .f32⟩
  | .hbm, ⟨26, _⟩ => ⟨S4x4096x128, .f32⟩
  | .hbm, ⟨27, _⟩ => ⟨S4096x4x128, .f32⟩
  | .hbm, ⟨28, _⟩ => ⟨S4x4096x128, .f32⟩
  | .hbm, ⟨29, _⟩ => ⟨S4x4x4096x4096, .f32⟩
  | .hbm, ⟨30, _⟩ => ⟨S_, .f32⟩
  | .hbm, ⟨31, _⟩ => ⟨S4x4x4096, .f32⟩
  | .hbm, ⟨32, _⟩ => ⟨S_, .f32⟩
  | .hbm, ⟨33, _⟩ => ⟨S4x4x4096, .f32⟩
  | .hbm, ⟨34, _⟩ => ⟨S4x4x4096, .f32⟩
  | .hbm, ⟨35, _⟩ => ⟨S4x4x4096x1, .f32⟩
  | .hbm, ⟨36, _⟩ => ⟨S4x4x4096x4096, .f32⟩
  | .hbm, ⟨37, _⟩ => ⟨S4x4x4096x4096, .f32⟩
  | .hbm, ⟨38, _⟩ => ⟨S4x4x4096x4096, .f32⟩
  | .hbm, ⟨39, _⟩ => ⟨S_, .f32⟩
  | .hbm, ⟨40, _⟩ => ⟨S4x4x4096, .f32⟩
  | .hbm, ⟨41, _⟩ => ⟨S4x4x4096x1, .f32⟩
  | .hbm, ⟨42, _⟩ => ⟨S4x4x4096x4096, .f32⟩
  | .hbm, ⟨43, _⟩ => ⟨S4x4x4096x4096, .f32⟩
  | .hbm, ⟨44, _⟩ => ⟨S4x4x4096x128, .f32⟩
  | .hbm, ⟨45, _⟩ => ⟨S4096x4x4x128, .f32⟩
  | .hbm, ⟨46, _⟩ => ⟨S4096x2048, .f32⟩
  | .hbm, ⟨47, _⟩ => ⟨S4096x2048, .bf16⟩
  | .hbm, ⟨48, _⟩ => ⟨S4096x4x4x1, .f32⟩
  | .hbm, ⟨49, _⟩ => ⟨S4096x4x4x128, .f32⟩
  | .hbm, ⟨50, _⟩ => ⟨S4096x2048, .f32⟩
  | .hbm, ⟨51, _⟩ => ⟨S4096x2048, .f32⟩
  | .hbm, ⟨52, _⟩ => ⟨S4096x512, .f32⟩
  | .hbm, ⟨53, _⟩ => ⟨S4096x512, .bf16⟩
  | .local _ .vmem, ⟨0, _⟩ => ⟨S1024x128, .bf16⟩
  | .local _ .vmem, ⟨1, _⟩ => ⟨S1024x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S4096x128, .f32⟩
  | .local _ .vmem, ⟨15, _⟩ => ⟨S4096x128, .f32⟩
  | .local _ .vmem, ⟨16, _⟩ => ⟨S4096x128, .bf16⟩
  | .local _ .vmem, ⟨17, _⟩ => ⟨S4096x128, .bf16⟩
  | .local _ .vmem, ⟨18, _⟩ => ⟨S4096x128, .f32⟩
  | .local _ .vmem, ⟨19, _⟩ => ⟨S4096x128, .f32⟩
  | .local _ .vmem, ⟨20, _⟩ => ⟨S1024x4096, .bf16⟩
  | .local _ .vmem, ⟨21, _⟩ => ⟨S1024x4096, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_1 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42_0 : Ref sig .tc := ⟨.hbm, 51, rfl⟩
abbrev main_v42_1 : Ref sig .tc := ⟨.hbm, 52, rfl⟩
abbrev main_v42_2 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg1 : BitVec 32 := BitVec.ofNat 32 (i 1).val
  let c3_i32 : BitVec 32 := 3#32
  let v132 : BitVec 1 := Scalar.cmpi .eq arg1 c3_i32
  let arg2 : BitVec 32 := BitVec.ofNat 32 (i 2).val
  let c3_i32_84 : BitVec 32 := 3#32
  let v133 : BitVec 1 := Scalar.cmpi .eq arg2 c3_i32_84
  let v134 : BitVec 1 := Scalar.andi v132 v133
  let v135 : BitVec 32 := Scalar.extui v134
  let c0_i32_85 : BitVec 32 := 0#32
  let v136 : BitVec 1 := Scalar.cmpi .ne v135 c0_i32_85
  v136

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== ReferenceIdeal.lean ====
abbrev S4096x2048 : Shape := ⟨2, ![4096, 2048]⟩
abbrev S4096x512 : Shape := ⟨2, ![4096, 512]⟩
abbrev S4096x4x4x128 : Shape := ⟨4, ![4096, 4, 4, 128]⟩
abbrev S4x4x4096x128 : Shape := ⟨4, ![4, 4, 4096, 128]⟩
abbrev S4096x4x128 : Shape := ⟨3, ![4096, 4, 128]⟩
abbrev S4x4096x128 : Shape := ⟨3, ![4, 4096, 128]⟩
abbrev S4x4x4096x4096 : Shape := ⟨4, ![4, 4, 4096, 4096]⟩
abbrev S_ : Shape := ⟨0, ![]⟩
abbrev S4x4x4096 : Shape := ⟨3, ![4, 4, 4096]⟩
abbrev S4x4x4096x1 : Shape := ⟨4, ![4, 4, 4096, 1]⟩
abbrev S4x128x4096 : Shape := ⟨3, ![4, 128, 4096]⟩

abbrev nBuf : Space → Nat
  | .hbm => 84
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x512, .bf16⟩
  | .hbm, ⟨2, _⟩ => ⟨S4096x512, .bf16⟩
  | .hbm, ⟨3, _⟩ => ⟨S4096x2048, .bf16⟩
  | .hbm, ⟨4, _⟩ => ⟨S4096x2048, .f32⟩
  | .hbm, ⟨5, _⟩ => ⟨S4096x512, .f32⟩
  | .hbm, ⟨6, _⟩ => ⟨S4096x512, .f32⟩
  | .hbm, ⟨7, _⟩ => ⟨S4096x4x4x128, .f32⟩
  | .hbm, ⟨8, _⟩ => ⟨S4x4x4096x128, .f32⟩
  | .hbm, ⟨9, _⟩ => ⟨S4096x4x128, .f32⟩
  | .hbm, ⟨10, _⟩ => ⟨S4x4096x128, .f32⟩
  | .hbm, ⟨11, _⟩ => ⟨S4096x4x128, .f32⟩
  | .hbm, ⟨12, _⟩ => ⟨S4x4096x128, .f32⟩
  | .hbm, ⟨13, _⟩ => ⟨S4x4x4096x4096, .f32⟩
  | .hbm, ⟨14, _⟩ => ⟨S_, .f32⟩
  | .hbm, ⟨15, _⟩ => ⟨S4x4x4096, .f32⟩
  | .hbm, ⟨16, _⟩ => ⟨S4x4x4096x1, .f32⟩
  | .hbm, ⟨17, _⟩ => ⟨S4x4x4096x4096, .f32⟩
  | .hbm, ⟨18, _⟩ => ⟨S4x4x4096x4096, .i1⟩
  | .hbm, ⟨19, _⟩ => ⟨S4x4x4096x4096, .f32⟩
  | .hbm, ⟨20, _⟩ => ⟨S_, .f32⟩
  | .hbm, ⟨21, _⟩ => ⟨S4x4x4096, .f32⟩
  | .hbm, ⟨22, _⟩ => ⟨S_, .f32⟩
  | .hbm, ⟨23, _⟩ => ⟨S4x4x4096, .f32⟩
  | .hbm, ⟨24, _⟩ => ⟨S4x4x4096, .f32⟩
  | .hbm, ⟨25, _⟩ => ⟨S_, .f32⟩
  | .hbm, ⟨26, _⟩ => ⟨S4x4x4096, .f32⟩
  | .hbm, ⟨27, _⟩ => ⟨S4x4x4096, .i1⟩
  | .hbm, ⟨28, _⟩ => ⟨S_, .f32⟩
  | .hbm, ⟨29, _⟩ => ⟨S4x4x4096, .f32⟩
  | .hbm, ⟨30, _⟩ => ⟨S4x4x4096, .i1⟩
  | .hbm, ⟨31, _⟩ => ⟨S_, .f32⟩
  | .hbm, ⟨32, _⟩ => ⟨S4x4x4096, .f32⟩
  | .hbm, ⟨33, _⟩ => ⟨S_, .f32⟩
  | .hbm, ⟨34, _⟩ => ⟨S4x4x4096, .f32⟩
  | .hbm, ⟨35, _⟩ => ⟨S_, .f32⟩
  | .hbm, ⟨36, _⟩ => ⟨S4x4x4096, .f32⟩
  | .hbm, ⟨37, _⟩ => ⟨S4x4x4096, .f32⟩
  | .hbm, ⟨38, _⟩ => ⟨S4x4x4096, .f32⟩
  | .hbm, ⟨39, _⟩ => ⟨S4x4x4096x1, .f32⟩
  | .hbm, ⟨40, _⟩ => ⟨S4x4x4096x4096, .f32⟩
  | .hbm, ⟨41, _⟩ => ⟨S4x4x4096x4096, .f32⟩
  | .hbm, ⟨42, _⟩ => ⟨S4x4x4096x4096, .f32⟩
  | .hbm, ⟨43, _⟩ => ⟨S_, .f32⟩
  | .hbm, ⟨44, _⟩ => ⟨S4x4x4096, .f32⟩
  | .hbm, ⟨45, _⟩ => ⟨S4x4x4096x1, .f32⟩
  | .hbm, ⟨46, _⟩ => ⟨S4x4x4096x4096, .f32⟩
  | .hbm, ⟨47, _⟩ => ⟨S4x4x4096x4096, .f32⟩
  | .hbm, ⟨48, _⟩ => ⟨S4x4x4096x1, .f32⟩
  | .hbm, ⟨49, _⟩ => ⟨S_, .f32⟩
  | .hbm, ⟨50, _⟩ => ⟨S4x4x4096x1, .f32⟩
  | .hbm, ⟨51, _⟩ => ⟨S4x4x4096x1, .f32⟩
  | .hbm, ⟨52, _⟩ => ⟨S4x4x4096x128, .f32⟩
  | .hbm, ⟨53, _⟩ => ⟨S4096x4x4x128, .f32⟩
  | .hbm, ⟨54, _⟩ => ⟨S4096x2048, .f32⟩
  | .hbm, ⟨55, _⟩ => ⟨S4096x2048, .f32⟩
  | .hbm, ⟨56, _⟩ => ⟨S4096x4x4x128, .f32⟩
  | .hbm, ⟨57, _⟩ => ⟨S4x4x4096x128, .f32⟩
  | .hbm, ⟨58, _⟩ => ⟨S4x128x4096, .f32⟩
  | .hbm, ⟨59, _⟩ => ⟨S4x4096x128, .f32⟩
  | .hbm, ⟨60, _⟩ => ⟨S4x4x4096x4096, .f32⟩
  | .hbm, ⟨61, _⟩ => ⟨S4x4x4096x4096, .f32⟩
  | .hbm, ⟨62, _⟩ => ⟨S4x4x4096x4096, .f32⟩
  | .hbm, ⟨63, _⟩ => ⟨S4x4x4096x4096, .f32⟩
  | .hbm, ⟨64, _⟩ => ⟨S_, .f32⟩
  | .hbm, ⟨65, _⟩ => ⟨S4x4x4096, .f32⟩
  | .hbm, ⟨66, _⟩ => ⟨S4x4x4096x1, .f32⟩
  | .hbm, ⟨67, _⟩ => ⟨S4x4x4096x1, .f32⟩
  | .hbm, ⟨68, _⟩ => ⟨S4x4x4096x4096, .f32⟩
  | .hbm, ⟨69, _⟩ => ⟨S4x4x4096x4096, .f32⟩
  | .hbm, ⟨70, _⟩ => ⟨S_, .f32⟩
  | .hbm, ⟨71, _⟩ => ⟨S4x4x4096, .f32⟩
  | .hbm, ⟨72, _⟩ => ⟨S4x4x4096x4096, .f32⟩
  | .hbm, ⟨73, _⟩ => ⟨S4x4x4096x4096, .f32⟩
  | .hbm, ⟨74, _⟩ => ⟨S4x4x4096x4096, .f32⟩
  | .hbm, ⟨75, _⟩ => ⟨S4x4096x128, .f32⟩
  | .hbm, ⟨76, _⟩ => ⟨S4x4x4096x128, .f32⟩
  | .hbm, ⟨77, _⟩ => ⟨S4096x4x128, .f32⟩
  | .hbm, ⟨78, _⟩ => ⟨S4096x512, .f32⟩
  | .hbm, ⟨79, _⟩ => ⟨S4096x4x128, .f32⟩
  | .hbm, ⟨80, _⟩ => ⟨S4096x512, .f32⟩
  | .hbm, ⟨81, _⟩ => ⟨S4096x4x4x128, .f32⟩
  | .hbm, ⟨82, _⟩ => ⟨S4096x2048, .f32⟩
  | .hbm, ⟨83, _⟩ => ⟨S4096x512, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_9 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_10 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩

abbrev nD : Nat := 1
abbrev τ : Topo := Topo.v7x

variable {F : FTy → Type} [FloatOps F]
-- ==== DWout.lean ====
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWoutRefIdeal.lean ====
abbrev S4096x4096 : Shape := ⟨2, ![4096, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DY.lean ====
abbrev S4096x4096 : Shape := ⟨2, ![4096, 4096]⟩
abbrev S1024x4096 : Shape := ⟨2, ![1024, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DYRefIdeal.lean ====
abbrev S4096x4096 : Shape := ⟨2, ![4096, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AttnFwd.lean ====
abbrev S4096x2048 : Shape := ⟨2, ![4096, 2048]⟩
abbrev S4096x512 : Shape := ⟨2, ![4096, 512]⟩
abbrev S4096x128 : Shape := ⟨2, ![4096, 128]⟩
abbrev S4096x256 : Shape := ⟨2, ![4096, 256]⟩
abbrev S128x128 : Shape := ⟨2, ![128, 128]⟩
abbrev S128x4096 : Shape := ⟨2, ![128, 4096]⟩
abbrev S128 : Shape := ⟨1, ![128]⟩
abbrev S128x1 : Shape := ⟨2, ![128, 1]⟩
abbrev S128x256 : Shape := ⟨2, ![128, 256]⟩

abbrev nBuf : Space → Nat
  | .hbm => 5
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S4096x512, .bf16⟩
  | .hbm, ⟨2, _⟩ => ⟨S4096x512, .bf16⟩
  | .hbm, ⟨3, _⟩ => ⟨S4096x2048, .bf16⟩
  | .hbm, ⟨4, _⟩ => ⟨S4096x2048, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .f32⟩
  | .local _ .vmem, ⟨9, _⟩ => ⟨S4096x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== AttnFwdRefIdeal.lean ====
abbrev S4096x2048 : Shape := ⟨2, ![4096, 2048]⟩
abbrev S4096x512 : Shape := ⟨2, ![4096, 512]⟩
abbrev S4096x4x4x128 : Shape := ⟨4, ![4096, 4, 4, 128]⟩
abbrev S4x4x4096x128 : Shape := ⟨4, ![4, 4, 4096, 128]⟩
abbrev S4096x4x128 : Shape := ⟨3, ![4096, 4, 128]⟩
abbrev S4x4096x128 : Shape := ⟨3, ![4, 4096, 128]⟩
abbrev S4x4x4096x4096 : Shape := ⟨4, ![4, 4, 4096, 4096]⟩
abbrev S_ : Shape := ⟨0, ![]⟩
abbrev S4x4x4096 : Shape := ⟨3, ![4, 4, 4096]⟩
abbrev S4x4x4096x1 : Shape := ⟨4, ![4, 4, 4096, 1]⟩
abbrev S4096x4x4 : Shape := ⟨3, ![4096, 4, 4]⟩
abbrev S4096x4x4x1 : Shape := ⟨4, ![4096, 4, 4, 1]⟩

abbrev nBuf : Space → Nat
  | .hbm => 50
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x512, .bf16⟩
  | .hbm, ⟨2, _⟩ => ⟨S4096x512, .bf16⟩
  | .hbm, ⟨3, _⟩ => ⟨S4096x2048, .f32⟩
  | .hbm, ⟨4, _⟩ => ⟨S4096x512, .f32⟩
  | .hbm, ⟨5, _⟩ => ⟨S4096x512, .f32⟩
  | .hbm, ⟨6, _⟩ => ⟨S4096x4x4x128, .f32⟩
  | .hbm, ⟨7, _⟩ => ⟨S4x4x4096x128, .f32⟩
  | .hbm, ⟨8, _⟩ => ⟨S4096x4x128, .f32⟩
  | .hbm, ⟨9, _⟩ => ⟨S4x4096x128, .f32⟩
  | .hbm, ⟨10, _⟩ => ⟨S4x4x4096x4096, .f32⟩
  | .hbm, ⟨11, _⟩ => ⟨S_, .f32⟩
  | .hbm, ⟨12, _⟩ => ⟨S4x4x4096, .f32⟩
  | .hbm, ⟨13, _⟩ => ⟨S4x4x4096x1, .f32⟩
  | .hbm, ⟨14, _⟩ => ⟨S4x4x4096x4096, .f32⟩
  | .hbm, ⟨15, _⟩ => ⟨S4x4x4096x4096, .f32⟩
  | .hbm, ⟨16, _⟩ => ⟨S4x4x4096x4096, .f32⟩
  | .hbm, ⟨17, _⟩ => ⟨S_, .f32⟩
  | .hbm, ⟨18, _⟩ => ⟨S4x4x4096, .f32⟩
  | .hbm, ⟨19, _⟩ => ⟨S4x4x4096, .f32⟩
  | .hbm, ⟨20, _⟩ => ⟨S4x4x4096, .f32⟩
  | .hbm, ⟨21, _⟩ => ⟨S4096x4x4, .f32⟩
  | .hbm, ⟨22, _⟩ => ⟨S4096x4x4x128, .f32⟩
  | .hbm, ⟨23, _⟩ => ⟨S4x4x4096x128, .f32⟩
  | .hbm, ⟨24, _⟩ => ⟨S4096x4x128, .f32⟩
  | .hbm, ⟨25, _⟩ => ⟨S4x4096x128, .f32⟩
  | .hbm, ⟨26, _⟩ => ⟨S4096x4x128, .f32⟩
  | .hbm, ⟨27, _⟩ => ⟨S4x4096x128, .f32⟩
  | .hbm, ⟨28, _⟩ => ⟨S4x4x4096x4096, .f32⟩
  | .hbm, ⟨29, _⟩ => ⟨S_, .f32⟩
  | .hbm, ⟨30, _⟩ => ⟨S4x4x4096, .f32⟩
  | .hbm, ⟨31, _⟩ => ⟨S_, .f32⟩
  | .hbm, ⟨32, _⟩ => ⟨S4x4x4096, .f32⟩
  | .hbm, ⟨33, _⟩ => ⟨S4x4x4096, .f32⟩
  | .hbm, ⟨34, _⟩ => ⟨S4x4x4096x1, .f32⟩
  | .hbm, ⟨35, _⟩ => ⟨S4x4x4096x4096, .f32⟩
  | .hbm, ⟨36, _⟩ => ⟨S4x4x4096x4096, .f32⟩
  | .hbm, ⟨37, _⟩ => ⟨S4x4x4096x4096, .f32⟩
  | .hbm, ⟨38, _⟩ => ⟨S_, .f32⟩
  | .hbm, ⟨39, _⟩ => ⟨S4x4x4096, .f32⟩
  | .hbm, ⟨40, _⟩ => ⟨S4x4x4096x1, .f32⟩
  | .hbm, ⟨41, _⟩ => ⟨S4x4x4096x4096, .f32⟩
  | .hbm, ⟨42, _⟩ => ⟨S4x4x4096x4096, .f32⟩
  | .hbm, ⟨43, _⟩ => ⟨S4x4x4096x128, .f32⟩
  | .hbm, ⟨44, _⟩ => ⟨S4096x4x4x128, .f32⟩
  | .hbm, ⟨45, _⟩ => ⟨S4096x2048, .f32⟩
  | .hbm, ⟨46, _⟩ => ⟨S4096x2048, .bf16⟩
  | .hbm, ⟨47, _⟩ => ⟨S4096x4x4x1, .f32⟩
  | .hbm, ⟨48, _⟩ => ⟨S4096x4x4x128, .f32⟩
  | .hbm, ⟨49, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_1 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩

abbrev nD : Nat := 1
abbrev τ : Topo := Topo.v7x

variable {F : FTy → Type} [FloatOps F]
-- ==== DWin.lean ====
abbrev S4096x4096 : Shape := ⟨2, ![4096, 4096]⟩
abbrev S4096x11264 : Shape := ⟨2, ![4096, 11264]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x11264, .bf16⟩
  | .hbm, ⟨2, _⟩ => ⟨S4096x11264, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWinRefIdeal.lean ====
abbrev S4096x4096 : Shape := ⟨2, ![4096, 4096]⟩
abbrev S4096x11264 : Shape := ⟨2, ![4096, 11264]⟩
abbrev S_ : Shape := ⟨0, ![]⟩
abbrev S11264x4096 : Shape := ⟨2, ![11264, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x11264, .bf16⟩
  | .hbm, ⟨2, _⟩ => ⟨S4096x4096, .bf16⟩
  | .hbm, ⟨3, _⟩ => ⟨S4096x4096, .f32⟩
  | .hbm, ⟨4, _⟩ => ⟨S_, .f32⟩
  | .hbm, ⟨5, _⟩ => ⟨S4096x11264, .f32⟩
  | .hbm, ⟨6, _⟩ => ⟨S4096x11264, .f32⟩
  | .hbm, ⟨7, _⟩ => ⟨S4096x11264, .f32⟩
  | .hbm, ⟨8, _⟩ => ⟨S11264x4096, .f32⟩
  | .hbm, ⟨9, _⟩ => ⟨S4096x11264, .f32⟩
  | .hbm, ⟨10, _⟩ => ⟨S4096x11264, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DH.lean ====
abbrev S4096x11264 : Shape := ⟨2, ![4096, 11264]⟩
abbrev S4096x4096 : Shape := ⟨2, ![4096, 4096]⟩
abbrev S512x11264 : Shape := ⟨2, ![512, 11264]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x11264, .bf16⟩
  | .hbm, ⟨1, _⟩ => ⟨S4096x11264, .bf16⟩
  | .hbm, ⟨2, _⟩ => ⟨S4096x4096, .f32⟩
  | .local _ .vmem, ⟨0, _⟩ => ⟨S512x11264, .bf16⟩
  | .local _ .vmem, ⟨1, _⟩ => ⟨S512x11264, .bf16⟩
  | .local _ .vmem, ⟨2, _⟩ => ⟨S512x11264, .bf16⟩
  | .local _ .vmem, ⟨3, _⟩ => ⟨S512x11264, .bf16⟩
  | .local _ .vmem, ⟨4, _⟩ => ⟨S512x512, .f32⟩
  | .local _ .vmem, ⟨5, _⟩ => ⟨S512x512, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x11264 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x11264 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DHRefIdeal.lean ====
abbrev S4096x11264 : Shape := ⟨2, ![4096, 11264]⟩
abbrev S_ : Shape := ⟨0, ![]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S4096x11264, .bf16⟩
  | .hbm, ⟨2, _⟩ => ⟨S4096x11264, .f32⟩
  | .hbm, ⟨3, _⟩ => ⟨S_, .f32⟩
  | .hbm, ⟨4, _⟩ => ⟨S4096x4096, .f32⟩
  | .hbm, ⟨5, _⟩ => ⟨S4096x11264, .f32⟩
  | .hbm, ⟨6, _⟩ => ⟨S4096x11264, .f32⟩
  | .hbm, ⟨7, _⟩ => ⟨S4096x4096, .f32⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutProj.lean ====
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjRefIdeal.lean ====
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== RmsBwd.lean ====
abbrev S4096x4096 : Shape := ⟨2, ![4096, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S1x4096, .f32⟩
  | .hbm, ⟨5, _⟩ => ⟨S4096x4096, .f32⟩
  | .hbm, ⟨6, _⟩ => ⟨S4096x4096, .bf16⟩
  | .hbm, ⟨7, _⟩ => ⟨S1x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S1x4096, .f32⟩
  | .local _ .vmem, ⟨7, _⟩ => ⟨S256x4096, .f32⟩
  | .local _ .vmem, ⟨8, _⟩ => ⟨S256x4096, .f32⟩
  | .local _ .vmem, ⟨9, _⟩ => ⟨S256x4096, .bf16⟩
  | .local _ .vmem, ⟨10, _⟩ => ⟨S256x4096, .bf16⟩
  | .local _ .vmem, ⟨11, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v34 : BitVec 1 := Scalar.cmpi .eq arg0 c0_i32
  let v35 : BitVec 32 := Scalar.extui v34
  let c0_i32_16 : BitVec 32 := 0#32
  let v36 : BitVec 1 := Scalar.cmpi .ne v35 c0_i32_16
  v36

def k0_cond2 (i : grid0.Coords) : BitVec 1 :=
  let arg0 : BitVec 32 := BitVec.ofNat 32 (i 0).val
  let c0_i32_17 : BitVec 32 := 0#32
  let v37 : BitVec 1 := Scalar.cmpi .sgt arg0 c0_i32_17
  let v38 : BitVec 32 := Scalar.extui v37
  let c0_i32_18 : BitVec 32 := 0#32
  let v39 : BitVec 1 := Scalar.cmpi .ne v38 c0_i32_18
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RmsBwdRefIdeal.lean ====
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 52
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x4096, .f32⟩
  | .hbm, ⟨20, _⟩ => ⟨S4096x4096, .f32⟩
  | .hbm, ⟨21, _⟩ => ⟨S1x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096, .f32⟩
  | .hbm, ⟨27, _⟩ => ⟨S1x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096, .f32⟩
  | .hbm, ⟨32, _⟩ => ⟨S4096x4096, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x4096, .f32⟩
  | .hbm, ⟨37, _⟩ => ⟨S4096x4096, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S4096x4096, .bf16⟩
  | .hbm, ⟨51, _⟩ => ⟨S1x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Adamw.lean ====
abbrev S184x128 : Shape := ⟨2, ![184, 128]⟩

abbrev nBuf : Space → Nat
  | .hbm => 7
  | .vmem => 7
  | .smem => 0
  | _ => 0

abbrev bufTy : (tb : Table) → Fin (tcTables nBuf tb) → BufTy
  | .hbm, ⟨0, _⟩ => ⟨S184x128, .f32⟩
  | .hbm, ⟨1, _⟩ => ⟨S184x128, .f32⟩
  | .hbm, ⟨2, _⟩ => ⟨S184x128, .f32⟩
  | .hbm, ⟨3, _⟩ => ⟨S184x128, .f32⟩
  | .hbm, ⟨4, _⟩ => ⟨S184x128, .f32⟩
  | .hbm, ⟨5, _⟩ => ⟨S184x128, .f32⟩
  | .hbm, ⟨6, _⟩ => ⟨S184x128, .f32⟩
  | .local _ .vmem, ⟨0, _⟩ => ⟨S184x128, .f32⟩
  | .local _ .vmem, ⟨1, _⟩ => ⟨S184x128, .f32⟩
  | .local _ .vmem, ⟨2, _⟩ => ⟨S184x128, .f32⟩
  | .local _ .vmem, ⟨3, _⟩ => ⟨S184x128, .f32⟩
  | .local _ .vmem, ⟨4, _⟩ => ⟨S184x128, .f32⟩
  | .local _ .vmem, ⟨5, _⟩ => ⟨S184x128, .f32⟩
  | .local _ .vmem, ⟨6, _⟩ => ⟨S184x128, .f32⟩
  | _, _ => ⟨S184x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S184x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S184x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S184x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S184x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S184x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S184x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S184x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamwRefIdeal.lean ====
abbrev S184x128 : Shape := ⟨2, ![184, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S184x128, .f32⟩
  | .hbm, ⟨1, _⟩ => ⟨S184x128, .f32⟩
  | .hbm, ⟨2, _⟩ => ⟨S184x128, .f32⟩
  | .hbm, ⟨3, _⟩ => ⟨S184x128, .f32⟩
  | .hbm, ⟨4, _⟩ => ⟨S_, .f32⟩
  | .hbm, ⟨5, _⟩ => ⟨S184x128, .f32⟩
  | .hbm, ⟨6, _⟩ => ⟨S184x128, .f32⟩
  | .hbm, ⟨7, _⟩ => ⟨S_, .f32⟩
  | .hbm, ⟨8, _⟩ => ⟨S184x128, .f32⟩
  | .hbm, ⟨9, _⟩ => ⟨S184x128, .f32⟩
  | .hbm, ⟨10, _⟩ => ⟨S184x128, .f32⟩
  | .hbm, ⟨11, _⟩ => ⟨S_, .f32⟩
  | .hbm, ⟨12, _⟩ => ⟨S184x128, .f32⟩
  | .hbm, ⟨13, _⟩ => ⟨S184x128, .f32⟩
  | .hbm, ⟨14, _⟩ => ⟨S184x128, .f32⟩
  | .hbm, ⟨15, _⟩ => ⟨S_, .f32⟩
  | .hbm, ⟨16, _⟩ => ⟨S184x128, .f32⟩
  | .hbm, ⟨17, _⟩ => ⟨S184x128, .f32⟩
  | .hbm, ⟨18, _⟩ => ⟨S184x128, .f32⟩
  | .hbm, ⟨19, _⟩ => ⟨S_, .f32⟩
  | .hbm, ⟨20, _⟩ => ⟨S184x128, .f32⟩
  | .hbm, ⟨21, _⟩ => ⟨S184x128, .f32⟩
  | .hbm, ⟨22, _⟩ => ⟨S_, .f32⟩
  | .hbm, ⟨23, _⟩ => ⟨S184x128, .f32⟩
  | .hbm, ⟨24, _⟩ => ⟨S184x128, .f32⟩
  | .hbm, ⟨25, _⟩ => ⟨S184x128, .f32⟩
  | .hbm, ⟨26, _⟩ => ⟨S_, .f32⟩
  | .hbm, ⟨27, _⟩ => ⟨S184x128, .f32⟩
  | .hbm, ⟨28, _⟩ => ⟨S184x128, .f32⟩
  | .hbm, ⟨29, _⟩ => ⟨S184x128, .f32⟩
  | .hbm, ⟨30, _⟩ => ⟨S_, .f32⟩
  | .hbm, ⟨31, _⟩ => ⟨S184x128, .f32⟩
  | .hbm, ⟨32, _⟩ => ⟨S184x128, .f32⟩
  | .hbm, ⟨33, _⟩ => ⟨S184x128, .f32⟩
  | .hbm, ⟨34, _⟩ => ⟨S_, .f32⟩
  | .hbm, ⟨35, _⟩ => ⟨S184x128, .f32⟩
  | .hbm, ⟨36, _⟩ => ⟨S184x128, .f32⟩
  | _, _ => ⟨S184x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== RmsFwd.lean ====
abbrev S4096x4096 : Shape := ⟨2, ![4096, 4096]⟩
abbrev S4096 : Shape := ⟨1, ![4096]⟩
abbrev S1x4096 : Shape := ⟨2, ![1, 4096]⟩
abbrev S256x4096 : Shape := ⟨2, ![256, 4096]⟩
abbrev S4096x256 : Shape := ⟨2, ![4096, 256]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S1x4096, .f32⟩
  | .hbm, ⟨3, _⟩ => ⟨S4096x4096, .bf16⟩
  | .hbm, ⟨4, _⟩ => ⟨S4096x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | .local _ .vmem, ⟨5, _⟩ => ⟨S4096x256, .bf16⟩
  | .local _ .vmem, ⟨6, _⟩ => ⟨S4096x256, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RmsFwdRefIdeal.lean ====
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096x4096, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x4096, .f32⟩
  | .hbm, ⟨14, _⟩ => ⟨S4096x4096, .f32⟩
  | .hbm, ⟨15, _⟩ => ⟨S1x4096, .f32⟩
  | .hbm, ⟨16, _⟩ => ⟨S4096x4096, .f32⟩
  | .hbm, ⟨17, _⟩ => ⟨S4096x4096, .f32⟩
  | .hbm, ⟨18, _⟩ => ⟨S4096x4096, .bf16⟩
  | .hbm, ⟨19, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Loss.lean ====
abbrev S4096x4096 : Shape := ⟨2, ![4096, 4096]⟩
abbrev S4096 : Shape := ⟨1, ![4096]⟩
abbrev S1x4096 : Shape := ⟨2, ![1, 4096]⟩
abbrev S1x128 : Shape := ⟨2, ![1, 128]⟩
abbrev S256x4096 : Shape := ⟨2, ![256, 4096]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S1x128, .f32⟩
  | .hbm, ⟨5, _⟩ => ⟨S4096x4096, .f32⟩
  | .hbm, ⟨6, _⟩ => ⟨S4096x4096, .bf16⟩
  | .hbm, ⟨7, _⟩ => ⟨S1x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x128, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | .local _ .vmem, ⟨10, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v48 : BitVec 1 := Scalar.cmpi .eq arg0 c0_i32
  let v49 : BitVec 32 := Scalar.extui v48
  let c0_i32_19 : BitVec 32 := 0#32
  let v50 : BitVec 1 := Scalar.cmpi .ne v49 c0_i32_19
  v50

def k0_cond2 (i : grid0.Coords) : BitVec 1 :=
  let arg0 : BitVec 32 := BitVec.ofNat 32 (i 0).val
  let c0_i32_20 : BitVec 32 := 0#32
  let v51 : BitVec 1 := Scalar.cmpi .sgt arg0 c0_i32_20
  let v52 : BitVec 32 := Scalar.extui v51
  let c0_i32_21 : BitVec 32 := 0#32
  let v53 : BitVec 1 := Scalar.cmpi .ne v52 c0_i32_21
  v53

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x4096, .f32⟩
  | .hbm, ⟨19, _⟩ => ⟨S4096x4096, .f32⟩
  | .hbm, ⟨20, _⟩ => ⟨S1x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S_, .f32⟩
  | .hbm, ⟨48, _⟩ => ⟨S4096, .f32⟩
  | .hbm, ⟨49, _⟩ => ⟨S1x4096, .f32⟩
  | .hbm, ⟨50, _⟩ => ⟨S4096x4096, .f32⟩
  | .hbm, ⟨51, _⟩ => ⟨S4096x4096, .f32⟩
  | .hbm, ⟨52, _⟩ => ⟨S_, .f32⟩
  | .hbm, ⟨53, _⟩ => ⟨S4096, .f32⟩
  | .hbm, ⟨54, _⟩ => ⟨S4096x4096, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x4096, .f32⟩
  | .hbm, ⟨59, _⟩ => ⟨S4096x4096, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x4096, .f32⟩
  | .hbm, ⟨67, _⟩ => ⟨S4096x4096, .f32⟩
  | .hbm, ⟨68, _⟩ => ⟨S4096x4096, .f32⟩
  | .hbm, ⟨69, _⟩ => ⟨S4096x4096, .f32⟩
  | .hbm, ⟨70, _⟩ => ⟨S4096x4096, .f32⟩
  | .hbm, ⟨71, _⟩ => ⟨S1x128, .f32⟩
  | .hbm, ⟨72, _⟩ => ⟨S4096x4096, .bf16⟩
  | .hbm, ⟨73, _⟩ => ⟨S1x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== AdamwIn.lean ====
abbrev S4x4096x1408 : Shape := ⟨3, ![4, 4096, 1408]⟩
abbrev S8x128 : Shape := ⟨2, ![8, 128]⟩
abbrev S1x256x1408 : Shape := ⟨3, ![1, 256, 1408]⟩
abbrev S256x1408 : Shape := ⟨2, ![256, 1408]⟩

abbrev nBuf : Space → Nat
  | .hbm => 32
  | .vmem => 92
  | .smem => 0
  | _ => 0

abbrev bufTy : (tb : Table) → Fin (tcTables nBuf tb) → BufTy
  | .hbm, ⟨0, _⟩ => ⟨S4x4096x1408, .f32⟩
  | .hbm, ⟨1, _⟩ => ⟨S4x4096x1408, .f32⟩
  | .hbm, ⟨2, _⟩ => ⟨S4x4096x1408, .f32⟩
  | .hbm, ⟨3, _⟩ => ⟨S4x4096x1408, .bf16⟩
  | .hbm, ⟨4, _⟩ => ⟨S4x4096x1408, .bf16⟩
  | .hbm, ⟨5, _⟩ => ⟨S4x4096x1408, .bf16⟩
  | .hbm, ⟨6, _⟩ => ⟨S4x4096x1408, .bf16⟩
  | .hbm, ⟨7, _⟩ => ⟨S4x4096x1408, .bf16⟩
  | .hbm, ⟨8, _⟩ => ⟨S4x4096x1408, .bf16⟩
  | .hbm, ⟨9, _⟩ => ⟨S4x4096x1408, .bf16⟩
  | .hbm, ⟨10, _⟩ => ⟨S4x4096x1408, .bf16⟩
  | .hbm, ⟨11, _⟩ => ⟨S8x128, .f32⟩
  | .hbm, ⟨12, _⟩ => ⟨S4x4096x1408, .f32⟩
  | .hbm, ⟨13, _⟩ => ⟨S4x4096x1408, .f32⟩
  | .hbm, ⟨14, _⟩ => ⟨S4x4096x1408, .f32⟩
  | .hbm, ⟨15, _⟩ => ⟨S4x4096x1408, .f32⟩
  | .hbm, ⟨16, _⟩ => ⟨S4x4096x1408, .f32⟩
  | .hbm, ⟨17, _⟩ => ⟨S4x4096x1408, .f32⟩
  | .hbm, ⟨18, _⟩ => ⟨S4x4096x1408, .f32⟩
  | .hbm, ⟨19, _⟩ => ⟨S4x4096x1408, .f32⟩
  | .hbm, ⟨20, _⟩ => ⟨S4x4096x1408, .f32⟩
  | .hbm, ⟨21, _⟩ => ⟨S4x4096x1408, .f32⟩
  | .hbm, ⟨22, _⟩ => ⟨S4x4096x1408, .f32⟩
  | .hbm, ⟨23, _⟩ => ⟨S4x4096x1408, .f32⟩
  | .hbm, ⟨24, _⟩ => ⟨S4x4096x1408, .f32⟩
  | .hbm, ⟨25, _⟩ => ⟨S4x4096x1408, .f32⟩
  | .hbm, ⟨26, _⟩ => ⟨S4x4096x1408, .f32⟩
  | .hbm, ⟨27, _⟩ => ⟨S4x4096x1408, .f32⟩
  | .hbm, ⟨28, _⟩ => ⟨S4x4096x1408, .f32⟩
  | .hbm, ⟨29, _⟩ => ⟨S4x4096x1408, .f32⟩
  | .hbm, ⟨30, _⟩ => ⟨S4x4096x1408, .f32⟩
  | .hbm, ⟨31, _⟩ => ⟨S4x4096x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S1x256x1408, .bf16⟩
  | .local _ .vmem, ⟨7, _⟩ => ⟨S1x256x1408, .bf16⟩
  | .local _ .vmem, ⟨8, _⟩ => ⟨S1x256x1408, .bf16⟩
  | .local _ .vmem, ⟨9, _⟩ => ⟨S1x256x1408, .bf16⟩
  | .local _ .vmem, ⟨10, _⟩ => ⟨S1x256x1408, .bf16⟩
  | .local _ .vmem, ⟨11, _⟩ => ⟨S1x256x1408, .bf16⟩
  | .local _ .vmem, ⟨12, _⟩ => ⟨S1x256x1408, .bf16⟩
  | .local _ .vmem, ⟨13, _⟩ => ⟨S1x256x1408, .bf16⟩
  | .local _ .vmem, ⟨14, _⟩ => ⟨S8x128, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | .local _ .vmem, ⟨18, _⟩ => ⟨S1x256x1408, .f32⟩
  | .local _ .vmem, ⟨19, _⟩ => ⟨S1x256x1408, .f32⟩
  | .local _ .vmem, ⟨20, _⟩ => ⟨S1x256x1408, .f32⟩
  | .local _ .vmem, ⟨21, _⟩ => ⟨S1x256x1408, .f32⟩
  | .local _ .vmem, ⟨22, _⟩ => ⟨S1x256x1408, .f32⟩
  | .local _ .vmem, ⟨23, _⟩ => ⟨S1x256x1408, .f32⟩
  | .local _ .vmem, ⟨24, _⟩ => ⟨S1x256x1408, .f32⟩
  | .local _ .vmem, ⟨25, _⟩ => ⟨S1x256x1408, .f32⟩
  | .local _ .vmem, ⟨26, _⟩ => ⟨S1x256x1408, .f32⟩
  | .local _ .vmem, ⟨27, _⟩ => ⟨S1x256x1408, .f32⟩
  | .local _ .vmem, ⟨28, _⟩ => ⟨S1x256x1408, .f32⟩
  | .local _ .vmem, ⟨29, _⟩ => ⟨S1x256x1408, .bf16⟩
  | .local _ .vmem, ⟨30, _⟩ => ⟨S1x256x1408, .bf16⟩
  | .local _ .vmem, ⟨31, _⟩ => ⟨S1x256x1408, .bf16⟩
  | .local _ .vmem, ⟨32, _⟩ => ⟨S1x256x1408, .bf16⟩
  | .local _ .vmem, ⟨33, _⟩ => ⟨S1x256x1408, .bf16⟩
  | .local _ .vmem, ⟨34, _⟩ => ⟨S1x256x1408, .bf16⟩
  | .local _ .vmem, ⟨35, _⟩ => ⟨S1x256x1408, .bf16⟩
  | .local _ .vmem, ⟨36, _⟩ => ⟨S1x256x1408, .bf16⟩
  | .local _ .vmem, ⟨37, _⟩ => ⟨S8x128, .f32⟩
  | .local _ .vmem, ⟨38, _⟩ => ⟨S1x256x1408, .f32⟩
  | .local _ .vmem, ⟨39, _⟩ => ⟨S1x256x1408, .f32⟩
  | .local _ .vmem, ⟨40, _⟩ => ⟨S1x256x1408, .f32⟩
  | .local _ .vmem, ⟨41, _⟩ => ⟨S1x256x1408, .f32⟩
  | .local _ .vmem, ⟨42, _⟩ => ⟨S1x256x1408, .f32⟩
  | .local _ .vmem, ⟨43, _⟩ => ⟨S1x256x1408, .f32⟩
  | .local _ .vmem, ⟨44, _⟩ => ⟨S1x256x1408, .f32⟩
  | .local _ .vmem, ⟨45, _⟩ => ⟨S1x256x1408, .f32⟩
  | .local _ .vmem, ⟨46, _⟩ => ⟨S1x256x1408, .f32⟩
  | .local _ .vmem, ⟨47, _⟩ => ⟨S1x256x1408, .f32⟩
  | .local _ .vmem, ⟨48, _⟩ => ⟨S1x256x1408, .f32⟩
  | .local _ .vmem, ⟨49, _⟩ => ⟨S1x256x1408, .f32⟩
  | .local _ .vmem, ⟨50, _⟩ => ⟨S1x256x1408, .f32⟩
  | .local _ .vmem, ⟨51, _⟩ => ⟨S1x256x1408, .f32⟩
  | .local _ .vmem, ⟨52, _⟩ => ⟨S1x256x1408, .bf16⟩
  | .local _ .vmem, ⟨53, _⟩ => ⟨S1x256x1408, .bf16⟩
  | .local _ .vmem, ⟨54, _⟩ => ⟨S1x256x1408, .bf16⟩
  | .local _ .vmem, ⟨55, _⟩ => ⟨S1x256x1408, .bf16⟩
  | .local _ .vmem, ⟨56, _⟩ => ⟨S1x256x1408, .bf16⟩
  | .local _ .vmem, ⟨57, _⟩ => ⟨S1x256x1408, .bf16⟩
  | .local _ .vmem, ⟨58, _⟩ => ⟨S1x256x1408, .bf16⟩
  | .local _ .vmem, ⟨59, _⟩ => ⟨S1x256x1408, .bf16⟩
  | .local _ .vmem, ⟨60, _⟩ => ⟨S8x128, .f32⟩
  | .local _ .vmem, ⟨61, _⟩ => ⟨S1x256x1408, .f32⟩
  | .local _ .vmem, ⟨62, _⟩ => ⟨S1x256x1408, .f32⟩
  | .local _ .vmem, ⟨63, _⟩ => ⟨S1x256x1408, .f32⟩
  | .local _ .vmem, ⟨64, _⟩ => ⟨S1x256x1408, .f32⟩
  | .local _ .vmem, ⟨65, _⟩ => ⟨S1x256x1408, .f32⟩
  | .local _ .vmem, ⟨66, _⟩ => ⟨S1x256x1408, .f32⟩
  | .local _ .vmem, ⟨67, _⟩ => ⟨S1x256x1408, .f32⟩
  | .local _ .vmem, ⟨68, _⟩ => ⟨S1x256x1408, .f32⟩
  | .local _ .vmem, ⟨69, _⟩ => ⟨S1x256x1408, .f32⟩
  | .local _ .vmem, ⟨70, _⟩ => ⟨S1x256x1408, .f32⟩
  | .local _ .vmem, ⟨71, _⟩ => ⟨S1x256x1408, .f32⟩
  | .local _ .vmem, ⟨72, _⟩ => ⟨S1x256x1408, .f32⟩
  | .local _ .vmem, ⟨73, _⟩ => ⟨S1x256x1408, .f32⟩
  | .local _ .vmem, ⟨74, _⟩ => ⟨S1x256x1408, .f32⟩
  | .local _ .vmem, ⟨75, _⟩ => ⟨S1x256x1408, .bf16⟩
  | .local _ .vmem, ⟨76, _⟩ => ⟨S1x256x1408, .bf16⟩
  | .local _ .vmem, ⟨77, _⟩ => ⟨S1x256x1408, .bf16⟩
  | .local _ .vmem, ⟨78, _⟩ => ⟨S1x256x1408, .bf16⟩
  | .local _ .vmem, ⟨79, _⟩ => ⟨S1x256x1408, .bf16⟩
  | .local _ .vmem, ⟨80, _⟩ => ⟨S1x256x1408, .bf16⟩
  | .local _ .vmem, ⟨81, _⟩ => ⟨S1x256x1408, .bf16⟩
  | .local _ .vmem, ⟨82, _⟩ => ⟨S1x256x1408, .bf16⟩
  | .local _ .vmem, ⟨83, _⟩ => ⟨S8x128, .f32⟩
  | .local _ .vmem, ⟨84, _⟩ => ⟨S1x256x1408, .f32⟩
  | .local _ .vmem, ⟨85, _⟩ => ⟨S1x256x1408, .f32⟩
  | .local _ .vmem, ⟨86, _⟩ => ⟨S1x256x1408, .f32⟩
  | .local _ .vmem, ⟨87, _⟩ => ⟨S1x256x1408, .f32⟩
  | .local _ .vmem, ⟨88, _⟩ => ⟨S1x256x1408, .f32⟩
  | .local _ .vmem, ⟨89, _⟩ => ⟨S1x256x1408, .f32⟩
  | .local _ .vmem, ⟨90, _⟩ => ⟨S1x256x1408, .f32⟩
  | .local _ .vmem, ⟨91, _⟩ => ⟨S1x256x1408, .f32⟩
  | _, _ => ⟨S4x4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | _, _ => false

abbrev semScoped : Fin 0 → Bool
  | ⟨_, h⟩ => absurd h (Nat.not_lt_zero _)

abbrev dmaSemScoped : Fin 92 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | _ => false

abbrev sig : RefSig :=
  ofTc nBuf bufTy 0 92 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v1_0 : Ref sig .tc := ⟨.hbm, 20, rfl⟩
abbrev main_v1_1 : Ref sig .tc := ⟨.hbm, 21, rfl⟩
abbrev main_v1_2 : Ref sig .tc := ⟨.hbm, 22, rfl⟩
abbrev main_v1_3 : Ref sig .tc := ⟨.hbm, 23, rfl⟩
abbrev main_v2_0 : Ref sig .tc := ⟨.hbm, 24, rfl⟩
abbrev main_v2_1 : Ref sig .tc := ⟨.hbm, 25, rfl⟩
abbrev main_v2_2 : Ref sig .tc := ⟨.hbm, 26, rfl⟩
abbrev main_v2_3 : Ref sig .tc := ⟨.hbm, 27, rfl⟩
abbrev main_v3_0 : Ref sig .tc := ⟨.hbm, 28, rfl⟩
abbrev main_v3_1 : Ref sig .tc := ⟨.hbm, 29, rfl⟩
abbrev main_v3_2 : Ref sig .tc := ⟨.hbm, 30, rfl⟩
abbrev main_v3_3 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc1_stg0_0 : Ref sig .tc := ⟨.vmem, 23, rfl⟩
abbrev cc1_stg0_1 : Ref sig .tc := ⟨.vmem, 24, rfl⟩
abbrev cc1_stg1_0 : Ref sig .tc := ⟨.vmem, 25, rfl⟩
abbrev cc1_stg1_1 : Ref sig .tc := ⟨.vmem, 26, rfl⟩
abbrev cc1_stg2_0 : Ref sig .tc := ⟨.vmem, 27, rfl⟩
abbrev cc1_stg2_1 : Ref sig .tc := ⟨.vmem, 28, rfl⟩
abbrev cc1_stg3_0 : Ref sig .tc := ⟨.vmem, 29, rfl⟩
abbrev cc1_stg3_1 : Ref sig .tc := ⟨.vmem, 30, rfl⟩
abbrev cc1_stg4_0 : Ref sig .tc := ⟨.vmem, 31, rfl⟩
abbrev cc1_stg4_1 : Ref sig .tc := ⟨.vmem, 32, rfl⟩
abbrev cc1_stg5_0 : Ref sig .tc := ⟨.vmem, 33, rfl⟩
abbrev cc1_stg5_1 : Ref sig .tc := ⟨.vmem, 34, rfl⟩
abbrev cc1_stg6_0 : Ref sig .tc := ⟨.vmem, 35, rfl⟩
abbrev cc1_stg6_1 : Ref sig .tc := ⟨.vmem, 36, rfl⟩
abbrev cc1_stg7_0 : Ref sig .tc := ⟨.vmem, 37, rfl⟩
abbrev cc1_stg8_0 : Ref sig .tc := ⟨.vmem, 38, rfl⟩
abbrev cc1_stg8_1 : Ref sig .tc := ⟨.vmem, 39, rfl⟩
abbrev cc1_stg9_0 : Ref sig .tc := ⟨.vmem, 40, rfl⟩
abbrev cc1_stg9_1 : Ref sig .tc := ⟨.vmem, 41, rfl⟩
abbrev cc1_stg10_0 : Ref sig .tc := ⟨.vmem, 42, rfl⟩
abbrev cc1_stg10_1 : Ref sig .tc := ⟨.vmem, 43, rfl⟩
abbrev cc1_stg11_0 : Ref sig .tc := ⟨.vmem, 44, rfl⟩
abbrev cc1_stg11_1 : Ref sig .tc := ⟨.vmem, 45, rfl⟩
abbrev cc2_stg0_0 : Ref sig .tc := ⟨.vmem, 46, rfl⟩
abbrev cc2_stg0_1 : Ref sig .tc := ⟨.vmem, 47, rfl⟩
abbrev cc2_stg1_0 : Ref sig .tc := ⟨.vmem, 48, rfl⟩
abbrev cc2_stg1_1 : Ref sig .tc := ⟨.vmem, 49, rfl⟩
abbrev cc2_stg2_0 : Ref sig .tc := ⟨.vmem, 50, rfl⟩
abbrev cc2_stg2_1 : Ref sig .tc := ⟨.vmem, 51, rfl⟩
abbrev cc2_stg3_0 : Ref sig .tc := ⟨.vmem, 52, rfl⟩
abbrev cc2_stg3_1 : Ref sig .tc := ⟨.vmem, 53, rfl⟩
abbrev cc2_stg4_0 : Ref sig .tc := ⟨.vmem, 54, rfl⟩
abbrev cc2_stg4_1 : Ref sig .tc := ⟨.vmem, 55, rfl⟩
abbrev cc2_stg5_0 : Ref sig .tc := ⟨.vmem, 56, rfl⟩
abbrev cc2_stg5_1 : Ref sig .tc := ⟨.vmem, 57, rfl⟩
abbrev cc2_stg6_0 : Ref sig .tc := ⟨.vmem, 58, rfl⟩
abbrev cc2_stg6_1 : Ref sig .tc := ⟨.vmem, 59, rfl⟩
abbrev cc2_stg7_0 : Ref sig .tc := ⟨.vmem, 60, rfl⟩
abbrev cc2_stg8_0 : Ref sig .tc := ⟨.vmem, 61, rfl⟩
abbrev cc2_stg8_1 : Ref sig .tc := ⟨.vmem, 62, rfl⟩
abbrev cc2_stg9_0 : Ref sig .tc := ⟨.vmem, 63, rfl⟩
abbrev cc2_stg9_1 : Ref sig .tc := ⟨.vmem, 64, rfl⟩
abbrev cc2_stg10_0 : Ref sig .tc := ⟨.vmem, 65, rfl⟩
abbrev cc2_stg10_1 : Ref sig .tc := ⟨.vmem, 66, rfl⟩
abbrev cc2_stg11_0 : Ref sig .tc := ⟨.vmem, 67, rfl⟩
abbrev cc2_stg11_1 : Ref sig .tc := ⟨.vmem, 68, rfl⟩
abbrev cc3_stg0_0 : Ref sig .tc := ⟨.vmem, 69, rfl⟩
abbrev cc3_stg0_1 : Ref sig .tc := ⟨.vmem, 70, rfl⟩
abbrev cc3_stg1_0 : Ref sig .tc := ⟨.vmem, 71, rfl⟩
abbrev cc3_stg1_1 : Ref sig .tc := ⟨.vmem, 72, rfl⟩
abbrev cc3_stg2_0 : Ref sig .tc := ⟨.vmem, 73, rfl⟩
abbrev cc3_stg2_1 : Ref sig .tc := ⟨.vmem, 74, rfl⟩
abbrev cc3_stg3_0 : Ref sig .tc := ⟨.vmem, 75, rfl⟩
abbrev cc3_stg3_1 : Ref sig .tc := ⟨.vmem, 76, rfl⟩
abbrev cc3_stg4_0 : Ref sig .tc := ⟨.vmem, 77, rfl⟩
abbrev cc3_stg4_1 : Ref sig .tc := ⟨.vmem, 78, rfl⟩
abbrev cc3_stg5_0 : Ref sig .tc := ⟨.vmem, 79, rfl⟩
abbrev cc3_stg5_1 : Ref sig .tc := ⟨.vmem, 80, rfl⟩
abbrev cc3_stg6_0 : Ref sig .tc := ⟨.vmem, 81, rfl⟩
abbrev cc3_stg6_1 : Ref sig .tc := ⟨.vmem, 82, rfl⟩
abbrev cc3_stg7_0 : Ref sig .tc := ⟨.vmem, 83, rfl⟩
abbrev cc3_stg8_0 : Ref sig .tc := ⟨.vmem, 84, rfl⟩
abbrev cc3_stg8_1 : Ref sig .tc := ⟨.vmem, 85, rfl⟩
abbrev cc3_stg9_0 : Ref sig .tc := ⟨.vmem, 86, rfl⟩
abbrev cc3_stg9_1 : Ref sig .tc := ⟨.vmem, 87, rfl⟩
abbrev cc3_stg10_0 : Ref sig .tc := ⟨.vmem, 88, rfl⟩
abbrev cc3_stg10_1 : Ref sig .tc := ⟨.vmem, 89, rfl⟩
abbrev cc3_stg11_0 : Ref sig .tc := ⟨.vmem, 90, rfl⟩
abbrev cc3_stg11_1 : Ref sig .tc := ⟨.vmem, 91, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc1_sem0_0 : DmaSem sig := 23
abbrev cc1_sem0_1 : DmaSem sig := 24
abbrev cc1_sem1_0 : DmaSem sig := 25
abbrev cc1_sem1_1 : DmaSem sig := 26
abbrev cc1_sem2_0 : DmaSem sig := 27
abbrev cc1_sem2_1 : DmaSem sig := 28
abbrev cc1_sem3_0 : DmaSem sig := 29
abbrev cc1_sem3_1 : DmaSem sig := 30
abbrev cc1_sem4_0 : DmaSem sig := 31
abbrev cc1_sem4_1 : DmaSem sig := 32
abbrev cc1_sem5_0 : DmaSem sig := 33
abbrev cc1_sem5_1 : DmaSem sig := 34
abbrev cc1_sem6_0 : DmaSem sig := 35
abbrev cc1_sem6_1 : DmaSem sig := 36
abbrev cc1_sem7_0 : DmaSem sig := 37
abbrev cc1_sem8_0 : DmaSem sig := 38
abbrev cc1_sem8_1 : DmaSem sig := 39
abbrev cc1_sem9_0 : DmaSem sig := 40
abbrev cc1_sem9_1 : DmaSem sig := 41
abbrev cc1_sem10_0 : DmaSem sig := 42
abbrev cc1_sem10_1 : DmaSem sig := 43
abbrev cc1_sem11_0 : DmaSem sig := 44
abbrev cc1_sem11_1 : DmaSem sig := 45
abbrev cc2_sem0_0 : DmaSem sig := 46
abbrev cc2_sem0_1 : DmaSem sig := 47
abbrev cc2_sem1_0 : DmaSem sig := 48
abbrev cc2_sem1_1 : DmaSem sig := 49
abbrev cc2_sem2_0 : DmaSem sig := 50
abbrev cc2_sem2_1 : DmaSem sig := 51
abbrev cc2_sem3_0 : DmaSem sig := 52
abbrev cc2_sem3_1 : DmaSem sig := 53
abbrev cc2_sem4_0 : DmaSem sig := 54
abbrev cc2_sem4_1 : DmaSem sig := 55
abbrev cc2_sem5_0 : DmaSem sig := 56
abbrev cc2_sem5_1 : DmaSem sig := 57
abbrev cc2_sem6_0 : DmaSem sig := 58
abbrev cc2_sem6_1 : DmaSem sig := 59
abbrev cc2_sem7_0 : DmaSem sig := 60
abbrev cc2_sem8_0 : DmaSem sig := 61
abbrev cc2_sem8_1 : DmaSem sig := 62
abbrev cc2_sem9_0 : DmaSem sig := 63
abbrev cc2_sem9_1 : DmaSem sig := 64
abbrev cc2_sem10_0 : DmaSem sig := 65
abbrev cc2_sem10_1 : DmaSem sig := 66
abbrev cc2_sem11_0 : DmaSem sig := 67
abbrev cc2_sem11_1 : DmaSem sig := 68
abbrev cc3_sem0_0 : DmaSem sig := 69
abbrev cc3_sem0_1 : DmaSem sig := 70
abbrev cc3_sem1_0 : DmaSem sig := 71
abbrev cc3_sem1_1 : DmaSem sig := 72
abbrev cc3_sem2_0 : DmaSem sig := 73
abbrev cc3_sem2_1 : DmaSem sig := 74
abbrev cc3_sem3_0 : DmaSem sig := 75
abbrev cc3_sem3_1 : DmaSem sig := 76
abbrev cc3_sem4_0 : DmaSem sig := 77
abbrev cc3_sem4_1 : DmaSem sig := 78
abbrev cc3_sem5_0 : DmaSem sig := 79
abbrev cc3_sem5_1 : DmaSem sig := 80
abbrev cc3_sem6_0 : DmaSem sig := 81
abbrev cc3_sem6_1 : DmaSem sig := 82
abbrev cc3_sem7_0 : DmaSem sig := 83
abbrev cc3_sem8_0 : DmaSem sig := 84
abbrev cc3_sem8_1 : DmaSem sig := 85
abbrev cc3_sem9_0 : DmaSem sig := 86
abbrev cc3_sem9_1 : DmaSem sig := 87
abbrev cc3_sem10_0 : DmaSem sig := 88
abbrev cc3_sem10_1 : DmaSem sig := 89
abbrev cc3_sem11_0 : DmaSem sig := 90
abbrev cc3_sem11_1 : DmaSem sig := 91

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_13 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_14 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_15 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x1408 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_1 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_2 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_5 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_6 (i : grid1.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_13 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_14 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_15 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage1_0 : Fin 2 → Memref sig .tc .vmem S1x256x1408 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256x1408 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x1408 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256x1408 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256x1408 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256x1408 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S8x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1x256x1408 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x256x1408 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x256x1408 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1x256x1408 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨1, ![16], ![false]⟩

def cc2_transform_0 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_1 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_2 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_4 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_5 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc2_transform_6 (i : grid2.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_13 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_14 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_15 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage2_0 : Fin 2 → Memref sig .tc .vmem S1x256x1408 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x256x1408 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x256x1408 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x256x1408 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x256x1408 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x256x1408 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x256x1408 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S8x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S1x256x1408 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S1x256x1408 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S1x256x1408 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 2 → Memref sig .tc .vmem S1x256x1408 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev grid3 : Pipeline.Grid := ⟨1, ![16], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_4 (i : grid3.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc3_transform_5 (i : grid3.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc3_transform_6 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_13 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_14 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_15 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage3_0 : Fin 2 → Memref sig .tc .vmem S1x256x1408 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x256x1408 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x256x1408 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x256x1408 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x256x1408 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x256x1408 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x256x1408 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 1 → Memref sig .tc .vmem S8x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S1x256x1408 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S1x256x1408 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 2 → Memref sig .tc .vmem S1x256x1408 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev stage3_11 : Fin 2 → Memref sig .tc .vmem S1x256x1408 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]
-- ==== AdamwInRefIdeal.lean ====
abbrev S4x4096x1408 : Shape := ⟨3, ![4, 4096, 1408]⟩
abbrev S8x128 : Shape := ⟨2, ![8, 128]⟩
abbrev S1x4096x1408 : Shape := ⟨3, ![1, 4096, 1408]⟩
abbrev S4096x1408 : Shape := ⟨2, ![4096, 1408]⟩
abbrev S3x4096x1408 : Shape := ⟨3, ![3, 4096, 1408]⟩
abbrev S_ : Shape := ⟨0, ![]⟩

abbrev nBuf : Space → Nat
  | .hbm => 86
  | .vmem => 0
  | .smem => 0
  | _ => 0

abbrev bufTy : (tb : Table) → Fin (tcTables nBuf tb) → BufTy
  | .hbm, ⟨0, _⟩ => ⟨S4x4096x1408, .f32⟩
  | .hbm, ⟨1, _⟩ => ⟨S4x4096x1408, .f32⟩
  | .hbm, ⟨2, _⟩ => ⟨S4x4096x1408, .f32⟩
  | .hbm, ⟨3, _⟩ => ⟨S4x4096x1408, .bf16⟩
  | .hbm, ⟨4, _⟩ => ⟨S4x4096x1408, .bf16⟩
  | .hbm, ⟨5, _⟩ => ⟨S4x4096x1408, .bf16⟩
  | .hbm, ⟨6, _⟩ => ⟨S4x4096x1408, .bf16⟩
  | .hbm, ⟨7, _⟩ => ⟨S4x4096x1408, .bf16⟩
  | .hbm, ⟨8, _⟩ => ⟨S4x4096x1408, .bf16⟩
  | .hbm, ⟨9, _⟩ => ⟨S4x4096x1408, .bf16⟩
  | .hbm, ⟨10, _⟩ => ⟨S4x4096x1408, .bf16⟩
  | .hbm, ⟨11, _⟩ => ⟨S8x128, .f32⟩
  | .hbm, ⟨12, _⟩ => ⟨S4x4096x1408, .f32⟩
  | .hbm, ⟨13, _⟩ => ⟨S4x4096x1408, .f32⟩
  | .hbm, ⟨14, _⟩ => ⟨S4x4096x1408, .f32⟩
  | .hbm, ⟨15, _⟩ => ⟨S4x4096x1408, .f32⟩
  | .hbm, ⟨16, _⟩ => ⟨S1x4096x1408, .bf16⟩
  | .hbm, ⟨17, _⟩ => ⟨S4096x1408, .bf16⟩
  | .hbm, ⟨18, _⟩ => ⟨S4096x1408, .f32⟩
  | .hbm, ⟨19, _⟩ => ⟨S3x4096x1408, .bf16⟩
  | .hbm, ⟨20, _⟩ => ⟨S3x4096x1408, .f32⟩
  | .hbm, ⟨21, _⟩ => ⟨S_, .f32⟩
  | .hbm, ⟨22, _⟩ => ⟨S4096x1408, .f32⟩
  | .hbm, ⟨23, _⟩ => ⟨S4096x1408, .f32⟩
  | .hbm, ⟨24, _⟩ => ⟨S1x4096x1408, .bf16⟩
  | .hbm, ⟨25, _⟩ => ⟨S4096x1408, .bf16⟩
  | .hbm, ⟨26, _⟩ => ⟨S4096x1408, .f32⟩
  | .hbm, ⟨27, _⟩ => ⟨S3x4096x1408, .bf16⟩
  | .hbm, ⟨28, _⟩ => ⟨S3x4096x1408, .f32⟩
  | .hbm, ⟨29, _⟩ => ⟨S_, .f32⟩
  | .hbm, ⟨30, _⟩ => ⟨S4096x1408, .f32⟩
  | .hbm, ⟨31, _⟩ => ⟨S4096x1408, .f32⟩
  | .hbm, ⟨32, _⟩ => ⟨S1x4096x1408, .bf16⟩
  | .hbm, ⟨33, _⟩ => ⟨S4096x1408, .bf16⟩
  | .hbm, ⟨34, _⟩ => ⟨S4096x1408, .f32⟩
  | .hbm, ⟨35, _⟩ => ⟨S3x4096x1408, .bf16⟩
  | .hbm, ⟨36, _⟩ => ⟨S3x4096x1408, .f32⟩
  | .hbm, ⟨37, _⟩ => ⟨S_, .f32⟩
  | .hbm, ⟨38, _⟩ => ⟨S4096x1408, .f32⟩
  | .hbm, ⟨39, _⟩ => ⟨S4096x1408, .f32⟩
  | .hbm, ⟨40, _⟩ => ⟨S1x4096x1408, .bf16⟩
  | .hbm, ⟨41, _⟩ => ⟨S4096x1408, .bf16⟩
  | .hbm, ⟨42, _⟩ => ⟨S4096x1408, .f32⟩
  | .hbm, ⟨43, _⟩ => ⟨S3x4096x1408, .bf16⟩
  | .hbm, ⟨44, _⟩ => ⟨S3x4096x1408, .f32⟩
  | .hbm, ⟨45, _⟩ => ⟨S_, .f32⟩
  | .hbm, ⟨46, _⟩ => ⟨S4096x1408, .f32⟩
  | .hbm, ⟨47, _⟩ => ⟨S4096x1408, .f32⟩
  | .hbm, ⟨48, _⟩ => ⟨S1x4096x1408, .f32⟩
  | .hbm, ⟨49, _⟩ => ⟨S1x4096x1408, .f32⟩
  | .hbm, ⟨50, _⟩ => ⟨S1x4096x1408, .f32⟩
  | .hbm, ⟨51, _⟩ => ⟨S1x4096x1408, .f32⟩
  | .hbm, ⟨52, _⟩ => ⟨S4x4096x1408, .f32⟩
  | .hbm, ⟨53, _⟩ => ⟨S_, .f32⟩
  | .hbm, ⟨54, _⟩ => ⟨S4x4096x1408, .f32⟩
  | .hbm, ⟨55, _⟩ => ⟨S4x4096x1408, .f32⟩
  | .hbm, ⟨56, _⟩ => ⟨S_, .f32⟩
  | .hbm, ⟨57, _⟩ => ⟨S4x4096x1408, .f32⟩
  | .hbm, ⟨58, _⟩ => ⟨S4x4096x1408, .f32⟩
  | .hbm, ⟨59, _⟩ => ⟨S4x4096x1408, .f32⟩
  | .hbm, ⟨60, _⟩ => ⟨S_, .f32⟩
  | .hbm, ⟨61, _⟩ => ⟨S4x4096x1408, .f32⟩
  | .hbm, ⟨62, _⟩ => ⟨S4x4096x1408, .f32⟩
  | .hbm, ⟨63, _⟩ => ⟨S4x4096x1408, .f32⟩
  | .hbm, ⟨64, _⟩ => ⟨S_, .f32⟩
  | .hbm, ⟨65, _⟩ => ⟨S4x4096x1408, .f32⟩
  | .hbm, ⟨66, _⟩ => ⟨S4x4096x1408, .f32⟩
  | .hbm, ⟨67, _⟩ => ⟨S4x4096x1408, .f32⟩
  | .hbm, ⟨68, _⟩ => ⟨S_, .f32⟩
  | .hbm, ⟨69, _⟩ => ⟨S4x4096x1408, .f32⟩
  | .hbm, ⟨70, _⟩ => ⟨S4x4096x1408, .f32⟩
  | .hbm, ⟨71, _⟩ => ⟨S_, .f32⟩
  | .hbm, ⟨72, _⟩ => ⟨S4x4096x1408, .f32⟩
  | .hbm, ⟨73, _⟩ => ⟨S4x4096x1408, .f32⟩
  | .hbm, ⟨74, _⟩ => ⟨S4x4096x1408, .f32⟩
  | .hbm, ⟨75, _⟩ => ⟨S_, .f32⟩
  | .hbm, ⟨76, _⟩ => ⟨S4x4096x1408, .f32⟩
  | .hbm, ⟨77, _⟩ => ⟨S4x4096x1408, .f32⟩
  | .hbm, ⟨78, _⟩ => ⟨S4x4096x1408, .f32⟩
  | .hbm, ⟨79, _⟩ => ⟨S_, .f32⟩
  | .hbm, ⟨80, _⟩ => ⟨S4x4096x1408, .f32⟩
  | .hbm, ⟨81, _⟩ => ⟨S4x4096x1408, .f32⟩
  | .hbm, ⟨82, _⟩ => ⟨S4x4096x1408, .f32⟩
  | .hbm, ⟨83, _⟩ => ⟨S_, .f32⟩
  | .hbm, ⟨84, _⟩ => ⟨S4x4096x1408, .f32⟩
  | .hbm, ⟨85, _⟩ => ⟨S4x4096x1408, .f32⟩
  | _, _ => ⟨S4x4096x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_1 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_2 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_3 : Ref sig .tc := ⟨.hbm, 53, rfl⟩
abbrev main_v33 : Ref sig .tc := ⟨.hbm, 54, rfl⟩
abbrev main_v34 : Ref sig .tc := ⟨.hbm, 55, rfl⟩
abbrev main_cst_4 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_5 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_6 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_7 : Ref sig .tc := ⟨.hbm, 68, rfl⟩
abbrev main_v44 : Ref sig .tc := ⟨.hbm, 69, rfl⟩
abbrev main_v45 : Ref sig .tc := ⟨.hbm, 70, rfl⟩
abbrev main_cst_8 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_9 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_10 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_11 : Ref sig .tc := ⟨.hbm, 83, rfl⟩
abbrev main_v55 : Ref sig .tc := ⟨.hbm, 84, rfl⟩
abbrev main_v56 : Ref sig .tc := ⟨.hbm, 85, rfl⟩

abbrev nD : Nat := 1
abbrev τ : Topo := Topo.v7x

variable {F : FTy → Type} [FloatOps F]
-- ==== AdamwOut.lean ====
abbrev S4x512x4096 : Shape := ⟨3, ![4, 512, 4096]⟩
abbrev S8x512x4096 : Shape := ⟨3, ![8, 512, 4096]⟩
abbrev S8x128 : Shape := ⟨2, ![8, 128]⟩
abbrev S1x64x4096 : Shape := ⟨3, ![1, 64, 4096]⟩
abbrev S64x4096 : Shape := ⟨2, ![64, 4096]⟩

abbrev nBuf : Space → Nat
  | .hbm => 28
  | .vmem => 124
  | .smem => 0
  | _ => 0

abbrev bufTy : (tb : Table) → Fin (tcTables nBuf tb) → BufTy
  | .hbm, ⟨0, _⟩ => ⟨S4x512x4096, .f32⟩
  | .hbm, ⟨1, _⟩ => ⟨S4x512x4096, .f32⟩
  | .hbm, ⟨2, _⟩ => ⟨S4x512x4096, .f32⟩
  | .hbm, ⟨3, _⟩ => ⟨S8x512x4096, .bf16⟩
  | .hbm, ⟨4, _⟩ => ⟨S8x512x4096, .bf16⟩
  | .hbm, ⟨5, _⟩ => ⟨S8x512x4096, .bf16⟩
  | .hbm, ⟨6, _⟩ => ⟨S8x512x4096, .bf16⟩
  | .hbm, ⟨7, _⟩ => ⟨S8x128, .f32⟩
  | .hbm, ⟨8, _⟩ => ⟨S4x512x4096, .f32⟩
  | .hbm, ⟨9, _⟩ => ⟨S4x512x4096, .f32⟩
  | .hbm, ⟨10, _⟩ => ⟨S4x512x4096, .f32⟩
  | .hbm, ⟨11, _⟩ => ⟨S4x512x4096, .f32⟩
  | .hbm, ⟨12, _⟩ => ⟨S4x512x4096, .f32⟩
  | .hbm, ⟨13, _⟩ => ⟨S4x512x4096, .f32⟩
  | .hbm, ⟨14, _⟩ => ⟨S4x512x4096, .f32⟩
  | .hbm, ⟨15, _⟩ => ⟨S4x512x4096, .f32⟩
  | .hbm, ⟨16, _⟩ => ⟨S4x512x4096, .f32⟩
  | .hbm, ⟨17, _⟩ => ⟨S4x512x4096, .f32⟩
  | .hbm, ⟨18, _⟩ => ⟨S4x512x4096, .f32⟩
  | .hbm, ⟨19, _⟩ => ⟨S4x512x4096, .f32⟩
  | .hbm, ⟨20, _⟩ => ⟨S4x512x4096, .f32⟩
  | .hbm, ⟨21, _⟩ => ⟨S4x512x4096, .f32⟩
  | .hbm, ⟨22, _⟩ => ⟨S4x512x4096, .f32⟩
  | .hbm, ⟨23, _⟩ => ⟨S4x512x4096, .f32⟩
  | .hbm, ⟨24, _⟩ => ⟨S4x512x4096, .f32⟩
  | .hbm, ⟨25, _⟩ => ⟨S4x512x4096, .f32⟩
  | .hbm, ⟨26, _⟩ => ⟨S4x512x4096, .f32⟩
  | .hbm, ⟨27, _⟩ => ⟨S4x512x4096, .f32⟩
  | .local _ .vmem, ⟨0, _⟩ => ⟨S1x64x4096, .f32⟩
  | .local _ .vmem, ⟨1, _⟩ => ⟨S1x64x4096, .f32⟩
  | .local _ .vmem, ⟨2, _⟩ => ⟨S1x64x4096, .f32⟩
  | .local _ .vmem, ⟨3, _⟩ => ⟨S1x64x4096, .f32⟩
  | .local _ .vmem, ⟨4, _⟩ => ⟨S1x64x4096, .f32⟩
  | .local _ .vmem, ⟨5, _⟩ => ⟨S1x64x4096, .f32⟩
  | .local _ .vmem, ⟨6, _⟩ => ⟨S1x64x4096, .bf16⟩
  | .local _ .vmem, ⟨7, _⟩ => ⟨S1x64x4096, .bf16⟩
  | .local _ .vmem, ⟨8, _⟩ => ⟨S1x64x4096, .bf16⟩
  | .local _ .vmem, ⟨9, _⟩ => ⟨S1x64x4096, .bf16⟩
  | .local _ .vmem, ⟨10, _⟩ => ⟨S1x64x4096, .bf16⟩
  | .local _ .vmem, ⟨11, _⟩ => ⟨S1x64x4096, .bf16⟩
  | .local _ .vmem, ⟨12, _⟩ => ⟨S1x64x4096, .bf16⟩
  | .local _ .vmem, ⟨13, _⟩ => ⟨S1x64x4096, .bf16⟩
  | .local _ .vmem, ⟨14, _⟩ => ⟨S1x64x4096, .bf16⟩
  | .local _ .vmem, ⟨15, _⟩ => ⟨S1x64x4096, .bf16⟩
  | .local _ .vmem, ⟨16, _⟩ => ⟨S1x64x4096, .bf16⟩
  | .local _ .vmem, ⟨17, _⟩ => ⟨S1x64x4096, .bf16⟩
  | .local _ .vmem, ⟨18, _⟩ => ⟨S1x64x4096, .bf16⟩
  | .local _ .vmem, ⟨19, _⟩ => ⟨S1x64x4096, .bf16⟩
  | .local _ .vmem, ⟨20, _⟩ => ⟨S1x64x4096, .bf16⟩
  | .local _ .vmem, ⟨21, _⟩ => ⟨S1x64x4096, .bf16⟩
  | .local _ .vmem, ⟨22, _⟩ => ⟨S8x128, .f32⟩
  | .local _ .vmem, ⟨23, _⟩ => ⟨S1x64x4096, .f32⟩
  | .local _ .vmem, ⟨24, _⟩ => ⟨S1x64x4096, .f32⟩
  | .local _ .vmem, ⟨25, _⟩ => ⟨S1x64x4096, .f32⟩
  | .local _ .vmem, ⟨26, _⟩ => ⟨S1x64x4096, .f32⟩
  | .local _ .vmem, ⟨27, _⟩ => ⟨S1x64x4096, .f32⟩
  | .local _ .vmem, ⟨28, _⟩ => ⟨S1x64x4096, .f32⟩
  | .local _ .vmem, ⟨29, _⟩ => ⟨S1x64x4096, .f32⟩
  | .local _ .vmem, ⟨30, _⟩ => ⟨S1x64x4096, .f32⟩
  | .local _ .vmem, ⟨31, _⟩ => ⟨S1x64x4096, .f32⟩
  | .local _ .vmem, ⟨32, _⟩ => ⟨S1x64x4096, .f32⟩
  | .local _ .vmem, ⟨33, _⟩ => ⟨S1x64x4096, .f32⟩
  | .local _ .vmem, ⟨34, _⟩ => ⟨S1x64x4096, .f32⟩
  | .local _ .vmem, ⟨35, _⟩ => ⟨S1x64x4096, .f32⟩
  | .local _ .vmem, ⟨36, _⟩ => ⟨S1x64x4096, .f32⟩
  | .local _ .vmem, ⟨37, _⟩ => ⟨S1x64x4096, .bf16⟩
  | .local _ .vmem, ⟨38, _⟩ => ⟨S1x64x4096, .bf16⟩
  | .local _ .vmem, ⟨39, _⟩ => ⟨S1x64x4096, .bf16⟩
  | .local _ .vmem, ⟨40, _⟩ => ⟨S1x64x4096, .bf16⟩
  | .local _ .vmem, ⟨41, _⟩ => ⟨S1x64x4096, .bf16⟩
  | .local _ .vmem, ⟨42, _⟩ => ⟨S1x64x4096, .bf16⟩
  | .local _ .vmem, ⟨43, _⟩ => ⟨S1x64x4096, .bf16⟩
  | .local _ .vmem, ⟨44, _⟩ => ⟨S1x64x4096, .bf16⟩
  | .local _ .vmem, ⟨45, _⟩ => ⟨S1x64x4096, .bf16⟩
  | .local _ .vmem, ⟨46, _⟩ => ⟨S1x64x4096, .bf16⟩
  | .local _ .vmem, ⟨47, _⟩ => ⟨S1x64x4096, .bf16⟩
  | .local _ .vmem, ⟨48, _⟩ => ⟨S1x64x4096, .bf16⟩
  | .local _ .vmem, ⟨49, _⟩ => ⟨S1x64x4096, .bf16⟩
  | .local _ .vmem, ⟨50, _⟩ => ⟨S1x64x4096, .bf16⟩
  | .local _ .vmem, ⟨51, _⟩ => ⟨S1x64x4096, .bf16⟩
  | .local _ .vmem, ⟨52, _⟩ => ⟨S1x64x4096, .bf16⟩
  | .local _ .vmem, ⟨53, _⟩ => ⟨S8x128, .f32⟩
  | .local _ .vmem, ⟨54, _⟩ => ⟨S1x64x4096, .f32⟩
  | .local _ .vmem, ⟨55, _⟩ => ⟨S1x64x4096, .f32⟩
  | .local _ .vmem, ⟨56, _⟩ => ⟨S1x64x4096, .f32⟩
  | .local _ .vmem, ⟨57, _⟩ => ⟨S1x64x4096, .f32⟩
  | .local _ .vmem, ⟨58, _⟩ => ⟨S1x64x4096, .f32⟩
  | .local _ .vmem, ⟨59, _⟩ => ⟨S1x64x4096, .f32⟩
  | .local _ .vmem, ⟨60, _⟩ => ⟨S1x64x4096, .f32⟩
  | .local _ .vmem, ⟨61, _⟩ => ⟨S1x64x4096, .f32⟩
  | .local _ .vmem, ⟨62, _⟩ => ⟨S1x64x4096, .f32⟩
  | .local _ .vmem, ⟨63, _⟩ => ⟨S1x64x4096, .f32⟩
  | .local _ .vmem, ⟨64, _⟩ => ⟨S1x64x4096, .f32⟩
  | .local _ .vmem, ⟨65, _⟩ => ⟨S1x64x4096, .f32⟩
  | .local _ .vmem, ⟨66, _⟩ => ⟨S1x64x4096, .f32⟩
  | .local _ .vmem, ⟨67, _⟩ => ⟨S1x64x4096, .f32⟩
  | .local _ .vmem, ⟨68, _⟩ => ⟨S1x64x4096, .bf16⟩
  | .local _ .vmem, ⟨69, _⟩ => ⟨S1x64x4096, .bf16⟩
  | .local _ .vmem, ⟨70, _⟩ => ⟨S1x64x4096, .bf16⟩
  | .local _ .vmem, ⟨71, _⟩ => ⟨S1x64x4096, .bf16⟩
  | .local _ .vmem, ⟨72, _⟩ => ⟨S1x64x4096, .bf16⟩
  | .local _ .vmem, ⟨73, _⟩ => ⟨S1x64x4096, .bf16⟩
  | .local _ .vmem, ⟨74, _⟩ => ⟨S1x64x4096, .bf16⟩
  | .local _ .vmem, ⟨75, _⟩ => ⟨S1x64x4096, .bf16⟩
  | .local _ .vmem, ⟨76, _⟩ => ⟨S1x64x4096, .bf16⟩
  | .local _ .vmem, ⟨77, _⟩ => ⟨S1x64x4096, .bf16⟩
  | .local _ .vmem, ⟨78, _⟩ => ⟨S1x64x4096, .bf16⟩
  | .local _ .vmem, ⟨79, _⟩ => ⟨S1x64x4096, .bf16⟩
  | .local _ .vmem, ⟨80, _⟩ => ⟨S1x64x4096, .bf16⟩
  | .local _ .vmem, ⟨81, _⟩ => ⟨S1x64x4096, .bf16⟩
  | .local _ .vmem, ⟨82, _⟩ => ⟨S1x64x4096, .bf16⟩
  | .local _ .vmem, ⟨83, _⟩ => ⟨S1x64x4096, .bf16⟩
  | .local _ .vmem, ⟨84, _⟩ => ⟨S8x128, .f32⟩
  | .local _ .vmem, ⟨85, _⟩ => ⟨S1x64x4096, .f32⟩
  | .local _ .vmem, ⟨86, _⟩ => ⟨S1x64x4096, .f32⟩
  | .local _ .vmem, ⟨87, _⟩ => ⟨S1x64x4096, .f32⟩
  | .local _ .vmem, ⟨88, _⟩ => ⟨S1x64x4096, .f32⟩
  | .local _ .vmem, ⟨89, _⟩ => ⟨S1x64x4096, .f32⟩
  | .local _ .vmem, ⟨90, _⟩ => ⟨S1x64x4096, .f32⟩
  | .local _ .vmem, ⟨91, _⟩ => ⟨S1x64x4096, .f32⟩
  | .local _ .vmem, ⟨92, _⟩ => ⟨S1x64x4096, .f32⟩
  | .local _ .vmem, ⟨93, _⟩ => ⟨S1x64x4096, .f32⟩
  | .local _ .vmem, ⟨94, _⟩ => ⟨S1x64x4096, .f32⟩
  | .local _ .vmem, ⟨95, _⟩ => ⟨S1x64x4096, .f32⟩
  | .local _ .vmem, ⟨96, _⟩ => ⟨S1x64x4096, .f32⟩
  | .local _ .vmem, ⟨97, _⟩ => ⟨S1x64x4096, .f32⟩
  | .local _ .vmem, ⟨98, _⟩ => ⟨S1x64x4096, .f32⟩
  | .local _ .vmem, ⟨99, _⟩ => ⟨S1x64x4096, .bf16⟩
  | .local _ .vmem, ⟨100, _⟩ => ⟨S1x64x4096, .bf16⟩
  | .local _ .vmem, ⟨101, _⟩ => ⟨S1x64x4096, .bf16⟩
  | .local _ .vmem, ⟨102, _⟩ => ⟨S1x64x4096, .bf16⟩
  | .local _ .vmem, ⟨103, _⟩ => ⟨S1x64x4096, .bf16⟩
  | .local _ .vmem, ⟨104, _⟩ => ⟨S1x64x4096, .bf16⟩
  | .local _ .vmem, ⟨105, _⟩ => ⟨S1x64x4096, .bf16⟩
  | .local _ .vmem, ⟨106, _⟩ => ⟨S1x64x4096, .bf16⟩
  | .local _ .vmem, ⟨107, _⟩ => ⟨S1x64x4096, .bf16⟩
  | .local _ .vmem, ⟨108, _⟩ => ⟨S1x64x4096, .bf16⟩
  | .local _ .vmem, ⟨109, _⟩ => ⟨S1x64x4096, .bf16⟩
  | .local _ .vmem, ⟨110, _⟩ => ⟨S1x64x4096, .bf16⟩
  | .local _ .vmem, ⟨111, _⟩ => ⟨S1x64x4096, .bf16⟩
  | .local _ .vmem, ⟨112, _⟩ => ⟨S1x64x4096, .bf16⟩
  | .local _ .vmem, ⟨113, _⟩ => ⟨S1x64x4096, .bf16⟩
  | .local _ .vmem, ⟨114, _⟩ => ⟨S1x64x4096, .bf16⟩
  | .local _ .vmem, ⟨115, _⟩ => ⟨S8x128, .f32⟩
  | .local _ .vmem, ⟨116, _⟩ => ⟨S1x64x4096, .f32⟩
  | .local _ .vmem, ⟨117, _⟩ => ⟨S1x64x4096, .f32⟩
  | .local _ .vmem, ⟨118, _⟩ => ⟨S1x64x4096, .f32⟩
  | .local _ .vmem, ⟨119, _⟩ => ⟨S1x64x4096, .f32⟩
  | .local _ .vmem, ⟨120, _⟩ => ⟨S1x64x4096, .f32⟩
  | .local _ .vmem, ⟨121, _⟩ => ⟨S1x64x4096, .f32⟩
  | .local _ .vmem, ⟨122, _⟩ => ⟨S1x64x4096, .f32⟩
  | .local _ .vmem, ⟨123, _⟩ => ⟨S1x64x4096, .f32⟩
  | _, _ => ⟨S4x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | .vmem, ⟨120, _⟩ => true
  | .vmem, ⟨121, _⟩ => true
  | .vmem, ⟨122, _⟩ => true
  | .vmem, ⟨123, _⟩ => true
  | _, _ => false

abbrev semScoped : Fin 0 → Bool
  | ⟨_, h⟩ => absurd h (Nat.not_lt_zero _)

abbrev dmaSemScoped : Fin 124 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | _ => false

abbrev sig : RefSig :=
  ofTc nBuf bufTy 0 124 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v1_0 : Ref sig .tc := ⟨.hbm, 16, rfl⟩
abbrev main_v1_1 : Ref sig .tc := ⟨.hbm, 17, rfl⟩
abbrev main_v1_2 : Ref sig .tc := ⟨.hbm, 18, rfl⟩
abbrev main_v1_3 : Ref sig .tc := ⟨.hbm, 19, rfl⟩
abbrev main_v2_0 : Ref sig .tc := ⟨.hbm, 20, rfl⟩
abbrev main_v2_1 : Ref sig .tc := ⟨.hbm, 21, rfl⟩
abbrev main_v2_2 : Ref sig .tc := ⟨.hbm, 22, rfl⟩
abbrev main_v2_3 : Ref sig .tc := ⟨.hbm, 23, rfl⟩
abbrev main_v3_0 : Ref sig .tc := ⟨.hbm, 24, rfl⟩
abbrev main_v3_1 : Ref sig .tc := ⟨.hbm, 25, rfl⟩
abbrev main_v3_2 : Ref sig .tc := ⟨.hbm, 26, rfl⟩
abbrev main_v3_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc1_stg0_0 : Ref sig .tc := ⟨.vmem, 31, rfl⟩
abbrev cc1_stg0_1 : Ref sig .tc := ⟨.vmem, 32, rfl⟩
abbrev cc1_stg1_0 : Ref sig .tc := ⟨.vmem, 33, rfl⟩
abbrev cc1_stg1_1 : Ref sig .tc := ⟨.vmem, 34, rfl⟩
abbrev cc1_stg2_0 : Ref sig .tc := ⟨.vmem, 35, rfl⟩
abbrev cc1_stg2_1 : Ref sig .tc := ⟨.vmem, 36, rfl⟩
abbrev cc1_stg3_0 : Ref sig .tc := ⟨.vmem, 37, rfl⟩
abbrev cc1_stg3_1 : Ref sig .tc := ⟨.vmem, 38, rfl⟩
abbrev cc1_stg4_0 : Ref sig .tc := ⟨.vmem, 39, rfl⟩
abbrev cc1_stg4_1 : Ref sig .tc := ⟨.vmem, 40, rfl⟩
abbrev cc1_stg5_0 : Ref sig .tc := ⟨.vmem, 41, rfl⟩
abbrev cc1_stg5_1 : Ref sig .tc := ⟨.vmem, 42, rfl⟩
abbrev cc1_stg6_0 : Ref sig .tc := ⟨.vmem, 43, rfl⟩
abbrev cc1_stg6_1 : Ref sig .tc := ⟨.vmem, 44, rfl⟩
abbrev cc1_stg7_0 : Ref sig .tc := ⟨.vmem, 45, rfl⟩
abbrev cc1_stg7_1 : Ref sig .tc := ⟨.vmem, 46, rfl⟩
abbrev cc1_stg8_0 : Ref sig .tc := ⟨.vmem, 47, rfl⟩
abbrev cc1_stg8_1 : Ref sig .tc := ⟨.vmem, 48, rfl⟩
abbrev cc1_stg9_0 : Ref sig .tc := ⟨.vmem, 49, rfl⟩
abbrev cc1_stg9_1 : Ref sig .tc := ⟨.vmem, 50, rfl⟩
abbrev cc1_stg10_0 : Ref sig .tc := ⟨.vmem, 51, rfl⟩
abbrev cc1_stg10_1 : Ref sig .tc := ⟨.vmem, 52, rfl⟩
abbrev cc1_stg11_0 : Ref sig .tc := ⟨.vmem, 53, rfl⟩
abbrev cc1_stg12_0 : Ref sig .tc := ⟨.vmem, 54, rfl⟩
abbrev cc1_stg12_1 : Ref sig .tc := ⟨.vmem, 55, rfl⟩
abbrev cc1_stg13_0 : Ref sig .tc := ⟨.vmem, 56, rfl⟩
abbrev cc1_stg13_1 : Ref sig .tc := ⟨.vmem, 57, rfl⟩
abbrev cc1_stg14_0 : Ref sig .tc := ⟨.vmem, 58, rfl⟩
abbrev cc1_stg14_1 : Ref sig .tc := ⟨.vmem, 59, rfl⟩
abbrev cc1_stg15_0 : Ref sig .tc := ⟨.vmem, 60, rfl⟩
abbrev cc1_stg15_1 : Ref sig .tc := ⟨.vmem, 61, rfl⟩
abbrev cc2_stg0_0 : Ref sig .tc := ⟨.vmem, 62, rfl⟩
abbrev cc2_stg0_1 : Ref sig .tc := ⟨.vmem, 63, rfl⟩
abbrev cc2_stg1_0 : Ref sig .tc := ⟨.vmem, 64, rfl⟩
abbrev cc2_stg1_1 : Ref sig .tc := ⟨.vmem, 65, rfl⟩
abbrev cc2_stg2_0 : Ref sig .tc := ⟨.vmem, 66, rfl⟩
abbrev cc2_stg2_1 : Ref sig .tc := ⟨.vmem, 67, rfl⟩
abbrev cc2_stg3_0 : Ref sig .tc := ⟨.vmem, 68, rfl⟩
abbrev cc2_stg3_1 : Ref sig .tc := ⟨.vmem, 69, rfl⟩
abbrev cc2_stg4_0 : Ref sig .tc := ⟨.vmem, 70, rfl⟩
abbrev cc2_stg4_1 : Ref sig .tc := ⟨.vmem, 71, rfl⟩
abbrev cc2_stg5_0 : Ref sig .tc := ⟨.vmem, 72, rfl⟩
abbrev cc2_stg5_1 : Ref sig .tc := ⟨.vmem, 73, rfl⟩
abbrev cc2_stg6_0 : Ref sig .tc := ⟨.vmem, 74, rfl⟩
abbrev cc2_stg6_1 : Ref sig .tc := ⟨.vmem, 75, rfl⟩
abbrev cc2_stg7_0 : Ref sig .tc := ⟨.vmem, 76, rfl⟩
abbrev cc2_stg7_1 : Ref sig .tc := ⟨.vmem, 77, rfl⟩
abbrev cc2_stg8_0 : Ref sig .tc := ⟨.vmem, 78, rfl⟩
abbrev cc2_stg8_1 : Ref sig .tc := ⟨.vmem, 79, rfl⟩
abbrev cc2_stg9_0 : Ref sig .tc := ⟨.vmem, 80, rfl⟩
abbrev cc2_stg9_1 : Ref sig .tc := ⟨.vmem, 81, rfl⟩
abbrev cc2_stg10_0 : Ref sig .tc := ⟨.vmem, 82, rfl⟩
abbrev cc2_stg10_1 : Ref sig .tc := ⟨.vmem, 83, rfl⟩
abbrev cc2_stg11_0 : Ref sig .tc := ⟨.vmem, 84, rfl⟩
abbrev cc2_stg12_0 : Ref sig .tc := ⟨.vmem, 85, rfl⟩
abbrev cc2_stg12_1 : Ref sig .tc := ⟨.vmem, 86, rfl⟩
abbrev cc2_stg13_0 : Ref sig .tc := ⟨.vmem, 87, rfl⟩
abbrev cc2_stg13_1 : Ref sig .tc := ⟨.vmem, 88, rfl⟩
abbrev cc2_stg14_0 : Ref sig .tc := ⟨.vmem, 89, rfl⟩
abbrev cc2_stg14_1 : Ref sig .tc := ⟨.vmem, 90, rfl⟩
abbrev cc2_stg15_0 : Ref sig .tc := ⟨.vmem, 91, rfl⟩
abbrev cc2_stg15_1 : Ref sig .tc := ⟨.vmem, 92, rfl⟩
abbrev cc3_stg0_0 : Ref sig .tc := ⟨.vmem, 93, rfl⟩
abbrev cc3_stg0_1 : Ref sig .tc := ⟨.vmem, 94, rfl⟩
abbrev cc3_stg1_0 : Ref sig .tc := ⟨.vmem, 95, rfl⟩
abbrev cc3_stg1_1 : Ref sig .tc := ⟨.vmem, 96, rfl⟩
abbrev cc3_stg2_0 : Ref sig .tc := ⟨.vmem, 97, rfl⟩
abbrev cc3_stg2_1 : Ref sig .tc := ⟨.vmem, 98, rfl⟩
abbrev cc3_stg3_0 : Ref sig .tc := ⟨.vmem, 99, rfl⟩
abbrev cc3_stg3_1 : Ref sig .tc := ⟨.vmem, 100, rfl⟩
abbrev cc3_stg4_0 : Ref sig .tc := ⟨.vmem, 101, rfl⟩
abbrev cc3_stg4_1 : Ref sig .tc := ⟨.vmem, 102, rfl⟩
abbrev cc3_stg5_0 : Ref sig .tc := ⟨.vmem, 103, rfl⟩
abbrev cc3_stg5_1 : Ref sig .tc := ⟨.vmem, 104, rfl⟩
abbrev cc3_stg6_0 : Ref sig .tc := ⟨.vmem, 105, rfl⟩
abbrev cc3_stg6_1 : Ref sig .tc := ⟨.vmem, 106, rfl⟩
abbrev cc3_stg7_0 : Ref sig .tc := ⟨.vmem, 107, rfl⟩
abbrev cc3_stg7_1 : Ref sig .tc := ⟨.vmem, 108, rfl⟩
abbrev cc3_stg8_0 : Ref sig .tc := ⟨.vmem, 109, rfl⟩
abbrev cc3_stg8_1 : Ref sig .tc := ⟨.vmem, 110, rfl⟩
abbrev cc3_stg9_0 : Ref sig .tc := ⟨.vmem, 111, rfl⟩
abbrev cc3_stg9_1 : Ref sig .tc := ⟨.vmem, 112, rfl⟩
abbrev cc3_stg10_0 : Ref sig .tc := ⟨.vmem, 113, rfl⟩
abbrev cc3_stg10_1 : Ref sig .tc := ⟨.vmem, 114, rfl⟩
abbrev cc3_stg11_0 : Ref sig .tc := ⟨.vmem, 115, rfl⟩
abbrev cc3_stg12_0 : Ref sig .tc := ⟨.vmem, 116, rfl⟩
abbrev cc3_stg12_1 : Ref sig .tc := ⟨.vmem, 117, rfl⟩
abbrev cc3_stg13_0 : Ref sig .tc := ⟨.vmem, 118, rfl⟩
abbrev cc3_stg13_1 : Ref sig .tc := ⟨.vmem, 119, rfl⟩
abbrev cc3_stg14_0 : Ref sig .tc := ⟨.vmem, 120, rfl⟩
abbrev cc3_stg14_1 : Ref sig .tc := ⟨.vmem, 121, rfl⟩
abbrev cc3_stg15_0 : Ref sig .tc := ⟨.vmem, 122, rfl⟩
abbrev cc3_stg15_1 : Ref sig .tc := ⟨.vmem, 123, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc1_sem0_0 : DmaSem sig := 31
abbrev cc1_sem0_1 : DmaSem sig := 32
abbrev cc1_sem1_0 : DmaSem sig := 33
abbrev cc1_sem1_1 : DmaSem sig := 34
abbrev cc1_sem2_0 : DmaSem sig := 35
abbrev cc1_sem2_1 : DmaSem sig := 36
abbrev cc1_sem3_0 : DmaSem sig := 37
abbrev cc1_sem3_1 : DmaSem sig := 38
abbrev cc1_sem4_0 : DmaSem sig := 39
abbrev cc1_sem4_1 : DmaSem sig := 40
abbrev cc1_sem5_0 : DmaSem sig := 41
abbrev cc1_sem5_1 : DmaSem sig := 42
abbrev cc1_sem6_0 : DmaSem sig := 43
abbrev cc1_sem6_1 : DmaSem sig := 44
abbrev cc1_sem7_0 : DmaSem sig := 45
abbrev cc1_sem7_1 : DmaSem sig := 46
abbrev cc1_sem8_0 : DmaSem sig := 47
abbrev cc1_sem8_1 : DmaSem sig := 48
abbrev cc1_sem9_0 : DmaSem sig := 49
abbrev cc1_sem9_1 : DmaSem sig := 50
abbrev cc1_sem10_0 : DmaSem sig := 51
abbrev cc1_sem10_1 : DmaSem sig := 52
abbrev cc1_sem11_0 : DmaSem sig := 53
abbrev cc1_sem12_0 : DmaSem sig := 54
abbrev cc1_sem12_1 : DmaSem sig := 55
abbrev cc1_sem13_0 : DmaSem sig := 56
abbrev cc1_sem13_1 : DmaSem sig := 57
abbrev cc1_sem14_0 : DmaSem sig := 58
abbrev cc1_sem14_1 : DmaSem sig := 59
abbrev cc1_sem15_0 : DmaSem sig := 60
abbrev cc1_sem15_1 : DmaSem sig := 61
abbrev cc2_sem0_0 : DmaSem sig := 62
abbrev cc2_sem0_1 : DmaSem sig := 63
abbrev cc2_sem1_0 : DmaSem sig := 64
abbrev cc2_sem1_1 : DmaSem sig := 65
abbrev cc2_sem2_0 : DmaSem sig := 66
abbrev cc2_sem2_1 : DmaSem sig := 67
abbrev cc2_sem3_0 : DmaSem sig := 68
abbrev cc2_sem3_1 : DmaSem sig := 69
abbrev cc2_sem4_0 : DmaSem sig := 70
abbrev cc2_sem4_1 : DmaSem sig := 71
abbrev cc2_sem5_0 : DmaSem sig := 72
abbrev cc2_sem5_1 : DmaSem sig := 73
abbrev cc2_sem6_0 : DmaSem sig := 74
abbrev cc2_sem6_1 : DmaSem sig := 75
abbrev cc2_sem7_0 : DmaSem sig := 76
abbrev cc2_sem7_1 : DmaSem sig := 77
abbrev cc2_sem8_0 : DmaSem sig := 78
abbrev cc2_sem8_1 : DmaSem sig := 79
abbrev cc2_sem9_0 : DmaSem sig := 80
abbrev cc2_sem9_1 : DmaSem sig := 81
abbrev cc2_sem10_0 : DmaSem sig := 82
abbrev cc2_sem10_1 : DmaSem sig := 83
abbrev cc2_sem11_0 : DmaSem sig := 84
abbrev cc2_sem12_0 : DmaSem sig := 85
abbrev cc2_sem12_1 : DmaSem sig := 86
abbrev cc2_sem13_0 : DmaSem sig := 87
abbrev cc2_sem13_1 : DmaSem sig := 88
abbrev cc2_sem14_0 : DmaSem sig := 89
abbrev cc2_sem14_1 : DmaSem sig := 90
abbrev cc2_sem15_0 : DmaSem sig := 91
abbrev cc2_sem15_1 : DmaSem sig := 92
abbrev cc3_sem0_0 : DmaSem sig := 93
abbrev cc3_sem0_1 : DmaSem sig := 94
abbrev cc3_sem1_0 : DmaSem sig := 95
abbrev cc3_sem1_1 : DmaSem sig := 96
abbrev cc3_sem2_0 : DmaSem sig := 97
abbrev cc3_sem2_1 : DmaSem sig := 98
abbrev cc3_sem3_0 : DmaSem sig := 99
abbrev cc3_sem3_1 : DmaSem sig := 100
abbrev cc3_sem4_0 : DmaSem sig := 101
abbrev cc3_sem4_1 : DmaSem sig := 102
abbrev cc3_sem5_0 : DmaSem sig := 103
abbrev cc3_sem5_1 : DmaSem sig := 104
abbrev cc3_sem6_0 : DmaSem sig := 105
abbrev cc3_sem6_1 : DmaSem sig := 106
abbrev cc3_sem7_0 : DmaSem sig := 107
abbrev cc3_sem7_1 : DmaSem sig := 108
abbrev cc3_sem8_0 : DmaSem sig := 109
abbrev cc3_sem8_1 : DmaSem sig := 110
abbrev cc3_sem9_0 : DmaSem sig := 111
abbrev cc3_sem9_1 : DmaSem sig := 112
abbrev cc3_sem10_0 : DmaSem sig := 113
abbrev cc3_sem10_1 : DmaSem sig := 114
abbrev cc3_sem11_0 : DmaSem sig := 115
abbrev cc3_sem12_0 : DmaSem sig := 116
abbrev cc3_sem12_1 : DmaSem sig := 117
abbrev cc3_sem13_0 : DmaSem sig := 118
abbrev cc3_sem13_1 : DmaSem sig := 119
abbrev cc3_sem14_0 : DmaSem sig := 120
abbrev cc3_sem14_1 : DmaSem sig := 121
abbrev cc3_sem15_0 : DmaSem sig := 122
abbrev cc3_sem15_1 : DmaSem sig := 123

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_7 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_8 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_9 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_10 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_17 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_18 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_19 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S1x64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x64x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x64x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x64x4096 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x64x4096 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x64x4096 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x64x4096 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_1 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_2 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_5 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_6 (i : grid1.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc1_transform_7 (i : grid1.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc1_transform_8 (i : grid1.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc1_transform_9 (i : grid1.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc1_transform_10 (i : grid1.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_17 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_18 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_19 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage1_0 : Fin 2 → Memref sig .tc .vmem S1x64x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x64x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x64x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x64x4096 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x64x4096 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x64x4096 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x64x4096 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x64x4096 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x64x4096 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x64x4096 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x64x4096 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 1 → Memref sig .tc .vmem S8x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S1x64x4096 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S1x64x4096 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S1x64x4096 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S1x64x4096 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev grid2 : Pipeline.Grid := ⟨1, ![8], ![false]⟩

def cc2_transform_0 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_1 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_2 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_4 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_5 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc2_transform_6 (i : grid2.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc2_transform_7 (i : grid2.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc2_transform_8 (i : grid2.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc2_transform_9 (i : grid2.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc2_transform_10 (i : grid2.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_17 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_18 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_19 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage2_0 : Fin 2 → Memref sig .tc .vmem S1x64x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x64x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x64x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x64x4096 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x64x4096 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x64x4096 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x64x4096 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x64x4096 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x64x4096 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S1x64x4096 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S1x64x4096 .bf16 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 1 → Memref sig .tc .vmem S8x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 2 → Memref sig .tc .vmem S1x64x4096 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev stage2_13 : Fin 2 → Memref sig .tc .vmem S1x64x4096 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev stage2_14 : Fin 2 → Memref sig .tc .vmem S1x64x4096 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

abbrev stage2_15 : Fin 2 → Memref sig .tc .vmem S1x64x4096 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

abbrev grid3 : Pipeline.Grid := ⟨1, ![8], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_4 (i : grid3.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc3_transform_5 (i : grid3.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc3_transform_6 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc3_transform_7 (i : grid3.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc3_transform_8 (i : grid3.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc3_transform_9 (i : grid3.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc3_transform_10 (i : grid3.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_16 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_17 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_18 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_19 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage3_0 : Fin 2 → Memref sig .tc .vmem S1x64x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x64x4096 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x64x4096 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x64x4096 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x64x4096 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x64x4096 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x64x4096 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x64x4096 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S1x64x4096 .bf16 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S1x64x4096 .bf16 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 2 → Memref sig .tc .vmem S1x64x4096 .bf16 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev stage3_11 : Fin 1 → Memref sig .tc .vmem S8x128 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 2 → Memref sig .tc .vmem S1x64x4096 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true]

abbrev stage3_13 : Fin 2 → Memref sig .tc .vmem S1x64x4096 .f32 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true]

abbrev stage3_14 : Fin 2 → Memref sig .tc .vmem S1x64x4096 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true]

abbrev stage3_15 : Fin 2 → Memref sig .tc .vmem S1x64x4096 .f32 := fun | 0 => Memref.whole cc3_stg15_0 | 1 => Memref.whole cc3_stg15_1 | ⟨_ + 2, h⟩ => absurd h (Nat.not_lt.2 (Nat.le_add_left _ _))
abbrev sem3_15 : Fin 2 → DmaSem sig := fun | 0 => cc3_sem15_0 | 1 => cc3_sem15_1 | ⟨_ + 2, h⟩ => absurd h (Nat.not_lt.2 (Nat.le_add_left _ _))
abbrev reads3_15 : Fin grid3.rank → Bool := ![true]
-- ==== AdamwOutRefIdeal.lean ====
abbrev S4x512x4096 : Shape := ⟨3, ![4, 512, 4096]⟩
abbrev S8x512x4096 : Shape := ⟨3, ![8, 512, 4096]⟩
abbrev S8x128 : Shape := ⟨2, ![8, 128]⟩
abbrev S_ : Shape := ⟨0, ![]⟩
abbrev S512x4096 : Shape := ⟨2, ![512, 4096]⟩
abbrev S1x512x4096 : Shape := ⟨3, ![1, 512, 4096]⟩

abbrev nBuf : Space → Nat
  | .hbm => 62
  | .vmem => 0
  | .smem => 0
  | _ => 0

abbrev bufTy : (tb : Table) → Fin (tcTables nBuf tb) → BufTy
  | .hbm, ⟨0, _⟩ => ⟨S4x512x4096, .f32⟩
  | .hbm, ⟨1, _⟩ => ⟨S4x512x4096, .f32⟩
  | .hbm, ⟨2, _⟩ => ⟨S4x512x4096, .f32⟩
  | .hbm, ⟨3, _⟩ => ⟨S8x512x4096, .bf16⟩
  | .hbm, ⟨4, _⟩ => ⟨S8x512x4096, .bf16⟩
  | .hbm, ⟨5, _⟩ => ⟨S8x512x4096, .bf16⟩
  | .hbm, ⟨6, _⟩ => ⟨S8x512x4096, .bf16⟩
  | .hbm, ⟨7, _⟩ => ⟨S8x128, .f32⟩
  | .hbm, ⟨8, _⟩ => ⟨S4x512x4096, .f32⟩
  | .hbm, ⟨9, _⟩ => ⟨S4x512x4096, .f32⟩
  | .hbm, ⟨10, _⟩ => ⟨S4x512x4096, .f32⟩
  | .hbm, ⟨11, _⟩ => ⟨S4x512x4096, .f32⟩
  | .hbm, ⟨12, _⟩ => ⟨S8x512x4096, .f32⟩
  | .hbm, ⟨13, _⟩ => ⟨S_, .f32⟩
  | .hbm, ⟨14, _⟩ => ⟨S512x4096, .f32⟩
  | .hbm, ⟨15, _⟩ => ⟨S8x512x4096, .f32⟩
  | .hbm, ⟨16, _⟩ => ⟨S_, .f32⟩
  | .hbm, ⟨17, _⟩ => ⟨S512x4096, .f32⟩
  | .hbm, ⟨18, _⟩ => ⟨S8x512x4096, .f32⟩
  | .hbm, ⟨19, _⟩ => ⟨S_, .f32⟩
  | .hbm, ⟨20, _⟩ => ⟨S512x4096, .f32⟩
  | .hbm, ⟨21, _⟩ => ⟨S8x512x4096, .f32⟩
  | .hbm, ⟨22, _⟩ => ⟨S_, .f32⟩
  | .hbm, ⟨23, _⟩ => ⟨S512x4096, .f32⟩
  | .hbm, ⟨24, _⟩ => ⟨S1x512x4096, .f32⟩
  | .hbm, ⟨25, _⟩ => ⟨S1x512x4096, .f32⟩
  | .hbm, ⟨26, _⟩ => ⟨S1x512x4096, .f32⟩
  | .hbm, ⟨27, _⟩ => ⟨S1x512x4096, .f32⟩
  | .hbm, ⟨28, _⟩ => ⟨S4x512x4096, .f32⟩
  | .hbm, ⟨29, _⟩ => ⟨S_, .f32⟩
  | .hbm, ⟨30, _⟩ => ⟨S4x512x4096, .f32⟩
  | .hbm, ⟨31, _⟩ => ⟨S4x512x4096, .f32⟩
  | .hbm, ⟨32, _⟩ => ⟨S_, .f32⟩
  | .hbm, ⟨33, _⟩ => ⟨S4x512x4096, .f32⟩
  | .hbm, ⟨34, _⟩ => ⟨S4x512x4096, .f32⟩
  | .hbm, ⟨35, _⟩ => ⟨S4x512x4096, .f32⟩
  | .hbm, ⟨36, _⟩ => ⟨S_, .f32⟩
  | .hbm, ⟨37, _⟩ => ⟨S4x512x4096, .f32⟩
  | .hbm, ⟨38, _⟩ => ⟨S4x512x4096, .f32⟩
  | .hbm, ⟨39, _⟩ => ⟨S4x512x4096, .f32⟩
  | .hbm, ⟨40, _⟩ => ⟨S_, .f32⟩
  | .hbm, ⟨41, _⟩ => ⟨S4x512x4096, .f32⟩
  | .hbm, ⟨42, _⟩ => ⟨S4x512x4096, .f32⟩
  | .hbm, ⟨43, _⟩ => ⟨S4x512x4096, .f32⟩
  | .hbm, ⟨44, _⟩ => ⟨S_, .f32⟩
  | .hbm, ⟨45, _⟩ => ⟨S4x512x4096, .f32⟩
  | .hbm, ⟨46, _⟩ => ⟨S4x512x4096, .f32⟩
  | .hbm, ⟨47, _⟩ => ⟨S_, .f32⟩
  | .hbm, ⟨48, _⟩ => ⟨S4x512x4096, .f32⟩
  | .hbm, ⟨49, _⟩ => ⟨S4x512x4096, .f32⟩
  | .hbm, ⟨50, _⟩ => ⟨S4x512x4096, .f32⟩
  | .hbm, ⟨51, _⟩ => ⟨S_, .f32⟩
  | .hbm, ⟨52, _⟩ => ⟨S4x512x4096, .f32⟩
  | .hbm, ⟨53, _⟩ => ⟨S4x512x4096, .f32⟩
  | .hbm, ⟨54, _⟩ => ⟨S4x512x4096, .f32⟩
  | .hbm, ⟨55, _⟩ => ⟨S_, .f32⟩
  | .hbm, ⟨56, _⟩ => ⟨S4x512x4096, .f32⟩
  | .hbm, ⟨57, _⟩ => ⟨S4x512x4096, .f32⟩
  | .hbm, ⟨58, _⟩ => ⟨S4x512x4096, .f32⟩
  | .hbm, ⟨59, _⟩ => ⟨S_, .f32⟩
  | .hbm, ⟨60, _⟩ => ⟨S4x512x4096, .f32⟩
  | .hbm, ⟨61, _⟩ => ⟨S4x512x4096, .f32⟩
  | _, _ => ⟨S4x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_v14 : Ref sig .tc := ⟨.hbm, 31, rfl⟩
abbrev main_cst_4 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_5 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_6 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_7 : Ref sig .tc := ⟨.hbm, 44, rfl⟩
abbrev main_v24 : Ref sig .tc := ⟨.hbm, 45, rfl⟩
abbrev main_v25 : Ref sig .tc := ⟨.hbm, 46, rfl⟩
abbrev main_cst_8 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_9 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_10 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_11 : Ref sig .tc := ⟨.hbm, 59, rfl⟩
abbrev main_v35 : Ref sig .tc := ⟨.hbm, 60, rfl⟩
abbrev main_v36 : Ref sig .tc := ⟨.hbm, 61, rfl⟩

abbrev nD : Nat := 1
abbrev τ : Topo := Topo.v7x

variable {F : FTy → Type} [FloatOps F]
-- ==== Proof.AttnMath.lean ====
module

public import Idealize.ShloMosaic.Lib.Pipeline.ValueKit
public import Mathlib.Analysis.SpecialFunctions.Log.Basic

/-! Softmax attention of one group of query heads over real numbers, its gradients, and the two ways of writing them
that the programs meet: with the saved log-sum-exp and the row sum of output times cotangent, and with the quotient
of the exponentials by their sum. -/

@[expose] public section

noncomputable section

namespace Cert.AttnMath

open Idealize.ShloMosaic

/-- A sum of reals, read as extended reals. -/
theorem coe_sum {n : ℕ} (f : Fin n → ℝ) : ((∑ i, f i : ℝ) : EReal) = ∑ i, (f i : EReal) :=
  map_sum (⟨⟨Real.toEReal, EReal.coe_zero⟩, EReal.coe_add⟩ : ℝ →+ EReal) f Finset.univ

/-- The running maximum from the least extended real is the greatest of the numbers. -/
theorem fold_max {n : ℕ} [NeZero n] (f : Fin n → ℝ) :
    Finset.univ.fold max (⊥ : EReal) (fun j => (f j : EReal)) = ((Finset.univ.sup' Finset.univ_nonempty f : ℝ) : EReal) := by
  show Finset.univ.sup (fun j => (f j : EReal)) = _
  rw [← Finset.sup'_eq_sup Finset.univ_nonempty]
  exact (Finset.comp_sup'_eq_sup'_comp Finset.univ_nonempty Real.toEReal fun _ _ => EReal.coe_strictMono.monotone.map_max).symm

variable (q ct : Fin 4 → Fin 4 → Fin 4096 → Fin 128 → ℝ) (k v : Fin 4 → Fin 4096 → Fin 128 → ℝ)

/-- The score of a query row of head `g` of group `kv` against a key row of that group. -/
def score (a b : Fin 4) (r j : Fin 4096) : ℝ := ∑ d, q a b r d * k a j d
/-- The greatest score of a row. -/
def top (a b : Fin 4) (r : Fin 4096) : ℝ := Finset.univ.sup' Finset.univ_nonempty (score q k a b r)
/-- The exponential of a score, measured from the row's greatest. -/
def weight (a b : Fin 4) (r j : Fin 4096) : ℝ := Real.exp (score q k a b r j - top q k a b r)
/-- The sum of a row's exponentials. -/
def mass (a b : Fin 4) (r : Fin 4096) : ℝ := ∑ j, weight q k a b r j
/-- The log-sum-exp of a row. -/
def lse (a b : Fin 4) (r : Fin 4096) : ℝ := top q k a b r + Real.log (mass q k a b r)
/-- The attention of a row to a key. -/
def prob (a b : Fin 4) (r j : Fin 4096) : ℝ := weight q k a b r j / mass q k a b r
/-- The attention's output. -/
def out (a b : Fin 4) (r : Fin 4096) (d : Fin 128) : ℝ := ∑ j, prob q k a b r j * v a j d
/-- The cotangent of the attention. -/
def dprob (a b : Fin 4) (r j : Fin 4096) : ℝ := ∑ d, ct a b r d * v a j d
/-- The row's sum of cotangent times output. -/
def delta (a b : Fin 4) (r : Fin 4096) : ℝ := ∑ d, ct a b r d * out q k v a b r d
/-- The cotangent of the scores. -/
def dscore (a b : Fin 4) (r j : Fin 4096) : ℝ := prob q k a b r j * (dprob ct v a b r j - delta q ct k v a b r)
/-- The gradient of the queries. -/
def dq (a b : Fin 4) (r : Fin 4096) (d : Fin 128) : ℝ := ∑ j, dscore q ct k v a b r j * k a j d
/-- The gradient of the keys: summed over the group's heads and the rows. -/
def dk (a : Fin 4) (j : Fin 4096) (d : Fin 128) : ℝ := ∑ b, ∑ r, dscore q ct k v a b r j * q a b r d
/-- The gradient of the values. -/
def dv (a : Fin 4) (j : Fin 4096) (d : Fin 128) : ℝ := ∑ b, ∑ r, prob q k a b r j * ct a b r d

theorem mass_pos (a b : Fin 4) (r : Fin 4096) : 0 < mass q k a b r :=
  Finset.sum_pos (fun _ _ => Real.exp_pos _) Finset.univ_nonempty

/-- The exponential of a score measured from the log-sum-exp is the attention. -/
theorem exp_sub_lse (a b : Fin 4) (r j : Fin 4096) :
    Real.exp (score q k a b r j - lse q k a b r) = prob q k a b r j := by
  rw [prob, weight, lse, ← sub_sub, Real.exp_sub (_ - _), Real.exp_log (mass_pos q k a b r)]

/-- The row's sum of cotangent times output is its sum of attention times the attention's cotangent. -/
theorem delta_eq (a b : Fin 4) (r : Fin 4096) : delta q ct k v a b r = ∑ j, prob q k a b r j * dprob ct v a b r j := by
  simp only [delta, out, dprob, Finset.mul_sum]
  rw [Finset.sum_comm]
  exact Finset.sum_congr rfl fun j _ => Finset.sum_congr rfl fun d _ => by ring

/-- The derivative of the quotient of the exponentials by their sum. -/
theorem dscore_quotient (a b : Fin 4) (r j : Fin 4096) :
    (dprob ct v a b r j / mass q k a b r
        + -∑ l, dprob ct v a b r l * (1 / (mass q k a b r * mass q k a b r)) * weight q k a b r l) * weight q k a b r j =
      dscore q ct k v a b r j := by
  have hm := (mass_pos q k a b r).ne'
  rw [dscore, delta_eq]
  have : ∑ l, dprob ct v a b r l * (1 / (mass q k a b r * mass q k a b r)) * weight q k a b r l =
      (∑ l, prob q k a b r l * dprob ct v a b r l) / mass q k a b r := by
    rw [Finset.sum_div]
    exact Finset.sum_congr rfl fun l _ => by rw [prob]; field_simp
  rw [this]
  generalize ∑ l, prob q k a b r l * dprob ct v a b r l = T
  rw [prob]
  field_simp
  ring

/-- The pattern of the negative infinity. -/
theorem negInf : Ideal.ofBits .f32 0xFF800000#32 = ⊥ := by simp [Ideal.ofBits, Ideal.ieee]

/-- The greatest score of a row, as the programs fold it. -/
theorem fold_top (a b : Fin 4) (r : Fin 4096) :
    Finset.univ.fold max (Ideal.ofBits .f32 0xFF800000#32) (fun j => (score q k a b r j : EReal)) =
      (top q k a b r : EReal) := by
  rw [negInf, fold_max, top]

theorem max_fold_top (a b : Fin 4) (r : Fin 4096) :
    max (Ideal.ofBits .f32 0xFF800000#32)
      (Finset.univ.fold max (Ideal.ofBits .f32 0xFF800000#32) fun j => (score q k a b r j : EReal)) =
      (top q k a b r : EReal) := by
  rw [fold_top, negInf]
  exact max_eq_right bot_le

/-- A quotient of reals with a nonzero divisor, read as extended reals. -/
theorem div_real {x y : ℝ} (h : y ≠ 0) : Ideal.div (x : EReal) (y : EReal) = ((x / y : ℝ) : EReal) := by
  rw [Ideal.div_coe h, ← EReal.coe_mul, mul_one_div]

/-- A product summed, of arrays of reals. -/
theorem sum_mul {n : ℕ} {f g : Fin n → EReal} {f' g' : Fin n → ℝ} (hf : ∀ i, f i = (f' i : EReal))
    (hg : ∀ i, g i = (g' i : EReal)) : ∑ i, f i * g i = ((∑ i, f' i * g' i : ℝ) : EReal) := by
  rw [coe_sum]
  exact Finset.sum_congr rfl fun i _ => by rw [hf, hg, EReal.coe_mul]

/-- A sum of reals. -/
theorem sum_real {n : ℕ} {f : Fin n → EReal} {f' : Fin n → ℝ} (hf : ∀ i, f i = (f' i : EReal)) :
    ∑ i, f i = ((∑ i, f' i : ℝ) : EReal) := by
  rw [coe_sum]
  exact Finset.sum_congr rfl fun i _ => hf i

/-- An array of query width, as numbers: the lane of a head of a group. -/
def headed (x : (⟨2, ![4096, 2048]⟩ : Shape).Idx → EReal) (a b : Fin 4) (r : Fin 4096) (d : Fin 128) : ℝ :=
  (x (ix2 r ⟨(a : ℕ) * 512 + (b : ℕ) * 128 + (d : ℕ), by omega⟩)).toReal

/-- An array of key width, as numbers: the lane of a group. -/
def grouped (x : (⟨2, ![4096, 512]⟩ : Shape).Idx → EReal) (a : Fin 4) (r : Fin 4096) (d : Fin 128) : ℝ :=
  (x (ix2 r ⟨(a : ℕ) * 128 + (d : ℕ), by omega⟩)).toReal

/-- Every element of an array is a number. -/
def Num {s : Shape} (x : s.Idx → EReal) : Prop := ∀ i, x i = ((x i).toReal : EReal)

end Cert.AttnMath

end
-- ==== Proof.AttnSaved.lean ====
module

public import proofs.«01_k».proof.Proof.Gen.AttnFwdRefIdeal.Read
public import proofs.«01_k».proof.Proof.AttnMath

/-! What the forward pass saves, for arguments that are numbers: the attention's output, and each row's log-sum-exp
repeated along its head's lanes. -/

@[expose] public section

set_option maxRecDepth 16384

noncomputable section

namespace Cert.AttnFwdRefIdeal.Attn

open Idealize.ShloMosaic Idealize.ShloMosaic.TcCoe Idealize.SL.Sem
open Cert.AttnFwdRefIdeal Cert.AttnFwdRefIdeal.Read Cert.AttnMath

variable {x0 : FVec Ideal S4096x2048 .bf16} {x1 x2 : FVec Ideal S4096x512 .bf16}

/-- The scores the log-sum-exp is taken of. -/
theorem scores (h0 : Num x0) (h1 : Num x1) (a b : Fin 4) (r j : Fin 4096) :
    val_main_v7 (F := Ideal) x0 x1 (ix4 a b r j) = (score (headed x0) (grouped x1) a b r j : EReal) := by
  pointwise [val_main_v7, val_main_v4, val_main_v3, val_main_v0, val_main_v6, val_main_v5, val_main_v1]
  exact sum_mul (fun _ => h0 _) fun _ => h1 _

theorem folds (a b : Fin 4) (r : Fin 4096) :
    val_main_v8 (F := Ideal) x0 x1 (ix3 a b r) =
      Finset.univ.fold max (Ideal.ofBits .f32 0xFF800000#32)
        (fun j : Fin 4096 => (val_main_v7 (F := Ideal) x0 x1 (ix4 a b r j) : EReal)) := by
  pointwise [val_main_v8, val_main_cst]

/-- The greatest score of a row. -/
theorem tops (h0 : Num x0) (h1 : Num x1) (a b : Fin 4) (r : Fin 4096) :
    val_main_v8 (F := Ideal) x0 x1 (ix3 a b r) = (top (headed x0) (grouped x1) a b r : EReal) := by
  rw [folds]
  simp only [scores h0 h1]
  exact fold_top _ _ a b r

theorem masses (h0 : Num x0) (h1 : Num x1) (a b : Fin 4) (r : Fin 4096) :
    val_main_v13 (F := Ideal) x0 x1 (ix3 a b r) = (mass (headed x0) (grouped x1) a b r : EReal) := by
  pointwise [val_main_v13, val_main_cst_0, val_main_v12, val_main_v11, val_main_v10, val_main_v9, scores h0 h1, tops h0 h1]
  exact sum_real fun _ => by rw [← EReal.coe_sub, Ideal.exp_coe]; rfl

theorem lses (h0 : Num x0) (h1 : Num x1) (a b : Fin 4) (r : Fin 4096) :
    val_main_v15 (F := Ideal) x0 x1 (ix3 a b r) = (lse (headed x0) (grouped x1) a b r : EReal) := by
  rw [val_main_v15_apply, val_main_v14_apply, masses h0 h1, tops h0 h1]
  show ((top (headed x0) (grouped x1) a b r : ℝ) : EReal) + Ideal.log ((mass (headed x0) (grouped x1) a b r : ℝ) : EReal) = _
  rw [Ideal.log_coe, if_neg (not_le.2 (mass_pos _ _ a b r)), ← EReal.coe_add, lse]

/-- The saved log-sum-exp. -/
theorem saved_lse (h0 : Num x0) (h1 : Num x1) (r : Fin 4096) (l : Fin 2048) :
    val_main_v41 (F := Ideal) x0 x1 (ix2 r l) =
      (lse (headed x0) (grouped x1) ⟨(l : ℕ) / 512, by omega⟩ ⟨(l : ℕ) / 128 % 4, by omega⟩ r : EReal) := by
  pointwise [val_main_v41, val_main_v40, val_main_v39, val_main_v16, lses h0 h1]

/-- The scores the output is made from. -/
theorem scores' (h0 : Num x0) (h1 : Num x1) (a b : Fin 4) (r j : Fin 4096) :
    val_main_v23 (F := Ideal) x0 x1 (ix4 a b r j) = (score (headed x0) (grouped x1) a b r j : EReal) := by
  pointwise [val_main_v23, val_main_v18, val_main_v17, val_main_v0, val_main_v20, val_main_v19, val_main_v1]
  exact sum_mul (fun _ => h0 _) fun _ => h1 _

theorem folds' (a b : Fin 4) (r : Fin 4096) :
    val_main_v24 (F := Ideal) x0 x1 (ix3 a b r) =
      Finset.univ.fold max (Ideal.ofBits .f32 0xFF800000#32)
        (fun j : Fin 4096 => (val_main_v23 (F := Ideal) x0 x1 (ix4 a b r j) : EReal)) := by
  pointwise [val_main_v24, val_main_cst_1]

theorem tops' (h0 : Num x0) (h1 : Num x1) (a b : Fin 4) (r : Fin 4096) :
    val_main_v26 (F := Ideal) x0 x1 (ix3 a b r) = (top (headed x0) (grouped x1) a b r : EReal) := by
  rw [val_main_v26_apply, val_main_v25_apply, val_main_cst_2_apply, folds']
  simp only [scores' h0 h1]
  exact max_fold_top _ _ a b r

theorem weights' (h0 : Num x0) (h1 : Num x1) (a b : Fin 4) (r j : Fin 4096) :
    val_main_v30 (F := Ideal) x0 x1 (ix4 a b r j) = (weight (headed x0) (grouped x1) a b r j : EReal) := by
  pointwise [val_main_v30, val_main_v29, val_main_v28, val_main_v27, scores' h0 h1, tops' h0 h1]
  rw [← EReal.coe_sub, Ideal.exp_coe]
  rfl

theorem masses' (h0 : Num x0) (h1 : Num x1) (a b : Fin 4) (r : Fin 4096) :
    val_main_v31 (F := Ideal) x0 x1 (ix3 a b r) = (mass (headed x0) (grouped x1) a b r : EReal) := by
  pointwise [val_main_v31, val_main_cst_3]
  exact sum_real fun _ => weights' h0 h1 a b r _

theorem probs (h0 : Num x0) (h1 : Num x1) (a b : Fin 4) (r j : Fin 4096) :
    val_main_v34 (F := Ideal) x0 x1 (ix4 a b r j) = (prob (headed x0) (grouped x1) a b r j : EReal) := by
  pointwise [val_main_v34, val_main_v33, val_main_v32, weights' h0 h1, masses' h0 h1]
  exact div_real (mass_pos _ _ a b r).ne'

/-- The saved output. -/
theorem saved_out (h0 : Num x0) (h1 : Num x1) (h2 : Num x2) (r : Fin 4096) (l : Fin 2048) :
    val_main_v38 (F := Ideal) x0 x1 x2 (ix2 r l) =
      (out (headed x0) (grouped x1) (grouped x2) ⟨(l : ℕ) / 512, by omega⟩ ⟨(l : ℕ) / 128 % 4, by omega⟩ r
        ⟨(l : ℕ) % 128, by omega⟩ : EReal) := by
  pointwise [val_main_v38, val_main_v37, val_main_v36, val_main_v35, val_main_v22, val_main_v21, val_main_v2]
  exact sum_mul (fun _ => probs h0 h1 _ _ _ _) fun _ => h2 _

end Cert.AttnFwdRefIdeal.Attn

end
-- ==== Proof.AttnHost.lean ====
module

public import proofs.«01_k».proof.Proof.Gen.KernelIdeal.Value
public import proofs.«01_k».proof.Proof.AttnSaved
public import Idealize.ShloMosaic.Lib.Pipeline.ValueKit
public import Idealize.ShloMosaic.Lib.Claim

/-! What the blocks of the attention gradient's inputs hold: the saved output and log-sum-exp computed before the call,
and every block's element as the number it is. -/

@[expose] public section

set_option maxRecDepth 16384

noncomputable section

namespace Cert.KernelIdeal.Attn

open Idealize.ShloMosaic Idealize.ShloMosaic.TcCoe Idealize.SL.Sem
open Cert.KernelIdeal Cert.KernelIdeal.Gen Cert.AttnMath

variable (m : (ℓ : Loc nD τ sig) → Buf (Elt Ideal) ℓ) (c : Dev nD)

set_option maxHeartbeats 1600000 in
/-- The saved log-sum-exp, as the call finds it. -/
theorem V_lse : V m c main_v41 = Cert.AttnFwdRefIdeal.Read.val_main_v41 (F := Ideal)
    (m ((c.tc : Thread nD τ).loc main_arg0)) (m ((c.tc : Thread nD τ).loc main_arg1)) := by
  entry_read
  exact Cert.AttnFwdRefIdeal.Read.val_main_v41_eq _ _

set_option maxHeartbeats 1600000 in
/-- The saved output, as the call finds it. -/
theorem V_out : V m c main_v38 = Cert.AttnFwdRefIdeal.Read.val_main_v38 (F := Ideal)
    (m ((c.tc : Thread nD τ).loc main_arg0)) (m ((c.tc : Thread nD τ).loc main_arg1)) (m ((c.tc : Thread nD τ).loc main_arg2)) := by
  entry_read
  exact Cert.AttnFwdRefIdeal.Read.val_main_v38_eq _ _ _

/-- The four arguments hold numbers. -/
structure Finite : Prop where
  q : Num (s := S4096x2048) (m ((c.tc : Thread nD τ).loc main_arg0))
  k : Num (s := S4096x512) (m ((c.tc : Thread nD τ).loc main_arg1))
  v : Num (s := S4096x512) (m ((c.tc : Thread nD τ).loc main_arg2))
  g : Num (s := S4096x2048) (m ((c.tc : Thread nD τ).loc main_arg3))

/-- The queries, keys, values and the cotangent, as numbers. -/
def Q : Fin 4 → Fin 4 → Fin 4096 → Fin 128 → ℝ := headed (m ((c.tc : Thread nD τ).loc main_arg0))
def K : Fin 4 → Fin 4096 → Fin 128 → ℝ := grouped (m ((c.tc : Thread nD τ).loc main_arg1))
def W : Fin 4 → Fin 4096 → Fin 128 → ℝ := grouped (m ((c.tc : Thread nD τ).loc main_arg2))
def C : Fin 4 → Fin 4 → Fin 4096 → Fin 128 → ℝ := headed (m ((c.tc : Thread nD τ).loc main_arg3))

/-- The group, the head and the row a point is at. -/
def grp (t : Fin cfg0.N) : Fin 4 := ⟨(t : ℕ) / 16, by have := lt_of_lt_of_eq t.isLt (show cfg0.N = 64 from N_0); omega⟩
def hd (t : Fin cfg0.N) : Fin 4 := ⟨(t : ℕ) / 4 % 4, by omega⟩
def row (t : Fin cfg0.N) (r : Fin 1024) : Fin 4096 := ⟨(t : ℕ) % 4 * 1024 + (r : ℕ), by omega⟩

set_option maxHeartbeats 1600000 in
theorem idx : ∀ t : Fin cfg0.N, win0_0.index t = ![(t : ℕ) % 4, (t : ℕ) / 4] ∧ win0_1.index t = ![0, (t : ℕ) / 16] ∧
    win0_2.index t = ![0, (t : ℕ) / 16] ∧ win0_3.index t = ![(t : ℕ) % 4, (t : ℕ) / 4] ∧
    win0_4.index t = ![(t : ℕ) % 4, (t : ℕ) / 4] ∧ win0_5.index t = ![(t : ℕ) % 4, (t : ℕ) / 4] ∧
    win0_6.index t = ![(t : ℕ) % 4, (t : ℕ) / 4] ∧ win0_7.index t = ![0, (t : ℕ) / 16] ∧ win0_8.index t = ![0, (t : ℕ) / 16] :=
  (by decide +kernel : ∀ t : Fin grid0.N, _)

/-- The head of a lane, back from the lane. -/
theorem lane_grp (a b : Fin 4) (d : Fin 128) (h) : (⟨((a : ℕ) * 512 + (b : ℕ) * 128 + (d : ℕ)) / 512, h⟩ : Fin 4) = a :=
  Fin.ext (show ((a : ℕ) * 512 + (b : ℕ) * 128 + (d : ℕ)) / 512 = (a : ℕ) by omega)
theorem lane_hd (a b : Fin 4) (d : Fin 128) (h) : (⟨((a : ℕ) * 512 + (b : ℕ) * 128 + (d : ℕ)) / 128 % 4, h⟩ : Fin 4) = b :=
  Fin.ext (show ((a : ℕ) * 512 + (b : ℕ) * 128 + (d : ℕ)) / 128 % 4 = (b : ℕ) by omega)
theorem lane_d (a b : Fin 4) (d : Fin 128) (h) : (⟨((a : ℕ) * 512 + (b : ℕ) * 128 + (d : ℕ)) % 128, h⟩ : Fin 128) = d :=
  Fin.ext (show ((a : ℕ) * 512 + (b : ℕ) * 128 + (d : ℕ)) % 128 = (d : ℕ) by omega)

variable {m c} (H : Finite m c) (t : Fin cfg0.N)
include H

theorem blk_q (r : Fin 1024) (d : Fin 128) : (show FVec Ideal S1024x128 .bf16 from iblk m c 0 t) (ix2 r d) = (Q m c (grp t) (hd t) (row t r) d : EReal) := by
  refine Eq.trans ?_ (H.q (ix2 (row t r) ⟨(grp t : ℕ) * 512 + (hd t : ℕ) * 128 + (d : ℕ), by omega⟩))
  have ht := lt_of_lt_of_eq t.isLt (show cfg0.N = 64 from N_0)
  blk_ext [iblk, V, idx t, grp, hd, row]

theorem blk_g (r : Fin 1024) (d : Fin 128) : (show FVec Ideal S1024x128 .bf16 from iblk m c 4 t) (ix2 r d) = (C m c (grp t) (hd t) (row t r) d : EReal) := by
  refine Eq.trans ?_ (H.g (ix2 (row t r) ⟨(grp t : ℕ) * 512 + (hd t : ℕ) * 128 + (d : ℕ), by omega⟩))
  have ht := lt_of_lt_of_eq t.isLt (show cfg0.N = 64 from N_0)
  blk_ext [iblk, V, idx t, grp, hd, row]

theorem blk_k (j : Fin 4096) (d : Fin 128) : (show FVec Ideal S4096x128 .bf16 from iblk m c 1 t) (ix2 j d) = (K m c (grp t) j d : EReal) := by
  refine Eq.trans ?_ (H.k (ix2 j ⟨(grp t : ℕ) * 128 + (d : ℕ), by omega⟩))
  blk_ext [iblk, V, idx t, grp]

theorem blk_v (j : Fin 4096) (d : Fin 128) : (show FVec Ideal S4096x128 .bf16 from iblk m c 2 t) (ix2 j d) = (W m c (grp t) j d : EReal) := by
  refine Eq.trans ?_ (H.v (ix2 j ⟨(grp t : ℕ) * 128 + (d : ℕ), by omega⟩))
  blk_ext [iblk, V, idx t, grp]

omit H in
/-- A head's row of a block, in the array. -/
theorem emb_o (r : Fin 1024) (d : Fin 128) : ((cfg0.win 3).blk t).view.emb (ix2 r d) =
    (ix2 (row t r) ⟨(grp t : ℕ) * 512 + (hd t : ℕ) * 128 + (d : ℕ), by omega⟩ : S4096x2048.Idx) := by
  have ht := lt_of_lt_of_eq t.isLt (show cfg0.N = 64 from N_0)
  blk_ext [idx t, grp, hd, row]

omit H in
theorem emb_l (r : Fin 1024) (d : Fin 128) : ((cfg0.win 5).blk t).view.emb (ix2 r d) =
    (ix2 (row t r) ⟨(grp t : ℕ) * 512 + (hd t : ℕ) * 128 + (d : ℕ), by omega⟩ : S4096x2048.Idx) := by
  have ht := lt_of_lt_of_eq t.isLt (show cfg0.N = 64 from N_0)
  blk_ext [idx t, grp, hd, row]

omit H in
/-- A block of the saved output, read off its array, whatever the arrays hold. -/
theorem read_o (Z : (b : Ref sig .tc) → Buf (Elt Ideal) ((c.tc : Thread nD τ).loc b)) (y : S1024x128.Idx) :
    (show FVec Ideal S1024x128 .bf16 from ((cfg0.win 3).blk t).view.read (Elt Ideal) (Z (Pipeline.arrRef spec0 3))) y =
    (show FVec Ideal S4096x2048 .bf16 from Z main_v38) (((cfg0.win 3).blk t).view.emb y) :=
  rfl

omit H in
/-- A block of the saved log-sum-exp, likewise. -/
theorem read_l (Z : (b : Ref sig .tc) → Buf (Elt Ideal) ((c.tc : Thread nD τ).loc b)) (y : S1024x128.Idx) :
    (show FVec Ideal S1024x128 .f32 from ((cfg0.win 5).blk t).view.read (Elt Ideal) (Z (Pipeline.arrRef spec0 5))) y =
    (show FVec Ideal S4096x2048 .f32 from Z main_v41) (((cfg0.win 5).blk t).view.emb y) :=
  rfl

omit t in
/-- The saved output is the output of the attention. -/
theorem host_o (a b : Fin 4) (r : Fin 4096) (d : Fin 128) :
    (show FVec Ideal S4096x2048 .bf16 from V m c main_v38) (ix2 r ⟨(a : ℕ) * 512 + (b : ℕ) * 128 + (d : ℕ), by omega⟩) =
    (out (Q m c) (K m c) (W m c) a b r d : EReal) := by
  have e := Cert.AttnFwdRefIdeal.Attn.saved_out H.q H.k H.v r ⟨(a : ℕ) * 512 + (b : ℕ) * 128 + (d : ℕ), by omega⟩
  rw [lane_grp, lane_hd, lane_d] at e
  exact (congrFun (V_out m c) _).trans e

omit t in
/-- The saved log-sum-exp is the log-sum-exp of the scores. -/
theorem host_l (a b : Fin 4) (r : Fin 4096) (d : Fin 128) :
    (show FVec Ideal S4096x2048 .f32 from V m c main_v41) (ix2 r ⟨(a : ℕ) * 512 + (b : ℕ) * 128 + (d : ℕ), by omega⟩) =
    (lse (Q m c) (K m c) a b r : EReal) := by
  have e := Cert.AttnFwdRefIdeal.Attn.saved_lse H.q H.k r ⟨(a : ℕ) * 512 + (b : ℕ) * 128 + (d : ℕ), by omega⟩
  rw [lane_grp, lane_hd] at e
  exact (congrFun (V_lse m c) _).trans e

theorem blk_o (r : Fin 1024) (d : Fin 128) : (show FVec Ideal S1024x128 .bf16 from iblk m c 3 t) (ix2 r d) =
    (out (Q m c) (K m c) (W m c) (grp t) (hd t) (row t r) d : EReal) := by
  unfold iblk
  refine (read_o t (V m c) (ix2 r d)).trans ?_
  rw [emb_o]
  exact host_o H (grp t) (hd t) (row t r) d

theorem blk_l (r : Fin 1024) (d : Fin 128) : (show FVec Ideal S1024x128 .f32 from iblk m c 5 t) (ix2 r d) =
    (lse (Q m c) (K m c) (grp t) (hd t) (row t r) : EReal) := by
  unfold iblk
  refine (read_l t (V m c) (ix2 r d)).trans ?_
  rw [emb_l]
  exact host_l H (grp t) (hd t) (row t r) d

end Cert.KernelIdeal.Attn

end
-- ==== Proof.AttnRows.lean ====
module

public import proofs.«01_k».proof.Proof.Gen.KernelIdeal.Skeleton
public import proofs.«01_k».proof.Proof.AttnMath
public import Idealize.ShloMosaic.Lib.Pipeline.ValueKit

/-! What the attention gradient computes from 256 rows of the queries: the attention, the cotangent of the scores and
the gradient of the queries, over numbers. -/

@[expose] public section

set_option maxRecDepth 16384

noncomputable section

namespace Cert.KernelIdeal.Attn

open Idealize.ShloMosaic Idealize.ShloMosaic.TcCoe Idealize.SL.Sem
open Cert.KernelIdeal Cert.KernelIdeal.Gen Cert.AttnMath

variable {K V : FVec Ideal S4096x128 .bf16} {x g o : FVec Ideal S256x128 .bf16} {l : FVec Ideal S256x1 .f32}
variable {q ct : Fin 4 → Fin 4 → Fin 4096 → Fin 128 → ℝ} {k v : Fin 4 → Fin 4096 → Fin 128 → ℝ} {a b : Fin 4} {R : Fin 256 → Fin 4096}

/-- The attention of a row of the block. -/
theorem row_prob (hK : ∀ j d, K (ix2 j d) = (k a j d : EReal)) (hx : ∀ r d, x (ix2 r d) = (q a b (R r) d : EReal))
    (hl : ∀ r d, l (ix2 r d) = (lse q k a b (R r) : EReal)) (r : Fin 256) (j : Fin 4096) :
    k0_pay2 (F := Ideal) K x l (ix2 r j) = (prob q k a b (R r) j : EReal) := by
  pointwise [k0_pay2]
  rw [sum_mul (fun d => hx r d) (fun d => hK j d), hl, ← EReal.coe_sub, Ideal.exp_coe, ← exp_sub_lse]
  rfl

/-- The cotangent of the scores of a row of the block. -/
theorem row_dscore (hK : ∀ j d, K (ix2 j d) = (k a j d : EReal)) (hV : ∀ j d, V (ix2 j d) = (v a j d : EReal))
    (hx : ∀ r d, x (ix2 r d) = (q a b (R r) d : EReal)) (hg : ∀ r d, g (ix2 r d) = (ct a b (R r) d : EReal))
    (hl : ∀ r d, l (ix2 r d) = (lse q k a b (R r) : EReal)) (ho : ∀ r d, o (ix2 r d) = (out q k v a b (R r) d : EReal))
    (r : Fin 256) (j : Fin 4096) :
    k0_pay3 (F := Ideal) K V x g l o (ix2 r j) = (dscore q ct k v a b (R r) j : EReal) := by
  pointwise [k0_pay3]
  rw [row_prob hK hx hl, sum_mul (fun d => hg r d) (fun d => hV j d), sum_mul (fun d => hg r d) (fun d => ho r d),
    ← EReal.coe_sub, ← EReal.coe_mul]
  rfl

/-- The gradient of the queries of a row of the block. -/
theorem row_dq (hK : ∀ j d, K (ix2 j d) = (k a j d : EReal)) (hV : ∀ j d, V (ix2 j d) = (v a j d : EReal))
    (hx : ∀ r d, x (ix2 r d) = (q a b (R r) d : EReal)) (hg : ∀ r d, g (ix2 r d) = (ct a b (R r) d : EReal))
    (hl : ∀ r d, l (ix2 r d) = (lse q k a b (R r) : EReal)) (ho : ∀ r d, o (ix2 r d) = (out q k v a b (R r) d : EReal))
    (r : Fin 256) (d : Fin 128) :
    k0_pay4 (F := Ideal) K V x g l o (ix2 r d) = (dq q ct k v a b (R r) d : EReal) := by
  pointwise [k0_pay4]
  exact sum_mul (fun j => row_dscore hK hV hx hg hl ho r j) (fun j => hK j d)

/-- The stores of the four row blocks are of the same three computations. -/
theorem stored_prob (K : FVec Ideal S4096x128 .bf16) (x : FVec Ideal S256x128 .bf16) (l : FVec Ideal S256x1 .f32) (i : S256x4096.Idx) :
    k0_pay5 (F := Ideal) K x l i = k0_pay2 (F := Ideal) K x l i ∧ k0_pay10 (F := Ideal) K x l i = k0_pay2 (F := Ideal) K x l i ∧
      k0_pay16 (F := Ideal) (k0_pay12 (F := Ideal) K x) l i = k0_pay2 (F := Ideal) K x l i ∧ k0_pay23 (F := Ideal) (k0_pay18 (F := Ideal) K x l) i = k0_pay2 (F := Ideal) K x l i := by
  refine ⟨?_, ?_, ?_, ?_⟩
  · pointwise [k0_pay5]
  · pointwise [k0_pay10]; rfl
  · pointwise [k0_pay16]; rfl
  · pointwise [k0_pay23]; rfl

theorem stored_dscore (K V : FVec Ideal S4096x128 .bf16) (x g o : FVec Ideal S256x128 .bf16) (l : FVec Ideal S256x1 .f32) (i : S256x4096.Idx) :
    k0_pay6 (F := Ideal) K V x g l o i = k0_pay3 (F := Ideal) K V x g l o i ∧ k0_pay11 (F := Ideal) K V x g l o i = k0_pay3 (F := Ideal) K V x g l o i ∧
      k0_pay17 (F := Ideal) V g (k0_pay12 (F := Ideal) K x) l o i = k0_pay3 (F := Ideal) K V x g l o i ∧
      k0_pay24 (F := Ideal) (k0_pay18 (F := Ideal) K x l) (k0_pay19 (F := Ideal) V g) (k0_pay20 (F := Ideal) g) o i = k0_pay3 (F := Ideal) K V x g l o i := by
  refine ⟨?_, ?_, ?_, ?_⟩
  · pointwise [k0_pay6]
  · pointwise [k0_pay11]; rfl
  · pointwise [k0_pay17]; rfl
  · pointwise [k0_pay24]; rfl

theorem stored_dq (K V : FVec Ideal S4096x128 .bf16) (x g o : FVec Ideal S256x128 .bf16) (l : FVec Ideal S256x1 .f32) :
    k0_pay9 (F := Ideal) K V x g l o = k0_pay4 (F := Ideal) K V x g l o ∧
      k0_pay15 (F := Ideal) K V g (k0_pay12 (F := Ideal) K x) l o = k0_pay4 (F := Ideal) K V x g l o ∧
      k0_pay22 (F := Ideal) K (k0_pay18 (F := Ideal) K x l) (k0_pay19 (F := Ideal) V g) (k0_pay20 (F := Ideal) g) o = k0_pay4 (F := Ideal) K V x g l o :=
  ⟨rfl, rfl, rfl⟩

end Cert.KernelIdeal.Attn

end
-- ==== Proof.AttnQueries.lean ====
module

public import proofs.«01_k».proof.Proof.AttnHost
public import proofs.«01_k».proof.Proof.AttnRows

/-! The gradient of the queries: what each point stores of it, and the whole array. -/

@[expose] public section

set_option maxRecDepth 16384

noncomputable section

namespace Cert.KernelIdeal.Attn

open Idealize.ShloMosaic Idealize.ShloMosaic.TcCoe Idealize.SL.Sem
open Cert.KernelIdeal Cert.KernelIdeal.Gen Cert.AttnMath

/-- 256 rows of a block of the queries, keys, …: their rows in the array. -/
def rows (t : Fin cfg0.N) (o : ℕ) (ho : o + 256 ≤ 1024) (r : Fin 256) : Fin 4096 := row t ⟨o + (r : ℕ), by omega⟩

variable {m : (ℓ : Loc nD τ sig) → Buf (Elt Ideal) ℓ} {c : Dev nD} (H : Finite m c) (t : Fin cfg0.N)
include H

/-- What 256 rows of the four row inputs are, wherever they are read. -/
theorem piece_dq {x g o : FVec Ideal S256x128 .bf16} {l : FVec Ideal S256x1 .f32} {n : ℕ} (hn : n + 256 ≤ 1024)
    (hx : ∀ r d, x (ix2 r d) = (show FVec Ideal S1024x128 .bf16 from iblk m c 0 t) (ix2 ⟨n + (r : ℕ), by omega⟩ d))
    (hg : ∀ r d, g (ix2 r d) = (show FVec Ideal S1024x128 .bf16 from iblk m c 4 t) (ix2 ⟨n + (r : ℕ), by omega⟩ d))
    (hl : ∀ r d, l (ix2 r d) = (show FVec Ideal S1024x128 .f32 from iblk m c 5 t) (ix2 ⟨n + (r : ℕ), by omega⟩ 0))
    (ho : ∀ r d, o (ix2 r d) = (show FVec Ideal S1024x128 .bf16 from iblk m c 3 t) (ix2 ⟨n + (r : ℕ), by omega⟩ d))
    (r : Fin 256) (d : Fin 128) :
    k0_pay4 (F := Ideal) (iblk m c 1 t) (iblk m c 2 t) x g l o (ix2 r d) =
      (dq (Q m c) (C m c) (K m c) (W m c) (grp t) (hd t) (rows t n hn r) d : EReal) :=
  row_dq (R := rows t n hn) (blk_k H t) (blk_v H t) (fun r d => (hx r d).trans (blk_q H t _ _))
    (fun r d => (hg r d).trans (blk_g H t _ _)) (fun r d => (hl r d).trans (blk_l H t _ _))
    (fun r d => (ho r d).trans (blk_o H t _ _)) r d

theorem point_dq (x : S1024x128.Idx) : (outsAt0 m c t.val t.isLt).1 x =
    (dq (Q m c) (C m c) (K m c) (W m c) (grp t) (hd t) (row t (x 0)) (x 1) : EReal) := by
  have hN := lt_of_lt_of_eq t.isLt (show cfg0.N = 64 from N_0)
  by_cases c0 : t.val % 16 = 0 <;> by_cases c1 : 1 ≤ t.val / 4 % 4 + t.val % 4 <;> by_cases c2 : t.val % 16 = 15
  all_goals first
    | (exfalso; omega)
    | rw [outsAt0_A m c t c0 c1 c2]
    | rw [outsAt0_B m c t c0 c1 c2]
    | rw [outsAt0_C m c t c0 c1 c2]
  all_goals (frame_out; canon_tiles x h)
  all_goals first
    | rw [(stored_dq _ _ _ _ _ _).2.2]
    | rw [(stored_dq _ _ _ _ _ _).2.1]
    | rw [(stored_dq _ _ _ _ _ _).1]
    | skip
  all_goals idx_vars x
  all_goals first
    | refine (piece_dq H t (n := 768) (by norm_num) ?_ ?_ ?_ ?_ _ _).trans (congrArg₂ (fun r d => (dq (Q m c) (C m c) (K m c) (W m c) (grp t) (hd t) r d : EReal)) (Fin.ext (by show (t : ℕ) % 4 * 1024 + (768 + (x0 : ℕ)) = (t : ℕ) % 4 * 1024 + ((x 0 : Fin 1024) : ℕ); omega)) (Fin.ext h1.symm))
    | refine (piece_dq H t (n := 512) (by norm_num) ?_ ?_ ?_ ?_ _ _).trans (congrArg₂ (fun r d => (dq (Q m c) (C m c) (K m c) (W m c) (grp t) (hd t) r d : EReal)) (Fin.ext (by show (t : ℕ) % 4 * 1024 + (512 + (x0 : ℕ)) = (t : ℕ) % 4 * 1024 + ((x 0 : Fin 1024) : ℕ); omega)) (Fin.ext h1.symm))
    | refine (piece_dq H t (n := 256) (by norm_num) ?_ ?_ ?_ ?_ _ _).trans (congrArg₂ (fun r d => (dq (Q m c) (C m c) (K m c) (W m c) (grp t) (hd t) r d : EReal)) (Fin.ext (by show (t : ℕ) % 4 * 1024 + (256 + (x0 : ℕ)) = (t : ℕ) % 4 * 1024 + ((x 0 : Fin 1024) : ℕ); omega)) (Fin.ext h1.symm))
    | refine (piece_dq H t (n := 0) (by norm_num) ?_ ?_ ?_ ?_ _ _).trans (congrArg₂ (fun r d => (dq (Q m c) (C m c) (K m c) (W m c) (grp t) (hd t) r d : EReal)) (Fin.ext (by show (t : ℕ) % 4 * 1024 + (0 + (x0 : ℕ)) = (t : ℕ) % 4 * 1024 + ((x 0 : Fin 1024) : ℕ); omega)) (Fin.ext h1.symm))
  all_goals (intro r d; pointwise; try blk_ext)

omit H t in
/-- A row of the gradient of the queries, over the lanes of all heads. -/
def dqArr (m : (ℓ : Loc nD τ sig) → Buf (Elt Ideal) ℓ) (c : Dev nD) (r : Fin 4096) (l : Fin 2048) : EReal :=
  (dq (Q m c) (C m c) (K m c) (W m c) ⟨(l : ℕ) / 512, by omega⟩ ⟨(l : ℕ) / 128 % 4, by omega⟩ r ⟨(l : ℕ) % 128, by omega⟩ : ℝ)

omit H in
theorem dqArr_lane (a b : Fin 4) (r : Fin 4096) (d : Fin 128) :
    dqArr m c r ⟨(a : ℕ) * 512 + (b : ℕ) * 128 + (d : ℕ), by omega⟩ = (dq (Q m c) (C m c) (K m c) (W m c) a b r d : EReal) := by
  unfold dqArr
  rw [lane_grp, lane_hd, lane_d]

omit t in
/-- The gradient of the queries, as the call leaves it. -/
theorem final_dq : (dats m 0 c).arrAt 6 (cfgs 0).N = (fun i => dqArr m c (i 0) (i 1) : FVec Ideal S4096x2048 .f32) := by
  refine (dats m 0 c).arrAt_eq_of_covers 6 _ (by decide +kernel) fun t _ y => ?_
  have hN := lt_of_lt_of_eq t.isLt (show cfg0.N = 64 from N_0)
  blk_simp
  rw [after0_6]
  refine (point_dq H t y).trans ((dqArr_lane (grp t) (hd t) _ _).symm.trans (congrArg₂ (dqArr m c) (Fin.ext ?_) (Fin.ext ?_)))
  all_goals (blk_simp [idx t, grp, hd, row] <;> (try dsimp only) <;> try omega)

end Cert.KernelIdeal.Attn

end
-- ==== Proof.AttnKeys.lean ====
module

public import proofs.«01_k».proof.Proof.AttnQueries
public import Idealize.ShloMosaic.Lib.Pipeline.ReadBack

/-! The gradients of the keys and of the values: what each point adds, and the sums over the points of a group. -/

@[expose] public section

set_option maxRecDepth 16384

noncomputable section

namespace Cert.KernelIdeal.Attn

open Idealize.ShloMosaic Idealize.ShloMosaic.TcCoe Idealize.SL.Sem
open Cert.KernelIdeal Cert.KernelIdeal.Gen Cert.AttnMath

/-- An index of the whole scratch, read through the rectangle of all of it. -/
theorem whole_idx (h) (z : S1024x4096.Idx) :
    ((Rect.unit (s := S1024x4096) ![0, 0] ![1024, 4096] h).toLoadRect).idx z = z := by
  funext a
  apply Fin.ext
  fin_cases a
  · show 0 + 1 * (z 0 : ℕ) = (z 0 : ℕ); omega
  · show 0 + 1 * (z 1 : ℕ) = (z 1 : ℕ); omega

section Products

variable {S : FVec Ideal S1024x4096 .bf16} {x : FVec Ideal S1024x128 .bf16} {s : Fin 1024 → Fin 4096 → ℝ} {y : Fin 1024 → Fin 128 → ℝ}

/-- A product over the rows of a block. -/
theorem rows_dv (hS : ∀ r j, S (ix2 r j) = (s r j : EReal)) (hx : ∀ r d, x (ix2 r d) = (y r d : EReal)) (i : S4096x128.Idx) :
    k0_pay25 (F := Ideal) S x i = ((∑ r, s r (i 0) * y r (i 1) : ℝ) : EReal) := by
  pointwise [k0_pay25]
  exact sum_mul (fun r => hS r _) (fun r => hx r _)

theorem rows_dk (hS : ∀ r j, S (ix2 r j) = (s r j : EReal)) (hx : ∀ r d, x (ix2 r d) = (y r d : EReal)) (i : S4096x128.Idx) :
    k0_pay26 (F := Ideal) S x i = ((∑ r, s r (i 0) * y r (i 1) : ℝ) : EReal) := by
  pointwise [k0_pay26]
  exact sum_mul (fun r => hS r _) (fun r => hx r _)

theorem first_dv (hS : ∀ r j, S (ix2 r j) = (s r j : EReal)) (hx : ∀ r d, x (ix2 r d) = (y r d : EReal)) (i : S4096x128.Idx) :
    k0_pay27 (F := Ideal) S x i = 0 + ((∑ r, s r (i 0) * y r (i 1) : ℝ) : EReal) := by
  rw [zero_add, ← rows_dv hS hx]
  pointwise [k0_pay27]

theorem first_dk (hS : ∀ r j, S (ix2 r j) = (s r j : EReal)) (hx : ∀ r d, x (ix2 r d) = (y r d : EReal)) (i : S4096x128.Idx) :
    k0_pay28 (F := Ideal) S x i = 0 + ((∑ r, s r (i 0) * y r (i 1) : ℝ) : EReal) := by
  rw [zero_add, ← rows_dk hS hx]
  pointwise [k0_pay28]

theorem step_dv (hS : ∀ r j, S (ix2 r j) = (s r j : EReal)) (hx : ∀ r d, x (ix2 r d) = (y r d : EReal))
    (a : FVec Ideal S4096x128 .f32) (i : S4096x128.Idx) :
    k0_pay29 (F := Ideal) S x a i = a i + ((∑ r, s r (i 0) * y r (i 1) : ℝ) : EReal) := by
  rw [← rows_dv hS hx]
  pointwise [k0_pay29]

theorem step_dk (hS : ∀ r j, S (ix2 r j) = (s r j : EReal)) (hx : ∀ r d, x (ix2 r d) = (y r d : EReal))
    (a : FVec Ideal S4096x128 .f32) (i : S4096x128.Idx) :
    k0_pay30 (F := Ideal) S x a i = a i + ((∑ r, s r (i 0) * y r (i 1) : ℝ) : EReal) := by
  rw [← rows_dk hS hx]
  pointwise [k0_pay30]

end Products

variable {m : (ℓ : Loc nD τ sig) → Buf (Elt Ideal) ℓ} {c : Dev nD} (H : Finite m c) (t : Fin cfg0.N)
include H

theorem piece_prob {x : FVec Ideal S256x128 .bf16} {l : FVec Ideal S256x1 .f32} {n : ℕ} (hn : n + 256 ≤ 1024)
    (hx : ∀ r d, x (ix2 r d) = (show FVec Ideal S1024x128 .bf16 from iblk m c 0 t) (ix2 ⟨n + (r : ℕ), by omega⟩ d))
    (hl : ∀ r d, l (ix2 r d) = (show FVec Ideal S1024x128 .f32 from iblk m c 5 t) (ix2 ⟨n + (r : ℕ), by omega⟩ 0))
    (r : Fin 256) (j : Fin 4096) :
    k0_pay2 (F := Ideal) (iblk m c 1 t) x l (ix2 r j) = (prob (Q m c) (K m c) (grp t) (hd t) (rows t n hn r) j : EReal) :=
  row_prob (R := rows t n hn) (blk_k H t) (fun r d => (hx r d).trans (blk_q H t _ _)) (fun r d => (hl r d).trans (blk_l H t _ _)) r j

theorem piece_dscore {x g o : FVec Ideal S256x128 .bf16} {l : FVec Ideal S256x1 .f32} {n : ℕ} (hn : n + 256 ≤ 1024)
    (hx : ∀ r d, x (ix2 r d) = (show FVec Ideal S1024x128 .bf16 from iblk m c 0 t) (ix2 ⟨n + (r : ℕ), by omega⟩ d))
    (hg : ∀ r d, g (ix2 r d) = (show FVec Ideal S1024x128 .bf16 from iblk m c 4 t) (ix2 ⟨n + (r : ℕ), by omega⟩ d))
    (hl : ∀ r d, l (ix2 r d) = (show FVec Ideal S1024x128 .f32 from iblk m c 5 t) (ix2 ⟨n + (r : ℕ), by omega⟩ 0))
    (ho : ∀ r d, o (ix2 r d) = (show FVec Ideal S1024x128 .bf16 from iblk m c 3 t) (ix2 ⟨n + (r : ℕ), by omega⟩ d))
    (r : Fin 256) (j : Fin 4096) :
    k0_pay3 (F := Ideal) (iblk m c 1 t) (iblk m c 2 t) x g l o (ix2 r j) =
      (dscore (Q m c) (C m c) (K m c) (W m c) (grp t) (hd t) (rows t n hn r) j : EReal) :=
  row_dscore (R := rows t n hn) (blk_k H t) (blk_v H t) (fun r d => (hx r d).trans (blk_q H t _ _))
    (fun r d => (hg r d).trans (blk_g H t _ _)) (fun r d => (hl r d).trans (blk_l H t _ _))
    (fun r d => (ho r d).trans (blk_o H t _ _)) r j

/-- What a point adds to the gradient of the values. -/
def addV (m : (ℓ : Loc nD τ sig) → Buf (Elt Ideal) ℓ) (c : Dev nD) (t : Fin cfg0.N) (i : S4096x128.Idx) : ℝ :=
  ∑ r : Fin 1024, prob (Q m c) (K m c) (grp t) (hd t) (row t r) (i 0) * C m c (grp t) (hd t) (row t r) (i 1)

/-- What a point adds to the gradient of the keys. -/
def addK (m : (ℓ : Loc nD τ sig) → Buf (Elt Ideal) ℓ) (c : Dev nD) (t : Fin cfg0.N) (i : S4096x128.Idx) : ℝ :=
  ∑ r : Fin 1024, dscore (Q m c) (C m c) (K m c) (W m c) (grp t) (hd t) (row t r) (i 0) * Q m c (grp t) (hd t) (row t r) (i 1)

/-- The first point of a group stores its part of the gradient of the values. -/
theorem start_dv_acc (h0 : t.val % 16 = 0) (i : S4096x128.Idx) :
    (outsAt0 m c t.val t.isLt).2.2.2.2 i = 0 + (addV m c t i : EReal) := by
  have hN := lt_of_lt_of_eq t.isLt (show cfg0.N = 64 from N_0)
  by_cases c1 : 1 ≤ t.val / 4 % 4 + t.val % 4
  · exfalso; omega
  rw [outsAt0_A m c t h0 c1 (by omega)]
  frame_out
  refine first_dv (s := fun r j => prob (Q m c) (K m c) (grp t) (hd t) (row t r) j) (fun r j => ?_) (fun r d => blk_g H t r d) i
  all_goals
    obtain ⟨z, hz⟩ : ∃ z : S1024x4096.Idx, z = ix2 r j := ⟨_, rfl⟩
    obtain rfl : r = z 0 := by rw [hz]; rfl
    obtain rfl : j = z 1 := by rw [hz]; rfl
    rw [View.readCov_eq_canon', ← hz]
    clear hz
    dsimp only
    rw [whole_idx]
    canon_tiles z h
  all_goals idx_vars z
  all_goals first
    | rw [(stored_prob _ _ _ _).2.2.2]
    | rw [(stored_prob _ _ _ _).2.2.1]
    | rw [(stored_prob _ _ _ _).2.1]
    | rw [(stored_prob _ _ _ _).1]
  all_goals first
    | refine (piece_prob H t (n := 768) (by norm_num) ?_ ?_ _ _).trans (congrArg₂ (fun r j => (prob (Q m c) (K m c) (grp t) (hd t) r j : EReal)) (Fin.ext (by show (t : ℕ) % 4 * 1024 + (768 + (z0 : ℕ)) = (t : ℕ) % 4 * 1024 + ((z 0 : Fin 1024) : ℕ); omega)) (Fin.ext h1.symm))
    | refine (piece_prob H t (n := 512) (by norm_num) ?_ ?_ _ _).trans (congrArg₂ (fun r j => (prob (Q m c) (K m c) (grp t) (hd t) r j : EReal)) (Fin.ext (by show (t : ℕ) % 4 * 1024 + (512 + (z0 : ℕ)) = (t : ℕ) % 4 * 1024 + ((z 0 : Fin 1024) : ℕ); omega)) (Fin.ext h1.symm))
    | refine (piece_prob H t (n := 256) (by norm_num) ?_ ?_ _ _).trans (congrArg₂ (fun r j => (prob (Q m c) (K m c) (grp t) (hd t) r j : EReal)) (Fin.ext (by show (t : ℕ) % 4 * 1024 + (256 + (z0 : ℕ)) = (t : ℕ) % 4 * 1024 + ((z 0 : Fin 1024) : ℕ); omega)) (Fin.ext h1.symm))
    | refine (piece_prob H t (n := 0) (by norm_num) ?_ ?_ _ _).trans (congrArg₂ (fun r j => (prob (Q m c) (K m c) (grp t) (hd t) r j : EReal)) (Fin.ext (by show (t : ℕ) % 4 * 1024 + (0 + (z0 : ℕ)) = (t : ℕ) % 4 * 1024 + ((z 0 : Fin 1024) : ℕ); omega)) (Fin.ext h1.symm))
  all_goals (intro r d; pointwise; try blk_ext)

/-- A later point adds its part. -/
theorem step_dv_acc (h0 : ¬t.val % 16 = 0) (i : S4096x128.Idx) : (outsAt0 m c t.val t.isLt).2.2.2.2 i =
    (outsAt0 m c (t.val - 1) (Nat.lt_of_le_of_lt (Nat.sub_le _ _) t.isLt)).2.2.2.2 i + (addV m c t i : EReal) := by
  have hN := lt_of_lt_of_eq t.isLt (show cfg0.N = 64 from N_0)
  by_cases c1 : 1 ≤ t.val / 4 % 4 + t.val % 4
  swap
  · exfalso; omega
  by_cases c2 : t.val % 16 = 15
  · rw [outsAt0_C m c t h0 c1 c2]
    frame_out
    refine (step_dv (s := fun r j => prob (Q m c) (K m c) (grp t) (hd t) (row t r) j) (fun r j => ?_) (fun r d => blk_g H t r d) _ i).trans (congrArg (· + _) ?_)
    swap
    · exact congrFun (read_unread_whole cc0_scratch1 _ _) i
    all_goals
      obtain ⟨z, hz⟩ : ∃ z : S1024x4096.Idx, z = ix2 r j := ⟨_, rfl⟩
      obtain rfl : r = z 0 := by rw [hz]; rfl
      obtain rfl : j = z 1 := by rw [hz]; rfl
      rw [View.readCov_eq_canon', ← hz]
      clear hz
      dsimp only
      rw [whole_idx]
      canon_tiles z h
    all_goals idx_vars z
    all_goals first
      | rw [(stored_prob _ _ _ _).2.2.2]
      | rw [(stored_prob _ _ _ _).2.2.1]
      | rw [(stored_prob _ _ _ _).2.1]
      | rw [(stored_prob _ _ _ _).1]
    all_goals first
      | refine (piece_prob H t (n := 768) (by norm_num) ?_ ?_ _ _).trans (congrArg₂ (fun r j => (prob (Q m c) (K m c) (grp t) (hd t) r j : EReal)) (Fin.ext (by show (t : ℕ) % 4 * 1024 + (768 + (z0 : ℕ)) = (t : ℕ) % 4 * 1024 + ((z 0 : Fin 1024) : ℕ); omega)) (Fin.ext h1.symm))
      | refine (piece_prob H t (n := 512) (by norm_num) ?_ ?_ _ _).trans (congrArg₂ (fun r j => (prob (Q m c) (K m c) (grp t) (hd t) r j : EReal)) (Fin.ext (by show (t : ℕ) % 4 * 1024 + (512 + (z0 : ℕ)) = (t : ℕ) % 4 * 1024 + ((z 0 : Fin 1024) : ℕ); omega)) (Fin.ext h1.symm))
      | refine (piece_prob H t (n := 256) (by norm_num) ?_ ?_ _ _).trans (congrArg₂ (fun r j => (prob (Q m c) (K m c) (grp t) (hd t) r j : EReal)) (Fin.ext (by show (t : ℕ) % 4 * 1024 + (256 + (z0 : ℕ)) = (t : ℕ) % 4 * 1024 + ((z 0 : Fin 1024) : ℕ); omega)) (Fin.ext h1.symm))
      | refine (piece_prob H t (n := 0) (by norm_num) ?_ ?_ _ _).trans (congrArg₂ (fun r j => (prob (Q m c) (K m c) (grp t) (hd t) r j : EReal)) (Fin.ext (by show (t : ℕ) % 4 * 1024 + (0 + (z0 : ℕ)) = (t : ℕ) % 4 * 1024 + ((z 0 : Fin 1024) : ℕ); omega)) (Fin.ext h1.symm))
    all_goals (intro r d; pointwise; try blk_ext)
  · rw [outsAt0_B m c t h0 c1 c2]
    frame_out
    refine (step_dv (s := fun r j => prob (Q m c) (K m c) (grp t) (hd t) (row t r) j) (fun r j => ?_) (fun r d => blk_g H t r d) _ i).trans (congrArg (· + _) ?_)
    swap
    · exact congrFun (read_unread_whole cc0_scratch1 _ _) i
    all_goals
      obtain ⟨z, hz⟩ : ∃ z : S1024x4096.Idx, z = ix2 r j := ⟨_, rfl⟩
      obtain rfl : r = z 0 := by rw [hz]; rfl
      obtain rfl : j = z 1 := by rw [hz]; rfl
      rw [View.readCov_eq_canon', ← hz]
      clear hz
      dsimp only
      rw [whole_idx]
      canon_tiles z h
    all_goals idx_vars z
    all_goals first
      | rw [(stored_prob _ _ _ _).2.2.2]
      | rw [(stored_prob _ _ _ _).2.2.1]
      | rw [(stored_prob _ _ _ _).2.1]
      | rw [(stored_prob _ _ _ _).1]
    all_goals first
      | refine (piece_prob H t (n := 768) (by norm_num) ?_ ?_ _ _).trans (congrArg₂ (fun r j => (prob (Q m c) (K m c) (grp t) (hd t) r j : EReal)) (Fin.ext (by show (t : ℕ) % 4 * 1024 + (768 + (z0 : ℕ)) = (t : ℕ) % 4 * 1024 + ((z 0 : Fin 1024) : ℕ); omega)) (Fin.ext h1.symm))
      | refine (piece_prob H t (n := 512) (by norm_num) ?_ ?_ _ _).trans (congrArg₂ (fun r j => (prob (Q m c) (K m c) (grp t) (hd t) r j : EReal)) (Fin.ext (by show (t : ℕ) % 4 * 1024 + (512 + (z0 : ℕ)) = (t : ℕ) % 4 * 1024 + ((z 0 : Fin 1024) : ℕ); omega)) (Fin.ext h1.symm))
      | refine (piece_prob H t (n := 256) (by norm_num) ?_ ?_ _ _).trans (congrArg₂ (fun r j => (prob (Q m c) (K m c) (grp t) (hd t) r j : EReal)) (Fin.ext (by show (t : ℕ) % 4 * 1024 + (256 + (z0 : ℕ)) = (t : ℕ) % 4 * 1024 + ((z 0 : Fin 1024) : ℕ); omega)) (Fin.ext h1.symm))
      | refine (piece_prob H t (n := 0) (by norm_num) ?_ ?_ _ _).trans (congrArg₂ (fun r j => (prob (Q m c) (K m c) (grp t) (hd t) r j : EReal)) (Fin.ext (by show (t : ℕ) % 4 * 1024 + (0 + (z0 : ℕ)) = (t : ℕ) % 4 * 1024 + ((z 0 : Fin 1024) : ℕ); omega)) (Fin.ext h1.symm))
    all_goals (intro r d; pointwise; try blk_ext)

omit H in
/-- The last point of a group writes the sum out. -/
theorem last_dv (h : t.val % 16 = 15) (i : S4096x128.Idx) :
    (outsAt0 m c t.val t.isLt).2.2.1 i = (outsAt0 m c t.val t.isLt).2.2.2.2 i := by
  rw [outsAt0_C m c t (by omega) (by omega) h]
  frame_out
  pointwise [k0_pay1]

/-- The first point of a group stores its part of the gradient of the keys. -/
theorem start_dk_acc (h0 : t.val % 16 = 0) (i : S4096x128.Idx) :
    (outsAt0 m c t.val t.isLt).2.2.2.1 i = 0 + (addK m c t i : EReal) := by
  have hN := lt_of_lt_of_eq t.isLt (show cfg0.N = 64 from N_0)
  by_cases c1 : 1 ≤ t.val / 4 % 4 + t.val % 4
  · exfalso; omega
  rw [outsAt0_A m c t h0 c1 (by omega)]
  frame_out
  refine first_dk (s := fun r j => dscore (Q m c) (C m c) (K m c) (W m c) (grp t) (hd t) (row t r) j) (fun r j => ?_) (fun r d => blk_q H t r d) i
  all_goals
    obtain ⟨z, hz⟩ : ∃ z : S1024x4096.Idx, z = ix2 r j := ⟨_, rfl⟩
    obtain rfl : r = z 0 := by rw [hz]; rfl
    obtain rfl : j = z 1 := by rw [hz]; rfl
    rw [View.readCov_eq_canon', ← hz]
    clear hz
    dsimp only
    rw [whole_idx]
    canon_tiles z h
  all_goals idx_vars z
  all_goals first
    | rw [(stored_dscore _ _ _ _ _ _ _).2.2.2]
    | rw [(stored_dscore _ _ _ _ _ _ _).2.2.1]
    | rw [(stored_dscore _ _ _ _ _ _ _).2.1]
    | rw [(stored_dscore _ _ _ _ _ _ _).1]
  all_goals first
    | refine (piece_dscore H t (n := 768) (by norm_num) ?_ ?_ ?_ ?_ _ _).trans (congrArg₂ (fun r j => (dscore (Q m c) (C m c) (K m c) (W m c) (grp t) (hd t) r j : EReal)) (Fin.ext (by show (t : ℕ) % 4 * 1024 + (768 + (z0 : ℕ)) = (t : ℕ) % 4 * 1024 + ((z 0 : Fin 1024) : ℕ); omega)) (Fin.ext h1.symm))
    | refine (piece_dscore H t (n := 512) (by norm_num) ?_ ?_ ?_ ?_ _ _).trans (congrArg₂ (fun r j => (dscore (Q m c) (C m c) (K m c) (W m c) (grp t) (hd t) r j : EReal)) (Fin.ext (by show (t : ℕ) % 4 * 1024 + (512 + (z0 : ℕ)) = (t : ℕ) % 4 * 1024 + ((z 0 : Fin 1024) : ℕ); omega)) (Fin.ext h1.symm))
    | refine (piece_dscore H t (n := 256) (by norm_num) ?_ ?_ ?_ ?_ _ _).trans (congrArg₂ (fun r j => (dscore (Q m c) (C m c) (K m c) (W m c) (grp t) (hd t) r j : EReal)) (Fin.ext (by show (t : ℕ) % 4 * 1024 + (256 + (z0 : ℕ)) = (t : ℕ) % 4 * 1024 + ((z 0 : Fin 1024) : ℕ); omega)) (Fin.ext h1.symm))
    | refine (piece_dscore H t (n := 0) (by norm_num) ?_ ?_ ?_ ?_ _ _).trans (congrArg₂ (fun r j => (dscore (Q m c) (C m c) (K m c) (W m c) (grp t) (hd t) r j : EReal)) (Fin.ext (by show (t : ℕ) % 4 * 1024 + (0 + (z0 : ℕ)) = (t : ℕ) % 4 * 1024 + ((z 0 : Fin 1024) : ℕ); omega)) (Fin.ext h1.symm))
  all_goals (intro r d; pointwise; try blk_ext)

/-- A later point adds its part. -/
theorem step_dk_acc (h0 : ¬t.val % 16 = 0) (i : S4096x128.Idx) : (outsAt0 m c t.val t.isLt).2.2.2.1 i =
    (outsAt0 m c (t.val - 1) (Nat.lt_of_le_of_lt (Nat.sub_le _ _) t.isLt)).2.2.2.1 i + (addK m c t i : EReal) := by
  have hN := lt_of_lt_of_eq t.isLt (show cfg0.N = 64 from N_0)
  by_cases c1 : 1 ≤ t.val / 4 % 4 + t.val % 4
  swap
  · exfalso; omega
  by_cases c2 : t.val % 16 = 15
  · rw [outsAt0_C m c t h0 c1 c2]
    frame_out
    refine (step_dk (s := fun r j => dscore (Q m c) (C m c) (K m c) (W m c) (grp t) (hd t) (row t r) j) (fun r j => ?_) (fun r d => blk_q H t r d) _ i).trans (congrArg (· + _) ?_)
    swap
    · exact congrFun (read_unread_whole cc0_scratch0 _ _) i
    all_goals
      obtain ⟨z, hz⟩ : ∃ z : S1024x4096.Idx, z = ix2 r j := ⟨_, rfl⟩
      obtain rfl : r = z 0 := by rw [hz]; rfl
      obtain rfl : j = z 1 := by rw [hz]; rfl
      rw [View.readCov_eq_canon', ← hz]
      clear hz
      dsimp only
      rw [whole_idx]
      canon_tiles z h
    all_goals idx_vars z
    all_goals first
      | rw [(stored_dscore _ _ _ _ _ _ _).2.2.2]
      | rw [(stored_dscore _ _ _ _ _ _ _).2.2.1]
      | rw [(stored_dscore _ _ _ _ _ _ _).2.1]
      | rw [(stored_dscore _ _ _ _ _ _ _).1]
    all_goals first
      | refine (piece_dscore H t (n := 768) (by norm_num) ?_ ?_ ?_ ?_ _ _).trans (congrArg₂ (fun r j => (dscore (Q m c) (C m c) (K m c) (W m c) (grp t) (hd t) r j : EReal)) (Fin.ext (by show (t : ℕ) % 4 * 1024 + (768 + (z0 : ℕ)) = (t : ℕ) % 4 * 1024 + ((z 0 : Fin 1024) : ℕ); omega)) (Fin.ext h1.symm))
      | refine (piece_dscore H t (n := 512) (by norm_num) ?_ ?_ ?_ ?_ _ _).trans (congrArg₂ (fun r j => (dscore (Q m c) (C m c) (K m c) (W m c) (grp t) (hd t) r j : EReal)) (Fin.ext (by show (t : ℕ) % 4 * 1024 + (512 + (z0 : ℕ)) = (t : ℕ) % 4 * 1024 + ((z 0 : Fin 1024) : ℕ); omega)) (Fin.ext h1.symm))
      | refine (piece_dscore H t (n := 256) (by norm_num) ?_ ?_ ?_ ?_ _ _).trans (congrArg₂ (fun r j => (dscore (Q m c) (C m c) (K m c) (W m c) (grp t) (hd t) r j : EReal)) (Fin.ext (by show (t : ℕ) % 4 * 1024 + (256 + (z0 : ℕ)) = (t : ℕ) % 4 * 1024 + ((z 0 : Fin 1024) : ℕ); omega)) (Fin.ext h1.symm))
      | refine (piece_dscore H t (n := 0) (by norm_num) ?_ ?_ ?_ ?_ _ _).trans (congrArg₂ (fun r j => (dscore (Q m c) (C m c) (K m c) (W m c) (grp t) (hd t) r j : EReal)) (Fin.ext (by show (t : ℕ) % 4 * 1024 + (0 + (z0 : ℕ)) = (t : ℕ) % 4 * 1024 + ((z 0 : Fin 1024) : ℕ); omega)) (Fin.ext h1.symm))
    all_goals (intro r d; pointwise; try blk_ext)
  · rw [outsAt0_B m c t h0 c1 c2]
    frame_out
    refine (step_dk (s := fun r j => dscore (Q m c) (C m c) (K m c) (W m c) (grp t) (hd t) (row t r) j) (fun r j => ?_) (fun r d => blk_q H t r d) _ i).trans (congrArg (· + _) ?_)
    swap
    · exact congrFun (read_unread_whole cc0_scratch0 _ _) i
    all_goals
      obtain ⟨z, hz⟩ : ∃ z : S1024x4096.Idx, z = ix2 r j := ⟨_, rfl⟩
      obtain rfl : r = z 0 := by rw [hz]; rfl
      obtain rfl : j = z 1 := by rw [hz]; rfl
      rw [View.readCov_eq_canon', ← hz]
      clear hz
      dsimp only
      rw [whole_idx]
      canon_tiles z h
    all_goals idx_vars z
    all_goals first
      | rw [(stored_dscore _ _ _ _ _ _ _).2.2.2]
      | rw [(stored_dscore _ _ _ _ _ _ _).2.2.1]
      | rw [(stored_dscore _ _ _ _ _ _ _).2.1]
      | rw [(stored_dscore _ _ _ _ _ _ _).1]
    all_goals first
      | refine (piece_dscore H t (n := 768) (by norm_num) ?_ ?_ ?_ ?_ _ _).trans (congrArg₂ (fun r j => (dscore (Q m c) (C m c) (K m c) (W m c) (grp t) (hd t) r j : EReal)) (Fin.ext (by show (t : ℕ) % 4 * 1024 + (768 + (z0 : ℕ)) = (t : ℕ) % 4 * 1024 + ((z 0 : Fin 1024) : ℕ); omega)) (Fin.ext h1.symm))
      | refine (piece_dscore H t (n := 512) (by norm_num) ?_ ?_ ?_ ?_ _ _).trans (congrArg₂ (fun r j => (dscore (Q m c) (C m c) (K m c) (W m c) (grp t) (hd t) r j : EReal)) (Fin.ext (by show (t : ℕ) % 4 * 1024 + (512 + (z0 : ℕ)) = (t : ℕ) % 4 * 1024 + ((z 0 : Fin 1024) : ℕ); omega)) (Fin.ext h1.symm))
      | refine (piece_dscore H t (n := 256) (by norm_num) ?_ ?_ ?_ ?_ _ _).trans (congrArg₂ (fun r j => (dscore (Q m c) (C m c) (K m c) (W m c) (grp t) (hd t) r j : EReal)) (Fin.ext (by show (t : ℕ) % 4 * 1024 + (256 + (z0 : ℕ)) = (t : ℕ) % 4 * 1024 + ((z 0 : Fin 1024) : ℕ); omega)) (Fin.ext h1.symm))
      | refine (piece_dscore H t (n := 0) (by norm_num) ?_ ?_ ?_ ?_ _ _).trans (congrArg₂ (fun r j => (dscore (Q m c) (C m c) (K m c) (W m c) (grp t) (hd t) r j : EReal)) (Fin.ext (by show (t : ℕ) % 4 * 1024 + (0 + (z0 : ℕ)) = (t : ℕ) % 4 * 1024 + ((z 0 : Fin 1024) : ℕ); omega)) (Fin.ext h1.symm))
    all_goals (intro r d; pointwise; try blk_ext)

omit H in
/-- The last point of a group writes the sum out. -/
theorem last_dk (h : t.val % 16 = 15) (i : S4096x128.Idx) :
    (outsAt0 m c t.val t.isLt).2.1 i = (outsAt0 m c t.val t.isLt).2.2.2.1 i := by
  rw [outsAt0_C m c t (by omega) (by omega) h]
  frame_out

end Cert.KernelIdeal.Attn

end
-- ==== Proof.AttnGroup.lean ====
module

public import proofs.«01_k».proof.Proof.AttnKeys

/-! The gradients of the keys and of the values, summed over the sixteen points of a group: the whole arrays. -/

@[expose] public section

set_option maxRecDepth 16384

noncomputable section

namespace Cert.KernelIdeal.Attn

open Idealize.ShloMosaic Idealize.ShloMosaic.TcCoe Idealize.SL.Sem
open Cert.KernelIdeal Cert.KernelIdeal.Gen Cert.AttnMath

/-- Sixteen points of 1024 rows are four heads of 4096 rows. -/
theorem sum_group (F : Fin 4 → Fin 4096 → ℝ) :
    ∑ s : Fin 16, ∑ r : Fin 1024, F ⟨(s : ℕ) / 4, by omega⟩ ⟨(s : ℕ) % 4 * 1024 + (r : ℕ), by omega⟩ = ∑ b, ∑ r, F b r := by
  have e : ∀ b : Fin 4, ∑ r : Fin 4096, F b r = ∑ u : Fin 4, ∑ r : Fin 1024, F b ⟨(u : ℕ) * 1024 + (r : ℕ), by omega⟩ :=
    fun b => (Fin.sum_mul_add_congr fun u r hl => rfl).symm
  simp only [e]
  exact Fin.sum_divmod_congr fun s hb hu => rfl

variable {m : (ℓ : Loc nD τ sig) → Buf (Elt Ideal) ℓ} {c : Dev nD}

/-- What the sixteen points of a group add up to. -/
theorem sum_addV (t : Fin cfg0.N) (h : ∀ s : Fin 16, 16 * ((t : ℕ) / 16) + (s : ℕ) < cfg0.N) (i : S4096x128.Idx) :
    ∑ s : Fin 16, addV m c ⟨16 * ((t : ℕ) / 16) + (s : ℕ), h s⟩ i = dv (Q m c) (C m c) (K m c) (grp t) (i 0) (i 1) := by
  refine Eq.trans ?_ (sum_group fun b r => prob (Q m c) (K m c) (grp t) b r (i 0) * C m c (grp t) b r (i 1))
  refine Finset.sum_congr rfl fun s _ => Finset.sum_congr rfl fun r _ => ?_
  have e1 : grp ⟨16 * ((t : ℕ) / 16) + (s : ℕ), h s⟩ = grp t :=
    Fin.ext (show (16 * ((t : ℕ) / 16) + (s : ℕ)) / 16 = (t : ℕ) / 16 by omega)
  have e2 : hd ⟨16 * ((t : ℕ) / 16) + (s : ℕ), h s⟩ = ⟨(s : ℕ) / 4, by omega⟩ :=
    Fin.ext (show (16 * ((t : ℕ) / 16) + (s : ℕ)) / 4 % 4 = (s : ℕ) / 4 by omega)
  have e3 : row ⟨16 * ((t : ℕ) / 16) + (s : ℕ), h s⟩ r = ⟨(s : ℕ) % 4 * 1024 + (r : ℕ), by omega⟩ :=
    Fin.ext (show (16 * ((t : ℕ) / 16) + (s : ℕ)) % 4 * 1024 + (r : ℕ) = (s : ℕ) % 4 * 1024 + (r : ℕ) by omega)
  rw [e1, e2, e3]

theorem sum_addK (t : Fin cfg0.N) (h : ∀ s : Fin 16, 16 * ((t : ℕ) / 16) + (s : ℕ) < cfg0.N) (i : S4096x128.Idx) :
    ∑ s : Fin 16, addK m c ⟨16 * ((t : ℕ) / 16) + (s : ℕ), h s⟩ i = dk (Q m c) (C m c) (K m c) (W m c) (grp t) (i 0) (i 1) := by
  refine Eq.trans ?_ (sum_group fun b r => dscore (Q m c) (C m c) (K m c) (W m c) (grp t) b r (i 0) * Q m c (grp t) b r (i 1))
  refine Finset.sum_congr rfl fun s _ => Finset.sum_congr rfl fun r _ => ?_
  have e1 : grp ⟨16 * ((t : ℕ) / 16) + (s : ℕ), h s⟩ = grp t :=
    Fin.ext (show (16 * ((t : ℕ) / 16) + (s : ℕ)) / 16 = (t : ℕ) / 16 by omega)
  have e2 : hd ⟨16 * ((t : ℕ) / 16) + (s : ℕ), h s⟩ = ⟨(s : ℕ) / 4, by omega⟩ :=
    Fin.ext (show (16 * ((t : ℕ) / 16) + (s : ℕ)) / 4 % 4 = (s : ℕ) / 4 by omega)
  have e3 : row ⟨16 * ((t : ℕ) / 16) + (s : ℕ), h s⟩ r = ⟨(s : ℕ) % 4 * 1024 + (r : ℕ), by omega⟩ :=
    Fin.ext (show (16 * ((t : ℕ) / 16) + (s : ℕ)) % 4 * 1024 + (r : ℕ) = (s : ℕ) % 4 * 1024 + (r : ℕ) by omega)
  rw [e1, e2, e3]

/-- A row of the gradients of the keys and of the values, over the lanes of all groups. -/
def dkArr (m : (ℓ : Loc nD τ sig) → Buf (Elt Ideal) ℓ) (c : Dev nD) (j : Fin 4096) (l : Fin 512) : EReal :=
  (dk (Q m c) (C m c) (K m c) (W m c) ⟨(l : ℕ) / 128, by omega⟩ j ⟨(l : ℕ) % 128, by omega⟩ : ℝ)
def dvArr (m : (ℓ : Loc nD τ sig) → Buf (Elt Ideal) ℓ) (c : Dev nD) (j : Fin 4096) (l : Fin 512) : EReal :=
  (dv (Q m c) (C m c) (K m c) ⟨(l : ℕ) / 128, by omega⟩ j ⟨(l : ℕ) % 128, by omega⟩ : ℝ)

theorem lane_a (a : Fin 4) (d : Fin 128) (h) : (⟨((a : ℕ) * 128 + (d : ℕ)) / 128, h⟩ : Fin 4) = a :=
  Fin.ext (show ((a : ℕ) * 128 + (d : ℕ)) / 128 = (a : ℕ) by omega)
theorem lane_e (a : Fin 4) (d : Fin 128) (h) : (⟨((a : ℕ) * 128 + (d : ℕ)) % 128, h⟩ : Fin 128) = d :=
  Fin.ext (show ((a : ℕ) * 128 + (d : ℕ)) % 128 = (d : ℕ) by omega)

theorem dkArr_lane (a : Fin 4) (j : Fin 4096) (d : Fin 128) :
    dkArr m c j ⟨(a : ℕ) * 128 + (d : ℕ), by omega⟩ = (dk (Q m c) (C m c) (K m c) (W m c) a j d : EReal) := by
  unfold dkArr
  rw [lane_a, lane_e]
theorem dvArr_lane (a : Fin 4) (j : Fin 4096) (d : Fin 128) :
    dvArr m c j ⟨(a : ℕ) * 128 + (d : ℕ), by omega⟩ = (dv (Q m c) (C m c) (K m c) a j d : EReal) := by
  unfold dvArr
  rw [lane_a, lane_e]

variable (H : Finite m c)
include H

/-- What the last point of a group writes out. -/
theorem group_dk (t : Fin cfg0.N) (h : t.val % 16 = 15) (i : S4096x128.Idx) : (outsAt0 m c t.val t.isLt).2.1 i =
    (dk (Q m c) (C m c) (K m c) (W m c) (grp t) (i 0) (i 1) : EReal) := by
  rw [last_dk t h, Pipeline.eq_sum_fin_of_reset_step_apply_of_flush (N := cfg0.N) (M := EReal) (fun n h => (outsAt0 m c n h).2.2.2.1) 16 (fun _ => 0)
    (fun t i => (addK m c t i : EReal)) (fun t h i => start_dk_acc H t h i) (fun t h i => step_dk_acc H t h i) t h i, zero_add, ← coe_sum, sum_addK]

theorem group_dv (t : Fin cfg0.N) (h : t.val % 16 = 15) (i : S4096x128.Idx) : (outsAt0 m c t.val t.isLt).2.2.1 i =
    (dv (Q m c) (C m c) (K m c) (grp t) (i 0) (i 1) : EReal) := by
  rw [last_dv t h, Pipeline.eq_sum_fin_of_reset_step_apply_of_flush (N := cfg0.N) (M := EReal) (fun n h => (outsAt0 m c n h).2.2.2.2) 16 (fun _ => 0)
    (fun t i => (addV m c t i : EReal)) (fun t h i => start_dv_acc H t h i) (fun t h i => step_dv_acc H t h i) t h i, zero_add, ← coe_sum, sum_addV]

/-- The gradient of the keys, as the call leaves it. -/
theorem final_dk : (dats m 0 c).arrAt 7 (cfgs 0).N = (fun i => dkArr m c (i 0) (i 1) : FVec Ideal S4096x512 .f32) := by
  refine (dats m 0 c).arrAt_eq_of_covers 7 _ (by decide +kernel) fun t hf y => ?_
  blk_simp
  rw [after0_7]
  refine (group_dk H t ((flush0_7 t).mp hf) y).trans ((dkArr_lane (grp t) _ _).symm.trans (congrArg₂ (dkArr m c) (Fin.ext ?_) (Fin.ext ?_)))
  all_goals (blk_simp [idx t, grp] <;> (try dsimp only) <;> try omega)

/-- The gradient of the values, as the call leaves it. -/
theorem final_dv : (dats m 0 c).arrAt 8 (cfgs 0).N = (fun i => dvArr m c (i 0) (i 1) : FVec Ideal S4096x512 .bf16) := by
  refine (dats m 0 c).arrAt_eq_of_covers 8 _ (by decide +kernel) fun t hf y => ?_
  blk_simp
  rw [after0_8]
  refine (group_dv H t ((flush0_8 t).mp hf) y).trans ((dvArr_lane (grp t) _ _).symm.trans (congrArg₂ (dvArr m c) (Fin.ext ?_) (Fin.ext ?_)))
  all_goals (blk_simp [idx t, grp] <;> (try dsimp only) <;> try omega)

end Cert.KernelIdeal.Attn

end
-- ==== Proof.AttnRef.lean ====
module

public import proofs.«01_k».proof.Proof.Gen.ReferenceIdeal.Read
public import proofs.«01_k».proof.Proof.AttnMath

/-! The reference's gradients of the attention, for arguments that are numbers: every stage of the reference is the
stage of the mathematics over real numbers. -/

@[expose] public section

set_option maxRecDepth 16384

noncomputable section

namespace Cert.ReferenceIdeal.Attn

open Idealize.ShloMosaic Idealize.ShloMosaic.TcCoe Idealize.SL.Sem
open Cert.ReferenceIdeal Cert.ReferenceIdeal.Read Cert.AttnMath

variable {x0 x3 : FVec Ideal S4096x2048 .bf16} {x1 x2 : FVec Ideal S4096x512 .bf16}

/-- The scores. -/
theorem scores (h0 : Num x0) (h1 : Num x1) (a b : Fin 4) (r j : Fin 4096) :
    val_main_v9 (F := Ideal) x0 x1 (ix4 a b r j) = (score (headed x0) (grouped x1) a b r j : EReal) := by
  pointwise [val_main_v9, val_main_v4, val_main_v3, val_main_v0, val_main_v6, val_main_v5, val_main_v1]
  exact sum_mul (fun _ => h0 _) fun _ => h1 _

/-- The fold a row's greatest score is read from. -/
theorem folds (a b : Fin 4) (r : Fin 4096) :
    val_main_v10 (F := Ideal) x0 x1 (ix3 a b r) =
      Finset.univ.fold max (Ideal.ofBits .f32 0xFF800000#32)
        (fun j : Fin 4096 => (val_main_v9 (F := Ideal) x0 x1 (ix4 a b r j) : EReal)) := by
  pointwise [val_main_v10, val_main_cst]

/-- The greatest score of a row. -/
theorem tops (h0 : Num x0) (h1 : Num x1) (a b : Fin 4) (r : Fin 4096) :
    val_main_v17 (F := Ideal) x0 x1 (ix3 a b r) = (top (headed x0) (grouped x1) a b r : EReal) := by
  rw [val_main_v17_apply, val_main_v16_apply, val_main_cst_1_apply, folds]
  simp only [scores h0 h1]
  exact max_fold_top _ _ a b r

/-- The exponentials. -/
theorem weights (h0 : Num x0) (h1 : Num x1) (a b : Fin 4) (r j : Fin 4096) :
    val_main_v30 (F := Ideal) x0 x1 (ix4 a b r j) = (weight (headed x0) (grouped x1) a b r j : EReal) := by
  pointwise [val_main_v30, val_main_v29, val_main_v28, val_main_v27, scores h0 h1, tops h0 h1]
  rw [← EReal.coe_sub, Ideal.exp_coe]
  rfl

/-- Their sum over a row. -/
theorem masses (h0 : Num x0) (h1 : Num x1) (a b : Fin 4) (r : Fin 4096) :
    val_main_v32 (F := Ideal) x0 x1 (ix4 a b r 0) = (mass (headed x0) (grouped x1) a b r : EReal) := by
  pointwise [val_main_v32, val_main_v31, val_main_cst_7]
  exact sum_real fun _ => weights h0 h1 a b r _

/-- The attention. -/
theorem probs (h0 : Num x0) (h1 : Num x1) (a b : Fin 4) (r j : Fin 4096) :
    val_main_v34 (F := Ideal) x0 x1 (ix4 a b r j) = (prob (headed x0) (grouped x1) a b r j : EReal) := by
  pointwise [val_main_v34, val_main_v33, weights h0 h1, masses h0 h1]
  exact div_real (mass_pos _ _ a b r).ne'

/-- The cotangent of the attention. -/
theorem dprobs (h2 : Num x2) (h3 : Num x3) (a b : Fin 4) (r j : Fin 4096) :
    val_main_v46 (F := Ideal) x2 x3 (ix4 a b r j) = (dprob (headed x3) (grouped x2) a b r j : EReal) := by
  pointwise [val_main_v46, val_main_v43, val_main_v42, val_main_v41, val_main_v8, val_main_v7, val_main_v2]
  exact sum_mul (fun _ => h3 _) fun _ => h2 _

/-- The cotangent of the scores. -/
theorem dscores (h0 : Num x0) (h1 : Num x1) (h2 : Num x2) (h3 : Num x3) (a b : Fin 4) (r j : Fin 4096) :
    val_main_v58 (F := Ideal) x0 x1 x2 x3 (ix4 a b r j) =
      (dscore (headed x0) (headed x3) (grouped x1) (grouped x2) a b r j : EReal) := by
  pointwise [val_main_v58, val_main_v57, val_main_v56, val_main_v55, val_main_cst_10, val_main_v54, val_main_v53,
    val_main_v52, val_main_v51, val_main_v50, val_main_cst_9, val_main_v49, val_main_v48, val_main_v47, val_main_v37,
    val_main_v36, val_main_cst_8, val_main_v35, weights h0 h1, masses h0 h1, dprobs h2 h3]
  have hm := (mass_pos (headed x0) (grouped x1) a b r).ne'
  have h : Ideal.div 1 (((mass (headed x0) (grouped x1) a b r : ℝ) : EReal) * (mass (headed x0) (grouped x1) a b r : ℝ)) =
      ((1 / (mass (headed x0) (grouped x1) a b r * mass (headed x0) (grouped x1) a b r) : ℝ) : EReal) := by
    rw [← EReal.coe_mul, ← EReal.coe_one]
    exact div_real (mul_ne_zero hm hm)
  rw [h, div_real hm, ← dscore_quotient]
  simp only [Fin.sum_univ_one, Finset.univ_unique, Finset.sum_singleton, ← EReal.coe_mul, ← coe_sum, ← EReal.coe_neg,
    ← EReal.coe_add]

/-- The gradient of the queries. -/
theorem queries (h0 : Num x0) (h1 : Num x1) (h2 : Num x2) (h3 : Num x3) (r : Fin 4096) (l : Fin 2048) :
    val_main_v66 (F := Ideal) x0 x1 x2 x3 (ix2 r l) =
      (dq (headed x0) (headed x3) (grouped x1) (grouped x2) ⟨(l : ℕ) / 512, by omega⟩ ⟨(l : ℕ) / 128 % 4, by omega⟩ r
        ⟨(l : ℕ) % 128, by omega⟩ : EReal) := by
  pointwise [val_main_v66, val_main_v65, val_main_v60, val_main_v6, val_main_v5, val_main_v1]
  exact sum_mul (fun _ => dscores h0 h1 h2 h3 _ _ _ _) fun _ => h1 _

/-- The gradient of the keys. -/
theorem keys (h0 : Num x0) (h1 : Num x1) (h2 : Num x2) (h3 : Num x3) (j : Fin 4096) (l : Fin 512) :
    val_main_v64 (F := Ideal) x0 x1 x2 x3 (ix2 j l) =
      (dk (headed x0) (headed x3) (grouped x1) (grouped x2) ⟨(l : ℕ) / 128, by omega⟩ j ⟨(l : ℕ) % 128, by omega⟩ : EReal) := by
  pointwise [val_main_v64, val_main_v63, val_main_v59, val_main_v4, val_main_v3, val_main_v0]
  exact sum_real fun _ => sum_mul (fun _ => dscores h0 h1 h2 h3 _ _ _ _) fun _ => h0 _

/-- The gradient of the values. -/
theorem values (h0 : Num x0) (h1 : Num x1) (h3 : Num x3) (j : Fin 4096) (l : Fin 512) :
    val_main_v67 (F := Ideal) x0 x1 x3 (ix2 j l) =
      (dv (headed x0) (headed x3) (grouped x1) ⟨(l : ℕ) / 128, by omega⟩ j ⟨(l : ℕ) % 128, by omega⟩ : EReal) := by
  pointwise [val_main_v67, val_main_v62, val_main_v61, val_main_v45, val_main_v44, val_main_v43, val_main_v42, val_main_v41]
  simp only [mul_comm (x3 _)]
  exact sum_real fun _ => sum_mul (fun _ => probs h0 h1 _ _ _ _) fun _ => h3 _

end Cert.ReferenceIdeal.Attn

end
-- ==== Proof.AttnFinite.lean ====
module

public import proofs.«01_k».proof.Pre_finite
public import proofs.«01_k».proof.Pre_finite_qk
public import proofs.«01_k».proof.Proof.AttnMath
public import Idealize.ShloMosaic.Lib.ReduceAll
public import Idealize.ShloMosaic.Lib.Pipeline.ValueKit

/-! The condition on the arguments, read: every element is a number. -/

@[expose] public section

noncomputable section

namespace Cert.AttnMath

open Idealize.ShloMosaic

/-- The pattern of the positive infinity. -/
theorem posInf : Ideal.ofBits .bf16 0x7F80#16 = ⊤ := by simp [Ideal.ofBits, Ideal.ieee]

/-- An extended real whose magnitude is below the infinity is a number. -/
theorem num_of_lt {x : EReal} (h : max x (-x) < ⊤) : x = (x.toReal : EReal) := by
  obtain ⟨h1, h2⟩ := max_lt_iff.1 h
  refine (EReal.coe_toReal h1.ne fun hb => ?_).symm
  rw [hb] at h2
  simp at h2

/-- The comparison of a magnitude with the infinity, true, says the element is a number. -/
theorem num_of_cmp {s : Shape} (x y : FVec Ideal s .bf16) (hy : ∀ i, y i = Ideal.ofBits .bf16 0x7F80#16)
    (e : ∀ i, cmpf .olt (Host.absf x) y i = 1#1) : Num x := by
  intro i
  have h : Ideal.cmp .olt (max (x i) (-(x i))) (y i) = 1#1 := e i
  apply num_of_lt
  rw [hy, posInf] at h
  by_contra hc
  have hd : Ideal.cmp .olt (max (x i) (-(x i))) ⊤ = 0#1 := by simp [Ideal.cmp, hc]
  rw [hd] at h
  exact absurd h (by decide)

end Cert.AttnMath

namespace Cert.Pre_finite

open Idealize.ShloMosaic Cert.AttnMath

instance : Subsingleton S_.Idx := ⟨fun a b => funext fun i => i.elim0⟩

theorem nums [Facts] (q : FVec Ideal S4096x2048 .bf16) (k v : FVec Ideal S4096x512 .bf16) (g : FVec Ideal S4096x2048 .bf16)
    (h : fn (F := Ideal) q k v g = fun _ => 1#1) : Num q ∧ Num k ∧ Num v ∧ Num g := by
  have e := congrFun h (fun a => a.elim0)
  obtain ⟨e1, e2⟩ := IntOp.andi_eq_one.1 e
  obtain ⟨eq, ek⟩ := IntOp.andi_eq_one.1 e1
  obtain ⟨ev, eg⟩ := IntOp.andi_eq_one.1 e2
  exact ⟨num_of_cmp _ _ (fun _ => rfl) (Host.reduce_andi_all _ _ _ _ _ eq), num_of_cmp _ _ (fun _ => rfl) (Host.reduce_andi_all _ _ _ _ _ ek),
    num_of_cmp _ _ (fun _ => rfl) (Host.reduce_andi_all _ _ _ _ _ ev), num_of_cmp _ _ (fun _ => rfl) (Host.reduce_andi_all _ _ _ _ _ eg)⟩

end Cert.Pre_finite

namespace Cert.Pre_finite_qk

open Idealize.ShloMosaic Cert.AttnMath

instance : Subsingleton S_.Idx := ⟨fun a b => funext fun i => i.elim0⟩

theorem nums [Facts] (q : FVec Ideal S4096x2048 .bf16) (k v : FVec Ideal S4096x512 .bf16)
    (h : fn (F := Ideal) q k v = fun _ => 1#1) : Num q ∧ Num k := by
  have e := congrFun h (fun a => a.elim0)
  obtain ⟨eq, ek⟩ := IntOp.andi_eq_one.1 e
  exact ⟨num_of_cmp _ _ (fun _ => rfl) (Host.reduce_andi_all _ _ _ _ _ eq), num_of_cmp _ _ (fun _ => rfl) (Host.reduce_andi_all _ _ _ _ _ ek)⟩

end Cert.Pre_finite_qk

end
-- ==== Proof.AttnClaim.lean ====
module

public import proofs.«01_k».proof.Defs
public import proofs.«01_k».proof.Proof.AttnGroup
public import proofs.«01_k».proof.Proof.AttnRef
public import proofs.«01_k».proof.Proof.AttnFinite
public import proofs.«01_k».proof.Proof.Gen.ReferenceIdeal.Run
public import proofs.«01_k».proof.Proof.Gen.ReferenceIdeal.Read
public import Idealize.ShloMosaic.Lib.Claim

/-! The claim about the attention gradient, from the two runs, the three arrays the call leaves and the three the
reference computes. -/

@[expose] public section

set_option maxRecDepth 16384

noncomputable section

namespace Cert.KernelIdeal.Attn

open Idealize.ShloMosaic Idealize.ShloMosaic.TcCoe Idealize.SL.Sem Cert.AttnMath

open Cert.ReferenceIdeal in
/-- The reference's run, its three results by the names of their last lines. -/
theorem run_ref (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, g'⟩ fun r => ∀ c : Dev Cert.ReferenceIdeal.nD,
        r.2.mem ((c.tc : Thread Cert.ReferenceIdeal.nD Cert.ReferenceIdeal.τ).loc Cert.ReferenceIdeal.main_v66)
            = Read.val_main_v66 (F := Ideal) (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg3))
        ∧ r.2.mem ((c.tc : Thread Cert.ReferenceIdeal.nD Cert.ReferenceIdeal.τ).loc Cert.ReferenceIdeal.main_v64)
            = Read.val_main_v64 (F := Ideal) (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg3))
        ∧ r.2.mem ((c.tc : Thread Cert.ReferenceIdeal.nD Cert.ReferenceIdeal.τ).loc Cert.ReferenceIdeal.main_v67)
            = Read.val_main_v67 (F := Ideal) (m' (c.tc.loc Cert.ReferenceIdeal.main_arg0)) (m' (c.tc.loc Cert.ReferenceIdeal.main_arg1)) (m' (c.tc.loc Cert.ReferenceIdeal.main_arg3))
        ∧ r.2.mem ((c.tc : Thread Cert.ReferenceIdeal.nD Cert.ReferenceIdeal.τ).loc Cert.ReferenceIdeal.main_arg0) = m' (c.tc.loc Cert.ReferenceIdeal.main_arg0)
        ∧ r.2.mem ((c.tc : Thread Cert.ReferenceIdeal.nD Cert.ReferenceIdeal.τ).loc Cert.ReferenceIdeal.main_arg1) = m' (c.tc.loc Cert.ReferenceIdeal.main_arg1)
        ∧ r.2.mem ((c.tc : Thread Cert.ReferenceIdeal.nD Cert.ReferenceIdeal.τ).loc Cert.ReferenceIdeal.main_arg2) = m' (c.tc.loc Cert.ReferenceIdeal.main_arg2)
        ∧ r.2.mem ((c.tc : Thread Cert.ReferenceIdeal.nD Cert.ReferenceIdeal.τ).loc Cert.ReferenceIdeal.main_arg3) = m' (c.tc.loc Cert.ReferenceIdeal.main_arg3) :=
  (θ_run _ _ _).mono (fun _ h c => ⟨(h c).1.trans (Read.val_main_v66_eq m' c), (h c).2.1.trans (Read.val_main_v64_eq m' c),
    (h c).2.2.1.trans (Read.val_main_v67_eq _ _ _), (h c).2.2.2⟩) (Cert.ReferenceIdeal.Value.run m' g')

variable {m : (ℓ : Loc nD τ sig) → Buf (Elt Ideal) ℓ} {c : Dev nD}

/-- The reference's query gradient is the array the call leaves. -/
theorem eq_dq (H : Finite m c) :
    Cert.ReferenceIdeal.Read.val_main_v66 (F := Ideal) (m (c.tc.loc main_arg0)) (m (c.tc.loc main_arg1)) (m (c.tc.loc main_arg2)) (m (c.tc.loc main_arg3))
      = fun i => dqArr m c (i 0) (i 1) := by
  funext i
  conv_lhs => rw [eq_ix2 i]
  exact Cert.ReferenceIdeal.Attn.queries H.q H.k H.v H.g (i 0) (i 1)

/-- The reference's key gradient is the array the call leaves. -/
theorem eq_dk (H : Finite m c) :
    Cert.ReferenceIdeal.Read.val_main_v64 (F := Ideal) (m (c.tc.loc main_arg0)) (m (c.tc.loc main_arg1)) (m (c.tc.loc main_arg2)) (m (c.tc.loc main_arg3))
      = fun i => dkArr m c (i 0) (i 1) := by
  funext i
  conv_lhs => rw [eq_ix2 i]
  exact Cert.ReferenceIdeal.Attn.keys H.q H.k H.v H.g (i 0) (i 1)

/-- The reference's value gradient is the array the call leaves. -/
theorem eq_dv (H : Finite m c) :
    Cert.ReferenceIdeal.Read.val_main_v67 (F := Ideal) (m (c.tc.loc main_arg0)) (m (c.tc.loc main_arg1)) (m (c.tc.loc main_arg3))
      = fun i => dvArr m c (i 0) (i 1) := by
  funext i
  conv_lhs => rw [eq_ix2 i]
  exact Cert.ReferenceIdeal.Attn.values H.q H.k H.g (i 0) (i 1)

set_option maxHeartbeats 4000000 in
/-- The attention gradient, claimed: the kernel's three arrays are the reference's. -/
theorem algebraic [Cert.Pre_finite.Facts] : Cert.algebraic_KernelIdeal_ReferenceIdeal_pre_finite := by
  pair_intro
  · run_from Cert.KernelIdeal.Gen.run_main m g
  · refine (θ_run _ _ _).mono (fun r h c => ?_) (run_ref m' g')
    have n := Cert.Pre_finite.nums _ _ _ _ (hpre c)
    have H : Finite m c := ⟨n.1, n.2.1, n.2.2.1, n.2.2.2⟩
    refine ⟨(h c).1.trans ?_, (h c).2.1.trans ?_, (h c).2.2.1.trans ?_, (h c).2.2.2⟩
    all_goals clear h
    all_goals rw [(hagree c).1, (hagree c).2.1]
    · rw [(hagree c).2.2.1, (hagree c).2.2.2]
      exact (eq_dq H).trans (final_dq H).symm
    · rw [(hagree c).2.2.1, (hagree c).2.2.2]
      exact (eq_dk H).trans (final_dk H).symm
    · rw [(hagree c).2.2.2]
      exact (eq_dv H).trans (final_dv H).symm

end Cert.KernelIdeal.Attn

end
-- ==== Proof.AttnFwdMath.lean ====
module

public import proofs.«01_k».proof.Proof.AttnMath

/-! The attention's output where the values are any extended reals, the infinities among them: a row's attention is a
positive number, and a product with one distributes over every sum. -/

@[expose] public section

noncomputable section

namespace Cert.AttnMath

open Idealize.ShloMosaic

/-- The attention's output for values that are any extended reals. -/
def outAny (q : Fin 4 → Fin 4 → Fin 4096 → Fin 128 → ℝ) (k : Fin 4 → Fin 4096 → Fin 128 → ℝ)
    (v : Fin 4 → Fin 4096 → Fin 128 → EReal) (a b : Fin 4) (r : Fin 4096) (d : Fin 128) : EReal :=
  ∑ j, (prob q k a b r j : EReal) * v a j d

/-- An array of key width by groups, its elements as they are. -/
def groupedAny (x : (⟨2, ![4096, 512]⟩ : Shape).Idx → EReal) (a : Fin 4) (r : Fin 4096) (d : Fin 128) : EReal :=
  x (ix2 r ⟨(a : ℕ) * 128 + (d : ℕ), by omega⟩)

/-- A number that is not negative multiplies a sum of extended reals term by term. -/
theorem sum_mul_num {n : ℕ} (f : Fin n → EReal) {c : ℝ} (hc : 0 ≤ c) : (∑ i, f i) * (c : EReal) = ∑ i, f i * (c : EReal) :=
  map_sum (⟨⟨fun x => x * (c : EReal), zero_mul _⟩, fun x y =>
    EReal.right_distrib_of_nonneg_of_ne_top (EReal.coe_nonneg.2 hc) (EReal.coe_ne_top c) x y⟩ : EReal →+ EReal) f Finset.univ

/-- The unnormalised output over the sum of the exponentials is the output. -/
theorem div_mass (q : Fin 4 → Fin 4 → Fin 4096 → Fin 128 → ℝ) (k : Fin 4 → Fin 4096 → Fin 128 → ℝ)
    (v : Fin 4 → Fin 4096 → Fin 128 → EReal) (a b : Fin 4) (r : Fin 4096) (d : Fin 128) :
    Ideal.div (∑ j, (weight q k a b r j : EReal) * v a j d) (mass q k a b r : EReal) = outAny q k v a b r d := by
  have hm := mass_pos q k a b r
  rw [Ideal.div_coe hm.ne', sum_mul_num _ (one_div_pos.2 hm).le, outAny]
  refine Finset.sum_congr rfl fun j _ => ?_
  rw [mul_right_comm, ← EReal.coe_mul, mul_one_div, prob]

end Cert.AttnMath

end
-- ==== Proof.AttnFwdRows.lean ====
module

public import proofs.«01_k».proof.Proof.Gen.AttnFwdIdeal.Skeleton
public import proofs.«01_k».proof.Proof.AttnFwdMath
public import Idealize.ShloMosaic.Lib.Pipeline.ValueKit

/-! What the attention's forward call computes from 128 rows of the queries, over numbers: the product with the values
beside a block of ones gives the unnormalised output and, in its lane 128, the sum of the exponentials. -/

@[expose] public section

set_option maxRecDepth 16384

noncomputable section

namespace Cert.AttnFwdIdeal.Attn

open Idealize.ShloMosaic Idealize.ShloMosaic.TcCoe Idealize.SL.Sem
open Cert.AttnFwdIdeal Cert.AttnFwdIdeal.Gen Cert.AttnMath

variable {K V : FVec Ideal S4096x128 .bf16} {x : FVec Ideal S128x128 .bf16}
variable {q : Fin 4 → Fin 4 → Fin 4096 → Fin 128 → ℝ} {k : Fin 4 → Fin 4096 → Fin 128 → ℝ} {v : Fin 4 → Fin 4096 → Fin 128 → EReal} {a b : Fin 4} {R : Fin 128 → Fin 4096}

/-- The score of a row of the block against a key. -/
theorem row_score (hK : ∀ j d, K (ix2 j d) = (k a j d : EReal)) (hx : ∀ r d, x (ix2 r d) = (q a b (R r) d : EReal))
    (r : Fin 128) (j : Fin 4096) : k0_pay2 (F := Ideal) K x (ix2 r j) = (score q k a b (R r) j : EReal) := by
  pointwise [k0_pay2]
  exact sum_mul (fun d => hx r d) (fun d => hK j d)

theorem row_fold (K : FVec Ideal S4096x128 .bf16) (x : FVec Ideal S128x128 .bf16) (r : Fin 128) (z : Fin 1) :
    k0_pay3 (F := Ideal) K x (ix2 r z) =
      Finset.univ.fold max (Ideal.ofBits .f32 0xFF800000#32) (fun j : Fin 4096 => (k0_pay2 (F := Ideal) K x (ix2 r j) : EReal)) := by
  pointwise [k0_pay3]

/-- The greatest score of a row of the block. -/
theorem row_top (hK : ∀ j d, K (ix2 j d) = (k a j d : EReal)) (hx : ∀ r d, x (ix2 r d) = (q a b (R r) d : EReal))
    (r : Fin 128) (z : Fin 1) : k0_pay3 (F := Ideal) K x (ix2 r z) = (top q k a b (R r) : EReal) := by
  rw [row_fold]
  simp only [row_score hK hx]
  exact fold_top _ _ a b (R r)

/-- The values' lanes of the block the exponentials multiply. -/
theorem ext_val (V : FVec Ideal S4096x128 .bf16) (j : Fin 4096) (d : Fin 128) :
    k0_pay1 (F := Ideal) V (ix2 j ⟨(d : ℕ), by omega⟩) = V (ix2 j d) := by
  pointwise [k0_pay1]

/-- Its lane 128 is one. -/
theorem ext_one (V : FVec Ideal S4096x128 .bf16) (j : Fin 4096) :
    k0_pay1 (F := Ideal) V (ix2 j ⟨128, by omega⟩) = ((1 : ℝ) : EReal) := by
  pointwise [k0_pay1]
  rfl

theorem row_sum (K V : FVec Ideal S4096x128 .bf16) (x : FVec Ideal S128x128 .bf16) (r : Fin 128) (n : Fin 256) :
    k0_pay4 (F := Ideal) K V x (ix2 r n) =
      ∑ j : Fin 4096, Ideal.exp (k0_pay2 (F := Ideal) K x (ix2 r j) - k0_pay3 (F := Ideal) K x (ix2 r 0)) * k0_pay1 (F := Ideal) V (ix2 j n) := by
  pointwise [k0_pay4]

/-- The exponential of a score of the block. -/
theorem row_weight (hK : ∀ j d, K (ix2 j d) = (k a j d : EReal)) (hx : ∀ r d, x (ix2 r d) = (q a b (R r) d : EReal))
    (r : Fin 128) (j : Fin 4096) :
    Ideal.exp (k0_pay2 (F := Ideal) K x (ix2 r j) - k0_pay3 (F := Ideal) K x (ix2 r 0)) = (weight q k a b (R r) j : EReal) := by
  rw [row_score hK hx, row_top hK hx, ← EReal.coe_sub, Ideal.exp_coe, weight]

/-- The unnormalised output of a row of the block. -/
theorem row_num (hK : ∀ j d, K (ix2 j d) = (k a j d : EReal)) (hV : ∀ j d, V (ix2 j d) = v a j d)
    (hx : ∀ r d, x (ix2 r d) = (q a b (R r) d : EReal)) (r : Fin 128) (d : Fin 128) :
    k0_pay4 (F := Ideal) K V x (ix2 r ⟨(d : ℕ), by omega⟩) = ∑ j, (weight q k a b (R r) j : EReal) * v a j d := by
  rw [row_sum]
  exact Finset.sum_congr rfl fun j _ => congrArg₂ (· * ·) (row_weight hK hx r j) ((ext_val V j d).trans (hV j d))

/-- The sum of the exponentials of a row of the block. -/
theorem row_mass (V : FVec Ideal S4096x128 .bf16) (hK : ∀ j d, K (ix2 j d) = (k a j d : EReal))
    (hx : ∀ r d, x (ix2 r d) = (q a b (R r) d : EReal)) (r : Fin 128) :
    k0_pay4 (F := Ideal) K V x (ix2 r ⟨128, by omega⟩) = (mass q k a b (R r) : EReal) := by
  rw [row_sum, mass]
  refine (sum_mul (fun j => row_weight hK hx r j) (fun j => ext_one V j)).trans ?_
  simp only [mul_one]

theorem row_out_eq (K V : FVec Ideal S4096x128 .bf16) (x : FVec Ideal S128x128 .bf16) (r : Fin 128) (d : Fin 128) :
    k0_pay6 (F := Ideal) K V x (ix2 r d) =
      Ideal.div (k0_pay4 (F := Ideal) K V x (ix2 r ⟨(d : ℕ), by omega⟩)) (k0_pay4 (F := Ideal) K V x (ix2 r ⟨128, by omega⟩)) := by
  pointwise [k0_pay6, k0_pay5]

theorem row_lse_eq (K V : FVec Ideal S4096x128 .bf16) (x : FVec Ideal S128x128 .bf16) (r : Fin 128) (d : Fin 128) :
    k0_pay7 (F := Ideal) K V x (ix2 r d) =
      k0_pay3 (F := Ideal) K x (ix2 r 0) + Ideal.log (k0_pay4 (F := Ideal) K V x (ix2 r ⟨128, by omega⟩)) := by
  pointwise [k0_pay7, k0_pay5]

/-- The output of a row of the block. -/
theorem row_out (hK : ∀ j d, K (ix2 j d) = (k a j d : EReal)) (hV : ∀ j d, V (ix2 j d) = v a j d)
    (hx : ∀ r d, x (ix2 r d) = (q a b (R r) d : EReal)) (r : Fin 128) (d : Fin 128) :
    k0_pay6 (F := Ideal) K V x (ix2 r d) = outAny q k v a b (R r) d := by
  rw [row_out_eq, row_num hK hV hx, row_mass V hK hx, div_mass]

/-- The log-sum-exp of a row of the block. -/
theorem row_lse (V : FVec Ideal S4096x128 .bf16) (hK : ∀ j d, K (ix2 j d) = (k a j d : EReal))
    (hx : ∀ r d, x (ix2 r d) = (q a b (R r) d : EReal)) (r : Fin 128) (d : Fin 128) :
    k0_pay7 (F := Ideal) K V x (ix2 r d) = (lse q k a b (R r) : EReal) := by
  rw [row_lse_eq, row_mass V hK hx, row_top hK hx, Ideal.log_coe, if_neg (not_le.2 (mass_pos q k a b (R r))), ← EReal.coe_add, lse]

end Cert.AttnFwdIdeal.Attn

end
-- ==== Proof.AttnFwdStores.lean ====
module

public import proofs.«01_k».proof.Proof.Gen.AttnFwdIdeal.Value

/-! The stores of the attention's forward call: each of the 32 blocks of 128 rows is the same computation of that block's
queries. -/

@[expose] public section

set_option maxRecDepth 16384

noncomputable section

namespace Cert.AttnFwdIdeal.Attn

open Idealize.ShloMosaic Idealize.ShloMosaic.TcCoe Idealize.SL.Sem
open Cert.AttnFwdIdeal Cert.AttnFwdIdeal.Gen

variable {F : FTy → Type} [FloatOps F]

/-- The stores of the output. -/
theorem stores3 (x0 x1 x2 : Vec F S4096x128 .bf16) : out0_3 x0 x1 x2 =
    View.canon [⟨r0_32, k0_pay6 (View.ld x1 r0_0) (View.ld x2 r0_0) (View.ld x0 r0_32)⟩,
    ⟨r0_31, k0_pay6 (View.ld x1 r0_0) (View.ld x2 r0_0) (View.ld x0 r0_31)⟩,
    ⟨r0_30, k0_pay6 (View.ld x1 r0_0) (View.ld x2 r0_0) (View.ld x0 r0_30)⟩,
    ⟨r0_29, k0_pay6 (View.ld x1 r0_0) (View.ld x2 r0_0) (View.ld x0 r0_29)⟩,
    ⟨r0_28, k0_pay6 (View.ld x1 r0_0) (View.ld x2 r0_0) (View.ld x0 r0_28)⟩,
    ⟨r0_27, k0_pay6 (View.ld x1 r0_0) (View.ld x2 r0_0) (View.ld x0 r0_27)⟩,
    ⟨r0_26, k0_pay6 (View.ld x1 r0_0) (View.ld x2 r0_0) (View.ld x0 r0_26)⟩,
    ⟨r0_25, k0_pay6 (View.ld x1 r0_0) (View.ld x2 r0_0) (View.ld x0 r0_25)⟩,
    ⟨r0_24, k0_pay6 (View.ld x1 r0_0) (View.ld x2 r0_0) (View.ld x0 r0_24)⟩,
    ⟨r0_23, k0_pay6 (View.ld x1 r0_0) (View.ld x2 r0_0) (View.ld x0 r0_23)⟩,
    ⟨r0_22, k0_pay6 (View.ld x1 r0_0) (View.ld x2 r0_0) (View.ld x0 r0_22)⟩,
    ⟨r0_21, k0_pay6 (View.ld x1 r0_0) (View.ld x2 r0_0) (View.ld x0 r0_21)⟩,
    ⟨r0_20, k0_pay6 (View.ld x1 r0_0) (View.ld x2 r0_0) (View.ld x0 r0_20)⟩,
    ⟨r0_19, k0_pay6 (View.ld x1 r0_0) (View.ld x2 r0_0) (View.ld x0 r0_19)⟩,
    ⟨r0_18, k0_pay6 (View.ld x1 r0_0) (View.ld x2 r0_0) (View.ld x0 r0_18)⟩,
    ⟨r0_17, k0_pay6 (View.ld x1 r0_0) (View.ld x2 r0_0) (View.ld x0 r0_17)⟩,
    ⟨r0_16, k0_pay6 (View.ld x1 r0_0) (View.ld x2 r0_0) (View.ld x0 r0_16)⟩,
    ⟨r0_15, k0_pay6 (View.ld x1 r0_0) (View.ld x2 r0_0) (View.ld x0 r0_15)⟩,
    ⟨r0_14, k0_pay6 (View.ld x1 r0_0) (View.ld x2 r0_0) (View.ld x0 r0_14)⟩,
    ⟨r0_13, k0_pay6 (View.ld x1 r0_0) (View.ld x2 r0_0) (View.ld x0 r0_13)⟩,
    ⟨r0_12, k0_pay6 (View.ld x1 r0_0) (View.ld x2 r0_0) (View.ld x0 r0_12)⟩,
    ⟨r0_11, k0_pay6 (View.ld x1 r0_0) (View.ld x2 r0_0) (View.ld x0 r0_11)⟩,
    ⟨r0_10, k0_pay6 (View.ld x1 r0_0) (View.ld x2 r0_0) (View.ld x0 r0_10)⟩,
    ⟨r0_9, k0_pay6 (View.ld x1 r0_0) (View.ld x2 r0_0) (View.ld x0 r0_9)⟩,
    ⟨r0_8, k0_pay6 (View.ld x1 r0_0) (View.ld x2 r0_0) (View.ld x0 r0_8)⟩,
    ⟨r0_7, k0_pay6 (View.ld x1 r0_0) (View.ld x2 r0_0) (View.ld x0 r0_7)⟩,
    ⟨r0_6, k0_pay6 (View.ld x1 r0_0) (View.ld x2 r0_0) (View.ld x0 r0_6)⟩,
    ⟨r0_5, k0_pay6 (View.ld x1 r0_0) (View.ld x2 r0_0) (View.ld x0 r0_5)⟩,
    ⟨r0_4, k0_pay6 (View.ld x1 r0_0) (View.ld x2 r0_0) (View.ld x0 r0_4)⟩,
    ⟨r0_3, k0_pay6 (View.ld x1 r0_0) (View.ld x2 r0_0) (View.ld x0 r0_3)⟩,
    ⟨r0_2, k0_pay6 (View.ld x1 r0_0) (View.ld x2 r0_0) (View.ld x0 r0_2)⟩,
    ⟨r0_1, k0_pay6 (View.ld x1 r0_0) (View.ld x2 r0_0) (View.ld x0 r0_1)⟩] := by
  unfold_out out0_3
  rfl

/-- The stores of the log-sum-exp. -/
theorem stores4 (x0 x1 x2 : Vec F S4096x128 .bf16) : out0_4 x0 x1 x2 =
    View.canon [⟨r0_32, k0_pay7 (View.ld x1 r0_0) (View.ld x2 r0_0) (View.ld x0 r0_32)⟩,
    ⟨r0_31, k0_pay7 (View.ld x1 r0_0) (View.ld x2 r0_0) (View.ld x0 r0_31)⟩,
    ⟨r0_30, k0_pay7 (View.ld x1 r0_0) (View.ld x2 r0_0) (View.ld x0 r0_30)⟩,
    ⟨r0_29, k0_pay7 (View.ld x1 r0_0) (View.ld x2 r0_0) (View.ld x0 r0_29)⟩,
    ⟨r0_28, k0_pay7 (View.ld x1 r0_0) (View.ld x2 r0_0) (View.ld x0 r0_28)⟩,
    ⟨r0_27, k0_pay7 (View.ld x1 r0_0) (View.ld x2 r0_0) (View.ld x0 r0_27)⟩,
    ⟨r0_26, k0_pay7 (View.ld x1 r0_0) (View.ld x2 r0_0) (View.ld x0 r0_26)⟩,
    ⟨r0_25, k0_pay7 (View.ld x1 r0_0) (View.ld x2 r0_0) (View.ld x0 r0_25)⟩,
    ⟨r0_24, k0_pay7 (View.ld x1 r0_0) (View.ld x2 r0_0) (View.ld x0 r0_24)⟩,
    ⟨r0_23, k0_pay7 (View.ld x1 r0_0) (View.ld x2 r0_0) (View.ld x0 r0_23)⟩,
    ⟨r0_22, k0_pay7 (View.ld x1 r0_0) (View.ld x2 r0_0) (View.ld x0 r0_22)⟩,
    ⟨r0_21, k0_pay7 (View.ld x1 r0_0) (View.ld x2 r0_0) (View.ld x0 r0_21)⟩,
    ⟨r0_20, k0_pay7 (View.ld x1 r0_0) (View.ld x2 r0_0) (View.ld x0 r0_20)⟩,
    ⟨r0_19, k0_pay7 (View.ld x1 r0_0) (View.ld x2 r0_0) (View.ld x0 r0_19)⟩,
    ⟨r0_18, k0_pay7 (View.ld x1 r0_0) (View.ld x2 r0_0) (View.ld x0 r0_18)⟩,
    ⟨r0_17, k0_pay7 (View.ld x1 r0_0) (View.ld x2 r0_0) (View.ld x0 r0_17)⟩,
    ⟨r0_16, k0_pay7 (View.ld x1 r0_0) (View.ld x2 r0_0) (View.ld x0 r0_16)⟩,
    ⟨r0_15, k0_pay7 (View.ld x1 r0_0) (View.ld x2 r0_0) (View.ld x0 r0_15)⟩,
    ⟨r0_14, k0_pay7 (View.ld x1 r0_0) (View.ld x2 r0_0) (View.ld x0 r0_14)⟩,
    ⟨r0_13, k0_pay7 (View.ld x1 r0_0) (View.ld x2 r0_0) (View.ld x0 r0_13)⟩,
    ⟨r0_12, k0_pay7 (View.ld x1 r0_0) (View.ld x2 r0_0) (View.ld x0 r0_12)⟩,
    ⟨r0_11, k0_pay7 (View.ld x1 r0_0) (View.ld x2 r0_0) (View.ld x0 r0_11)⟩,
    ⟨r0_10, k0_pay7 (View.ld x1 r0_0) (View.ld x2 r0_0) (View.ld x0 r0_10)⟩,
    ⟨r0_9, k0_pay7 (View.ld x1 r0_0) (View.ld x2 r0_0) (View.ld x0 r0_9)⟩,
    ⟨r0_8, k0_pay7 (View.ld x1 r0_0) (View.ld x2 r0_0) (View.ld x0 r0_8)⟩,
    ⟨r0_7, k0_pay7 (View.ld x1 r0_0) (View.ld x2 r0_0) (View.ld x0 r0_7)⟩,
    ⟨r0_6, k0_pay7 (View.ld x1 r0_0) (View.ld x2 r0_0) (View.ld x0 r0_6)⟩,
    ⟨r0_5, k0_pay7 (View.ld x1 r0_0) (View.ld x2 r0_0) (View.ld x0 r0_5)⟩,
    ⟨r0_4, k0_pay7 (View.ld x1 r0_0) (View.ld x2 r0_0) (View.ld x0 r0_4)⟩,
    ⟨r0_3, k0_pay7 (View.ld x1 r0_0) (View.ld x2 r0_0) (View.ld x0 r0_3)⟩,
    ⟨r0_2, k0_pay7 (View.ld x1 r0_0) (View.ld x2 r0_0) (View.ld x0 r0_2)⟩,
    ⟨r0_1, k0_pay7 (View.ld x1 r0_0) (View.ld x2 r0_0) (View.ld x0 r0_1)⟩] := by
  unfold_out out0_4
  rfl

end Cert.AttnFwdIdeal.Attn

end
-- ==== Proof.AttnFwdBlocks.lean ====
module

public import proofs.«01_k».proof.Proof.AttnFwdRows
public import proofs.«01_k».proof.Proof.AttnFwdStores

/-! The attention's forward call, point by point: the blocks a point reads and what it stores, over numbers. -/

@[expose] public section

set_option maxRecDepth 16384

noncomputable section

namespace Cert.AttnFwdIdeal.Attn

open Idealize.ShloMosaic Idealize.ShloMosaic.TcCoe Idealize.SL.Sem
open Cert.AttnFwdIdeal Cert.AttnFwdIdeal.Gen Cert.AttnMath

variable (m : (ℓ : Loc nD τ sig) → Buf (Elt Ideal) ℓ) (c : Dev nD)

/-- The queries and the keys are numbers. -/
structure Finite : Prop where
  q : Num (s := S4096x2048) (m ((c.tc : Thread nD τ).loc main_arg0))
  k : Num (s := S4096x512) (m ((c.tc : Thread nD τ).loc main_arg1))

/-- The queries and keys, as numbers, and the values. -/
def Q : Fin 4 → Fin 4 → Fin 4096 → Fin 128 → ℝ := headed (m ((c.tc : Thread nD τ).loc main_arg0))
def K : Fin 4 → Fin 4096 → Fin 128 → ℝ := grouped (m ((c.tc : Thread nD τ).loc main_arg1))
def W : Fin 4 → Fin 4096 → Fin 128 → EReal := groupedAny (m ((c.tc : Thread nD τ).loc main_arg2))

/-- The group and the head a point is at. -/
def grp (t : Fin cfg0.N) : Fin 4 := ⟨(t : ℕ) / 4, by have := lt_of_lt_of_eq t.isLt (show cfg0.N = 16 from N_0); omega⟩
def hd (t : Fin cfg0.N) : Fin 4 := ⟨(t : ℕ) % 4, by omega⟩

theorem idx : ∀ t : Fin cfg0.N, win0_0.index t = ![0, (t : ℕ)] ∧ win0_1.index t = ![0, (t : ℕ) / 4] ∧
    win0_2.index t = ![0, (t : ℕ) / 4] ∧ win0_3.index t = ![0, (t : ℕ)] ∧ win0_4.index t = ![0, (t : ℕ)] :=
  (by decide +kernel : ∀ t : Fin grid0.N, _)

/-- The head of a lane, back from the lane. -/
theorem lane_grp (a b : Fin 4) (d : Fin 128) (h) : (⟨((a : ℕ) * 512 + (b : ℕ) * 128 + (d : ℕ)) / 512, h⟩ : Fin 4) = a :=
  Fin.ext (show ((a : ℕ) * 512 + (b : ℕ) * 128 + (d : ℕ)) / 512 = (a : ℕ) by omega)
theorem lane_hd (a b : Fin 4) (d : Fin 128) (h) : (⟨((a : ℕ) * 512 + (b : ℕ) * 128 + (d : ℕ)) / 128 % 4, h⟩ : Fin 4) = b :=
  Fin.ext (show ((a : ℕ) * 512 + (b : ℕ) * 128 + (d : ℕ)) / 128 % 4 = (b : ℕ) by omega)
theorem lane_d (a b : Fin 4) (d : Fin 128) (h) : (⟨((a : ℕ) * 512 + (b : ℕ) * 128 + (d : ℕ)) % 128, h⟩ : Fin 128) = d :=
  Fin.ext (show ((a : ℕ) * 512 + (b : ℕ) * 128 + (d : ℕ)) % 128 = (d : ℕ) by omega)

variable {m c} (H : Finite m c) (t : Fin cfg0.N)
include H

theorem blk_q (r : Fin 4096) (d : Fin 128) : (show FVec Ideal S4096x128 .bf16 from iblk m c 0 t) (ix2 r d) = (Q m c (grp t) (hd t) r d : EReal) := by
  refine Eq.trans ?_ (H.q (ix2 r ⟨(grp t : ℕ) * 512 + (hd t : ℕ) * 128 + (d : ℕ), by omega⟩))
  have ht := lt_of_lt_of_eq t.isLt (show cfg0.N = 16 from N_0)
  blk_ext [iblk, V, idx t, grp, hd]

theorem blk_k (j : Fin 4096) (d : Fin 128) : (show FVec Ideal S4096x128 .bf16 from iblk m c 1 t) (ix2 j d) = (K m c (grp t) j d : EReal) := by
  refine Eq.trans ?_ (H.k (ix2 j ⟨(grp t : ℕ) * 128 + (d : ℕ), by omega⟩))
  blk_ext [iblk, V, idx t, grp]

omit H in
theorem blk_v (j : Fin 4096) (d : Fin 128) : (show FVec Ideal S4096x128 .bf16 from iblk m c 2 t) (ix2 j d) = W m c (grp t) j d := by
  show _ = (m ((c.tc : Thread nD τ).loc main_arg2) : FVec Ideal S4096x512 .bf16) (ix2 j ⟨(grp t : ℕ) * 128 + (d : ℕ), by omega⟩)
  blk_ext [iblk, V, idx t, grp]

/-- What a block of rows stores of the output, wherever it is. -/
theorem piece_out {x : FVec Ideal S128x128 .bf16} {Kb Vb : FVec Ideal S4096x128 .bf16} {n : ℕ} (hn : n + 128 ≤ 4096)
    (hK : Kb = (show FVec Ideal S4096x128 .bf16 from iblk m c 1 t)) (hV : Vb = (show FVec Ideal S4096x128 .bf16 from iblk m c 2 t))
    (hx : ∀ r d, x (ix2 r d) = (show FVec Ideal S4096x128 .bf16 from iblk m c 0 t) (ix2 ⟨n + (r : ℕ), by omega⟩ d))
    (r : Fin 128) (d : Fin 128) :
    k0_pay6 (F := Ideal) Kb Vb x (ix2 r d) = outAny (Q m c) (K m c) (W m c) (grp t) (hd t) ⟨n + (r : ℕ), by omega⟩ d := by
  subst hK hV
  exact row_out (R := fun r => ⟨n + (r : ℕ), by omega⟩) (blk_k H t) (blk_v t) (fun r d => (hx r d).trans (blk_q H t _ _)) r d

/-- What a block of rows stores of the log-sum-exp. -/
theorem piece_lse {x : FVec Ideal S128x128 .bf16} {Kb : FVec Ideal S4096x128 .bf16} (Vb : FVec Ideal S4096x128 .bf16) {n : ℕ} (hn : n + 128 ≤ 4096)
    (hK : Kb = (show FVec Ideal S4096x128 .bf16 from iblk m c 1 t))
    (hx : ∀ r d, x (ix2 r d) = (show FVec Ideal S4096x128 .bf16 from iblk m c 0 t) (ix2 ⟨n + (r : ℕ), by omega⟩ d))
    (r : Fin 128) (d : Fin 128) :
    k0_pay7 (F := Ideal) Kb Vb x (ix2 r d) = (lse (Q m c) (K m c) (grp t) (hd t) ⟨n + (r : ℕ), by omega⟩ : EReal) := by
  subst hK
  exact row_lse (R := fun r => ⟨n + (r : ℕ), by omega⟩) Vb (blk_k H t) (fun r d => (hx r d).trans (blk_q H t _ _)) r d

omit H t in
/-- A block read whole is itself. -/
theorem ld_whole (X : FVec Ideal S4096x128 .bf16) : View.ld (Val := Elt Ideal) (e' := .bf16) X r0_0 = X := by
  funext y
  refine congrArg X (funext fun a => Fin.ext ?_)
  fin_cases a
  · show 0 + 1 * (y 0 : ℕ) = (y 0 : ℕ); omega
  · show 0 + 1 * (y 1 : ℕ) = (y 1 : ℕ); omega

omit H t in
/-- 128 rows read from a block. -/
theorem ld_rows (X : FVec Ideal S4096x128 .bf16) {n : ℕ} (hn : n + 128 ≤ 4096) (hb) (r d : Fin 128) :
    (show FVec Ideal S128x128 .bf16 from View.ld (Val := Elt Ideal) (e' := .bf16) X (Rect.unit (s := S4096x128) ![n, 0] S128x128.size hb)) (ix2 r d) =
      X (ix2 ⟨n + (r : ℕ), by omega⟩ d) := by
  refine congrArg X (funext fun a => Fin.ext ?_)
  fin_cases a
  · show n + 1 * (r : ℕ) = n + (r : ℕ); omega
  · show 0 + 1 * (d : ℕ) = (d : ℕ); omega

/-- 128 rows of a point's output. -/
theorem store_out (n : ℕ) (hn : n + 128 ≤ 4096) (hb) (y : S128x128.Idx) (z : S4096x128.Idx)
    (h0 : ((z 0 : Fin 4096) : ℕ) = n + ((y 0 : Fin 128) : ℕ)) (h1 : ((z 1 : Fin 128) : ℕ) = ((y 1 : Fin 128) : ℕ)) :
    k0_pay6 (F := Ideal) (View.ld (iblk m c 1 t) r0_0) (View.ld (iblk m c 2 t) r0_0)
      (View.ld (iblk m c 0 t) (Rect.unit (s := S4096x128) ![n, 0] S128x128.size hb)) y =
    outAny (Q m c) (K m c) (W m c) (grp t) (hd t) (z 0) (z 1) := by
  rw [eq_ix2 y]
  refine (piece_out H t hn (ld_whole _) (ld_whole _) (ld_rows _ hn hb) (y 0) (y 1)).trans ?_
  exact congrArg₂ (fun r d => outAny (Q m c) (K m c) (W m c) (grp t) (hd t) r d) (Fin.ext h0.symm) (Fin.ext h1.symm)

/-- 128 rows of a point's log-sum-exp. -/
theorem store_lse (n : ℕ) (hn : n + 128 ≤ 4096) (hb) (y : S128x128.Idx) (z : S4096x128.Idx)
    (h0 : ((z 0 : Fin 4096) : ℕ) = n + ((y 0 : Fin 128) : ℕ)) :
    k0_pay7 (F := Ideal) (View.ld (iblk m c 1 t) r0_0) (View.ld (iblk m c 2 t) r0_0)
      (View.ld (iblk m c 0 t) (Rect.unit (s := S4096x128) ![n, 0] S128x128.size hb)) y =
    (lse (Q m c) (K m c) (grp t) (hd t) (z 0) : EReal) := by
  rw [eq_ix2 y]
  refine (piece_lse H t _ hn (ld_whole _) (ld_rows _ hn hb) (y 0) (y 1)).trans ?_
  exact congrArg (fun r => (lse (Q m c) (K m c) (grp t) (hd t) r : EReal)) (Fin.ext h0.symm)

/-- What a point stores of the output. -/
theorem point_out (y : S4096x128.Idx) : out0_3 (F := Ideal) (iblk m c 0 t) (iblk m c 1 t) (iblk m c 2 t) y =
    outAny (Q m c) (K m c) (W m c) (grp t) (hd t) (y 0) (y 1) := by
  rw [stores3]
  canon_tiles y h
  · exact store_out H t 3968 (by norm_num) _ y _ (by omega) (by omega)
  · exact store_out H t 3840 (by norm_num) _ y _ (by omega) (by omega)
  · exact store_out H t 3712 (by norm_num) _ y _ (by omega) (by omega)
  · exact store_out H t 3584 (by norm_num) _ y _ (by omega) (by omega)
  · exact store_out H t 3456 (by norm_num) _ y _ (by omega) (by omega)
  · exact store_out H t 3328 (by norm_num) _ y _ (by omega) (by omega)
  · exact store_out H t 3200 (by norm_num) _ y _ (by omega) (by omega)
  · exact store_out H t 3072 (by norm_num) _ y _ (by omega) (by omega)
  · exact store_out H t 2944 (by norm_num) _ y _ (by omega) (by omega)
  · exact store_out H t 2816 (by norm_num) _ y _ (by omega) (by omega)
  · exact store_out H t 2688 (by norm_num) _ y _ (by omega) (by omega)
  · exact store_out H t 2560 (by norm_num) _ y _ (by omega) (by omega)
  · exact store_out H t 2432 (by norm_num) _ y _ (by omega) (by omega)
  · exact store_out H t 2304 (by norm_num) _ y _ (by omega) (by omega)
  · exact store_out H t 2176 (by norm_num) _ y _ (by omega) (by omega)
  · exact store_out H t 2048 (by norm_num) _ y _ (by omega) (by omega)
  · exact store_out H t 1920 (by norm_num) _ y _ (by omega) (by omega)
  · exact store_out H t 1792 (by norm_num) _ y _ (by omega) (by omega)
  · exact store_out H t 1664 (by norm_num) _ y _ (by omega) (by omega)
  · exact store_out H t 1536 (by norm_num) _ y _ (by omega) (by omega)
  · exact store_out H t 1408 (by norm_num) _ y _ (by omega) (by omega)
  · exact store_out H t 1280 (by norm_num) _ y _ (by omega) (by omega)
  · exact store_out H t 1152 (by norm_num) _ y _ (by omega) (by omega)
  · exact store_out H t 1024 (by norm_num) _ y _ (by omega) (by omega)
  · exact store_out H t 896 (by norm_num) _ y _ (by omega) (by omega)
  · exact store_out H t 768 (by norm_num) _ y _ (by omega) (by omega)
  · exact store_out H t 640 (by norm_num) _ y _ (by omega) (by omega)
  · exact store_out H t 512 (by norm_num) _ y _ (by omega) (by omega)
  · exact store_out H t 384 (by norm_num) _ y _ (by omega) (by omega)
  · exact store_out H t 256 (by norm_num) _ y _ (by omega) (by omega)
  · exact store_out H t 128 (by norm_num) _ y _ (by omega) (by omega)
  · exact store_out H t 0 (by norm_num) _ y _ (by omega) (by omega)

/-- What a point stores of the log-sum-exp. -/
theorem point_lse (y : S4096x128.Idx) : out0_4 (F := Ideal) (iblk m c 0 t) (iblk m c 1 t) (iblk m c 2 t) y =
    (lse (Q m c) (K m c) (grp t) (hd t) (y 0) : EReal) := by
  rw [stores4]
  canon_tiles y h
  · exact store_lse H t 3968 (by norm_num) _ y _ (by omega)
  · exact store_lse H t 3840 (by norm_num) _ y _ (by omega)
  · exact store_lse H t 3712 (by norm_num) _ y _ (by omega)
  · exact store_lse H t 3584 (by norm_num) _ y _ (by omega)
  · exact store_lse H t 3456 (by norm_num) _ y _ (by omega)
  · exact store_lse H t 3328 (by norm_num) _ y _ (by omega)
  · exact store_lse H t 3200 (by norm_num) _ y _ (by omega)
  · exact store_lse H t 3072 (by norm_num) _ y _ (by omega)
  · exact store_lse H t 2944 (by norm_num) _ y _ (by omega)
  · exact store_lse H t 2816 (by norm_num) _ y _ (by omega)
  · exact store_lse H t 2688 (by norm_num) _ y _ (by omega)
  · exact store_lse H t 2560 (by norm_num) _ y _ (by omega)
  · exact store_lse H t 2432 (by norm_num) _ y _ (by omega)
  · exact store_lse H t 2304 (by norm_num) _ y _ (by omega)
  · exact store_lse H t 2176 (by norm_num) _ y _ (by omega)
  · exact store_lse H t 2048 (by norm_num) _ y _ (by omega)
  · exact store_lse H t 1920 (by norm_num) _ y _ (by omega)
  · exact store_lse H t 1792 (by norm_num) _ y _ (by omega)
  · exact store_lse H t 1664 (by norm_num) _ y _ (by omega)
  · exact store_lse H t 1536 (by norm_num) _ y _ (by omega)
  · exact store_lse H t 1408 (by norm_num) _ y _ (by omega)
  · exact store_lse H t 1280 (by norm_num) _ y _ (by omega)
  · exact store_lse H t 1152 (by norm_num) _ y _ (by omega)
  · exact store_lse H t 1024 (by norm_num) _ y _ (by omega)
  · exact store_lse H t 896 (by norm_num) _ y _ (by omega)
  · exact store_lse H t 768 (by norm_num) _ y _ (by omega)
  · exact store_lse H t 640 (by norm_num) _ y _ (by omega)
  · exact store_lse H t 512 (by norm_num) _ y _ (by omega)
  · exact store_lse H t 384 (by norm_num) _ y _ (by omega)
  · exact store_lse H t 256 (by norm_num) _ y _ (by omega)
  · exact store_lse H t 128 (by norm_num) _ y _ (by omega)
  · exact store_lse H t 0 (by norm_num) _ y _ (by omega)

omit H t in
/-- A row of the output, and of the log-sum-exp, over the lanes of all heads. -/
def outArr (m : (ℓ : Loc nD τ sig) → Buf (Elt Ideal) ℓ) (c : Dev nD) (r : Fin 4096) (l : Fin 2048) : EReal :=
  outAny (Q m c) (K m c) (W m c) ⟨(l : ℕ) / 512, by omega⟩ ⟨(l : ℕ) / 128 % 4, by omega⟩ r ⟨(l : ℕ) % 128, by omega⟩
omit H t in
def lseArr (m : (ℓ : Loc nD τ sig) → Buf (Elt Ideal) ℓ) (c : Dev nD) (r : Fin 4096) (l : Fin 2048) : EReal :=
  (lse (Q m c) (K m c) ⟨(l : ℕ) / 512, by omega⟩ ⟨(l : ℕ) / 128 % 4, by omega⟩ r : ℝ)

omit H t in
theorem outArr_lane (a b : Fin 4) (r : Fin 4096) (d : Fin 128) :
    outArr m c r ⟨(a : ℕ) * 512 + (b : ℕ) * 128 + (d : ℕ), by omega⟩ = outAny (Q m c) (K m c) (W m c) a b r d := by
  unfold outArr
  rw [lane_grp, lane_hd, lane_d]

omit H t in
theorem lseArr_lane (a b : Fin 4) (r : Fin 4096) (d : Fin 128) :
    lseArr m c r ⟨(a : ℕ) * 512 + (b : ℕ) * 128 + (d : ℕ), by omega⟩ = (lse (Q m c) (K m c) a b r : EReal) := by
  unfold lseArr
  rw [lane_grp, lane_hd]

omit t in
/-- The output, as the call leaves it. -/
theorem final_out : (dats m 0 c).arrAt 3 (cfgs 0).N = (fun i => outArr m c (i 0) (i 1) : FVec Ideal S4096x2048 .bf16) := by
  refine (dats m 0 c).arrAt_eq_of_covers 3 _ (by decide +kernel) fun t _ y => ?_
  have hN := lt_of_lt_of_eq t.isLt (show cfg0.N = 16 from N_0)
  blk_simp
  rw [after0_3]
  refine (point_out H t y).trans ((outArr_lane (grp t) (hd t) _ _).symm.trans (congrArg₂ (outArr m c) (Fin.ext ?_) (Fin.ext ?_)))
  all_goals (blk_simp [idx t, grp, hd] <;> (try dsimp only) <;> try omega)

omit t in
/-- The log-sum-exp, as the call leaves it. -/
theorem final_lse : (dats m 0 c).arrAt 4 (cfgs 0).N = (fun i => lseArr m c (i 0) (i 1) : FVec Ideal S4096x2048 .f32) := by
  refine (dats m 0 c).arrAt_eq_of_covers 4 _ (by decide +kernel) fun t _ y => ?_
  have hN := lt_of_lt_of_eq t.isLt (show cfg0.N = 16 from N_0)
  blk_simp
  rw [after0_4]
  refine (point_lse H t y).trans ((lseArr_lane (grp t) (hd t) _ (y 1)).symm.trans (congrArg₂ (lseArr m c) (Fin.ext ?_) (Fin.ext ?_)))
  all_goals (blk_simp [idx t, grp, hd] <;> (try dsimp only) <;> try omega)

end Cert.AttnFwdIdeal.Attn

end
-- ==== Proof.AttnFwdClaim.lean ====
module

public import proofs.«01_k».proof.Defs
public import proofs.«01_k».proof.Proof.AttnFwdBlocks
public import proofs.«01_k».proof.Proof.AttnSaved
public import proofs.«01_k».proof.Proof.AttnFinite
public import proofs.«01_k».proof.Proof.Gen.AttnFwdRefIdeal.Run
public import proofs.«01_k».proof.Proof.Gen.AttnFwdRefIdeal.Read
public import Idealize.ShloMosaic.Lib.Claim

/-! The claim about the attention's forward call, from the two runs, the two arrays the call leaves and the two the
reference computes. -/

@[expose] public section

set_option maxRecDepth 16384

noncomputable section

namespace Cert.AttnFwdIdeal.Attn

open Idealize.ShloMosaic Idealize.ShloMosaic.TcCoe Idealize.SL.Sem Cert.AttnMath

open Cert.AttnFwdRefIdeal Cert.AttnFwdRefIdeal.Read in
/-- The reference's output, whatever the values are. -/
theorem ref_out {x0 : FVec Ideal S4096x2048 .bf16} {x1 x2 : FVec Ideal S4096x512 .bf16} (h0 : Num x0) (h1 : Num x1)
    (r : Fin 4096) (l : Fin 2048) :
    val_main_v38 (F := Ideal) x0 x1 x2 (ix2 r l) =
      outAny (headed x0) (grouped x1) (groupedAny x2) ⟨(l : ℕ) / 512, by omega⟩ ⟨(l : ℕ) / 128 % 4, by omega⟩ r
        ⟨(l : ℕ) % 128, by omega⟩ := by
  pointwise [val_main_v38, val_main_v37, val_main_v36, val_main_v35, val_main_v22, val_main_v21, val_main_v2]
  exact Finset.sum_congr rfl fun j _ => congrArg₂ (· * ·) (Cert.AttnFwdRefIdeal.Attn.probs h0 h1 _ _ _ _) rfl

open Cert.AttnFwdRefIdeal in
/-- The reference's run, its two results by the names of their last lines. -/
theorem run_ref (m' : (ℓ : Loc Cert.AttnFwdRefIdeal.nD Cert.AttnFwdRefIdeal.τ Cert.AttnFwdRefIdeal.sig) → Buf (Elt Ideal) ℓ)
    (g' : Dev Cert.AttnFwdRefIdeal.nD → PrngReg) :
    θ_run (Cert.AttnFwdRefIdeal.defs (F := Ideal)) (onTc (τ := Cert.AttnFwdRefIdeal.τ) (Cert.AttnFwdRefIdeal.main (F := Ideal)))
      ⟨m', fun _ => 0, g'⟩ fun r => ∀ c : Dev Cert.AttnFwdRefIdeal.nD,
        r.2.mem ((c.tc : Thread Cert.AttnFwdRefIdeal.nD Cert.AttnFwdRefIdeal.τ).loc Cert.AttnFwdRefIdeal.main_v38)
            = Read.val_main_v38 (F := Ideal) (m' (c.tc.loc Cert.AttnFwdRefIdeal.main_arg0)) (m' (c.tc.loc Cert.AttnFwdRefIdeal.main_arg1)) (m' (c.tc.loc Cert.AttnFwdRefIdeal.main_arg2))
        ∧ r.2.mem ((c.tc : Thread Cert.AttnFwdRefIdeal.nD Cert.AttnFwdRefIdeal.τ).loc Cert.AttnFwdRefIdeal.main_v41)
            = Read.val_main_v41 (F := Ideal) (m' (c.tc.loc Cert.AttnFwdRefIdeal.main_arg0)) (m' (c.tc.loc Cert.AttnFwdRefIdeal.main_arg1))
        ∧ r.2.mem ((c.tc : Thread Cert.AttnFwdRefIdeal.nD Cert.AttnFwdRefIdeal.τ).loc Cert.AttnFwdRefIdeal.main_arg0) = m' (c.tc.loc Cert.AttnFwdRefIdeal.main_arg0)
        ∧ r.2.mem ((c.tc : Thread Cert.AttnFwdRefIdeal.nD Cert.AttnFwdRefIdeal.τ).loc Cert.AttnFwdRefIdeal.main_arg1) = m' (c.tc.loc Cert.AttnFwdRefIdeal.main_arg1)
        ∧ r.2.mem ((c.tc : Thread Cert.AttnFwdRefIdeal.nD Cert.AttnFwdRefIdeal.τ).loc Cert.AttnFwdRefIdeal.main_arg2) = m' (c.tc.loc Cert.AttnFwdRefIdeal.main_arg2) :=
  (θ_run _ _ _).mono (fun _ h c => ⟨(h c).1.trans (Read.val_main_v38_eq _ _ _), (h c).2.1.trans (Read.val_main_v41_eq _ _),
    (h c).2.2⟩) (Cert.AttnFwdRefIdeal.Value.run m' g')

variable {m : (ℓ : Loc nD τ sig) → Buf (Elt Ideal) ℓ} {c : Dev nD}

/-- The reference's output is the array the call leaves. -/
theorem eq_out (H : Finite m c) :
    Cert.AttnFwdRefIdeal.Read.val_main_v38 (F := Ideal) (m (c.tc.loc main_arg0)) (m (c.tc.loc main_arg1)) (m (c.tc.loc main_arg2))
      = fun i => outArr m c (i 0) (i 1) := by
  funext i
  conv_lhs => rw [eq_ix2 i]
  exact ref_out H.q H.k (i 0) (i 1)

/-- The reference's log-sum-exp is the array the call leaves. -/
theorem eq_lse (H : Finite m c) :
    Cert.AttnFwdRefIdeal.Read.val_main_v41 (F := Ideal) (m (c.tc.loc main_arg0)) (m (c.tc.loc main_arg1))
      = fun i => lseArr m c (i 0) (i 1) := by
  funext i
  conv_lhs => rw [eq_ix2 i]
  exact Cert.AttnFwdRefIdeal.Attn.saved_lse H.q H.k (i 0) (i 1)

set_option maxHeartbeats 4000000 in
/-- The attention's forward call, claimed: the kernel's two arrays are the reference's. -/
theorem algebraic [Cert.Pre_finite_qk.Facts] : Cert.algebraic_AttnFwdIdeal_AttnFwdRefIdeal_pre_finite_qk := by
  pair_intro
  · run_from Cert.AttnFwdIdeal.Gen.run_main m g
  · refine (θ_run _ _ _).mono (fun r h c => ?_) (run_ref m' g')
    have n := Cert.Pre_finite_qk.nums _ _ _ (hpre c)
    have H : Finite m c := ⟨n.1, n.2⟩
    refine ⟨(h c).1.trans ?_, (h c).2.1.trans ?_, (h c).2.2⟩
    all_goals clear h
    all_goals rw [(hagree c).1, (hagree c).2.1]
    · rw [(hagree c).2.2]
      exact (eq_out H).trans (final_out H).symm
    · exact (eq_lse H).trans (final_lse H).symm

end Cert.AttnFwdIdeal.Attn

end
-- ==== Proof.DWoutValue.lean ====
module

public import proofs.«01_k».proof.Proof.Gen.DWoutIdeal.Value
public import proofs.«01_k».proof.Proof.Gen.DWoutRefIdeal.Read
public import Idealize.ShloMosaic.Lib.Pipeline.ValueKit

/-! The weight gradient of the output projection: what one block of the product computes, and that the blocks tile
the array the reference computes. -/

@[expose] public section

set_option maxRecDepth 16384

noncomputable section

namespace Cert.DWoutIdeal.Product

open Idealize.ShloMosaic Idealize.ShloMosaic.TcCoe Idealize.SL.Sem
open Cert.DWoutIdeal Cert.DWoutIdeal.Gen

/-- The product every block is a part of: rows of the activations against columns of the cotangent. -/
def prod (yt g : FVec Ideal S4096x4096 .bf16) : FVec Ideal S4096x4096 .bf16 :=
  fun i => ∑ k : Fin 4096, yt (ix2 (i 0) k) * g (ix2 k (i 1))

theorem idx : ∀ t : Fin cfg0.N, win0_0.index t = ![(t : ℕ) / 4, 0] ∧ win0_1.index t = ![0, (t : ℕ) % 4] ∧
    win0_2.index t = ![(t : ℕ) / 4, (t : ℕ) % 4] :=
  (by decide +kernel : ∀ t : Fin grid0.N, _)

/-- What a point stores is the product read in the block it stores to. -/
theorem point (m : (ℓ : Loc nD τ sig) → Buf (Elt Ideal) ℓ) (c : Dev nD) (t : Fin cfg0.N) (y : S1024x1024.Idx) :
    k0_pay1 (F := Ideal) (iblk m c 0 t) (iblk m c 1 t) y =
      prod (m ((c.tc : Thread nD τ).loc main_arg0)) (m ((c.tc : Thread nD τ).loc main_arg1))
        (((cfg0.win 2).blk t).view.emb y) := by
  pointwise [k0_pay1, prod]
  blk_point [iblk, V, idx t]

theorem final (m : (ℓ : Loc nD τ sig) → Buf (Elt Ideal) ℓ) (c : Dev nD) :
    (dats m 0 c).arrAt 2 (cfgs 0).N =
      prod (m ((c.tc : Thread nD τ).loc main_arg0)) (m ((c.tc : Thread nD τ).loc main_arg1)) := by
  refine (dats m 0 c).arrAt_eq_of_covers 2 _ (by decide +kernel) fun t _ y => ?_
  blk_simp
  rw [after0_2]
  frame_out
  exact point m c t y

/-- The reference's result is the same product. -/
theorem ref (yt g : FVec Ideal S4096x4096 .bf16) :
    Cert.DWoutRefIdeal.Read.val_main_v7 (F := Ideal) yt g = prod yt g := by
  funext i
  pointwise [Cert.DWoutRefIdeal.Read.val_main_v7, Cert.DWoutRefIdeal.Read.val_main_v6,
    Cert.DWoutRefIdeal.Read.val_main_v5, Cert.DWoutRefIdeal.Read.val_main_v4, Cert.DWoutRefIdeal.Read.val_main_v1,
    Cert.DWoutRefIdeal.Read.val_main_v0, prod]
  exact Finset.sum_congr rfl fun k _ => mul_comm _ _

end Cert.DWoutIdeal.Product

end
-- ==== Proof.DWoutClaim.lean ====
module

public import proofs.«01_k».proof.Defs
public import proofs.«01_k».proof.Proof.DWoutValue
public import proofs.«01_k».proof.Proof.Gen.DWoutRefIdeal.Run
public import Idealize.ShloMosaic.Lib.Claim

/-! The claim about the output projection's weight gradient, from the two runs and the value of the product. -/

@[expose] public section

set_option maxRecDepth 16384

noncomputable section

namespace Cert.DWoutIdeal.Product

open Idealize.ShloMosaic Idealize.ShloMosaic.TcCoe Idealize.SL.Sem

theorem algebraic : Cert.algebraic_DWoutIdeal_DWoutRefIdeal := by
  pair_intro
  · run_from Cert.DWoutIdeal.Gen.run_main m g
  · run_from Cert.DWoutRefIdeal.Value.run m' g'
    exact (ref _ _).trans (final m c).symm

end Cert.DWoutIdeal.Product

end
-- ==== Proof.DYValue.lean ====
module

public import proofs.«01_k».proof.Proof.Gen.DYIdeal.Value
public import proofs.«01_k».proof.Proof.Gen.DYRefIdeal.Read
public import Idealize.ShloMosaic.Lib.Pipeline.ValueKit

/-! The gradient of the output projection's input: what one block of the product with the transposed weight
computes, and that the blocks tile the array the reference computes. -/

@[expose] public section

set_option maxRecDepth 16384

noncomputable section

namespace Cert.DYIdeal.Product

open Idealize.ShloMosaic Idealize.ShloMosaic.TcCoe Idealize.SL.Sem
open Cert.DYIdeal Cert.DYIdeal.Gen

/-- Rows of the cotangent against rows of the weight: the product with the weight transposed. -/
def prod (g w : FVec Ideal S4096x4096 .bf16) : FVec Ideal S4096x4096 .f32 :=
  fun i => ∑ k : Fin 4096, g (ix2 (i 0) k) * w (ix2 (i 1) k)

theorem idx : ∀ t : Fin cfg0.N, win0_0.index t = ![(t : ℕ) / 4, 0] ∧ win0_1.index t = ![(t : ℕ) % 4, 0] ∧
    win0_2.index t = ![(t : ℕ) / 4, (t : ℕ) % 4] :=
  (by decide +kernel : ∀ t : Fin grid0.N, _)

/-- What a point stores is the product read in the block it stores to. -/
theorem point (m : (ℓ : Loc nD τ sig) → Buf (Elt Ideal) ℓ) (c : Dev nD) (t : Fin cfg0.N) (y : S1024x1024.Idx) :
    k0_pay1 (F := Ideal) (iblk m c 0 t) (iblk m c 1 t) y =
      prod (m ((c.tc : Thread nD τ).loc main_arg0)) (m ((c.tc : Thread nD τ).loc main_arg1))
        (((cfg0.win 2).blk t).view.emb y) := by
  pointwise [k0_pay1, prod]
  blk_point [iblk, V, idx t]

theorem final (m : (ℓ : Loc nD τ sig) → Buf (Elt Ideal) ℓ) (c : Dev nD) :
    (dats m 0 c).arrAt 2 (cfgs 0).N =
      prod (m ((c.tc : Thread nD τ).loc main_arg0)) (m ((c.tc : Thread nD τ).loc main_arg1)) := by
  refine (dats m 0 c).arrAt_eq_of_covers 2 _ (by decide +kernel) fun t _ y => ?_
  blk_simp
  rw [after0_2]
  frame_out
  exact point m c t y

/-- The reference's result is the same product. -/
theorem ref (g w : FVec Ideal S4096x4096 .bf16) : Cert.DYRefIdeal.Read.val_main_v4 (F := Ideal) g w = prod g w := by
  funext i
  pointwise [Cert.DYRefIdeal.Read.val_main_v4, Cert.DYRefIdeal.Read.val_main_v3, Cert.DYRefIdeal.Read.val_main_v0, prod]

end Cert.DYIdeal.Product

end
-- ==== Proof.DYClaim.lean ====
module

public import proofs.«01_k».proof.Defs
public import proofs.«01_k».proof.Proof.DYValue
public import proofs.«01_k».proof.Proof.Gen.DYRefIdeal.Run
public import Idealize.ShloMosaic.Lib.Claim

/-! The claim about the output projection's input gradient, from the two runs and the value of the product. -/

@[expose] public section

set_option maxRecDepth 16384

noncomputable section

namespace Cert.DYIdeal.Product

open Idealize.ShloMosaic Idealize.ShloMosaic.TcCoe Idealize.SL.Sem

theorem algebraic : Cert.algebraic_DYIdeal_DYRefIdeal := by
  pair_intro
  · run_from Cert.DYIdeal.Gen.run_main m g
  · run_from Cert.DYRefIdeal.Value.run m' g'
    exact (ref _ _).trans (final m c).symm

end Cert.DYIdeal.Product

end
-- ==== Proof.DWinValue.lean ====
module

public import proofs.«01_k».proof.Proof.Gen.DWinIdeal.Value
public import proofs.«01_k».proof.Proof.Gen.DWinRefIdeal.Read
public import Idealize.ShloMosaic.Lib.Pipeline.ValueKit

/-! The weight gradient of the input projection: what one block of the product computes, and that the blocks tile
the array the reference computes. -/

@[expose] public section

set_option maxRecDepth 16384

noncomputable section

namespace Cert.DWinIdeal.Product

open Idealize.ShloMosaic Idealize.ShloMosaic.TcCoe Idealize.SL.Sem
open Cert.DWinIdeal Cert.DWinIdeal.Gen

/-- The product every block is a part of: rows of the activations against columns of the cotangent. -/
def prod (ht : FVec Ideal S4096x4096 .bf16) (g : FVec Ideal S4096x11264 .bf16) : FVec Ideal S4096x11264 .bf16 :=
  fun i => ∑ k : Fin 4096, ht (ix2 (i 0) k) * g (ix2 k (i 1))

theorem idx : ∀ t : Fin cfg0.N, win0_0.index t = ![(t : ℕ) / 11, 0] ∧ win0_1.index t = ![0, (t : ℕ) % 11] ∧
    win0_2.index t = ![(t : ℕ) / 11, (t : ℕ) % 11] :=
  (by decide +kernel : ∀ t : Fin grid0.N, _)

/-- What a point stores is the product read in the block it stores to. -/
theorem point (m : (ℓ : Loc nD τ sig) → Buf (Elt Ideal) ℓ) (c : Dev nD) (t : Fin cfg0.N) (y : S1024x1024.Idx) :
    k0_pay1 (F := Ideal) (iblk m c 0 t) (iblk m c 1 t) y =
      prod (m ((c.tc : Thread nD τ).loc main_arg0)) (m ((c.tc : Thread nD τ).loc main_arg1))
        (((cfg0.win 2).blk t).view.emb y) := by
  pointwise [k0_pay1, prod]
  blk_point [iblk, V, idx t]

theorem final (m : (ℓ : Loc nD τ sig) → Buf (Elt Ideal) ℓ) (c : Dev nD) :
    (dats m 0 c).arrAt 2 (cfgs 0).N =
      prod (m ((c.tc : Thread nD τ).loc main_arg0)) (m ((c.tc : Thread nD τ).loc main_arg1)) := by
  refine (dats m 0 c).arrAt_eq_of_covers 2 _ (by decide +kernel) fun t _ y => ?_
  blk_simp
  rw [after0_2]
  frame_out
  exact point m c t y

/-- The reference's result is the same product. -/
theorem ref (ht : FVec Ideal S4096x4096 .bf16) (g : FVec Ideal S4096x11264 .bf16) :
    Cert.DWinRefIdeal.Read.val_main_v7 (F := Ideal) ht g = prod ht g := by
  funext i
  pointwise [Cert.DWinRefIdeal.Read.val_main_v7, Cert.DWinRefIdeal.Read.val_main_v6,
    Cert.DWinRefIdeal.Read.val_main_v5, Cert.DWinRefIdeal.Read.val_main_v4, Cert.DWinRefIdeal.Read.val_main_v1,
    Cert.DWinRefIdeal.Read.val_main_v0, prod]
  exact Finset.sum_congr rfl fun k _ => mul_comm _ _

end Cert.DWinIdeal.Product

end
-- ==== Proof.DWinClaim.lean ====
module

public import proofs.«01_k».proof.Defs
public import proofs.«01_k».proof.Proof.DWinValue
public import proofs.«01_k».proof.Proof.Gen.DWinRefIdeal.Run
public import Idealize.ShloMosaic.Lib.Claim

/-! The claim about the input projection's weight gradient, from the two runs and the value of the product. -/

@[expose] public section

set_option maxRecDepth 16384

noncomputable section

namespace Cert.DWinIdeal.Product

open Idealize.ShloMosaic Idealize.ShloMosaic.TcCoe Idealize.SL.Sem

theorem algebraic : Cert.algebraic_DWinIdeal_DWinRefIdeal := by
  pair_intro
  · run_from Cert.DWinIdeal.Gen.run_main m g
  · run_from Cert.DWinRefIdeal.Value.run m' g'
    exact (ref _ _).trans (final m c).symm

end Cert.DWinIdeal.Product

end
-- ==== Proof.DHValue.lean ====
module

public import proofs.«01_k».proof.Proof.Gen.DHIdeal.Value
public import proofs.«01_k».proof.Proof.Gen.DHRefIdeal.Read
public import Idealize.ShloMosaic.Lib.Pipeline.ValueKit

/-! The gradient of the input projection's input: what one block of the product with the transposed weight
computes, and that the blocks tile the array the reference computes. -/

@[expose] public section

set_option maxRecDepth 16384

noncomputable section

namespace Cert.DHIdeal.Product

open Idealize.ShloMosaic Idealize.ShloMosaic.TcCoe Idealize.SL.Sem
open Cert.DHIdeal Cert.DHIdeal.Gen

/-- Rows of the cotangent against rows of the weight: the product with the weight transposed. -/
def prod (g w : FVec Ideal S4096x11264 .bf16) : FVec Ideal S4096x4096 .f32 :=
  fun i => ∑ k : Fin 11264, g (ix2 (i 0) k) * w (ix2 (i 1) k)

theorem idx : ∀ t : Fin cfg0.N, win0_0.index t = ![(t : ℕ) / 8, 0] ∧ win0_1.index t = ![(t : ℕ) % 8, 0] ∧
    win0_2.index t = ![(t : ℕ) / 8, (t : ℕ) % 8] :=
  (by decide +kernel : ∀ t : Fin grid0.N, _)

/-- What a point stores is the product read in the block it stores to. -/
theorem point (m : (ℓ : Loc nD τ sig) → Buf (Elt Ideal) ℓ) (c : Dev nD) (t : Fin cfg0.N) (y : S512x512.Idx) :
    k0_pay1 (F := Ideal) (iblk m c 0 t) (iblk m c 1 t) y =
      prod (m ((c.tc : Thread nD τ).loc main_arg0)) (m ((c.tc : Thread nD τ).loc main_arg1))
        (((cfg0.win 2).blk t).view.emb y) := by
  pointwise [k0_pay1, prod]
  blk_point [iblk, V, idx t]

theorem final (m : (ℓ : Loc nD τ sig) → Buf (Elt Ideal) ℓ) (c : Dev nD) :
    (dats m 0 c).arrAt 2 (cfgs 0).N =
      prod (m ((c.tc : Thread nD τ).loc main_arg0)) (m ((c.tc : Thread nD τ).loc main_arg1)) := by
  refine (dats m 0 c).arrAt_eq_of_covers 2 _ (by decide +kernel) fun t _ y => ?_
  blk_simp
  rw [after0_2]
  frame_out
  exact point m c t y

/-- The reference's result is the same product. -/
theorem ref (g w : FVec Ideal S4096x11264 .bf16) : Cert.DHRefIdeal.Read.val_main_v4 (F := Ideal) g w = prod g w := by
  funext i
  pointwise [Cert.DHRefIdeal.Read.val_main_v4, Cert.DHRefIdeal.Read.val_main_v3, Cert.DHRefIdeal.Read.val_main_v0, prod]

end Cert.DHIdeal.Product

end
-- ==== Proof.DHClaim.lean ====
module

public import proofs.«01_k».proof.Defs
public import proofs.«01_k».proof.Proof.DHValue
public import proofs.«01_k».proof.Proof.Gen.DHRefIdeal.Run
public import Idealize.ShloMosaic.Lib.Claim

/-! The claim about the input projection's input gradient, from the two runs and the value of the product. -/

@[expose] public section

set_option maxRecDepth 16384

noncomputable section

namespace Cert.DHIdeal.Product

open Idealize.ShloMosaic Idealize.ShloMosaic.TcCoe Idealize.SL.Sem

theorem algebraic : Cert.algebraic_DHIdeal_DHRefIdeal := by
  pair_intro
  · run_from Cert.DHIdeal.Gen.run_main m g
  · run_from Cert.DHRefIdeal.Value.run m' g'
    exact (ref _ _).trans (final m c).symm

end Cert.DHIdeal.Product

end
-- ==== Proof.OutProjValue.lean ====
module

public import proofs.«01_k».proof.Proof.Gen.OutProjIdeal.Value
public import proofs.«01_k».proof.Proof.Gen.OutProjRefIdeal.Read
public import Idealize.ShloMosaic.Lib.Pipeline.ValueKit

/-! The output projection with the residual added: what one block of the product computes, and that the blocks tile
the array the reference computes. -/

@[expose] public section

set_option maxRecDepth 16384

noncomputable section

namespace Cert.OutProjIdeal.Product

open Idealize.ShloMosaic Idealize.ShloMosaic.TcCoe Idealize.SL.Sem
open Cert.OutProjIdeal Cert.OutProjIdeal.Gen

/-- The residual plus the product of the activations with the weight. -/
def prod (y w : FVec Ideal S4096x4096 .bf16) (x : FVec Ideal S4096x4096 .f32) : FVec Ideal S4096x4096 .f32 :=
  fun i => x (ix2 (i 0) (i 1)) + ∑ k : Fin 4096, y (ix2 (i 0) k) * w (ix2 k (i 1))

theorem idx : ∀ t : Fin cfg0.N, win0_0.index t = ![(t : ℕ) / 4, 0] ∧ win0_1.index t = ![0, (t : ℕ) % 4] ∧
    win0_2.index t = ![(t : ℕ) / 4, (t : ℕ) % 4] ∧ win0_3.index t = ![(t : ℕ) / 4, (t : ℕ) % 4] :=
  (by decide +kernel : ∀ t : Fin grid0.N, _)

/-- A block of the product, with the residual's block added. -/
theorem block (x0 : FVec Ideal S1024x4096 .bf16) (x1 : FVec Ideal S4096x1024 .bf16) (x2 : FVec Ideal S1024x1024 .f32)
    (y : S1024x1024.Idx) :
    k0_pay1 (F := Ideal) x0 x1 x2 y =
      x2 (ix2 (y 0) (y 1)) + ∑ k : Fin 4096, x0 (ix2 (y 0) k) * x1 (ix2 k (y 1)) := by
  pointwise [k0_pay1]
  exact add_comm _ _

/-- What a point stores is the result read in the block it stores to. -/
theorem point (m : (ℓ : Loc nD τ sig) → Buf (Elt Ideal) ℓ) (c : Dev nD) (t : Fin cfg0.N) (y : S1024x1024.Idx) :
    k0_pay1 (F := Ideal) (iblk m c 0 t) (iblk m c 1 t) (iblk m c 2 t) y =
      prod (m ((c.tc : Thread nD τ).loc main_arg0)) (m ((c.tc : Thread nD τ).loc main_arg1))
        (m ((c.tc : Thread nD τ).loc main_arg2)) (((cfg0.win 3).blk t).view.emb y) := by
  rw [block]
  pointwise [prod]
  blk_point [iblk, V, idx t]

theorem final (m : (ℓ : Loc nD τ sig) → Buf (Elt Ideal) ℓ) (c : Dev nD) :
    (dats m 0 c).arrAt 3 (cfgs 0).N =
      prod (m ((c.tc : Thread nD τ).loc main_arg0)) (m ((c.tc : Thread nD τ).loc main_arg1))
        (m ((c.tc : Thread nD τ).loc main_arg2)) := by
  refine (dats m 0 c).arrAt_eq_of_covers 3 _ (by decide +kernel) fun t _ y => ?_
  blk_simp
  rw [after0_3]
  frame_out
  exact point m c t y

/-- The reference's result is the same sum. -/
theorem ref (y w : FVec Ideal S4096x4096 .bf16) (x : FVec Ideal S4096x4096 .f32) :
    Cert.OutProjRefIdeal.Read.val_main_v3 (F := Ideal) y w x = prod y w x := by
  funext i
  pointwise [Cert.OutProjRefIdeal.Read.val_main_v3, Cert.OutProjRefIdeal.Read.val_main_v2,
    Cert.OutProjRefIdeal.Read.val_main_v1, Cert.OutProjRefIdeal.Read.val_main_v0, prod]

end Cert.OutProjIdeal.Product

end
-- ==== Proof.OutProjClaim.lean ====
module

public import proofs.«01_k».proof.Defs
public import proofs.«01_k».proof.Proof.OutProjValue
public import proofs.«01_k».proof.Proof.Gen.OutProjRefIdeal.Run
public import Idealize.ShloMosaic.Lib.Claim

/-! The claim about the output projection, from the two runs and the value of the product. -/

@[expose] public section

set_option maxRecDepth 16384

noncomputable section

namespace Cert.OutProjIdeal.Product

open Idealize.ShloMosaic Idealize.ShloMosaic.TcCoe Idealize.SL.Sem

theorem algebraic : Cert.algebraic_OutProjIdeal_OutProjRefIdeal := by
  pair_intro
  · run_from Cert.OutProjIdeal.Gen.run_main m g
  · run_from Cert.OutProjRefIdeal.Value.run m' g'
    exact (ref _ _ _).trans (final m c).symm

end Cert.OutProjIdeal.Product

end
-- ==== Proof.RmsBwdMath.lean ====
module

public import proofs.«01_k».proof.Proof.AttnFwdMath
public import Idealize.ShloMosaic.Lib.Pipeline.ValueKit

/-! The gradient of a root-mean-square norm in its input, over the extended reals, in the two forms the programs
compute: the kernel's, with the normalised row, and that of the derivative of the reciprocal root. They are equal
for every row, the infinities among its elements too: a row's mean square plus a positive number is either a positive
number, whose reciprocal root distributes over sums, or the greatest extended real, whose reciprocal root is zero. -/

@[expose] public section

noncomputable section

namespace Cert.NormMath

open Idealize.ShloMosaic Cert.AttnMath

/-- A row of an array. -/
def line {n : ℕ} (x : (⟨2, ![n, 4096]⟩ : Shape).Idx → EReal) (r : Fin n) (l : Fin 4096) : EReal := x (ix2 r l)

/-- The width of a row. -/
theorem width : Ideal.ofBits .f32 0x45800000#32 = ((4096 : ℝ) : EReal) := by
  simp [Ideal.ofBits, Ideal.ieee, -EReal.coe_mul]; norm_num

/-- The factor of the derivative of a reciprocal root. -/
theorem half : Ideal.ofBits .f32 0xBF000000#32 = ((-(1 / 2) : ℝ) : EReal) := by
  simp [Ideal.ofBits, Ideal.ieee, -EReal.coe_mul, -EReal.coe_neg]; norm_num

/-- The number added to the mean square is positive. -/
theorem eps_pos : (0 : EReal) < Ideal.ofBits .f32 0x358637BD#32 := by
  have : Ideal.ofBits .f32 0x358637BD#32 = ((8796093 / 8796093022208 : ℝ) : EReal) := by
    simp [Ideal.ofBits, Ideal.ieee, -EReal.coe_mul]; norm_num
  rw [this]
  exact EReal.coe_pos.2 (by norm_num)

/-- The mean square of a row, plus the small number. -/
def scale (x : Fin 4096 → EReal) : EReal :=
  Ideal.div (∑ j, x j * x j) (Ideal.ofBits .f32 0x45800000#32) + Ideal.ofBits .f32 0x358637BD#32

/-- Its reciprocal root. -/
def rootInv (x : Fin 4096 → EReal) : EReal := Ideal.rsqrt (scale x)

theorem div_width (y : EReal) : Ideal.div y (Ideal.ofBits .f32 0x45800000#32) = y * ((1 / 4096 : ℝ) : EReal) := by
  rw [width, Ideal.div_coe (by norm_num)]

theorem square_nonneg (y : EReal) : 0 ≤ y * y := by
  induction y using EReal.rec with
  | bot => simp
  | coe r => rw [← EReal.coe_mul]; exact EReal.coe_nonneg.2 (mul_self_nonneg r)
  | top => simp

theorem scale_pos (x : Fin 4096 → EReal) : 0 < scale x := by
  unfold scale
  rw [div_width]
  have h : 0 ≤ (∑ j, x j * x j) * ((1 / 4096 : ℝ) : EReal) :=
    mul_nonneg (Finset.sum_nonneg fun j _ => square_nonneg (x j)) (EReal.coe_nonneg.2 (by norm_num))
  exact lt_of_lt_of_le eps_pos (le_add_of_nonneg_left h)

/-- A number's multiple taken twice. -/
theorem mul_twice (y : EReal) {c : ℝ} (hc : 0 ≤ c) :
    y * ((-c : ℝ) : EReal) + y * ((-c : ℝ) : EReal) = -(y * ((2 * c : ℝ) : EReal)) := by
  rcases hc.eq_or_lt with rfl | hc
  · simp
  · induction y using EReal.rec with
    | bot => rw [EReal.bot_mul_coe_of_neg (by linarith), EReal.bot_mul_coe_of_pos (by linarith)]; rfl
    | coe r => norm_cast; ring
    | top => rw [EReal.top_mul_coe_of_neg (by linarith), EReal.top_mul_coe_of_pos (by linarith)]; rfl

/-- What the derivative of the reciprocal root gives each element of a row. -/
def curv (D x : Fin 4096 → EReal) : EReal :=
  Ideal.div ((∑ j, x j * D j) * (Ideal.ofBits .f32 0xBF000000#32 * Ideal.div (rootInv x) (scale x)))
    (Ideal.ofBits .f32 0x45800000#32)

/-- The two forms of the gradient. -/
theorem grad (D x : Fin 4096 → EReal) (l : Fin 4096) :
    rootInv x * (D l - x l * rootInv x * Ideal.div (∑ j, D j * (x j * rootInv x)) (Ideal.ofBits .f32 0x45800000#32)) =
      D l * rootInv x + x l * curv D x + curv D x * x l := by
  have hp := scale_pos x
  unfold curv
  rw [div_width, div_width, half]
  generalize hr : rootInv x = r
  unfold rootInv at hr
  revert hp hr
  generalize scale x = a
  intro hp hr
  induction a using EReal.rec with
  | bot => simp at hp
  | top =>
    have : r = 0 := hr.symm
    subst this
    simp [Ideal.div]
  | coe a =>
    have ha : 0 < a := EReal.coe_pos.1 hp
    have hs : 0 < Real.sqrt a := Real.sqrt_pos.2 ha
    have : r = (((Real.sqrt a)⁻¹ : ℝ) : EReal) := by
      rw [← hr]
      show (if a < 0 then ⊥ else if a = 0 then ⊤ else (((Real.sqrt a)⁻¹ : ℝ) : EReal)) = _
      rw [if_neg ha.le.not_gt, if_neg ha.ne']
    subst this
    have hS : ∑ j, D j * (x j * (((Real.sqrt a)⁻¹ : ℝ) : EReal)) = (∑ j, x j * D j) * (((Real.sqrt a)⁻¹ : ℝ) : EReal) := by
      rw [sum_mul_num _ (inv_pos.2 hs).le]
      exact Finset.sum_congr rfl fun j _ => by rw [← mul_assoc, mul_comm (D j)]
    rw [hS, Ideal.div_coe ha.ne']
    generalize (∑ j, x j * D j) = S
    have hq : ((Real.sqrt a)⁻¹ * (1 / a) : ℝ) = (Real.sqrt a)⁻¹ * (Real.sqrt a)⁻¹ * (Real.sqrt a)⁻¹ := by
      rw [mul_assoc, ← mul_inv, Real.mul_self_sqrt ha.le, one_div]
    rw [← EReal.coe_mul, ← EReal.coe_mul, hq]
    have hi := inv_pos.2 hs
    revert hi
    generalize (Real.sqrt a)⁻¹ = r
    intro hi
    have hk : 0 ≤ r * r * r / 2 / 4096 := by positivity
    have hC : S * ((-(1 / 2) * (r * r * r) : ℝ) : EReal) * ((1 / 4096 : ℝ) : EReal) = S * ((-(r * r * r / 2 / 4096) : ℝ) : EReal) := by
      rw [mul_assoc, ← EReal.coe_mul]
      congr 2
      ring
    rw [hC, add_assoc, mul_comm (S * _) (x l), ← mul_assoc (x l) S, mul_twice _ hk, sub_eq_add_neg,
      EReal.left_distrib_of_nonneg_of_ne_top (EReal.coe_nonneg.2 hi.le) (EReal.coe_ne_top r), mul_comm (r : EReal) (D l), mul_neg]
    congr 2
    calc (r : EReal) * (x l * (r : EReal) * (S * (r : EReal) * ((1 / 4096 : ℝ) : EReal)))
        = x l * S * ((r : EReal) * (r : EReal) * (r : EReal) * ((1 / 4096 : ℝ) : EReal)) := by ac_rfl
      _ = _ := by
        rw [← EReal.coe_mul, ← EReal.coe_mul, ← EReal.coe_mul]
        congr 2
        ring

end Cert.NormMath

end
-- ==== Proof.RmsBwdValue.lean ====
module

public import proofs.«01_k».proof.Proof.Gen.RmsBwdIdeal.Value
public import proofs.«01_k».proof.Proof.Gen.RmsBwdRefIdeal.Read
public import proofs.«01_k».proof.Proof.RmsBwdMath
public import Idealize.ShloMosaic.Lib.Pipeline.ValueKit
public import Idealize.ShloMosaic.Lib.Claim

/-! The norm's backward call: what a block of 256 rows leaves of the input's gradient, and the gain's gradient summed
over the sixteen blocks. -/

@[expose] public section

set_option maxRecDepth 16384

noncomputable section

namespace Cert.RmsBwdIdeal.Norm

open Idealize.ShloMosaic Idealize.ShloMosaic.TcCoe Idealize.SL.Sem
open Cert.RmsBwdIdeal Cert.RmsBwdIdeal.Gen Cert.NormMath

/-- The gradient of the norm's input, beside the residual's. -/
def dxArr (h x g : FVec Ideal S4096x4096 .f32) (w : FVec Ideal S4096 .f32) (r l : Fin 4096) : EReal :=
  g (ix2 r l) + (h (ix2 r l) * w (ix1 l) * rootInv (line x r) + x (ix2 r l) * curv (fun j => h (ix2 r j) * w (ix1 j)) (line x r)
    + curv (fun j => h (ix2 r j) * w (ix1 j)) (line x r) * x (ix2 r l))

/-- A row's part of the gradient of the norm's gain, and the sum over the rows. -/
def dwTerm {n : ℕ} (h x : (⟨2, ![n, 4096]⟩ : Shape).Idx → EReal) (r : Fin n) (l : Fin 4096) : EReal :=
  h (ix2 r l) * (x (ix2 r l) * rootInv (line x r))
def dwArr (h x : FVec Ideal S4096x4096 .f32) (l : Fin 4096) : EReal := ∑ r, dwTerm h x r l

theorem blk_inv (x : FVec Ideal S256x4096 .f32) (r : Fin 256) (z : Fin 1) : k0_pay2 (F := Ideal) x (ix2 r z) = rootInv (line x r) := by
  pointwise [k0_pay2]
  rfl

/-- The input's gradient of a block of rows. -/
theorem blk_dx (x h g : FVec Ideal S256x4096 .f32) (w : FVec Ideal S1x4096 .f32) (r : Fin 256) (l : Fin 4096) :
    k0_pay4 (F := Ideal) x h w g (ix2 r l) =
      g (ix2 r l) + (h (ix2 r l) * w (ix2 0 l) * rootInv (line x r) + x (ix2 r l) * curv (fun j => h (ix2 r j) * w (ix2 0 j)) (line x r)
        + curv (fun j => h (ix2 r j) * w (ix2 0 j)) (line x r) * x (ix2 r l)) := by
  pointwise [k0_pay4, k0_pay3]
  rw [blk_inv]
  exact congrArg _ (grad (fun j => h (ix2 r j) * w (ix2 0 j)) (line x r) l)

/-- The gain's gradient of a block of rows. -/
theorem blk_dw (x h : FVec Ideal S256x4096 .f32) (z : Fin 1) (l : Fin 4096) :
    k0_pay6 (F := Ideal) x h (ix2 z l) = ∑ r, dwTerm h x r l := by
  pointwise [k0_pay6, k0_pay3]
  exact Finset.sum_congr rfl fun r _ => by rw [blk_inv]; rfl

variable (m : (ℓ : Loc nD τ sig) → Buf (Elt Ideal) ℓ) (c : Dev nD)

theorem idx : ∀ t : Fin cfg0.N, win0_0.index t = ![(t : ℕ), 0] ∧ win0_1.index t = ![(t : ℕ), 0] ∧
    win0_2.index t = ![(t : ℕ), 0] ∧ win0_3.index t = ![0, 0] ∧ win0_4.index t = ![(t : ℕ), 0] ∧
    win0_5.index t = ![(t : ℕ), 0] ∧ win0_6.index t = ![0, 0] :=
  (by decide +kernel : ∀ t : Fin grid0.N, _)

/-- The row of the array that a block's row is. -/
def row (t : Fin cfg0.N) (r : Fin 256) : Fin 4096 :=
  ⟨(t : ℕ) * 256 + (r : ℕ), by have := lt_of_lt_of_eq t.isLt (show cfg0.N = 16 from N_0); omega⟩

/-- The gain, as the call finds it. -/
theorem V_gain : V m c main_v0 = (shapeCast S1x4096 (m ((c.tc : Thread nD τ).loc main_arg3) : FVec Ideal S4096 .f32) shapeCasts_S4096_S1x4096) := by
  entry_read
  rfl

variable (t : Fin cfg0.N)

theorem in_h (r : Fin 256) (l : Fin 4096) : (show FVec Ideal S256x4096 .f32 from iblk m c 0 t) (ix2 r l) =
    (m ((c.tc : Thread nD τ).loc main_arg0) : FVec Ideal S4096x4096 .f32) (ix2 (row t r) l) := by
  unfold iblk
  rw [show V m c (Pipeline.arrRef spec0 0) = m ((c.tc : Thread nD τ).loc main_arg0) from V_main_arg0 m c]
  blk_ext [idx t, row]

theorem in_x (r : Fin 256) (l : Fin 4096) : (show FVec Ideal S256x4096 .f32 from iblk m c 1 t) (ix2 r l) =
    (m ((c.tc : Thread nD τ).loc main_arg1) : FVec Ideal S4096x4096 .f32) (ix2 (row t r) l) := by
  unfold iblk
  rw [show V m c (Pipeline.arrRef spec0 1) = m ((c.tc : Thread nD τ).loc main_arg1) from V_main_arg1 m c]
  blk_ext [idx t, row]

theorem in_g (r : Fin 256) (l : Fin 4096) : (show FVec Ideal S256x4096 .f32 from iblk m c 2 t) (ix2 r l) =
    (m ((c.tc : Thread nD τ).loc main_arg2) : FVec Ideal S4096x4096 .f32) (ix2 (row t r) l) := by
  unfold iblk
  rw [show V m c (Pipeline.arrRef spec0 2) = m ((c.tc : Thread nD τ).loc main_arg2) from V_main_arg2 m c]
  blk_ext [idx t, row]

theorem row_of_gain (w : FVec Ideal S4096 .f32) (z : Fin 1) (l : Fin 4096) :
    shapeCast S1x4096 w shapeCasts_S4096_S1x4096 (ix2 z l) = w (ix1 l) := by
  pointwise

theorem in_w (z : Fin 1) (l : Fin 4096) : (show FVec Ideal S1x4096 .f32 from iblk m c 3 t) (ix2 z l) =
    (m ((c.tc : Thread nD τ).loc main_arg3) : FVec Ideal S4096 .f32) (ix1 l) := by
  unfold iblk
  rw [show V m c (Pipeline.arrRef spec0 3) = _ from V_gain m c]
  have e : ((cfg0.win 3).blk t).view.emb (ix2 z l) = (ix2 z l : S1x4096.Idx) := by blk_ext [idx t]
  refine (congrArg (shapeCast S1x4096 (m ((c.tc : Thread nD τ).loc main_arg3) : FVec Ideal S4096 .f32) shapeCasts_S4096_S1x4096) e).trans ?_
  exact row_of_gain _ z l

theorem line_x (r : Fin 256) : line (show FVec Ideal S256x4096 .f32 from iblk m c 1 t) r =
    line (m ((c.tc : Thread nD τ).loc main_arg1) : FVec Ideal S4096x4096 .f32) (row t r) :=
  funext fun l => in_x m c t r l

/-- The input's gradient of a point's block, in the array. -/
theorem point_dx (r : Fin 256) (l : Fin 4096) :
    k0_pay4 (F := Ideal) (iblk m c 1 t) (iblk m c 0 t) (iblk m c 3 t) (iblk m c 2 t) (ix2 r l) =
      dxArr (m ((c.tc : Thread nD τ).loc main_arg0)) (m ((c.tc : Thread nD τ).loc main_arg1))
        (m ((c.tc : Thread nD τ).loc main_arg2)) (m ((c.tc : Thread nD τ).loc main_arg3)) (row t r) l := by
  refine (blk_dx _ _ _ _ r l).trans ?_
  have e := line_x m c t r
  have eh := in_h m c t r
  have ew := in_w m c t 0
  dsimp only at e eh ew
  unfold dxArr
  have ex := in_x m c t r l
  have eg := in_g m c t r l
  dsimp only at ex eg
  simp only [e, eh, ew, ex, eg]

/-- A point's part of the gain's gradient. -/
def part (l : Fin 4096) : EReal := k0_pay6 (F := Ideal) (iblk m c 1 t) (iblk m c 0 t) (ix2 0 l)

theorem part_eq (l : Fin 4096) : part m c t l = ∑ r : Fin 256,
    dwTerm (n := 4096) (m ((c.tc : Thread nD τ).loc main_arg0)) (m ((c.tc : Thread nD τ).loc main_arg1)) (row t r) l := by
  refine (blk_dw _ _ 0 l).trans (Finset.sum_congr rfl fun r _ => ?_)
  exact congrArg₂ (· * ·) (in_h m c t r l) (congrArg₂ (· * ·) (in_x m c t r l) (congrArg rootInv (line_x m c t r)))

theorem cases : (t.val % 16 = 0 ∧ ¬1 ≤ t.val) ∨ (¬t.val % 16 = 0 ∧ 1 ≤ t.val) := by
  have := lt_of_lt_of_eq t.isLt (show cfg0.N = 16 from N_0)
  omega

/-- What a point stores of the input's gradient. -/
theorem out_dx (y : S256x4096.Idx) : (outsAt0 m c t.val t.isLt).1 y =
    k0_pay4 (F := Ideal) (iblk m c 1 t) (iblk m c 0 t) (iblk m c 3 t) (iblk m c 2 t) y := by
  rcases cases t with ⟨h0, h1⟩ | ⟨h0, h1⟩
  · rw [outsAt0_A m c t h0 h1]
    frame_out
  · rw [outsAt0_B m c t h0 h1]
    frame_out

theorem out_dxb (y : S256x4096.Idx) : (outsAt0 m c t.val t.isLt).2.1 y =
    k0_pay4 (F := Ideal) (iblk m c 1 t) (iblk m c 0 t) (iblk m c 3 t) (iblk m c 2 t) y := by
  rcases cases t with ⟨h0, h1⟩ | ⟨h0, h1⟩
  · rw [outsAt0_A m c t h0 h1]
    frame_out
    rfl
  · rw [outsAt0_B m c t h0 h1]
    frame_out
    rfl

theorem start_dw (h0 : t.val % 16 = 0) (i : S1x4096.Idx) :
    (outsAt0 m c t.val t.isLt).2.2 i = 0 + part m c t (i 1) := by
  rcases cases t with ⟨-, h1⟩ | ⟨h, -⟩
  swap
  · exact absurd h0 h
  rw [outsAt0_A m c t h0 h1]
  frame_out
  idx_vars i
  rw [zero_add]
  exact congrArg _ (congrArg₂ ix2 (Subsingleton.elim _ _) rfl)

theorem step_dw (h0 : ¬t.val % 16 = 0) (i : S1x4096.Idx) :
    (outsAt0 m c t.val t.isLt).2.2 i =
      (outsAt0 m c (t.val - 1) (Nat.lt_of_le_of_lt (Nat.sub_le _ _) t.isLt)).2.2 i + part m c t (i 1) := by
  rcases cases t with ⟨h, -⟩ | ⟨-, h1⟩
  · exact absurd h h0
  rw [outsAt0_B m c t h0 h1]
  frame_out
  pointwise [k0_pay1]
  idx_vars i
  exact congrArg (_ + ·) (congrArg _ (congrArg₂ ix2 (Subsingleton.elim _ _) rfl))

/-- Sixteen blocks of 256 rows are the rows. -/
theorem sum_blocks (f : Fin 4096 → EReal) (h : ∀ s : Fin 16, 16 * ((t : ℕ) / 16) + (s : ℕ) < cfg0.N) :
    ∑ s : Fin 16, ∑ r : Fin 256, f (row ⟨16 * ((t : ℕ) / 16) + (s : ℕ), h s⟩ r) = ∑ r, f r := by
  have ht := lt_of_lt_of_eq t.isLt (show cfg0.N = 16 from N_0)
  refine Fin.sum_mul_add_congr fun s r hl => congrArg f (Fin.ext ?_)
  show (16 * ((t : ℕ) / 16) + (s : ℕ)) * 256 + (r : ℕ) = (s : ℕ) * 256 + (r : ℕ)
  omega

/-- What the last point writes out of the gain's gradient. -/
theorem last_dw (h : t.val % 16 = 15) (i : S1x4096.Idx) : (outsAt0 m c t.val t.isLt).2.2 i =
    dwArr (m ((c.tc : Thread nD τ).loc main_arg0)) (m ((c.tc : Thread nD τ).loc main_arg1)) (i 1) := by
  rw [Pipeline.eq_sum_fin_of_reset_step_apply_of_flush (N := cfg0.N) (M := EReal) (fun n h => (outsAt0 m c n h).2.2) 16 (fun _ => 0)
    (fun t i => part m c t (i 1)) (fun t h i => start_dw m c t h i) (fun t h i => step_dw m c t h i) t h i, zero_add]
  exact (Finset.sum_congr rfl fun s _ => part_eq m c _ (i 1)).trans <| sum_blocks t (fun r => dwTerm (n := 4096) (m ((c.tc : Thread nD τ).loc main_arg0)) (m ((c.tc : Thread nD τ).loc main_arg1)) r (i 1)) _

omit t in
/-- The three arrays, as the call leaves them. -/
theorem final_dx : (dats m 0 c).arrAt 4 (cfgs 0).N = (fun i => dxArr (m ((c.tc : Thread nD τ).loc main_arg0)) (m ((c.tc : Thread nD τ).loc main_arg1))
    (m ((c.tc : Thread nD τ).loc main_arg2)) (m ((c.tc : Thread nD τ).loc main_arg3)) (i 0) (i 1) : FVec Ideal S4096x4096 .f32) := by
  refine (dats m 0 c).arrAt_eq_of_covers 4 _ (by decide +kernel) fun t _ y => ?_
  blk_simp
  rw [after0_4]
  refine (out_dx m c t y).trans ?_
  rw [eq_ix2 y]
  refine (point_dx m c t (y 0) (y 1)).trans (congrArg₂ (dxArr _ _ _ _) (Fin.ext ?_) (Fin.ext ?_))
  all_goals (blk_simp [idx t, row] <;> (try dsimp only) <;> try omega)

omit t in
theorem final_dxb : (dats m 0 c).arrAt 5 (cfgs 0).N = (fun i => dxArr (m ((c.tc : Thread nD τ).loc main_arg0)) (m ((c.tc : Thread nD τ).loc main_arg1))
    (m ((c.tc : Thread nD τ).loc main_arg2)) (m ((c.tc : Thread nD τ).loc main_arg3)) (i 0) (i 1) : FVec Ideal S4096x4096 .bf16) := by
  refine (dats m 0 c).arrAt_eq_of_covers 5 _ (by decide +kernel) fun t _ y => ?_
  blk_simp
  rw [after0_5]
  refine (out_dxb m c t y).trans ?_
  rw [eq_ix2 y]
  refine (point_dx m c t (y 0) (y 1)).trans (congrArg₂ (dxArr _ _ _ _) (Fin.ext ?_) (Fin.ext ?_))
  all_goals (blk_simp [idx t, row] <;> (try dsimp only) <;> try omega)

omit t in
theorem final_dw : (dats m 0 c).arrAt 6 (cfgs 0).N = (fun i => dwArr (m ((c.tc : Thread nD τ).loc main_arg0))
    (m ((c.tc : Thread nD τ).loc main_arg1)) (i 1) : FVec Ideal S1x4096 .f32) := by
  refine (dats m 0 c).arrAt_eq_of_covers 6 _ (by decide +kernel) fun t hf y => ?_
  blk_simp
  rw [after0_6]
  refine (last_dw m c t ((flush0_6 t).mp hf) y).trans (congrArg (dwArr _ _) (Fin.ext ?_))
  all_goals (blk_simp [idx t] <;> (try dsimp only) <;> try omega)

end Cert.RmsBwdIdeal.Norm

end
-- ==== Proof.RmsBwdClaim.lean ====
module

public import proofs.«01_k».proof.Defs
public import proofs.«01_k».proof.Proof.RmsBwdValue
public import proofs.«01_k».proof.Proof.Gen.RmsBwdRefIdeal.Run
public import Idealize.ShloMosaic.Lib.Claim

/-! The claim about the norm's backward call, from the two runs and the three arrays of each. -/

@[expose] public section

set_option maxRecDepth 16384

noncomputable section

namespace Cert.RmsBwdIdeal.Norm

open Idealize.ShloMosaic Idealize.ShloMosaic.TcCoe Idealize.SL.Sem Cert.NormMath

section
open Cert.RmsBwdRefIdeal Cert.RmsBwdRefIdeal.Read

variable (h x g : FVec Ideal S4096x4096 .f32) (w : FVec Ideal S4096 .f32)

theorem ref_scale (r : Fin 4096) (z : Fin 1) : val_main_v6 (F := Ideal) x (ix2 r z) = scale (line x r) := by
  pointwise [val_main_v6, val_main_v5, val_main_v4, val_main_v3, val_main_v2, val_main_v1, val_main_v0, val_main_cst,
    val_main_cst_0, val_main_cst_1]
  rfl

theorem ref_inv (r : Fin 4096) (z : Fin 1) : val_main_v7 (F := Ideal) x (ix2 r z) = rootInv (line x r) := by
  pointwise [val_main_v7]
  rw [ref_scale]
  rfl

/-- What the derivative of the reciprocal root gives a row's elements. -/
theorem ref_curv (r l : Fin 4096) : val_main_v31 (F := Ideal) h x w (ix2 r l) = curv (fun j => h (ix2 r j) * w (ix1 j)) (line x r) := by
  pointwise [val_main_v31, val_main_v30, val_main_v29, val_main_v28, val_main_v27, val_main_v24, val_main_v23, val_main_v22,
    val_main_v20, val_main_v19, val_main_v13, val_main_v10, val_main_v9, val_main_v8, val_main_cst_2, val_main_cst_7, val_main_cst_6, val_main_cst_5]
  simp only [ref_scale, ref_inv, Finset.univ_unique, Finset.sum_singleton]
  rfl

/-- The reference's gradient of the input. -/
theorem ref_dx (r l : Fin 4096) : val_main_v36 (F := Ideal) h x g w (ix2 r l) = dxArr h x g w r l := by
  pointwise [val_main_v36, val_main_v35, val_main_v34, val_main_v33, val_main_v32, val_main_v26, val_main_v25, val_main_v20,
    val_main_v19, val_main_v13]
  rw [ref_inv, ref_curv]
  rfl

/-- The reference's gradient of the gain. -/
theorem ref_dw (z : Fin 1) (l : Fin 4096) : val_main_v38 (F := Ideal) h x (ix2 z l) = dwArr h x l := by
  pointwise [val_main_v38, val_main_v21, val_main_v18, val_main_v17, val_main_v16, val_main_v12, val_main_v11, val_main_cst_3,
    val_main_cst_4]
  simp only [ref_inv, Finset.univ_unique, Finset.sum_singleton]
  exact Finset.sum_congr rfl fun r _ => mul_comm _ _

theorem eq_dx : val_main_v36 (F := Ideal) h x g w = fun i => dxArr h x g w (i 0) (i 1) := by
  funext i
  conv_lhs => rw [eq_ix2 i]
  exact ref_dx h x g w (i 0) (i 1)

theorem eq_dxb : val_main_v37 (F := Ideal) h x g w = fun i => dxArr h x g w (i 0) (i 1) := eq_dx h x g w

theorem eq_dw : val_main_v38 (F := Ideal) h x = fun i => dwArr h x (i 1) := by
  funext i
  conv_lhs => rw [eq_ix2 i]
  exact ref_dw h x (i 0) (i 1)

end

/-- The norm's backward call, claimed: its three arrays are the reference's. -/
theorem algebraic : Cert.algebraic_RmsBwdIdeal_RmsBwdRefIdeal := by
  pair_intro
  · run_from Cert.RmsBwdIdeal.Gen.run_main m g
  · run_from Cert.RmsBwdRefIdeal.Value.run m' g'
    · exact (Cert.RmsBwdRefIdeal.Read.val_main_v36_eq _ _ _ _).trans ((eq_dx _ _ _ _).trans (final_dx m c).symm)
    · exact (Cert.RmsBwdRefIdeal.Read.val_main_v37_eq _ _ _ _).trans ((eq_dxb _ _ _ _).trans (final_dxb m c).symm)
    · exact (Cert.RmsBwdRefIdeal.Read.val_main_v38_eq _ _).trans ((eq_dw _ _).trans (final_dw m c).symm)

end Cert.RmsBwdIdeal.Norm

end
-- ==== Proof.AdamwClaim.lean ====
module

public import proofs.«01_k».proof.Defs
public import proofs.«01_k».proof.Proof.Gen.AdamwIdeal.Value
public import proofs.«01_k».proof.Proof.Gen.AdamwRefIdeal.Run
public import Idealize.ShloMosaic.Lib.Claim
public import Idealize.ShloMosaic.Lib.Pipeline.ValueKit

/-! The claim about the optimiser's step on the packed small weights: the call and the reference apply the same
operations to each element. -/

@[expose] public section

set_option maxRecDepth 16384

noncomputable section

namespace Cert.AdamwIdeal.Step

open Idealize.ShloMosaic Idealize.ShloMosaic.TcCoe Idealize.SL.Sem

theorem algebraic : Cert.algebraic_AdamwIdeal_AdamwRefIdeal := by
  pair_intro
  · run_from Cert.AdamwIdeal.Value.run m g
  · run_from Cert.AdamwRefIdeal.Value.run m' g'
    all_goals (funext i; rfl)

end Cert.AdamwIdeal.Step

end
-- ==== Proof.RmsFwdClaim.lean ====
module

public import proofs.«01_k».proof.Defs
public import proofs.«01_k».proof.Proof.Gen.RmsFwdIdeal.Value
public import proofs.«01_k».proof.Proof.Gen.RmsFwdRefIdeal.Run
public import proofs.«01_k».proof.Proof.Gen.RmsFwdRefIdeal.Read
public import proofs.«01_k».proof.Proof.RmsBwdMath
public import Idealize.ShloMosaic.Lib.Pipeline.ValueKit
public import Idealize.ShloMosaic.Lib.Claim

/-! The norm's forward call: each block of 256 rows leaves its normed rows, upright and transposed, as the reference
has them. -/

@[expose] public section

set_option maxRecDepth 16384

noncomputable section

namespace Cert.RmsFwdIdeal.Norm

open Idealize.ShloMosaic Idealize.ShloMosaic.TcCoe Idealize.SL.Sem
open Cert.RmsFwdIdeal Cert.RmsFwdIdeal.Gen Cert.NormMath

/-- The normed rows. -/
def normed (x : FVec Ideal S4096x4096 .f32) (w : FVec Ideal S4096 .f32) (r l : Fin 4096) : EReal :=
  x (ix2 r l) * rootInv (line x r) * w (ix1 l)

/-- A block's normed rows. -/
theorem blk (x : FVec Ideal S256x4096 .f32) (w : FVec Ideal S1x4096 .f32) (r : Fin 256) (l : Fin 4096) :
    k0_pay1 (F := Ideal) x w (ix2 r l) = x (ix2 r l) * rootInv (line x r) * w (ix2 0 l) := by
  pointwise [k0_pay1]
  rfl

theorem blk_up (x : FVec Ideal S256x4096 .f32) (w : FVec Ideal S1x4096 .f32) (r : Fin 256) (l : Fin 4096) :
    k0_pay2 (F := Ideal) x w (ix2 r l) = x (ix2 r l) * rootInv (line x r) * w (ix2 0 l) := blk x w r l

theorem blk_turned (x : FVec Ideal S256x4096 .f32) (w : FVec Ideal S1x4096 .f32) (l : Fin 4096) (r : Fin 256) :
    k0_pay3 (F := Ideal) x w (ix2 l r) = x (ix2 r l) * rootInv (line x r) * w (ix2 0 l) := by
  pointwise [k0_pay3]
  exact blk x w r l

variable (m : (ℓ : Loc nD τ sig) → Buf (Elt Ideal) ℓ) (c : Dev nD)

theorem idx : ∀ t : Fin cfg0.N, win0_0.index t = ![(t : ℕ), 0] ∧ win0_1.index t = ![0, 0] ∧
    win0_2.index t = ![(t : ℕ), 0] ∧ win0_3.index t = ![0, (t : ℕ)] :=
  (by decide +kernel : ∀ t : Fin grid0.N, _)

/-- The row of the array that a block's row is. -/
def row (t : Fin cfg0.N) (r : Fin 256) : Fin 4096 :=
  ⟨(t : ℕ) * 256 + (r : ℕ), by have := lt_of_lt_of_eq t.isLt (show cfg0.N = 16 from N_0); omega⟩

/-- The gain, as the call finds it. -/
theorem V_gain : V m c main_v0 = (shapeCast S1x4096 (m ((c.tc : Thread nD τ).loc main_arg1) : FVec Ideal S4096 .f32) shapeCasts_S4096_S1x4096) := by
  entry_read
  rfl

variable (t : Fin cfg0.N)

theorem in_x (r : Fin 256) (l : Fin 4096) : (show FVec Ideal S256x4096 .f32 from iblk m c 0 t) (ix2 r l) =
    (m ((c.tc : Thread nD τ).loc main_arg0) : FVec Ideal S4096x4096 .f32) (ix2 (row t r) l) := by
  unfold iblk
  rw [show V m c (Pipeline.arrRef spec0 0) = m ((c.tc : Thread nD τ).loc main_arg0) from V_main_arg0 m c]
  blk_ext [idx t, row]

theorem row_of_gain (w : FVec Ideal S4096 .f32) (z : Fin 1) (l : Fin 4096) :
    shapeCast S1x4096 w shapeCasts_S4096_S1x4096 (ix2 z l) = w (ix1 l) := by
  pointwise

theorem in_w (z : Fin 1) (l : Fin 4096) : (show FVec Ideal S1x4096 .f32 from iblk m c 1 t) (ix2 z l) =
    (m ((c.tc : Thread nD τ).loc main_arg1) : FVec Ideal S4096 .f32) (ix1 l) := by
  unfold iblk
  rw [show V m c (Pipeline.arrRef spec0 1) = _ from V_gain m c]
  have e : ((cfg0.win 1).blk t).view.emb (ix2 z l) = (ix2 z l : S1x4096.Idx) := by blk_ext [idx t]
  refine (congrArg (shapeCast S1x4096 (m ((c.tc : Thread nD τ).loc main_arg1) : FVec Ideal S4096 .f32) shapeCasts_S4096_S1x4096) e).trans ?_
  exact row_of_gain _ z l

/-- A point's normed rows, in the array. -/
theorem point (r : Fin 256) (l : Fin 4096) :
    (show FVec Ideal S256x4096 .f32 from iblk m c 0 t) (ix2 r l) * rootInv (line (show FVec Ideal S256x4096 .f32 from iblk m c 0 t) r)
        * (show FVec Ideal S1x4096 .f32 from iblk m c 1 t) (ix2 0 l) =
      normed (m ((c.tc : Thread nD τ).loc main_arg0)) (m ((c.tc : Thread nD τ).loc main_arg1)) (row t r) l :=
  congrArg₂ (· * ·) (congrArg₂ (· * ·) (in_x m c t r l) (congrArg rootInv (funext fun l => in_x m c t r l))) (in_w m c t 0 l)

omit t in
/-- The normed rows, as the call leaves them. -/
theorem final_up : (dats m 0 c).arrAt 2 (cfgs 0).N = (fun i => normed (m ((c.tc : Thread nD τ).loc main_arg0))
    (m ((c.tc : Thread nD τ).loc main_arg1)) (i 0) (i 1) : FVec Ideal S4096x4096 .bf16) := by
  refine (dats m 0 c).arrAt_eq_of_covers 2 _ (by decide +kernel) fun t _ y => ?_
  blk_simp
  rw [after0_2]
  frame_out
  rw [eq_ix2 y]
  refine (blk_up _ _ (y 0) (y 1)).trans ((point m c t (y 0) (y 1)).trans (congrArg₂ (normed _ _) (Fin.ext ?_) (Fin.ext ?_)))
  all_goals (blk_simp [idx t, row] <;> (try dsimp only) <;> try omega)

omit t in
/-- The same, transposed. -/
theorem final_turned : (dats m 0 c).arrAt 3 (cfgs 0).N = (fun i => normed (m ((c.tc : Thread nD τ).loc main_arg0))
    (m ((c.tc : Thread nD τ).loc main_arg1)) (i 1) (i 0) : FVec Ideal S4096x4096 .bf16) := by
  refine (dats m 0 c).arrAt_eq_of_covers 3 _ (by decide +kernel) fun t _ y => ?_
  blk_simp
  rw [after0_3]
  frame_out
  rw [eq_ix2 y]
  refine (blk_turned _ _ (y 0) (y 1)).trans ((point m c t (y 1) (y 0)).trans (congrArg₂ (normed _ _) (Fin.ext ?_) (Fin.ext ?_)))
  all_goals (blk_simp [idx t, row] <;> (try dsimp only) <;> try omega)

section
open Cert.RmsFwdRefIdeal Cert.RmsFwdRefIdeal.Read

variable (x : FVec Ideal S4096x4096 .f32) (w : FVec Ideal S4096 .f32)

theorem ref_row (r l : Fin 4096) : val_main_v13 (F := Ideal) x w (ix2 r l) = normed x w r l := by
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

theorem eq_up : val_main_v13 (F := Ideal) x w = fun i => normed x w (i 0) (i 1) := by
  funext i
  conv_lhs => rw [eq_ix2 i]
  exact ref_row x w (i 0) (i 1)

theorem eq_turned : val_main_v14 (F := Ideal) x w = fun i => normed x w (i 1) (i 0) := by
  funext i
  conv_lhs => rw [eq_ix2 i]
  pointwise [val_main_v14]
  exact ref_row x w (i 1) (i 0)

end

/-- The norm's forward call, claimed: its two arrays are the reference's. -/
theorem algebraic : Cert.algebraic_RmsFwdIdeal_RmsFwdRefIdeal := by
  pair_intro
  · run_from Cert.RmsFwdIdeal.Gen.run_main m g
  · run_from Cert.RmsFwdRefIdeal.Value.run m' g'
    · exact (Cert.RmsFwdRefIdeal.Read.val_main_v13_eq _ _).trans ((eq_up _ _).trans (final_up m c).symm)
    · exact (Cert.RmsFwdRefIdeal.Read.val_main_v14_eq _ _).trans ((eq_turned _ _).trans (final_turned m c).symm)

end Cert.RmsFwdIdeal.Norm

end
-- ==== Proof.LossValue.lean ====
module

public import proofs.«01_k».proof.Proof.Gen.LossIdeal.Value
public import proofs.«01_k».proof.Proof.RmsBwdMath
public import Idealize.ShloMosaic.Lib.Pipeline.ValueKit
public import Idealize.ShloMosaic.Lib.Claim

/-! The loss head: what a block of 256 rows leaves of the input's gradient, and the loss and the final gain's gradient
summed over the sixteen blocks. -/

@[expose] public section

set_option maxRecDepth 16384

noncomputable section

namespace Cert.LossIdeal.Head

open Idealize.ShloMosaic Idealize.ShloMosaic.TcCoe Idealize.SL.Sem
open Cert.LossIdeal Cert.LossIdeal.Gen Cert.NormMath Cert.AttnMath

/-- A normed row less its target, and its mean square. -/
def gap (x w y : Fin 4096 → EReal) (l : Fin 4096) : EReal := x l * rootInv x * w l - y l
def rowLoss (x w y : Fin 4096 → EReal) : EReal := Ideal.div (∑ l, gap x w y l * gap x w y l) (Ideal.ofBits .f32 0x45800000#32)

/-- The gradients of half that mean square: of the row before the gain, and through the norm. -/
def cot (x w y : Fin 4096 → EReal) (l : Fin 4096) : EReal := gap x w y l * Ideal.ofBits .f32 0x39800000#32
def rowDx (x w y : Fin 4096 → EReal) (l : Fin 4096) : EReal :=
  cot x w y l * w l * rootInv x + x l * curv (fun j => cot x w y j * w j) x + curv (fun j => cot x w y j * w j) x * x l
def rowDw (x w y : Fin 4096 → EReal) (l : Fin 4096) : EReal := cot x w y l * (x l * rootInv x)

/-- A gain as a row. -/
def gain (w : FVec Ideal S4096 .f32) (l : Fin 4096) : EReal := w (ix1 l)

/-- The loss, and the gain's gradient. -/
def lossArr (x y : FVec Ideal S4096x4096 .f32) (w : FVec Ideal S4096 .f32) : EReal :=
  Ideal.ofBits .f32 0x3F000000#32 * ∑ r, rowLoss (line x r) (gain w) (line y r)
def dwArr (x y : FVec Ideal S4096x4096 .f32) (w : FVec Ideal S4096 .f32) (l : Fin 4096) : EReal :=
  ∑ r, rowDw (line x r) (gain w) (line y r) l

section
variable (x y : FVec Ideal S256x4096 .f32) (w : FVec Ideal S1x4096 .f32)

theorem blk_inv (r : Fin 256) (z : Fin 1) : k0_pay6 (F := Ideal) x (ix2 r z) = rootInv (line x r) := by
  pointwise [k0_pay6]
  rfl

theorem blk_xh (r : Fin 256) (l : Fin 4096) : k0_pay7 (F := Ideal) x (ix2 r l) = x (ix2 r l) * rootInv (line x r) := by
  pointwise [k0_pay7]
  rw [blk_inv]

theorem blk_gap (r : Fin 256) (l : Fin 4096) : k0_pay9 (F := Ideal) x w y (ix2 r l) = gap (line x r) (line w 0) (line y r) l := by
  pointwise [k0_pay9, k0_pay8]
  rw [blk_xh]
  rfl

theorem blk_loss (a b : Fin 1) : k0_pay10 (F := Ideal) x w y (ix2 a b) =
    Ideal.ofBits .f32 0x3F000000#32 * ∑ r, rowLoss (line x r) (line w 0) (line y r) := by
  pointwise [k0_pay10]
  simp only [blk_gap]
  rfl

theorem blk_cot (r : Fin 256) (l : Fin 4096) : k0_pay11 (F := Ideal) x w y (ix2 r l) = cot (line x r) (line w 0) (line y r) l := by
  pointwise [k0_pay11]
  rw [blk_gap]
  rfl

theorem blk_dx (r : Fin 256) (l : Fin 4096) : k0_pay12 (F := Ideal) x w y (ix2 r l) = rowDx (line x r) (line w 0) (line y r) l := by
  pointwise [k0_pay12, k0_pay8]
  simp only [blk_inv, blk_xh, blk_cot]
  exact grad (fun j => cot (line x r) (line w 0) (line y r) j * w (ix2 0 j)) (line x r) l

theorem blk_dw (z : Fin 1) (l : Fin 4096) : k0_pay2 (F := Ideal) (k0_pay7 x) (k0_pay11 x w y) (ix2 z l) =
    ∑ r, rowDw (line x r) (line w 0) (line y r) l := by
  pointwise [k0_pay2]
  simp only [blk_xh, blk_cot]
  rfl

theorem blk_row (v : FVec Ideal S1x1 .f32) (z : Fin 1) (l : Fin 128) : k0_pay3 (F := Ideal) v (ix2 z l) = v (ix2 0 0) := by
  pointwise [k0_pay3]
end

variable (m : (ℓ : Loc nD τ sig) → Buf (Elt Ideal) ℓ) (c : Dev nD)

theorem idx : ∀ t : Fin cfg0.N, win0_0.index t = ![(t : ℕ), 0] ∧ win0_1.index t = ![(t : ℕ), 0] ∧
    win0_2.index t = ![0, 0] ∧ win0_3.index t = ![0, 0] ∧ win0_4.index t = ![(t : ℕ), 0] ∧
    win0_5.index t = ![(t : ℕ), 0] ∧ win0_6.index t = ![0, 0] :=
  (by decide +kernel : ∀ t : Fin grid0.N, _)

/-- The row of the array that a block's row is. -/
def row (t : Fin cfg0.N) (r : Fin 256) : Fin 4096 :=
  ⟨(t : ℕ) * 256 + (r : ℕ), by have := lt_of_lt_of_eq t.isLt (show cfg0.N = 16 from N_0); omega⟩

/-- The gain, as the call finds it. -/
theorem V_gain : V m c main_v0 = (shapeCast S1x4096 (m ((c.tc : Thread nD τ).loc main_arg2) : FVec Ideal S4096 .f32) shapeCasts_S4096_S1x4096) := by
  entry_read
  rfl

/-- The three arguments. -/
abbrev argX : FVec Ideal S4096x4096 .f32 := m ((c.tc : Thread nD τ).loc main_arg0)
abbrev argY : FVec Ideal S4096x4096 .f32 := m ((c.tc : Thread nD τ).loc main_arg1)
abbrev argW : FVec Ideal S4096 .f32 := m ((c.tc : Thread nD τ).loc main_arg2)

variable (t : Fin cfg0.N)

theorem in_x (r : Fin 256) : line (show FVec Ideal S256x4096 .f32 from iblk m c 0 t) r = line (argX m c) (row t r) := by
  funext l
  unfold iblk line
  rw [show V m c (Pipeline.arrRef spec0 0) = m ((c.tc : Thread nD τ).loc main_arg0) from V_main_arg0 m c]
  blk_ext [idx t, row]

theorem in_y (r : Fin 256) : line (show FVec Ideal S256x4096 .f32 from iblk m c 1 t) r = line (argY m c) (row t r) := by
  funext l
  unfold iblk line
  rw [show V m c (Pipeline.arrRef spec0 1) = m ((c.tc : Thread nD τ).loc main_arg1) from V_main_arg1 m c]
  blk_ext [idx t, row]

theorem row_of_gain (w : FVec Ideal S4096 .f32) (z : Fin 1) (l : Fin 4096) :
    shapeCast S1x4096 w shapeCasts_S4096_S1x4096 (ix2 z l) = w (ix1 l) := by
  pointwise

theorem in_w (z : Fin 1) : line (show FVec Ideal S1x4096 .f32 from iblk m c 2 t) z = gain (argW m c) := by
  funext l
  unfold iblk line
  rw [show V m c (Pipeline.arrRef spec0 2) = _ from V_gain m c]
  have e : ((cfg0.win 2).blk t).view.emb (ix2 z l) = (ix2 z l : S1x4096.Idx) := by blk_ext [idx t]
  refine (congrArg (shapeCast S1x4096 (m ((c.tc : Thread nD τ).loc main_arg2) : FVec Ideal S4096 .f32) shapeCasts_S4096_S1x4096) e).trans ?_
  exact row_of_gain _ z l

/-- A function of a row, its gain and its target, at a point's block and in the array. -/
theorem point {α : Type} (f : (Fin 4096 → EReal) → (Fin 4096 → EReal) → (Fin 4096 → EReal) → α) (r : Fin 256) :
    f (line (show FVec Ideal S256x4096 .f32 from iblk m c 0 t) r) (line (show FVec Ideal S1x4096 .f32 from iblk m c 2 t) 0)
        (line (show FVec Ideal S256x4096 .f32 from iblk m c 1 t) r) =
      f (line (argX m c) (row t r)) (gain (argW m c)) (line (argY m c) (row t r)) := by
  rw [in_x, in_y, in_w]

theorem point_dx (r : Fin 256) (l : Fin 4096) : k0_pay12 (F := Ideal) (iblk m c 0 t) (iblk m c 2 t) (iblk m c 1 t) (ix2 r l) =
    rowDx (line (argX m c) (row t r)) (gain (argW m c)) (line (argY m c) (row t r)) l :=
  (blk_dx _ _ _ r l).trans (point m c t (fun x w y => rowDx x w y l) r)

/-- A point's part of the loss and of the gain's gradient. -/
def partL : EReal := k0_pay10 (F := Ideal) (iblk m c 0 t) (iblk m c 2 t) (iblk m c 1 t) (ix2 0 0)
def part (l : Fin 4096) : EReal :=
  k0_pay2 (F := Ideal) (k0_pay7 (iblk m c 0 t)) (k0_pay11 (iblk m c 0 t) (iblk m c 2 t) (iblk m c 1 t)) (ix2 0 l)

theorem half_pos : Ideal.ofBits .f32 0x3F000000#32 = ((1 / 2 : ℝ) : EReal) := by
  simp [Ideal.ofBits, Ideal.ieee, -EReal.coe_mul]; norm_num

/-- Half of a sum is the sum of the halves. -/
theorem half_sum {n : ℕ} (f : Fin n → EReal) :
    Ideal.ofBits .f32 0x3F000000#32 * ∑ r, f r = ∑ r, Ideal.ofBits .f32 0x3F000000#32 * f r := by
  rw [half_pos, mul_comm, sum_mul_num _ (by norm_num)]
  exact Finset.sum_congr rfl fun r _ => mul_comm _ _

theorem partL_eq : partL m c t = ∑ r : Fin 256, Ideal.ofBits .f32 0x3F000000#32 *
    rowLoss (line (argX m c) (row t r)) (gain (argW m c)) (line (argY m c) (row t r)) :=
  (blk_loss _ _ _ 0 0).trans <| (half_sum _).trans <| Finset.sum_congr rfl fun r _ =>
    congrArg _ (point m c t rowLoss r)

theorem part_eq (l : Fin 4096) : part m c t l = ∑ r : Fin 256,
    rowDw (line (argX m c) (row t r)) (gain (argW m c)) (line (argY m c) (row t r)) l :=
  (blk_dw _ _ _ 0 l).trans <| Finset.sum_congr rfl fun r _ => point m c t (fun x w y => rowDw x w y l) r

theorem cases : (t.val % 16 = 0 ∧ ¬1 ≤ t.val) ∨ (¬t.val % 16 = 0 ∧ 1 ≤ t.val) := by
  have := lt_of_lt_of_eq t.isLt (show cfg0.N = 16 from N_0)
  omega

/-- What a point stores of the input's gradient. -/
theorem out_dx (i : S256x4096.Idx) : (outsAt0 m c t.val t.isLt).2.1 i =
    k0_pay12 (F := Ideal) (iblk m c 0 t) (iblk m c 2 t) (iblk m c 1 t) i := by
  rcases cases t with ⟨h0, h1⟩ | ⟨h0, h1⟩
  · rw [outsAt0_A m c t h0 h1]
    frame_out
  · rw [outsAt0_B m c t h0 h1]
    frame_out

theorem out_dxb (i : S256x4096.Idx) : (outsAt0 m c t.val t.isLt).2.2.1 i =
    k0_pay12 (F := Ideal) (iblk m c 0 t) (iblk m c 2 t) (iblk m c 1 t) i := by
  rcases cases t with ⟨h0, h1⟩ | ⟨h0, h1⟩
  · rw [outsAt0_A m c t h0 h1]
    frame_out
    rfl
  · rw [outsAt0_B m c t h0 h1]
    frame_out
    rfl

theorem start_loss (h0 : t.val % 16 = 0) (i : S1x128.Idx) : (outsAt0 m c t.val t.isLt).1 i = 0 + partL m c t := by
  rcases cases t with ⟨-, h1⟩ | ⟨h, -⟩
  swap
  · exact absurd h0 h
  rw [outsAt0_A m c t h0 h1]
  frame_out
  idx_vars i
  rw [zero_add]
  exact blk_row _ _ _

theorem step_loss (h0 : ¬t.val % 16 = 0) (i : S1x128.Idx) : (outsAt0 m c t.val t.isLt).1 i =
    (outsAt0 m c (t.val - 1) (Nat.lt_of_le_of_lt (Nat.sub_le _ _) t.isLt)).1 i + partL m c t := by
  rcases cases t with ⟨h, -⟩ | ⟨-, h1⟩
  · exact absurd h h0
  rw [outsAt0_B m c t h0 h1]
  frame_out
  idx_vars i
  pointwise [k0_pay5]
  exact congrArg (_ + ·) (blk_row _ _ _)

theorem start_dw (h0 : t.val % 16 = 0) (i : S1x4096.Idx) :
    (outsAt0 m c t.val t.isLt).2.2.2 i = 0 + part m c t (i 1) := by
  rcases cases t with ⟨-, h1⟩ | ⟨h, -⟩
  swap
  · exact absurd h0 h
  rw [outsAt0_A m c t h0 h1]
  frame_out
  idx_vars i
  rw [zero_add]
  exact congrArg _ (congrArg₂ ix2 (Subsingleton.elim _ _) rfl)

theorem step_dw (h0 : ¬t.val % 16 = 0) (i : S1x4096.Idx) :
    (outsAt0 m c t.val t.isLt).2.2.2 i =
      (outsAt0 m c (t.val - 1) (Nat.lt_of_le_of_lt (Nat.sub_le _ _) t.isLt)).2.2.2 i + part m c t (i 1) := by
  rcases cases t with ⟨h, -⟩ | ⟨-, h1⟩
  · exact absurd h h0
  rw [outsAt0_B m c t h0 h1]
  frame_out
  pointwise [k0_pay4]
  idx_vars i
  exact congrArg (_ + ·) (congrArg _ (congrArg₂ ix2 (Subsingleton.elim _ _) rfl))

/-- Sixteen blocks of 256 rows are the rows. -/
theorem sum_blocks (f : Fin 4096 → EReal) (h : ∀ s : Fin 16, 16 * ((t : ℕ) / 16) + (s : ℕ) < cfg0.N) :
    ∑ s : Fin 16, ∑ r : Fin 256, f (row ⟨16 * ((t : ℕ) / 16) + (s : ℕ), h s⟩ r) = ∑ r, f r := by
  have ht := lt_of_lt_of_eq t.isLt (show cfg0.N = 16 from N_0)
  refine Fin.sum_mul_add_congr fun s r hl => congrArg f (Fin.ext ?_)
  show (16 * ((t : ℕ) / 16) + (s : ℕ)) * 256 + (r : ℕ) = (s : ℕ) * 256 + (r : ℕ)
  omega

/-- What the last point writes out of the loss and of the gain's gradient. -/
theorem last_loss (h : t.val % 16 = 15) (i : S1x128.Idx) : (outsAt0 m c t.val t.isLt).1 i = lossArr (argX m c) (argY m c) (argW m c) := by
  rw [Pipeline.eq_sum_fin_of_reset_step_apply_of_flush (N := cfg0.N) (M := EReal) (fun n h => (outsAt0 m c n h).1) 16 (fun _ => 0)
    (fun t _ => partL m c t) (fun t h i => start_loss m c t h i) (fun t h i => step_loss m c t h i) t h i, zero_add]
  exact (Finset.sum_congr rfl fun s _ => partL_eq m c _).trans <| (sum_blocks t (fun r => Ideal.ofBits .f32 0x3F000000#32 *
    rowLoss (line (argX m c) r) (gain (argW m c)) (line (argY m c) r)) _).trans (half_sum _).symm

theorem last_dw (h : t.val % 16 = 15) (i : S1x4096.Idx) :
    (outsAt0 m c t.val t.isLt).2.2.2 i = dwArr (argX m c) (argY m c) (argW m c) (i 1) := by
  rw [Pipeline.eq_sum_fin_of_reset_step_apply_of_flush (N := cfg0.N) (M := EReal) (fun n h => (outsAt0 m c n h).2.2.2) 16 (fun _ => 0)
    (fun t i => part m c t (i 1)) (fun t h i => start_dw m c t h i) (fun t h i => step_dw m c t h i) t h i, zero_add]
  exact (Finset.sum_congr rfl fun s _ => part_eq m c _ (i 1)).trans <|
    sum_blocks t (fun r => rowDw (line (argX m c) r) (gain (argW m c)) (line (argY m c) r) (i 1)) _

/-- The input's gradient. -/
def dxArr (x y : FVec Ideal S4096x4096 .f32) (w : FVec Ideal S4096 .f32) (r l : Fin 4096) : EReal :=
  rowDx (line x r) (gain w) (line y r) l

omit t in
/-- The four arrays, as the call leaves them. -/
theorem final_loss : (dats m 0 c).arrAt 3 (cfgs 0).N =
    (fun _ => lossArr (argX m c) (argY m c) (argW m c) : FVec Ideal S1x128 .f32) := by
  refine (dats m 0 c).arrAt_eq_of_covers 3 _ (by decide +kernel) fun t hf i => ?_
  blk_simp
  rw [after0_3]
  exact last_loss m c t ((flush0_3 t).mp hf) i

omit t in
theorem final_dx : (dats m 0 c).arrAt 4 (cfgs 0).N =
    (fun i => dxArr (argX m c) (argY m c) (argW m c) (i 0) (i 1) : FVec Ideal S4096x4096 .f32) := by
  refine (dats m 0 c).arrAt_eq_of_covers 4 _ (by decide +kernel) fun t _ i => ?_
  blk_simp
  rw [after0_4]
  refine (out_dx m c t i).trans ?_
  rw [eq_ix2 i]
  refine (point_dx m c t (i 0) (i 1)).trans (congrArg₂ (dxArr _ _ _) (Fin.ext ?_) (Fin.ext ?_))
  all_goals (blk_simp [idx t, row] <;> (try dsimp only) <;> try omega)

omit t in
theorem final_dxb : (dats m 0 c).arrAt 5 (cfgs 0).N =
    (fun i => dxArr (argX m c) (argY m c) (argW m c) (i 0) (i 1) : FVec Ideal S4096x4096 .bf16) := by
  refine (dats m 0 c).arrAt_eq_of_covers 5 _ (by decide +kernel) fun t _ i => ?_
  blk_simp
  rw [after0_5]
  refine (out_dxb m c t i).trans ?_
  rw [eq_ix2 i]
  refine (point_dx m c t (i 0) (i 1)).trans (congrArg₂ (dxArr _ _ _) (Fin.ext ?_) (Fin.ext ?_))
  all_goals (blk_simp [idx t, row] <;> (try dsimp only) <;> try omega)

omit t in
theorem final_dw : (dats m 0 c).arrAt 6 (cfgs 0).N =
    (fun i => dwArr (argX m c) (argY m c) (argW m c) (i 1) : FVec Ideal S1x4096 .f32) := by
  refine (dats m 0 c).arrAt_eq_of_covers 6 _ (by decide +kernel) fun t hf i => ?_
  blk_simp
  rw [after0_6]
  refine (last_dw m c t ((flush0_6 t).mp hf) i).trans (congrArg (dwArr _ _ _) (Fin.ext ?_))
  all_goals (blk_simp [idx t] <;> (try dsimp only) <;> try omega)

end Cert.LossIdeal.Head

end
-- ==== Proof.LossClaim.lean ====
module

public import proofs.«01_k».proof.Defs
public import proofs.«01_k».proof.Proof.LossValue
public import proofs.«01_k».proof.Proof.Gen.LossRefIdeal.Run
public import proofs.«01_k».proof.Proof.Gen.LossRefIdeal.Read
public import Idealize.ShloMosaic.Lib.Claim

/-! The claim about the loss head, from the two runs and the four arrays of each. -/

@[expose] public section

set_option maxRecDepth 16384

noncomputable section

namespace Cert.LossIdeal.Head

open Idealize.ShloMosaic Idealize.ShloMosaic.TcCoe Idealize.SL.Sem Cert.NormMath

/-- Half a row's mean square, derived: the factors multiplied out. -/
theorem cot_eq (y : EReal) : Ideal.div (Ideal.ofBits .f32 0x3F000000#32) (Ideal.ofBits .f32 0x45800000#32)
    * (Ideal.ofBits .f32 0x40000000#32 * y) = y * Ideal.ofBits .f32 0x39800000#32 := by
  have h2 : Ideal.ofBits .f32 0x40000000#32 = ((2 : ℝ) : EReal) := by
    simp [Ideal.ofBits, Ideal.ieee, -EReal.coe_mul]; norm_num
  have h3 : Ideal.ofBits .f32 0x39800000#32 = ((1 / 4096 : ℝ) : EReal) := by
    simp [Ideal.ofBits, Ideal.ieee, -EReal.coe_mul]; norm_num
  rw [div_width, half_pos, h2, h3, ← mul_assoc, mul_comm y]
  congr 1
  rw [← EReal.coe_mul, ← EReal.coe_mul]
  congr 1
  norm_num

section
open Cert.LossRefIdeal Cert.LossRefIdeal.Read

variable (x y : FVec Ideal S4096x4096 .f32) (w : FVec Ideal S4096 .f32)

theorem ref_scale (r : Fin 4096) (z : Fin 1) : val_main_v6 (F := Ideal) x (ix2 r z) = scale (line x r) := by
  pointwise [val_main_v6, val_main_v5, val_main_v4, val_main_v3, val_main_v2, val_main_v1, val_main_v0, val_main_cst,
    val_main_cst_0, val_main_cst_1]
  rfl

theorem ref_inv (r : Fin 4096) (z : Fin 1) : val_main_v7 (F := Ideal) x (ix2 r z) = rootInv (line x r) := by
  pointwise [val_main_v7]
  rw [ref_scale]
  rfl

theorem ref_gap (r l : Fin 4096) : val_main_v16 (F := Ideal) x y w (ix2 r l) = gap (line x r) (gain w) (line y r) l := by
  pointwise [val_main_v16, val_main_v15, val_main_v14, val_main_v13, val_main_v12, val_main_v11]
  rw [ref_inv]
  rfl

/-- The reference's loss. -/
theorem ref_loss (z : Fin 1) (l : Fin 128) : val_main_v51 (F := Ideal) x y w (ix2 z l) = lossArr x y w := by
  pointwise [val_main_v51, val_main_v24, val_main_v23, val_main_v22, val_main_v21, val_main_v20, val_main_v17, val_main_cst_4,
    val_main_cst_5, val_main_cst_6, val_main_cst_7]
  simp only [ref_gap]
  rfl

theorem ref_cot (r l : Fin 4096) : val_main_v30 (F := Ideal) x y w (ix2 r l) = cot (line x r) (gain w) (line y r) l := by
  pointwise [val_main_v30, val_main_v29, val_main_v28, val_main_v27, val_main_v26, val_main_v25, val_main_v19, val_main_v18,
    val_main_cst_3, val_main_cst_8, val_main_cst_9, val_main_cst_10]
  rw [ref_gap]
  exact cot_eq _

theorem ref_back (r l : Fin 4096) : val_main_v35 (F := Ideal) x y w (ix2 r l) = cot (line x r) (gain w) (line y r) l * gain w l := by
  pointwise [val_main_v35, val_main_v34, val_main_v13]
  rw [ref_cot]
  rfl

/-- What the derivative of the reciprocal root gives a row's elements. -/
theorem ref_curv (r l : Fin 4096) : val_main_v46 (F := Ideal) x y w (ix2 r l) =
    curv (fun j => cot (line x r) (gain w) (line y r) j * gain w j) (line x r) := by
  pointwise [val_main_v46, val_main_v45, val_main_v44, val_main_v43, val_main_v42, val_main_v39, val_main_v38, val_main_v37,
    val_main_v10, val_main_v9, val_main_v8, val_main_cst_2, val_main_cst_13, val_main_cst_14, val_main_cst_15]
  simp only [ref_scale, ref_inv, ref_back, Finset.univ_unique, Finset.sum_singleton]
  rfl

/-- The reference's gradient of the input. -/
theorem ref_dx (r l : Fin 4096) : val_main_v50 (F := Ideal) x y w (ix2 r l) = dxArr x y w r l := by
  pointwise [val_main_v50, val_main_v49, val_main_v48, val_main_v47, val_main_v41, val_main_v40]
  rw [ref_inv, ref_curv, ref_back]
  rfl

/-- The reference's gradient of the gain. -/
theorem ref_dw (z : Fin 1) (l : Fin 4096) : val_main_v53 (F := Ideal) x y w (ix2 z l) = dwArr x y w l := by
  pointwise [val_main_v53, val_main_v36, val_main_v33, val_main_v32, val_main_v31, val_main_v12, val_main_v11, val_main_cst_11,
    val_main_cst_12]
  simp only [ref_inv, ref_cot, Finset.univ_unique, Finset.sum_singleton]
  exact Finset.sum_congr rfl fun r _ => mul_comm _ _

theorem eq_loss : val_main_v51 (F := Ideal) x y w = fun _ => lossArr x y w := by
  funext i
  conv_lhs => rw [eq_ix2 i]
  exact ref_loss x y w (i 0) (i 1)

theorem eq_dx : val_main_v50 (F := Ideal) x y w = fun i => dxArr x y w (i 0) (i 1) := by
  funext i
  conv_lhs => rw [eq_ix2 i]
  exact ref_dx x y w (i 0) (i 1)

theorem eq_dxb : val_main_v52 (F := Ideal) x y w = fun i => dxArr x y w (i 0) (i 1) := eq_dx x y w

theorem eq_dw : val_main_v53 (F := Ideal) x y w = fun i => dwArr x y w (i 1) := by
  funext i
  conv_lhs => rw [eq_ix2 i]
  exact ref_dw x y w (i 0) (i 1)

end

/-- The loss head, claimed: its four arrays are the reference's. -/
theorem algebraic : Cert.algebraic_LossIdeal_LossRefIdeal := by
  pair_intro
  · run_from Cert.LossIdeal.Gen.run_main m g
  · run_from Cert.LossRefIdeal.Value.run m' g'
    · exact (Cert.LossRefIdeal.Read.val_main_v51_eq _ _ _).trans ((eq_loss _ _ _).trans (final_loss m c).symm)
    · refine (Cert.LossRefIdeal.Read.val_main_v50_eq _ _).trans ((eq_dx _ _ _).trans ?_)
      rw [(hagree c).1, (hagree c).2.1, (hagree c).2.2]
      exact (final_dx m c).symm
    · refine (Cert.LossRefIdeal.Read.val_main_v52_eq _ _).trans ((eq_dxb _ _ _).trans ?_)
      rw [(hagree c).1, (hagree c).2.1, (hagree c).2.2]
      exact (final_dxb m c).symm
    · exact (Cert.LossRefIdeal.Read.val_main_v53_eq _ _ _).trans ((eq_dw _ _ _).trans (final_dw m c).symm)

end Cert.LossIdeal.Head

end
-- ==== Proof.AdamwInValue.lean ====
module

public import proofs.«01_k».proof.Proof.Gen.AdamwInIdeal.Frame
public import Idealize.ShloMosaic.Lib.Pipeline.ValueKit
public import Idealize.ShloMosaic.Lib.Claim

/-! The optimiser's four calls on the large weight: each adds one layer's landed sums and steps that layer's weight,
leaving the other layers of its four outputs as it finds them. -/

@[expose] public section

set_option maxHeartbeats 1000000
set_option maxRecDepth 16384

noncomputable section

namespace Cert.AdamwInIdeal.Step

open Idealize.ShloMosaic Idealize.ShloMosaic.TcCoe Idealize.SL.Sem
open Cert.AdamwInIdeal Cert.AdamwInIdeal.Gen

/-- A layered array of the weight's shape, and an array of landed slots. -/
abbrev Big := FVec Ideal S4x4096x1408 .f32
abbrev Land := FVec Ideal S4x4096x1408 .bf16

/-- A gradient's element, from the slots: this device's pair sum and the three that landed. -/
def grad (p l1 l2 l3 : EReal) : EReal := p + l1 + l2 + l3

/-- The two averages and the step, of an element. -/
def avg (m g : EReal) : EReal := Ideal.ofBits .f32 0x3F666666#32 * m + Ideal.ofBits .f32 0x3DCCCCCD#32 * g
def avg2 (v g : EReal) : EReal := Ideal.ofBits .f32 0x3F7FBE77#32 * v + Ideal.ofBits .f32 0x3A83126F#32 * (g * g)
def step (w m v : EReal) : EReal :=
  Ideal.ofBits .f32 0xBA83126F#32 * (Ideal.div (Ideal.div m (Ideal.ofBits .f32 0x3F26BD02#32))
    (Ideal.sqrt (Ideal.div v (Ideal.ofBits .f32 0x3C231ACC#32)) + Ideal.ofBits .f32 0x322BCC77#32) + Ideal.ofBits .f32 0x3C23D70A#32 * w)

section
variable (w m v : FVec Ideal S1x256x1408 .f32) (p l1 l2 l3 : FVec Ideal S1x256x1408 .bf16) (z : Fin 1) (r : Fin 256) (j : Fin 1408)

theorem blk_sum : k0_pay5 (F := Ideal) p l1 l2 l3 (ix2 r j) = grad (p (ix3 0 r j)) (l1 (ix3 0 r j)) (l2 (ix3 0 r j)) (l3 (ix3 0 r j)) := by
  pointwise [k0_pay5]
  rfl

theorem blk_avg : k0_pay7 (F := Ideal) p l1 l2 l3 m (ix2 r j) =
    avg (m (ix3 0 r j)) (grad (p (ix3 0 r j)) (l1 (ix3 0 r j)) (l2 (ix3 0 r j)) (l3 (ix3 0 r j))) := by
  pointwise [k0_pay7]
  rw [blk_sum]
  rfl

theorem blk_avg2 : k0_pay8 (F := Ideal) p l1 l2 l3 v (ix2 r j) =
    avg2 (v (ix3 0 r j)) (grad (p (ix3 0 r j)) (l1 (ix3 0 r j)) (l2 (ix3 0 r j)) (l3 (ix3 0 r j))) := by
  pointwise [k0_pay8]
  rw [blk_sum]
  rfl

/-- What a block of rows stores: the gradient, the step, and the two averages. -/
theorem out_grad : k0_pay1 (F := Ideal) (k0_pay5 p l1 l2 l3) (ix3 z r j) =
    grad (p (ix3 0 r j)) (l1 (ix3 0 r j)) (l2 (ix3 0 r j)) (l3 (ix3 0 r j)) := by
  pointwise [k0_pay1]
  exact blk_sum _ _ _ _ _ _

theorem out_step : k0_pay2 (F := Ideal) (k0_pay6 w) (k0_pay7 p l1 l2 l3 m) (k0_pay8 p l1 l2 l3 v) k0_pay9 (ix3 z r j) =
    step (w (ix3 0 r j)) (avg (m (ix3 0 r j)) (grad (p (ix3 0 r j)) (l1 (ix3 0 r j)) (l2 (ix3 0 r j)) (l3 (ix3 0 r j))))
      (avg2 (v (ix3 0 r j)) (grad (p (ix3 0 r j)) (l1 (ix3 0 r j)) (l2 (ix3 0 r j)) (l3 (ix3 0 r j)))) := by
  pointwise [k0_pay2, k0_pay6, k0_pay9]
  rw [blk_avg, blk_avg2]
  rfl

theorem out_avg : k0_pay3 (F := Ideal) (k0_pay7 p l1 l2 l3 m) (ix3 z r j) =
    avg (m (ix3 0 r j)) (grad (p (ix3 0 r j)) (l1 (ix3 0 r j)) (l2 (ix3 0 r j)) (l3 (ix3 0 r j))) := by
  pointwise [k0_pay3]
  exact blk_avg _ _ _ _ _ _ _

theorem out_avg2 : k0_pay4 (F := Ideal) (k0_pay8 p l1 l2 l3 v) (ix3 z r j) =
    avg2 (v (ix3 0 r j)) (grad (p (ix3 0 r j)) (l1 (ix3 0 r j)) (l2 (ix3 0 r j)) (l3 (ix3 0 r j))) := by
  pointwise [k0_pay4]
  exact blk_avg2 _ _ _ _ _ _ _
end

/-- A layer's gradient, and its averages and step. -/
def layGrad (p l : Land) (r : Fin 4096) (j : Fin 1408) : EReal := grad (p (ix3 0 r j)) (l (ix3 1 r j)) (l (ix3 2 r j)) (l (ix3 3 r j))
def layAvg (m : Big) (p l : Land) (k : Fin 4) (r : Fin 4096) (j : Fin 1408) : EReal := avg (m (ix3 k r j)) (layGrad p l r j)
def layAvg2 (v : Big) (p l : Land) (k : Fin 4) (r : Fin 4096) (j : Fin 1408) : EReal := avg2 (v (ix3 k r j)) (layGrad p l r j)
def layStep (w m v : Big) (p l : Land) (k : Fin 4) (r : Fin 4096) (j : Fin 1408) : EReal :=
  step (w (ix3 k r j)) (layAvg m p l k r j) (layAvg2 v p l k r j)

/-- An array with one layer replaced. -/
def put (k : ℕ) (f : Fin 4096 → Fin 1408 → EReal) (old : Big) : Big := fun i => if (i 0 : ℕ) = k then f (i 1) (i 2) else old i

variable (V : (c : Dev nD) → (b : Ref sig .tc) → Buf (Elt Ideal) ((c : Thread nD τ).loc b)) (c : Dev nD)

/-- The row of the array that a block's row is. -/
def row (t : Fin 16) (r : Fin 256) : Fin 4096 := ⟨(t : ℕ) * 256 + (r : ℕ), by omega⟩

/-- Equal parts, equal whole. -/
theorem congrGrad {p a b d p' a' b' d' : EReal} (h : p = p') (h1 : a = a') (h2 : b = b') (h3 : d = d') : grad p a b d = grad p' a' b' d' := by
  rw [h, h1, h2, h3]
theorem congrStep {w m v w' m' v' : EReal} (h : w = w') (h1 : m = m') (h2 : v = v') : step w m v = step w' m' v' := by
  rw [h, h1, h2]

end Cert.AdamwInIdeal.Step

end
-- ==== Proof.AdamwInLayer0.lean ====
module

public import proofs.«01_k».proof.Proof.AdamwInValue

/-! The call on layer 0 of the sharded step: what its blocks hold, and what the four arrays hold after it. -/

@[expose] public section

set_option maxHeartbeats 1000000
set_option maxRecDepth 16384

noncomputable section

namespace Cert.AdamwInIdeal.Step

open Idealize.ShloMosaic Idealize.ShloMosaic.TcCoe Idealize.SL.Sem
open Cert.AdamwInIdeal Cert.AdamwInIdeal.Gen

variable (V : (c : Dev nD) → (b : Ref sig .tc) → Buf (Elt Ideal) ((c : Thread nD τ).loc b)) (c : Dev nD)

/-- The blocks of the call on layer 0, and what its inputs' blocks hold. -/
theorem idx3 : ∀ t : Fin cfg3.N, win3_0.index t = ![0, (t : ℕ), 0] ∧ win3_1.index t = ![0, (t : ℕ), 0] ∧ win3_2.index t = ![0, (t : ℕ), 0] ∧
    win3_3.index t = ![0, (t : ℕ), 0] ∧ win3_4.index t = ![1, (t : ℕ), 0] ∧ win3_5.index t = ![2, (t : ℕ), 0] ∧
    win3_6.index t = ![3, (t : ℕ), 0] ∧ win3_8.index t = ![0, (t : ℕ), 0] ∧ win3_9.index t = ![0, (t : ℕ), 0] ∧
    win3_10.index t = ![0, (t : ℕ), 0] ∧ win3_11.index t = ![0, (t : ℕ), 0] :=
  (by decide +kernel : ∀ t : Fin grid3.N, _)

theorem reads3 (t : Fin cfg3.N) (r : Fin 256) (j : Fin 1408) :
    (show FVec Ideal S1x256x1408 .f32 from iblk3 V c 0 t) (ix3 0 r j) = (V c main_arg0 : Big) (ix3 0 (row t r) j) ∧
    (show FVec Ideal S1x256x1408 .f32 from iblk3 V c 1 t) (ix3 0 r j) = (V c main_arg1 : Big) (ix3 0 (row t r) j) ∧
    (show FVec Ideal S1x256x1408 .f32 from iblk3 V c 2 t) (ix3 0 r j) = (V c main_arg2 : Big) (ix3 0 (row t r) j) ∧
    (show FVec Ideal S1x256x1408 .bf16 from iblk3 V c 3 t) (ix3 0 r j) = (V c main_arg3 : Land) (ix3 0 (row t r) j) ∧
    (show FVec Ideal S1x256x1408 .bf16 from iblk3 V c 4 t) (ix3 0 r j) = (V c main_arg4 : Land) (ix3 1 (row t r) j) ∧
    (show FVec Ideal S1x256x1408 .bf16 from iblk3 V c 5 t) (ix3 0 r j) = (V c main_arg4 : Land) (ix3 2 (row t r) j) ∧
    (show FVec Ideal S1x256x1408 .bf16 from iblk3 V c 6 t) (ix3 0 r j) = (V c main_arg4 : Land) (ix3 3 (row t r) j) := by
  refine ⟨?_, ?_, ?_, ?_, ?_, ?_, ?_⟩ <;> (unfold iblk3; blk_ext [idx3 t, row])

theorem grad3 : (dat3 V c).arrAt 8 cfg3.N = put 0 (layGrad (V c main_arg3) (V c main_arg4)) (V c main_v3_0) := by
  refine (dat3 V c).arrAt_eq_of_coversWhere 8 (fun i => layGrad (V c main_arg3) (V c main_arg4) (i 1) (i 2) : Big) (fun β => β (0 : Fin 3) = 0)
    (by decide +kernel) (fun t _ y => ?_) (fun j => by blk_simp [Pipeline.Window.cell_apply]; omega)
  blk_simp
  rw [after3_8]
  unfold outsAt3
  dsimp only
  frame_out
  rw [eq_ix3 y]
  obtain ⟨_, _, _, e3, e4, e5, e6⟩ := reads3 V c t (y 1) (y 2)
  refine (out_grad _ _ _ _ (y 0) (y 1) (y 2)).trans ((congrGrad e3 e4 e5 e6).trans (congrArg₂ (layGrad _ _) (Fin.ext ?_) (Fin.ext ?_)))
  all_goals (blk_simp [idx3 t, row] <;> (try dsimp only) <;> try omega)

theorem step3 : (dat3 V c).arrAt 9 cfg3.N = put 0 (layStep (V c main_arg0) (V c main_arg1) (V c main_arg2) (V c main_arg3) (V c main_arg4) 0) (V c main_v3_1) := by
  refine (dat3 V c).arrAt_eq_of_coversWhere 9 (fun i => layStep (V c main_arg0) (V c main_arg1) (V c main_arg2) (V c main_arg3) (V c main_arg4) 0 (i 1) (i 2) : Big) (fun β => β (0 : Fin 3) = 0)
    (by decide +kernel) (fun t _ y => ?_) (fun j => by blk_simp [Pipeline.Window.cell_apply]; omega)
  blk_simp
  rw [after3_9]
  unfold outsAt3
  dsimp only
  frame_out
  rw [eq_ix3 y]
  obtain ⟨e0, e1, e2, e3, e4, e5, e6⟩ := reads3 V c t (y 1) (y 2)
  refine (out_step _ _ _ _ _ _ _ (y 0) (y 1) (y 2)).trans ((congrStep e0 (congrArg₂ avg e1 (congrGrad e3 e4 e5 e6)) (congrArg₂ avg2 e2 (congrGrad e3 e4 e5 e6))).trans (congrArg₂ (layStep _ _ _ _ _ _) (Fin.ext ?_) (Fin.ext ?_)))
  all_goals (blk_simp [idx3 t, row] <;> (try dsimp only) <;> try omega)

theorem mean3 : (dat3 V c).arrAt 10 cfg3.N = put 0 (layAvg (V c main_arg1) (V c main_arg3) (V c main_arg4) 0) (V c main_v3_2) := by
  refine (dat3 V c).arrAt_eq_of_coversWhere 10 (fun i => layAvg (V c main_arg1) (V c main_arg3) (V c main_arg4) 0 (i 1) (i 2) : Big) (fun β => β (0 : Fin 3) = 0)
    (by decide +kernel) (fun t _ y => ?_) (fun j => by blk_simp [Pipeline.Window.cell_apply]; omega)
  blk_simp
  rw [after3_10]
  unfold outsAt3
  dsimp only
  frame_out
  rw [eq_ix3 y]
  obtain ⟨_, e1, _, e3, e4, e5, e6⟩ := reads3 V c t (y 1) (y 2)
  refine (out_avg _ _ _ _ _ (y 0) (y 1) (y 2)).trans ((congrArg₂ avg e1 (congrGrad e3 e4 e5 e6)).trans (congrArg₂ (layAvg _ _ _ _) (Fin.ext ?_) (Fin.ext ?_)))
  all_goals (blk_simp [idx3 t, row] <;> (try dsimp only) <;> try omega)

theorem square3 : (dat3 V c).arrAt 11 cfg3.N = put 0 (layAvg2 (V c main_arg2) (V c main_arg3) (V c main_arg4) 0) (V c main_v3_3) := by
  refine (dat3 V c).arrAt_eq_of_coversWhere 11 (fun i => layAvg2 (V c main_arg2) (V c main_arg3) (V c main_arg4) 0 (i 1) (i 2) : Big) (fun β => β (0 : Fin 3) = 0)
    (by decide +kernel) (fun t _ y => ?_) (fun j => by blk_simp [Pipeline.Window.cell_apply]; omega)
  blk_simp
  rw [after3_11]
  unfold outsAt3
  dsimp only
  frame_out
  rw [eq_ix3 y]
  obtain ⟨_, _, e2, e3, e4, e5, e6⟩ := reads3 V c t (y 1) (y 2)
  refine (out_avg2 _ _ _ _ _ (y 0) (y 1) (y 2)).trans ((congrArg₂ avg2 e2 (congrGrad e3 e4 e5 e6)).trans (congrArg₂ (layAvg2 _ _ _ _) (Fin.ext ?_) (Fin.ext ?_)))
  all_goals (blk_simp [idx3 t, row] <;> (try dsimp only) <;> try omega)

end Cert.AdamwInIdeal.Step

end
-- ==== Proof.AdamwInLayer1.lean ====
module

public import proofs.«01_k».proof.Proof.AdamwInValue

/-! The call on layer 1 of the sharded step: what its blocks hold, and what the four arrays hold after it. -/

@[expose] public section

set_option maxHeartbeats 1000000
set_option maxRecDepth 16384

noncomputable section

namespace Cert.AdamwInIdeal.Step

open Idealize.ShloMosaic Idealize.ShloMosaic.TcCoe Idealize.SL.Sem
open Cert.AdamwInIdeal Cert.AdamwInIdeal.Gen

variable (V : (c : Dev nD) → (b : Ref sig .tc) → Buf (Elt Ideal) ((c : Thread nD τ).loc b)) (c : Dev nD)

/-- The blocks of the call on layer 1, and what its inputs' blocks hold. -/
theorem idx2 : ∀ t : Fin cfg2.N, win2_0.index t = ![1, (t : ℕ), 0] ∧ win2_1.index t = ![1, (t : ℕ), 0] ∧ win2_2.index t = ![1, (t : ℕ), 0] ∧
    win2_3.index t = ![0, (t : ℕ), 0] ∧ win2_4.index t = ![1, (t : ℕ), 0] ∧ win2_5.index t = ![2, (t : ℕ), 0] ∧
    win2_6.index t = ![3, (t : ℕ), 0] ∧ win2_8.index t = ![1, (t : ℕ), 0] ∧ win2_9.index t = ![1, (t : ℕ), 0] ∧
    win2_10.index t = ![1, (t : ℕ), 0] ∧ win2_11.index t = ![1, (t : ℕ), 0] :=
  (by decide +kernel : ∀ t : Fin grid2.N, _)

theorem reads2 (t : Fin cfg2.N) (r : Fin 256) (j : Fin 1408) :
    (show FVec Ideal S1x256x1408 .f32 from iblk2 V c 0 t) (ix3 0 r j) = (V c main_arg0 : Big) (ix3 1 (row t r) j) ∧
    (show FVec Ideal S1x256x1408 .f32 from iblk2 V c 1 t) (ix3 0 r j) = (V c main_arg1 : Big) (ix3 1 (row t r) j) ∧
    (show FVec Ideal S1x256x1408 .f32 from iblk2 V c 2 t) (ix3 0 r j) = (V c main_arg2 : Big) (ix3 1 (row t r) j) ∧
    (show FVec Ideal S1x256x1408 .bf16 from iblk2 V c 3 t) (ix3 0 r j) = (V c main_arg5 : Land) (ix3 0 (row t r) j) ∧
    (show FVec Ideal S1x256x1408 .bf16 from iblk2 V c 4 t) (ix3 0 r j) = (V c main_arg6 : Land) (ix3 1 (row t r) j) ∧
    (show FVec Ideal S1x256x1408 .bf16 from iblk2 V c 5 t) (ix3 0 r j) = (V c main_arg6 : Land) (ix3 2 (row t r) j) ∧
    (show FVec Ideal S1x256x1408 .bf16 from iblk2 V c 6 t) (ix3 0 r j) = (V c main_arg6 : Land) (ix3 3 (row t r) j) := by
  refine ⟨?_, ?_, ?_, ?_, ?_, ?_, ?_⟩ <;> (unfold iblk2; blk_ext [idx2 t, row])

theorem grad2 : (dat2 V c).arrAt 8 cfg2.N = put 1 (layGrad (V c main_arg5) (V c main_arg6)) (V c main_v2_0) := by
  refine (dat2 V c).arrAt_eq_of_coversWhere 8 (fun i => layGrad (V c main_arg5) (V c main_arg6) (i 1) (i 2) : Big) (fun β => β (0 : Fin 3) = 1)
    (by decide +kernel) (fun t _ y => ?_) (fun j => by blk_simp [Pipeline.Window.cell_apply]; omega)
  blk_simp
  rw [after2_8]
  unfold outsAt2
  dsimp only
  frame_out
  rw [eq_ix3 y]
  obtain ⟨_, _, _, e3, e4, e5, e6⟩ := reads2 V c t (y 1) (y 2)
  refine (out_grad _ _ _ _ (y 0) (y 1) (y 2)).trans ((congrGrad e3 e4 e5 e6).trans (congrArg₂ (layGrad _ _) (Fin.ext ?_) (Fin.ext ?_)))
  all_goals (blk_simp [idx2 t, row] <;> (try dsimp only) <;> try omega)

theorem step2 : (dat2 V c).arrAt 9 cfg2.N = put 1 (layStep (V c main_arg0) (V c main_arg1) (V c main_arg2) (V c main_arg5) (V c main_arg6) 1) (V c main_v2_1) := by
  refine (dat2 V c).arrAt_eq_of_coversWhere 9 (fun i => layStep (V c main_arg0) (V c main_arg1) (V c main_arg2) (V c main_arg5) (V c main_arg6) 1 (i 1) (i 2) : Big) (fun β => β (0 : Fin 3) = 1)
    (by decide +kernel) (fun t _ y => ?_) (fun j => by blk_simp [Pipeline.Window.cell_apply]; omega)
  blk_simp
  rw [after2_9]
  unfold outsAt2
  dsimp only
  frame_out
  rw [eq_ix3 y]
  obtain ⟨e0, e1, e2, e3, e4, e5, e6⟩ := reads2 V c t (y 1) (y 2)
  refine (out_step _ _ _ _ _ _ _ (y 0) (y 1) (y 2)).trans ((congrStep e0 (congrArg₂ avg e1 (congrGrad e3 e4 e5 e6)) (congrArg₂ avg2 e2 (congrGrad e3 e4 e5 e6))).trans (congrArg₂ (layStep _ _ _ _ _ _) (Fin.ext ?_) (Fin.ext ?_)))
  all_goals (blk_simp [idx2 t, row] <;> (try dsimp only) <;> try omega)

theorem mean2 : (dat2 V c).arrAt 10 cfg2.N = put 1 (layAvg (V c main_arg1) (V c main_arg5) (V c main_arg6) 1) (V c main_v2_2) := by
  refine (dat2 V c).arrAt_eq_of_coversWhere 10 (fun i => layAvg (V c main_arg1) (V c main_arg5) (V c main_arg6) 1 (i 1) (i 2) : Big) (fun β => β (0 : Fin 3) = 1)
    (by decide +kernel) (fun t _ y => ?_) (fun j => by blk_simp [Pipeline.Window.cell_apply]; omega)
  blk_simp
  rw [after2_10]
  unfold outsAt2
  dsimp only
  frame_out
  rw [eq_ix3 y]
  obtain ⟨_, e1, _, e3, e4, e5, e6⟩ := reads2 V c t (y 1) (y 2)
  refine (out_avg _ _ _ _ _ (y 0) (y 1) (y 2)).trans ((congrArg₂ avg e1 (congrGrad e3 e4 e5 e6)).trans (congrArg₂ (layAvg _ _ _ _) (Fin.ext ?_) (Fin.ext ?_)))
  all_goals (blk_simp [idx2 t, row] <;> (try dsimp only) <;> try omega)

theorem square2 : (dat2 V c).arrAt 11 cfg2.N = put 1 (layAvg2 (V c main_arg2) (V c main_arg5) (V c main_arg6) 1) (V c main_v2_3) := by
  refine (dat2 V c).arrAt_eq_of_coversWhere 11 (fun i => layAvg2 (V c main_arg2) (V c main_arg5) (V c main_arg6) 1 (i 1) (i 2) : Big) (fun β => β (0 : Fin 3) = 1)
    (by decide +kernel) (fun t _ y => ?_) (fun j => by blk_simp [Pipeline.Window.cell_apply]; omega)
  blk_simp
  rw [after2_11]
  unfold outsAt2
  dsimp only
  frame_out
  rw [eq_ix3 y]
  obtain ⟨_, _, e2, e3, e4, e5, e6⟩ := reads2 V c t (y 1) (y 2)
  refine (out_avg2 _ _ _ _ _ (y 0) (y 1) (y 2)).trans ((congrArg₂ avg2 e2 (congrGrad e3 e4 e5 e6)).trans (congrArg₂ (layAvg2 _ _ _ _) (Fin.ext ?_) (Fin.ext ?_)))
  all_goals (blk_simp [idx2 t, row] <;> (try dsimp only) <;> try omega)

end Cert.AdamwInIdeal.Step

end
-- ==== Proof.AdamwInLayer2.lean ====
module

public import proofs.«01_k».proof.Proof.AdamwInValue

/-! The call on layer 2 of the sharded step: what its blocks hold, and what the four arrays hold after it. -/

@[expose] public section

set_option maxHeartbeats 1000000
set_option maxRecDepth 16384

noncomputable section

namespace Cert.AdamwInIdeal.Step

open Idealize.ShloMosaic Idealize.ShloMosaic.TcCoe Idealize.SL.Sem
open Cert.AdamwInIdeal Cert.AdamwInIdeal.Gen

variable (V : (c : Dev nD) → (b : Ref sig .tc) → Buf (Elt Ideal) ((c : Thread nD τ).loc b)) (c : Dev nD)

/-- The blocks of the call on layer 2, and what its inputs' blocks hold. -/
theorem idx1 : ∀ t : Fin cfg1.N, win1_0.index t = ![2, (t : ℕ), 0] ∧ win1_1.index t = ![2, (t : ℕ), 0] ∧ win1_2.index t = ![2, (t : ℕ), 0] ∧
    win1_3.index t = ![0, (t : ℕ), 0] ∧ win1_4.index t = ![1, (t : ℕ), 0] ∧ win1_5.index t = ![2, (t : ℕ), 0] ∧
    win1_6.index t = ![3, (t : ℕ), 0] ∧ win1_8.index t = ![2, (t : ℕ), 0] ∧ win1_9.index t = ![2, (t : ℕ), 0] ∧
    win1_10.index t = ![2, (t : ℕ), 0] ∧ win1_11.index t = ![2, (t : ℕ), 0] :=
  (by decide +kernel : ∀ t : Fin grid1.N, _)

theorem reads1 (t : Fin cfg1.N) (r : Fin 256) (j : Fin 1408) :
    (show FVec Ideal S1x256x1408 .f32 from iblk1 V c 0 t) (ix3 0 r j) = (V c main_arg0 : Big) (ix3 2 (row t r) j) ∧
    (show FVec Ideal S1x256x1408 .f32 from iblk1 V c 1 t) (ix3 0 r j) = (V c main_arg1 : Big) (ix3 2 (row t r) j) ∧
    (show FVec Ideal S1x256x1408 .f32 from iblk1 V c 2 t) (ix3 0 r j) = (V c main_arg2 : Big) (ix3 2 (row t r) j) ∧
    (show FVec Ideal S1x256x1408 .bf16 from iblk1 V c 3 t) (ix3 0 r j) = (V c main_arg7 : Land) (ix3 0 (row t r) j) ∧
    (show FVec Ideal S1x256x1408 .bf16 from iblk1 V c 4 t) (ix3 0 r j) = (V c main_arg8 : Land) (ix3 1 (row t r) j) ∧
    (show FVec Ideal S1x256x1408 .bf16 from iblk1 V c 5 t) (ix3 0 r j) = (V c main_arg8 : Land) (ix3 2 (row t r) j) ∧
    (show FVec Ideal S1x256x1408 .bf16 from iblk1 V c 6 t) (ix3 0 r j) = (V c main_arg8 : Land) (ix3 3 (row t r) j) := by
  refine ⟨?_, ?_, ?_, ?_, ?_, ?_, ?_⟩ <;> (unfold iblk1; blk_ext [idx1 t, row])

theorem grad1 : (dat1 V c).arrAt 8 cfg1.N = put 2 (layGrad (V c main_arg7) (V c main_arg8)) (V c main_v1_0) := by
  refine (dat1 V c).arrAt_eq_of_coversWhere 8 (fun i => layGrad (V c main_arg7) (V c main_arg8) (i 1) (i 2) : Big) (fun β => β (0 : Fin 3) = 2)
    (by decide +kernel) (fun t _ y => ?_) (fun j => by blk_simp [Pipeline.Window.cell_apply]; omega)
  blk_simp
  rw [after1_8]
  unfold outsAt1
  dsimp only
  frame_out
  rw [eq_ix3 y]
  obtain ⟨_, _, _, e3, e4, e5, e6⟩ := reads1 V c t (y 1) (y 2)
  refine (out_grad _ _ _ _ (y 0) (y 1) (y 2)).trans ((congrGrad e3 e4 e5 e6).trans (congrArg₂ (layGrad _ _) (Fin.ext ?_) (Fin.ext ?_)))
  all_goals (blk_simp [idx1 t, row] <;> (try dsimp only) <;> try omega)

theorem step1 : (dat1 V c).arrAt 9 cfg1.N = put 2 (layStep (V c main_arg0) (V c main_arg1) (V c main_arg2) (V c main_arg7) (V c main_arg8) 2) (V c main_v1_1) := by
  refine (dat1 V c).arrAt_eq_of_coversWhere 9 (fun i => layStep (V c main_arg0) (V c main_arg1) (V c main_arg2) (V c main_arg7) (V c main_arg8) 2 (i 1) (i 2) : Big) (fun β => β (0 : Fin 3) = 2)
    (by decide +kernel) (fun t _ y => ?_) (fun j => by blk_simp [Pipeline.Window.cell_apply]; omega)
  blk_simp
  rw [after1_9]
  unfold outsAt1
  dsimp only
  frame_out
  rw [eq_ix3 y]
  obtain ⟨e0, e1, e2, e3, e4, e5, e6⟩ := reads1 V c t (y 1) (y 2)
  refine (out_step _ _ _ _ _ _ _ (y 0) (y 1) (y 2)).trans ((congrStep e0 (congrArg₂ avg e1 (congrGrad e3 e4 e5 e6)) (congrArg₂ avg2 e2 (congrGrad e3 e4 e5 e6))).trans (congrArg₂ (layStep _ _ _ _ _ _) (Fin.ext ?_) (Fin.ext ?_)))
  all_goals (blk_simp [idx1 t, row] <;> (try dsimp only) <;> try omega)

theorem mean1 : (dat1 V c).arrAt 10 cfg1.N = put 2 (layAvg (V c main_arg1) (V c main_arg7) (V c main_arg8) 2) (V c main_v1_2) := by
  refine (dat1 V c).arrAt_eq_of_coversWhere 10 (fun i => layAvg (V c main_arg1) (V c main_arg7) (V c main_arg8) 2 (i 1) (i 2) : Big) (fun β => β (0 : Fin 3) = 2)
    (by decide +kernel) (fun t _ y => ?_) (fun j => by blk_simp [Pipeline.Window.cell_apply]; omega)
  blk_simp
  rw [after1_10]
  unfold outsAt1
  dsimp only
  frame_out
  rw [eq_ix3 y]
  obtain ⟨_, e1, _, e3, e4, e5, e6⟩ := reads1 V c t (y 1) (y 2)
  refine (out_avg _ _ _ _ _ (y 0) (y 1) (y 2)).trans ((congrArg₂ avg e1 (congrGrad e3 e4 e5 e6)).trans (congrArg₂ (layAvg _ _ _ _) (Fin.ext ?_) (Fin.ext ?_)))
  all_goals (blk_simp [idx1 t, row] <;> (try dsimp only) <;> try omega)

theorem square1 : (dat1 V c).arrAt 11 cfg1.N = put 2 (layAvg2 (V c main_arg2) (V c main_arg7) (V c main_arg8) 2) (V c main_v1_3) := by
  refine (dat1 V c).arrAt_eq_of_coversWhere 11 (fun i => layAvg2 (V c main_arg2) (V c main_arg7) (V c main_arg8) 2 (i 1) (i 2) : Big) (fun β => β (0 : Fin 3) = 2)
    (by decide +kernel) (fun t _ y => ?_) (fun j => by blk_simp [Pipeline.Window.cell_apply]; omega)
  blk_simp
  rw [after1_11]
  unfold outsAt1
  dsimp only
  frame_out
  rw [eq_ix3 y]
  obtain ⟨_, _, e2, e3, e4, e5, e6⟩ := reads1 V c t (y 1) (y 2)
  refine (out_avg2 _ _ _ _ _ (y 0) (y 1) (y 2)).trans ((congrArg₂ avg2 e2 (congrGrad e3 e4 e5 e6)).trans (congrArg₂ (layAvg2 _ _ _ _) (Fin.ext ?_) (Fin.ext ?_)))
  all_goals (blk_simp [idx1 t, row] <;> (try dsimp only) <;> try omega)

end Cert.AdamwInIdeal.Step

end
-- ==== Proof.AdamwInLayer3.lean ====
module

public import proofs.«01_k».proof.Proof.AdamwInValue

/-! The call on layer 3 of the sharded step: what its blocks hold, and what the four arrays hold after it. -/

@[expose] public section

set_option maxHeartbeats 1000000
set_option maxRecDepth 16384

noncomputable section

namespace Cert.AdamwInIdeal.Step

open Idealize.ShloMosaic Idealize.ShloMosaic.TcCoe Idealize.SL.Sem
open Cert.AdamwInIdeal Cert.AdamwInIdeal.Gen

variable (V : (c : Dev nD) → (b : Ref sig .tc) → Buf (Elt Ideal) ((c : Thread nD τ).loc b)) (c : Dev nD)

/-- The blocks of the call on layer 3, and what its inputs' blocks hold. -/
theorem idx0 : ∀ t : Fin cfg0.N, win0_0.index t = ![3, (t : ℕ), 0] ∧ win0_1.index t = ![3, (t : ℕ), 0] ∧ win0_2.index t = ![3, (t : ℕ), 0] ∧
    win0_3.index t = ![0, (t : ℕ), 0] ∧ win0_4.index t = ![1, (t : ℕ), 0] ∧ win0_5.index t = ![2, (t : ℕ), 0] ∧
    win0_6.index t = ![3, (t : ℕ), 0] ∧ win0_8.index t = ![3, (t : ℕ), 0] ∧ win0_9.index t = ![3, (t : ℕ), 0] ∧
    win0_10.index t = ![3, (t : ℕ), 0] ∧ win0_11.index t = ![3, (t : ℕ), 0] :=
  (by decide +kernel : ∀ t : Fin grid0.N, _)

theorem reads0 (t : Fin cfg0.N) (r : Fin 256) (j : Fin 1408) :
    (show FVec Ideal S1x256x1408 .f32 from iblk0 V c 0 t) (ix3 0 r j) = (V c main_arg0 : Big) (ix3 3 (row t r) j) ∧
    (show FVec Ideal S1x256x1408 .f32 from iblk0 V c 1 t) (ix3 0 r j) = (V c main_arg1 : Big) (ix3 3 (row t r) j) ∧
    (show FVec Ideal S1x256x1408 .f32 from iblk0 V c 2 t) (ix3 0 r j) = (V c main_arg2 : Big) (ix3 3 (row t r) j) ∧
    (show FVec Ideal S1x256x1408 .bf16 from iblk0 V c 3 t) (ix3 0 r j) = (V c main_arg9 : Land) (ix3 0 (row t r) j) ∧
    (show FVec Ideal S1x256x1408 .bf16 from iblk0 V c 4 t) (ix3 0 r j) = (V c main_arg10 : Land) (ix3 1 (row t r) j) ∧
    (show FVec Ideal S1x256x1408 .bf16 from iblk0 V c 5 t) (ix3 0 r j) = (V c main_arg10 : Land) (ix3 2 (row t r) j) ∧
    (show FVec Ideal S1x256x1408 .bf16 from iblk0 V c 6 t) (ix3 0 r j) = (V c main_arg10 : Land) (ix3 3 (row t r) j) := by
  refine ⟨?_, ?_, ?_, ?_, ?_, ?_, ?_⟩ <;> (unfold iblk0; blk_ext [idx0 t, row])

theorem grad0 : (dat0 V c).arrAt 8 cfg0.N = put 3 (layGrad (V c main_arg9) (V c main_arg10)) (V c main_v0_0) := by
  refine (dat0 V c).arrAt_eq_of_coversWhere 8 (fun i => layGrad (V c main_arg9) (V c main_arg10) (i 1) (i 2) : Big) (fun β => β (0 : Fin 3) = 3)
    (by decide +kernel) (fun t _ y => ?_) (fun j => by blk_simp [Pipeline.Window.cell_apply]; omega)
  blk_simp
  rw [after0_8]
  unfold outsAt0
  dsimp only
  frame_out
  rw [eq_ix3 y]
  obtain ⟨_, _, _, e3, e4, e5, e6⟩ := reads0 V c t (y 1) (y 2)
  refine (out_grad _ _ _ _ (y 0) (y 1) (y 2)).trans ((congrGrad e3 e4 e5 e6).trans (congrArg₂ (layGrad _ _) (Fin.ext ?_) (Fin.ext ?_)))
  all_goals (blk_simp [idx0 t, row] <;> (try dsimp only) <;> try omega)

theorem step0 : (dat0 V c).arrAt 9 cfg0.N = put 3 (layStep (V c main_arg0) (V c main_arg1) (V c main_arg2) (V c main_arg9) (V c main_arg10) 3) (V c main_v0_1) := by
  refine (dat0 V c).arrAt_eq_of_coversWhere 9 (fun i => layStep (V c main_arg0) (V c main_arg1) (V c main_arg2) (V c main_arg9) (V c main_arg10) 3 (i 1) (i 2) : Big) (fun β => β (0 : Fin 3) = 3)
    (by decide +kernel) (fun t _ y => ?_) (fun j => by blk_simp [Pipeline.Window.cell_apply]; omega)
  blk_simp
  rw [after0_9]
  unfold outsAt0
  dsimp only
  frame_out
  rw [eq_ix3 y]
  obtain ⟨e0, e1, e2, e3, e4, e5, e6⟩ := reads0 V c t (y 1) (y 2)
  refine (out_step _ _ _ _ _ _ _ (y 0) (y 1) (y 2)).trans ((congrStep e0 (congrArg₂ avg e1 (congrGrad e3 e4 e5 e6)) (congrArg₂ avg2 e2 (congrGrad e3 e4 e5 e6))).trans (congrArg₂ (layStep _ _ _ _ _ _) (Fin.ext ?_) (Fin.ext ?_)))
  all_goals (blk_simp [idx0 t, row] <;> (try dsimp only) <;> try omega)

theorem mean0 : (dat0 V c).arrAt 10 cfg0.N = put 3 (layAvg (V c main_arg1) (V c main_arg9) (V c main_arg10) 3) (V c main_v0_2) := by
  refine (dat0 V c).arrAt_eq_of_coversWhere 10 (fun i => layAvg (V c main_arg1) (V c main_arg9) (V c main_arg10) 3 (i 1) (i 2) : Big) (fun β => β (0 : Fin 3) = 3)
    (by decide +kernel) (fun t _ y => ?_) (fun j => by blk_simp [Pipeline.Window.cell_apply]; omega)
  blk_simp
  rw [after0_10]
  unfold outsAt0
  dsimp only
  frame_out
  rw [eq_ix3 y]
  obtain ⟨_, e1, _, e3, e4, e5, e6⟩ := reads0 V c t (y 1) (y 2)
  refine (out_avg _ _ _ _ _ (y 0) (y 1) (y 2)).trans ((congrArg₂ avg e1 (congrGrad e3 e4 e5 e6)).trans (congrArg₂ (layAvg _ _ _ _) (Fin.ext ?_) (Fin.ext ?_)))
  all_goals (blk_simp [idx0 t, row] <;> (try dsimp only) <;> try omega)

theorem square0 : (dat0 V c).arrAt 11 cfg0.N = put 3 (layAvg2 (V c main_arg2) (V c main_arg9) (V c main_arg10) 3) (V c main_v0_3) := by
  refine (dat0 V c).arrAt_eq_of_coversWhere 11 (fun i => layAvg2 (V c main_arg2) (V c main_arg9) (V c main_arg10) 3 (i 1) (i 2) : Big) (fun β => β (0 : Fin 3) = 3)
    (by decide +kernel) (fun t _ y => ?_) (fun j => by blk_simp [Pipeline.Window.cell_apply]; omega)
  blk_simp
  rw [after0_11]
  unfold outsAt0
  dsimp only
  frame_out
  rw [eq_ix3 y]
  obtain ⟨_, _, e2, e3, e4, e5, e6⟩ := reads0 V c t (y 1) (y 2)
  refine (out_avg2 _ _ _ _ _ (y 0) (y 1) (y 2)).trans ((congrArg₂ avg2 e2 (congrGrad e3 e4 e5 e6)).trans (congrArg₂ (layAvg2 _ _ _ _) (Fin.ext ?_) (Fin.ext ?_)))
  all_goals (blk_simp [idx0 t, row] <;> (try dsimp only) <;> try omega)

end Cert.AdamwInIdeal.Step

end
-- ==== Proof.AdamwInRun.lean ====
module

public import proofs.«01_k».proof.Proof.AdamwInLayer0
public import proofs.«01_k».proof.Proof.AdamwInLayer1
public import proofs.«01_k».proof.Proof.AdamwInLayer2
public import proofs.«01_k».proof.Proof.AdamwInLayer3

/-! The four calls in a row: between two, the arrays one left are handed to the next, so that after the last every layer
has been stepped, and nothing is left of what the output arrays held at first. -/

@[expose] public section

set_option maxHeartbeats 1000000
set_option maxRecDepth 16384

noncomputable section

namespace Cert.AdamwInIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AdamwInIdeal Cert.AdamwInIdeal.Gen

/-- Four layers as one array; putting each in its place leaves nothing of the array before. -/
def stack (f : Fin 4 → Fin 4096 → Fin 1408 → EReal) : Big := fun i => f (i 0) (i 1) (i 2)

theorem stack_of (f : Fin 4 → Fin 4096 → Fin 1408 → EReal) {o a b d e : Big} (h3 : a = put 3 (f 3) o) (h2 : b = put 2 (f 2) a)
    (h1 : d = put 1 (f 1) b) (h0 : e = put 0 (f 0) d) : e = stack f := by
  subst h3 h2 h1 h0
  funext i
  have hk : ∀ k : Fin 4, i 0 = k → (put 0 (f 0) (put 1 (f 1) (put 2 (f 2) (put 3 (f 3) o)))) i = stack f i := by
    intro k hk
    simp only [put, stack, hk]
    fin_cases k <;> rfl
  exact hk _ rfl

variable (m : (ℓ : Loc nD τ sig) → Buf (Elt Ideal) ℓ) (ρ : Dev nD → PrngReg) (c : Dev nD)

/-- The launch's contents of an argument. -/
abbrev arg (a : Ref sig .tc) : Buf (Elt Ideal) ((c.tc : Thread nD τ).loc a) := m ((c.tc : Thread nD τ).loc a)

/-- The slots of a layer: this device's pair sums, and what landed. -/
def pairs : Fin 4 → Land := ![arg m c main_arg3, arg m c main_arg5, arg m c main_arg7, arg m c main_arg9]
def lands : Fin 4 → Land := ![arg m c main_arg4, arg m c main_arg6, arg m c main_arg8, arg m c main_arg10]

def gradOf (k : Fin 4) := layGrad (pairs m c k) (lands m c k)
def stepOf (k : Fin 4) := layStep (arg m c main_arg0) (arg m c main_arg1) (arg m c main_arg2) (pairs m c k) (lands m c k) k
def avgOf (k : Fin 4) := layAvg (arg m c main_arg1) (pairs m c k) (lands m c k) k
def avg2Of (k : Fin 4) := layAvg2 (arg m c main_arg2) (pairs m c k) (lands m c k) k

/-- The four arrays with layer `k` stepped, over the four before. -/
def Done (k : Fin 4) (g d a s g' d' a' s' : Big) : Prop :=
  g' = put k (gradOf m c k) g ∧ d' = put k (stepOf m c k) d ∧ a' = put k (avgOf m c k) a ∧ s' = put k (avg2Of m c k) s

theorem done3 : Done m c 3 (W1 m ρ c main_v0_0) (W1 m ρ c main_v0_1) (W1 m ρ c main_v0_2) (W1 m ρ c main_v0_3)
    (W2 m ρ c main_v0_0) (W2 m ρ c main_v0_1) (W2 m ρ c main_v0_2) (W2 m ρ c main_v0_3) := by
  have ha : ∀ a ∈ argRefs, V1 m ρ c a = arg m c a := W1_args m ρ c
  have h := And.intro (grad0 (V1 m ρ) c) (And.intro (step0 (V1 m ρ) c) (And.intro (mean0 (V1 m ρ) c) (square0 (V1 m ρ) c)))
  rw [ha main_arg0 (by decide), ha main_arg1 (by decide), ha main_arg2 (by decide), ha main_arg9 (by decide), ha main_arg10 (by decide)] at h
  exact ⟨(W2_arr m ρ c 8).trans h.1, (W2_arr m ρ c 9).trans h.2.1, (W2_arr m ρ c 10).trans h.2.2.1, (W2_arr m ρ c 11).trans h.2.2.2⟩

/-- The call on layer 2 finds the arrays the call before left. -/
theorem handed1 : (V3 m ρ c main_v1_0 : Big) = W2 m ρ c main_v0_0 ∧ (V3 m ρ c main_v1_1 : Big) = W2 m ρ c main_v0_1 ∧
    (V3 m ρ c main_v1_2 : Big) = W2 m ρ c main_v0_2 ∧ (V3 m ρ c main_v1_3 : Big) = W2 m ρ c main_v0_3 := by
  refine ⟨?_, ?_, ?_, ?_⟩ <;> (show StableHlo.after hostOps1 (W2 m ρ c) _ = _; after_results; rfl)

theorem done2 : Done m c 2 (W2 m ρ c main_v0_0) (W2 m ρ c main_v0_1) (W2 m ρ c main_v0_2) (W2 m ρ c main_v0_3)
    (W4 m ρ c main_v1_0) (W4 m ρ c main_v1_1) (W4 m ρ c main_v1_2) (W4 m ρ c main_v1_3) := by
  have ha : ∀ a ∈ argRefs, V3 m ρ c a = arg m c a := W3_args m ρ c
  have h := And.intro (grad1 (V3 m ρ) c) (And.intro (step1 (V3 m ρ) c) (And.intro (mean1 (V3 m ρ) c) (square1 (V3 m ρ) c)))
  rw [ha main_arg0 (by decide), ha main_arg1 (by decide), ha main_arg2 (by decide), ha main_arg7 (by decide), ha main_arg8 (by decide), (handed1 m ρ c).1, (handed1 m ρ c).2.1, (handed1 m ρ c).2.2.1, (handed1 m ρ c).2.2.2] at h
  exact ⟨(W4_arr m ρ c 8).trans h.1, (W4_arr m ρ c 9).trans h.2.1, (W4_arr m ρ c 10).trans h.2.2.1, (W4_arr m ρ c 11).trans h.2.2.2⟩

/-- The call on layer 1 finds the arrays the call before left. -/
theorem handed2 : (V5 m ρ c main_v2_0 : Big) = W4 m ρ c main_v1_0 ∧ (V5 m ρ c main_v2_1 : Big) = W4 m ρ c main_v1_1 ∧
    (V5 m ρ c main_v2_2 : Big) = W4 m ρ c main_v1_2 ∧ (V5 m ρ c main_v2_3 : Big) = W4 m ρ c main_v1_3 := by
  refine ⟨?_, ?_, ?_, ?_⟩ <;> (show StableHlo.after hostOps2 (W4 m ρ c) _ = _; after_results; rfl)

theorem done1 : Done m c 1 (W4 m ρ c main_v1_0) (W4 m ρ c main_v1_1) (W4 m ρ c main_v1_2) (W4 m ρ c main_v1_3)
    (W6 m ρ c main_v2_0) (W6 m ρ c main_v2_1) (W6 m ρ c main_v2_2) (W6 m ρ c main_v2_3) := by
  have ha : ∀ a ∈ argRefs, V5 m ρ c a = arg m c a := W5_args m ρ c
  have h := And.intro (grad2 (V5 m ρ) c) (And.intro (step2 (V5 m ρ) c) (And.intro (mean2 (V5 m ρ) c) (square2 (V5 m ρ) c)))
  rw [ha main_arg0 (by decide), ha main_arg1 (by decide), ha main_arg2 (by decide), ha main_arg5 (by decide), ha main_arg6 (by decide), (handed2 m ρ c).1, (handed2 m ρ c).2.1, (handed2 m ρ c).2.2.1, (handed2 m ρ c).2.2.2] at h
  exact ⟨(W6_arr m ρ c 8).trans h.1, (W6_arr m ρ c 9).trans h.2.1, (W6_arr m ρ c 10).trans h.2.2.1, (W6_arr m ρ c 11).trans h.2.2.2⟩

/-- The call on layer 0 finds the arrays the call before left. -/
theorem handed3 : (V7 m ρ c main_v3_0 : Big) = W6 m ρ c main_v2_0 ∧ (V7 m ρ c main_v3_1 : Big) = W6 m ρ c main_v2_1 ∧
    (V7 m ρ c main_v3_2 : Big) = W6 m ρ c main_v2_2 ∧ (V7 m ρ c main_v3_3 : Big) = W6 m ρ c main_v2_3 := by
  refine ⟨?_, ?_, ?_, ?_⟩ <;> (show StableHlo.after hostOps3 (W6 m ρ c) _ = _; after_results; rfl)

theorem done0 : Done m c 0 (W6 m ρ c main_v2_0) (W6 m ρ c main_v2_1) (W6 m ρ c main_v2_2) (W6 m ρ c main_v2_3)
    (W8 m ρ c main_v3_0) (W8 m ρ c main_v3_1) (W8 m ρ c main_v3_2) (W8 m ρ c main_v3_3) := by
  have ha : ∀ a ∈ argRefs, V7 m ρ c a = arg m c a := W7_args m ρ c
  have h := And.intro (grad3 (V7 m ρ) c) (And.intro (step3 (V7 m ρ) c) (And.intro (mean3 (V7 m ρ) c) (square3 (V7 m ρ) c)))
  rw [ha main_arg0 (by decide), ha main_arg1 (by decide), ha main_arg2 (by decide), ha main_arg3 (by decide), ha main_arg4 (by decide), (handed3 m ρ c).1, (handed3 m ρ c).2.1, (handed3 m ρ c).2.2.1, (handed3 m ρ c).2.2.2] at h
  exact ⟨(W8_arr m ρ c 8).trans h.1, (W8_arr m ρ c 9).trans h.2.1, (W8_arr m ρ c 10).trans h.2.2.1, (W8_arr m ρ c 11).trans h.2.2.2⟩

/-- Every layer of the four arrays, after the last call. -/
theorem stepped : (W8 m ρ c main_v3_0 : Big) = stack (fun k => gradOf m c k) ∧ (W8 m ρ c main_v3_1 : Big) = stack (fun k => stepOf m c k) ∧
    (W8 m ρ c main_v3_2 : Big) = stack (fun k => avgOf m c k) ∧ (W8 m ρ c main_v3_3 : Big) = stack (fun k => avg2Of m c k) :=
  ⟨stack_of _ (done3 m ρ c).1 (done2 m ρ c).1 (done1 m ρ c).1 (done0 m ρ c).1,
    stack_of _ (done3 m ρ c).2.1 (done2 m ρ c).2.1 (done1 m ρ c).2.1 (done0 m ρ c).2.1,
    stack_of _ (done3 m ρ c).2.2.1 (done2 m ρ c).2.2.1 (done1 m ρ c).2.2.1 (done0 m ρ c).2.2.1,
    stack_of _ (done3 m ρ c).2.2.2 (done2 m ρ c).2.2.2 (done1 m ρ c).2.2.2 (done0 m ρ c).2.2.2⟩

local notation "𝕄" => MT nD τ sig Unit (Elt Ideal) ℕ (UR sig nD τ) ℕ

-- the launch lemma's implicit arguments are found by unifying its conclusion with this one, which takes unfolding plain
-- definitions in a metavariable's type
set_option backward.isDefEq.respectTransparency.types false in
/-- The run: it ends, with every layer stepped and the arguments as they were. -/
theorem run : θ_run defs (onTc (τ := τ) (main (F := Ideal))) ⟨m, fun _ => 0, ρ⟩ (fun r => ∀ c : Dev nD,
      (r.2.mem ((c.tc : Thread nD τ).loc main_v3_0) : Big) = stack (fun k => gradOf m c k)
      ∧ (r.2.mem ((c.tc : Thread nD τ).loc main_v3_1) : Big) = stack (fun k => stepOf m c k)
      ∧ (r.2.mem ((c.tc : Thread nD τ).loc main_v3_2) : Big) = stack (fun k => avgOf m c k)
      ∧ (r.2.mem ((c.tc : Thread nD τ).loc main_v3_3) : Big) = stack (fun k => avg2Of m c k)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => fun c =>
      ⟨(h c _ (mem_uc main_v3_0 (by decide))).trans (stepped m ρ c).1,
       (h c _ (mem_uc main_v3_1 (by decide))).trans (stepped m ρ c).2.1,
       (h c _ (mem_uc main_v3_2 (by decide))).trans (stepped m ρ c).2.2.1,
       (h c _ (mem_uc main_v3_3 (by decide))).trans (stepped m ρ c).2.2.2,
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c)⟩)

end Cert.AdamwInIdeal.Step

end
-- ==== Proof.AdamwInClaim.lean ====
module

public import proofs.«01_k».proof.Defs
public import proofs.«01_k».proof.Proof.AdamwInRun
public import proofs.«01_k».proof.Proof.Gen.AdamwInRefIdeal.Run
public import proofs.«01_k».proof.Proof.Gen.AdamwInRefIdeal.Read
public import Idealize.ShloMosaic.Lib.Claim

/-! The claim about the four calls on the large weight: the reference adds each layer's slots, lays the layers one after
the other, and steps the whole array at once. -/

@[expose] public section

set_option maxHeartbeats 1000000
set_option maxRecDepth 16384

noncomputable section

namespace Cert.AdamwInIdeal.Step

open Idealize.ShloMosaic Idealize.ShloMosaic.TcCoe Idealize.SL.Sem

section
open Cert.AdamwInRefIdeal Cert.AdamwInRefIdeal.Read

/-- The reference's sum of a layer's slots. -/
theorem ref_sum (p l : Land) (r : Fin 4096) (j : Fin 1408) : val_main_v6 (F := Ideal) p l (ix2 r j) = layGrad p l r j := by
  pointwise [val_main_v6, val_main_v2, val_main_v1, val_main_v0, val_main_v5, val_main_v4, val_main_v3, val_main_cst]
  rw [Fin.sum_univ_three, ← add_assoc, ← add_assoc]
  rfl

theorem ref_piece (p l : Land) (z : Fin 1) (r : Fin 4096) (j : Fin 1408) : val_main_v28 (F := Ideal) p l (ix3 z r j) = layGrad p l r j := by
  pointwise [val_main_v28]
  exact ref_sum p l r j

/-- A layer, as a piece of the array of all four. -/
theorem ref_pieceAt (p l : Land) (k : Fin 4) (r : Fin 4096) (j : Fin 1408) (n : ℕ) (v : EReal) (hv : (k : ℕ) = n → layGrad p l r j = v) :
    PieceAt (t := S4x4096x1408) 0 (ix3 k r j) v S1x4096x1408 (val_main_v28 (F := Ideal) p l) n := by
  intro hk hr i h0 hb
  have h1 : (i 1 : Fin 4096) = r := Fin.ext (hb 1 (by decide))
  have h2 : (i 2 : Fin 1408) = j := Fin.ext (hb 2 (by decide))
  rw [eq_ix3 i]
  refine (ref_piece p l (i 0) (i 1) (i 2)).trans ?_
  rw [h1, h2]
  exact hv hk

variable (w m v : Big) (p l : Fin 4 → Land)

/-- The reference's gradient. -/
theorem ref_grad (k : Fin 4) (r : Fin 4096) (j : Fin 1408) :
    val_main_v32 (F := Ideal) (p 0) (l 0) (p 1) (l 1) (p 2) (l 2) (p 3) (l 3) (ix3 k r j) = layGrad (p k) (l k) r j := by
  unfold val_main_v32
  refine concatenate_unit_eq _ _ _ _ _ rfl ⟨ref_pieceAt _ _ k r j _ _ ?_, ref_pieceAt _ _ k r j _ _ ?_, ref_pieceAt _ _ k r j _ _ ?_,
    ref_pieceAt _ _ k r j _ _ ?_, trivial⟩
  all_goals exact fun hk => congrArg (fun q : Fin 4 => layGrad (p q) (l q) r j) (Fin.ext hk.symm)

theorem ref_avg (k : Fin 4) (r : Fin 4096) (j : Fin 1408) :
    val_main_v37 (F := Ideal) m (p 0) (l 0) (p 1) (l 1) (p 2) (l 2) (p 3) (l 3) (ix3 k r j) = layAvg m (p k) (l k) k r j := by
  pointwise [val_main_v37, val_main_v36, val_main_v35, val_main_v34, val_main_v33, val_main_cst_3, val_main_cst_4]
  rw [ref_grad]
  rfl

theorem ref_avg2 (k : Fin 4) (r : Fin 4096) (j : Fin 1408) :
    val_main_v43 (F := Ideal) v (p 0) (l 0) (p 1) (l 1) (p 2) (l 2) (p 3) (l 3) (ix3 k r j) = layAvg2 v (p k) (l k) k r j := by
  pointwise [val_main_v43, val_main_v42, val_main_v41, val_main_v40, val_main_v39, val_main_v38, val_main_cst_5, val_main_cst_6]
  rw [ref_grad]
  rfl

theorem ref_step (k : Fin 4) (r : Fin 4096) (j : Fin 1408) :
    val_main_v56 (F := Ideal) w m v (p 0) (l 0) (p 1) (l 1) (p 2) (l 2) (p 3) (l 3) (ix3 k r j) = layStep w m v (p k) (l k) k r j := by
  pointwise [val_main_v56, val_main_v55, val_main_v54, val_main_v53, val_main_v52, val_main_v51, val_main_v50, val_main_v49, val_main_v48,
    val_main_v47, val_main_v46, val_main_v45, val_main_v44, val_main_cst_7, val_main_cst_8, val_main_cst_9, val_main_cst_10, val_main_cst_11]
  rw [ref_avg, ref_avg2]
  rfl

/-- An array is the stack of its layers. -/
theorem eq_stack (x : Big) (f : Fin 4 → Fin 4096 → Fin 1408 → EReal) (h : ∀ k r j, x (ix3 k r j) = f k r j) : x = stack f := by
  funext i
  conv_lhs => rw [eq_ix3 i]
  exact h (i 0) (i 1) (i 2)
end

/-- The step on the large weight, claimed: its four arrays are the reference's. -/
theorem algebraic : Cert.algebraic_AdamwInIdeal_AdamwInRefIdeal := by
  pair_intro
  · run_from run m g
  · run_from Cert.AdamwInRefIdeal.Value.run m' g'
    · refine (Cert.AdamwInRefIdeal.Read.val_main_v32_eq _ _ _ _ _ _ _ _).trans ?_
      obtain ⟨h0, h1, h2, h3, h4, h5, h6, h7, h8, h9, h10, _⟩ := hagree c
      rw [h3, h4, h5, h6, h7, h8, h9, h10]
      exact eq_stack _ _ (ref_grad (pairs m c) (lands m c))
    · refine (Cert.AdamwInRefIdeal.Read.val_main_v56_eq _ _).trans ?_
      obtain ⟨h0, h1, h2, h3, h4, h5, h6, h7, h8, h9, h10, _⟩ := hagree c
      rw [h0, h1, h2, h3, h4, h5, h6, h7, h8, h9, h10]
      exact eq_stack _ _ (ref_step _ _ _ (pairs m c) (lands m c))
    · refine (Cert.AdamwInRefIdeal.Read.val_main_v37_eq _ _ _ _ _ _ _ _ _).trans ?_
      obtain ⟨h0, h1, h2, h3, h4, h5, h6, h7, h8, h9, h10, _⟩ := hagree c
      rw [h3, h4, h5, h6, h7, h8, h9, h10]
      exact eq_stack _ _ (ref_avg _ (pairs m c) (lands m c))
    · refine (Cert.AdamwInRefIdeal.Read.val_main_v43_eq _ _).trans ?_
      obtain ⟨h0, h1, h2, h3, h4, h5, h6, h7, h8, h9, h10, _⟩ := hagree c
      rw [h2, h3, h4, h5, h6, h7, h8, h9, h10]
      exact eq_stack _ _ (ref_avg2 _ (pairs m c) (lands m c))

end Cert.AdamwInIdeal.Step

end
-- ==== Proof.AdamwOutValue.lean ====
module

public import proofs.«01_k».proof.Proof.AdamwInValue
public import proofs.«01_k».proof.Proof.Gen.AdamwOutIdeal.Frame
public import Idealize.ShloMosaic.Lib.Pipeline.ValueKit
public import Idealize.ShloMosaic.Lib.Claim

/-! The optimiser's four calls on the output weight: each adds one layer's landed parts and steps that layer's weight,
leaving the other layers of its four outputs as it finds them. The step of an element is the one on the input weight. -/

@[expose] public section

set_option maxHeartbeats 1000000
set_option maxRecDepth 16384

noncomputable section

namespace Cert.AdamwOutIdeal.Step

open Idealize.ShloMosaic Idealize.ShloMosaic.TcCoe Idealize.SL.Sem
open Cert.AdamwOutIdeal Cert.AdamwOutIdeal.Gen
open Cert.AdamwInIdeal.Step (avg avg2 step congrStep)

/-- A layered array of the weight's shape, and an array of landed slots. -/
abbrev Big := FVec Ideal S4x512x4096 .f32
abbrev Land := FVec Ideal S8x512x4096 .bf16

/-- A gradient's element, from the eight devices' parts. -/
def grad (l0 l1 l2 l3 l4 l5 l6 l7 : EReal) : EReal := l0 + l1 + l2 + l3 + l4 + l5 + l6 + l7

section
variable (w m v : FVec Ideal S1x64x4096 .f32) (s : FVec Ideal S64x4096 .f32) (z : Fin 1) (r : Fin 64) (j : Fin 4096)

/-- The sum of the parts in a block of rows, and its averages. -/
theorem blk_sum (l0 l1 l2 l3 l4 l5 l6 l7 : FVec Ideal S1x64x4096 .bf16) : k0_pay3 (F := Ideal) l0 l1 l2 l3 l4 l5 l6 l7 (ix2 r j) =
    grad (l0 (ix3 0 r j)) (l1 (ix3 0 r j)) (l2 (ix3 0 r j)) (l3 (ix3 0 r j)) (l4 (ix3 0 r j)) (l5 (ix3 0 r j)) (l6 (ix3 0 r j)) (l7 (ix3 0 r j)) := by
  pointwise [k0_pay3]
  rfl

theorem blk_avg : k0_pay4 (F := Ideal) s m (ix2 r j) = avg (m (ix3 0 r j)) (s (ix2 r j)) := by
  pointwise [k0_pay4]
  rfl

theorem blk_avg2 : k0_pay5 (F := Ideal) s v (ix2 r j) = avg2 (v (ix3 0 r j)) (s (ix2 r j)) := by
  pointwise [k0_pay5]
  rfl

/-- What a block of rows stores, from that sum: the gradient, the step, and the two averages. -/
theorem out_grad : k0_pay6 (F := Ideal) s (ix3 z r j) = s (ix2 r j) := by
  pointwise [k0_pay6]

theorem out_step : k0_pay7 (F := Ideal) s w m v (ix3 z r j) =
    step (w (ix3 0 r j)) (avg (m (ix3 0 r j)) (s (ix2 r j))) (avg2 (v (ix3 0 r j)) (s (ix2 r j))) := by
  pointwise [k0_pay7]
  rw [blk_avg, blk_avg2]
  rfl

theorem out_avg : k0_pay1 (F := Ideal) (k0_pay4 s m) (ix3 z r j) = avg (m (ix3 0 r j)) (s (ix2 r j)) := by
  pointwise [k0_pay1]
  exact blk_avg _ _ _ _

theorem out_avg2 : k0_pay2 (F := Ideal) (k0_pay5 s v) (ix3 z r j) = avg2 (v (ix3 0 r j)) (s (ix2 r j)) := by
  pointwise [k0_pay2]
  exact blk_avg2 _ _ _ _
end

/-- A layer's gradient, and its averages and step. -/
def layGrad (l : Land) (r : Fin 512) (j : Fin 4096) : EReal :=
  grad (l (ix3 0 r j)) (l (ix3 1 r j)) (l (ix3 2 r j)) (l (ix3 3 r j)) (l (ix3 4 r j)) (l (ix3 5 r j)) (l (ix3 6 r j)) (l (ix3 7 r j))
def layAvg (m : Big) (l : Land) (k : Fin 4) (r : Fin 512) (j : Fin 4096) : EReal := avg (m (ix3 k r j)) (layGrad l r j)
def layAvg2 (v : Big) (l : Land) (k : Fin 4) (r : Fin 512) (j : Fin 4096) : EReal := avg2 (v (ix3 k r j)) (layGrad l r j)
def layStep (w m v : Big) (l : Land) (k : Fin 4) (r : Fin 512) (j : Fin 4096) : EReal :=
  step (w (ix3 k r j)) (layAvg m l k r j) (layAvg2 v l k r j)

/-- An array with one layer replaced. -/
def put (k : ℕ) (f : Fin 512 → Fin 4096 → EReal) (old : Big) : Big := fun i => if (i 0 : ℕ) = k then f (i 1) (i 2) else old i

variable (V : (c : Dev nD) → (b : Ref sig .tc) → Buf (Elt Ideal) ((c : Thread nD τ).loc b)) (c : Dev nD)

/-- The row of the array that a block's row is. -/
def row (t : Fin 8) (r : Fin 64) : Fin 512 := ⟨(t : ℕ) * 64 + (r : ℕ), by omega⟩

/-- Equal parts, equal whole. -/
theorem congrGrad {a0 a1 a2 a3 a4 a5 a6 a7 b0 b1 b2 b3 b4 b5 b6 b7 : EReal} (h0 : a0 = b0) (h1 : a1 = b1) (h2 : a2 = b2) (h3 : a3 = b3) (h4 : a4 = b4) (h5 : a5 = b5) (h6 : a6 = b6) (h7 : a7 = b7) :
    grad a0 a1 a2 a3 a4 a5 a6 a7 = grad b0 b1 b2 b3 b4 b5 b6 b7 := by
  rw [h0, h1, h2, h3, h4, h5, h6, h7]

end Cert.AdamwOutIdeal.Step

end
-- ==== Proof.AdamwOutLayer0.lean ====
module

public import proofs.«01_k».proof.Proof.AdamwOutValue

/-! The call on layer 0 of the sharded step: what its blocks hold, and what the four arrays hold after it. -/

@[expose] public section

set_option maxHeartbeats 1000000
set_option maxRecDepth 16384

noncomputable section

namespace Cert.AdamwOutIdeal.Step

open Idealize.ShloMosaic Idealize.ShloMosaic.TcCoe Idealize.SL.Sem
open Cert.AdamwOutIdeal Cert.AdamwOutIdeal.Gen
open Cert.AdamwInIdeal.Step (avg avg2 step congrStep)

variable (V : (c : Dev nD) → (b : Ref sig .tc) → Buf (Elt Ideal) ((c : Thread nD τ).loc b)) (c : Dev nD)

/-- The blocks of the call on layer 0, and what its inputs' blocks hold. -/
theorem idx3 : ∀ t : Fin cfg3.N,
    win3_0.index t = ![0, (t : ℕ), 0] ∧ win3_1.index t = ![0, (t : ℕ), 0] ∧ win3_2.index t = ![0, (t : ℕ), 0] ∧ win3_3.index t = ![0, (t : ℕ), 0] ∧
    win3_4.index t = ![1, (t : ℕ), 0] ∧ win3_5.index t = ![2, (t : ℕ), 0] ∧ win3_6.index t = ![3, (t : ℕ), 0] ∧ win3_7.index t = ![4, (t : ℕ), 0] ∧
    win3_8.index t = ![5, (t : ℕ), 0] ∧ win3_9.index t = ![6, (t : ℕ), 0] ∧ win3_10.index t = ![7, (t : ℕ), 0] ∧ win3_12.index t = ![0, (t : ℕ), 0] ∧
    win3_13.index t = ![0, (t : ℕ), 0] ∧ win3_14.index t = ![0, (t : ℕ), 0] ∧ win3_15.index t = ![0, (t : ℕ), 0] :=
  (by decide +kernel : ∀ t : Fin grid3.N, _)

theorem reads3 (t : Fin cfg3.N) (r : Fin 64) (j : Fin 4096) :
    (show FVec Ideal S1x64x4096 .f32 from iblk3 V c 0 t) (ix3 0 r j) = (V c main_arg0 : Big) (ix3 0 (row t r) j) ∧
    (show FVec Ideal S1x64x4096 .f32 from iblk3 V c 1 t) (ix3 0 r j) = (V c main_arg1 : Big) (ix3 0 (row t r) j) ∧
    (show FVec Ideal S1x64x4096 .f32 from iblk3 V c 2 t) (ix3 0 r j) = (V c main_arg2 : Big) (ix3 0 (row t r) j) ∧
    (show FVec Ideal S1x64x4096 .bf16 from iblk3 V c 3 t) (ix3 0 r j) = (V c main_arg3 : Land) (ix3 0 (row t r) j) ∧
    (show FVec Ideal S1x64x4096 .bf16 from iblk3 V c 4 t) (ix3 0 r j) = (V c main_arg3 : Land) (ix3 1 (row t r) j) ∧
    (show FVec Ideal S1x64x4096 .bf16 from iblk3 V c 5 t) (ix3 0 r j) = (V c main_arg3 : Land) (ix3 2 (row t r) j) ∧
    (show FVec Ideal S1x64x4096 .bf16 from iblk3 V c 6 t) (ix3 0 r j) = (V c main_arg3 : Land) (ix3 3 (row t r) j) ∧
    (show FVec Ideal S1x64x4096 .bf16 from iblk3 V c 7 t) (ix3 0 r j) = (V c main_arg3 : Land) (ix3 4 (row t r) j) ∧
    (show FVec Ideal S1x64x4096 .bf16 from iblk3 V c 8 t) (ix3 0 r j) = (V c main_arg3 : Land) (ix3 5 (row t r) j) ∧
    (show FVec Ideal S1x64x4096 .bf16 from iblk3 V c 9 t) (ix3 0 r j) = (V c main_arg3 : Land) (ix3 6 (row t r) j) ∧
    (show FVec Ideal S1x64x4096 .bf16 from iblk3 V c 10 t) (ix3 0 r j) = (V c main_arg3 : Land) (ix3 7 (row t r) j) := by
  refine ⟨?_, ?_, ?_, ?_, ?_, ?_, ?_, ?_, ?_, ?_, ?_⟩ <;> (unfold iblk3; blk_ext [idx3 t, row])

/-- The sum of the parts that a block adds is the layer's, in that block's rows. -/
theorem sum3 (t : Fin cfg3.N) (r : Fin 64) (j : Fin 4096) :
    k0_pay3 (F := Ideal) (iblk3 V c 3 t) (iblk3 V c 4 t) (iblk3 V c 5 t) (iblk3 V c 6 t) (iblk3 V c 7 t) (iblk3 V c 8 t)
      (iblk3 V c 9 t) (iblk3 V c 10 t) (ix2 r j) = layGrad (V c main_arg3) (row t r) j := by
  obtain ⟨_, _, _, e3, e4, e5, e6, e7, e8, e9, e10⟩ := reads3 V c t r j
  exact (blk_sum _ _ _ _ _ _ _ _ _ _).trans (congrGrad e3 e4 e5 e6 e7 e8 e9 e10)

theorem grad3 : (dat3 V c).arrAt 12 cfg3.N = put 0 (layGrad (V c main_arg3)) (V c main_v3_0) := by
  refine (dat3 V c).arrAt_eq_of_coversWhere 12 (fun i => layGrad (V c main_arg3) (i 1) (i 2) : Big) (fun β => β (0 : Fin 3) = 0)
    (by decide +kernel) (fun t _ y => ?_) (fun j => by blk_simp [Pipeline.Window.cell_apply]; omega)
  blk_simp
  rw [after3_12]
  unfold outsAt3
  dsimp only
  frame_out
  rw [eq_ix3 y]
  refine (out_grad _ (y 0) (y 1) (y 2)).trans ((sum3 V c t (y 1) (y 2)).trans (congrArg₂ (layGrad _) (Fin.ext ?_) (Fin.ext ?_)))
  all_goals (blk_simp [idx3 t, row] <;> (try dsimp only) <;> try omega)

theorem step3 : (dat3 V c).arrAt 13 cfg3.N = put 0 (layStep (V c main_arg0) (V c main_arg1) (V c main_arg2) (V c main_arg3) 0) (V c main_v3_1) := by
  refine (dat3 V c).arrAt_eq_of_coversWhere 13 (fun i => layStep (V c main_arg0) (V c main_arg1) (V c main_arg2) (V c main_arg3) 0 (i 1) (i 2) : Big) (fun β => β (0 : Fin 3) = 0)
    (by decide +kernel) (fun t _ y => ?_) (fun j => by blk_simp [Pipeline.Window.cell_apply]; omega)
  blk_simp
  rw [after3_13]
  unfold outsAt3
  dsimp only
  frame_out
  rw [eq_ix3 y]
  obtain ⟨e0, e1, e2, _⟩ := reads3 V c t (y 1) (y 2)
  refine (out_step _ _ _ _ (y 0) (y 1) (y 2)).trans ((congrStep e0 (congrArg₂ avg e1 (sum3 V c t (y 1) (y 2))) (congrArg₂ avg2 e2 (sum3 V c t (y 1) (y 2)))).trans (congrArg₂ (layStep _ _ _ _ _) (Fin.ext ?_) (Fin.ext ?_)))
  all_goals (blk_simp [idx3 t, row] <;> (try dsimp only) <;> try omega)

theorem mean3 : (dat3 V c).arrAt 14 cfg3.N = put 0 (layAvg (V c main_arg1) (V c main_arg3) 0) (V c main_v3_2) := by
  refine (dat3 V c).arrAt_eq_of_coversWhere 14 (fun i => layAvg (V c main_arg1) (V c main_arg3) 0 (i 1) (i 2) : Big) (fun β => β (0 : Fin 3) = 0)
    (by decide +kernel) (fun t _ y => ?_) (fun j => by blk_simp [Pipeline.Window.cell_apply]; omega)
  blk_simp
  rw [after3_14]
  unfold outsAt3
  dsimp only
  frame_out
  rw [eq_ix3 y]
  obtain ⟨_, e1, _, _⟩ := reads3 V c t (y 1) (y 2)
  refine (out_avg _ _ (y 0) (y 1) (y 2)).trans ((congrArg₂ avg e1 (sum3 V c t (y 1) (y 2))).trans (congrArg₂ (layAvg _ _ _) (Fin.ext ?_) (Fin.ext ?_)))
  all_goals (blk_simp [idx3 t, row] <;> (try dsimp only) <;> try omega)

theorem square3 : (dat3 V c).arrAt 15 cfg3.N = put 0 (layAvg2 (V c main_arg2) (V c main_arg3) 0) (V c main_v3_3) := by
  refine (dat3 V c).arrAt_eq_of_coversWhere 15 (fun i => layAvg2 (V c main_arg2) (V c main_arg3) 0 (i 1) (i 2) : Big) (fun β => β (0 : Fin 3) = 0)
    (by decide +kernel) (fun t _ y => ?_) (fun j => by blk_simp [Pipeline.Window.cell_apply]; omega)
  blk_simp
  rw [after3_15]
  unfold outsAt3
  dsimp only
  frame_out
  rw [eq_ix3 y]
  obtain ⟨_, _, e2, _⟩ := reads3 V c t (y 1) (y 2)
  refine (out_avg2 _ _ (y 0) (y 1) (y 2)).trans ((congrArg₂ avg2 e2 (sum3 V c t (y 1) (y 2))).trans (congrArg₂ (layAvg2 _ _ _) (Fin.ext ?_) (Fin.ext ?_)))
  all_goals (blk_simp [idx3 t, row] <;> (try dsimp only) <;> try omega)

end Cert.AdamwOutIdeal.Step

end
-- ==== Proof.AdamwOutLayer1.lean ====
module

public import proofs.«01_k».proof.Proof.AdamwOutValue

/-! The call on layer 1 of the sharded step: what its blocks hold, and what the four arrays hold after it. -/

@[expose] public section

set_option maxHeartbeats 1000000
set_option maxRecDepth 16384

noncomputable section

namespace Cert.AdamwOutIdeal.Step

open Idealize.ShloMosaic Idealize.ShloMosaic.TcCoe Idealize.SL.Sem
open Cert.AdamwOutIdeal Cert.AdamwOutIdeal.Gen
open Cert.AdamwInIdeal.Step (avg avg2 step congrStep)

variable (V : (c : Dev nD) → (b : Ref sig .tc) → Buf (Elt Ideal) ((c : Thread nD τ).loc b)) (c : Dev nD)

/-- The blocks of the call on layer 1, and what its inputs' blocks hold. -/
theorem idx2 : ∀ t : Fin cfg2.N,
    win2_0.index t = ![1, (t : ℕ), 0] ∧ win2_1.index t = ![1, (t : ℕ), 0] ∧ win2_2.index t = ![1, (t : ℕ), 0] ∧ win2_3.index t = ![0, (t : ℕ), 0] ∧
    win2_4.index t = ![1, (t : ℕ), 0] ∧ win2_5.index t = ![2, (t : ℕ), 0] ∧ win2_6.index t = ![3, (t : ℕ), 0] ∧ win2_7.index t = ![4, (t : ℕ), 0] ∧
    win2_8.index t = ![5, (t : ℕ), 0] ∧ win2_9.index t = ![6, (t : ℕ), 0] ∧ win2_10.index t = ![7, (t : ℕ), 0] ∧ win2_12.index t = ![1, (t : ℕ), 0] ∧
    win2_13.index t = ![1, (t : ℕ), 0] ∧ win2_14.index t = ![1, (t : ℕ), 0] ∧ win2_15.index t = ![1, (t : ℕ), 0] :=
  (by decide +kernel : ∀ t : Fin grid2.N, _)

theorem reads2 (t : Fin cfg2.N) (r : Fin 64) (j : Fin 4096) :
    (show FVec Ideal S1x64x4096 .f32 from iblk2 V c 0 t) (ix3 0 r j) = (V c main_arg0 : Big) (ix3 1 (row t r) j) ∧
    (show FVec Ideal S1x64x4096 .f32 from iblk2 V c 1 t) (ix3 0 r j) = (V c main_arg1 : Big) (ix3 1 (row t r) j) ∧
    (show FVec Ideal S1x64x4096 .f32 from iblk2 V c 2 t) (ix3 0 r j) = (V c main_arg2 : Big) (ix3 1 (row t r) j) ∧
    (show FVec Ideal S1x64x4096 .bf16 from iblk2 V c 3 t) (ix3 0 r j) = (V c main_arg4 : Land) (ix3 0 (row t r) j) ∧
    (show FVec Ideal S1x64x4096 .bf16 from iblk2 V c 4 t) (ix3 0 r j) = (V c main_arg4 : Land) (ix3 1 (row t r) j) ∧
    (show FVec Ideal S1x64x4096 .bf16 from iblk2 V c 5 t) (ix3 0 r j) = (V c main_arg4 : Land) (ix3 2 (row t r) j) ∧
    (show FVec Ideal S1x64x4096 .bf16 from iblk2 V c 6 t) (ix3 0 r j) = (V c main_arg4 : Land) (ix3 3 (row t r) j) ∧
    (show FVec Ideal S1x64x4096 .bf16 from iblk2 V c 7 t) (ix3 0 r j) = (V c main_arg4 : Land) (ix3 4 (row t r) j) ∧
    (show FVec Ideal S1x64x4096 .bf16 from iblk2 V c 8 t) (ix3 0 r j) = (V c main_arg4 : Land) (ix3 5 (row t r) j) ∧
    (show FVec Ideal S1x64x4096 .bf16 from iblk2 V c 9 t) (ix3 0 r j) = (V c main_arg4 : Land) (ix3 6 (row t r) j) ∧
    (show FVec Ideal S1x64x4096 .bf16 from iblk2 V c 10 t) (ix3 0 r j) = (V c main_arg4 : Land) (ix3 7 (row t r) j) := by
  refine ⟨?_, ?_, ?_, ?_, ?_, ?_, ?_, ?_, ?_, ?_, ?_⟩ <;> (unfold iblk2; blk_ext [idx2 t, row])

/-- The sum of the parts that a block adds is the layer's, in that block's rows. -/
theorem sum2 (t : Fin cfg2.N) (r : Fin 64) (j : Fin 4096) :
    k0_pay3 (F := Ideal) (iblk2 V c 3 t) (iblk2 V c 4 t) (iblk2 V c 5 t) (iblk2 V c 6 t) (iblk2 V c 7 t) (iblk2 V c 8 t)
      (iblk2 V c 9 t) (iblk2 V c 10 t) (ix2 r j) = layGrad (V c main_arg4) (row t r) j := by
  obtain ⟨_, _, _, e3, e4, e5, e6, e7, e8, e9, e10⟩ := reads2 V c t r j
  exact (blk_sum _ _ _ _ _ _ _ _ _ _).trans (congrGrad e3 e4 e5 e6 e7 e8 e9 e10)

theorem grad2 : (dat2 V c).arrAt 12 cfg2.N = put 1 (layGrad (V c main_arg4)) (V c main_v2_0) := by
  refine (dat2 V c).arrAt_eq_of_coversWhere 12 (fun i => layGrad (V c main_arg4) (i 1) (i 2) : Big) (fun β => β (0 : Fin 3) = 1)
    (by decide +kernel) (fun t _ y => ?_) (fun j => by blk_simp [Pipeline.Window.cell_apply]; omega)
  blk_simp
  rw [after2_12]
  unfold outsAt2
  dsimp only
  frame_out
  rw [eq_ix3 y]
  refine (out_grad _ (y 0) (y 1) (y 2)).trans ((sum2 V c t (y 1) (y 2)).trans (congrArg₂ (layGrad _) (Fin.ext ?_) (Fin.ext ?_)))
  all_goals (blk_simp [idx2 t, row] <;> (try dsimp only) <;> try omega)

theorem step2 : (dat2 V c).arrAt 13 cfg2.N = put 1 (layStep (V c main_arg0) (V c main_arg1) (V c main_arg2) (V c main_arg4) 1) (V c main_v2_1) := by
  refine (dat2 V c).arrAt_eq_of_coversWhere 13 (fun i => layStep (V c main_arg0) (V c main_arg1) (V c main_arg2) (V c main_arg4) 1 (i 1) (i 2) : Big) (fun β => β (0 : Fin 3) = 1)
    (by decide +kernel) (fun t _ y => ?_) (fun j => by blk_simp [Pipeline.Window.cell_apply]; omega)
  blk_simp
  rw [after2_13]
  unfold outsAt2
  dsimp only
  frame_out
  rw [eq_ix3 y]
  obtain ⟨e0, e1, e2, _⟩ := reads2 V c t (y 1) (y 2)
  refine (out_step _ _ _ _ (y 0) (y 1) (y 2)).trans ((congrStep e0 (congrArg₂ avg e1 (sum2 V c t (y 1) (y 2))) (congrArg₂ avg2 e2 (sum2 V c t (y 1) (y 2)))).trans (congrArg₂ (layStep _ _ _ _ _) (Fin.ext ?_) (Fin.ext ?_)))
  all_goals (blk_simp [idx2 t, row] <;> (try dsimp only) <;> try omega)

theorem mean2 : (dat2 V c).arrAt 14 cfg2.N = put 1 (layAvg (V c main_arg1) (V c main_arg4) 1) (V c main_v2_2) := by
  refine (dat2 V c).arrAt_eq_of_coversWhere 14 (fun i => layAvg (V c main_arg1) (V c main_arg4) 1 (i 1) (i 2) : Big) (fun β => β (0 : Fin 3) = 1)
    (by decide +kernel) (fun t _ y => ?_) (fun j => by blk_simp [Pipeline.Window.cell_apply]; omega)
  blk_simp
  rw [after2_14]
  unfold outsAt2
  dsimp only
  frame_out
  rw [eq_ix3 y]
  obtain ⟨_, e1, _, _⟩ := reads2 V c t (y 1) (y 2)
  refine (out_avg _ _ (y 0) (y 1) (y 2)).trans ((congrArg₂ avg e1 (sum2 V c t (y 1) (y 2))).trans (congrArg₂ (layAvg _ _ _) (Fin.ext ?_) (Fin.ext ?_)))
  all_goals (blk_simp [idx2 t, row] <;> (try dsimp only) <;> try omega)

theorem square2 : (dat2 V c).arrAt 15 cfg2.N = put 1 (layAvg2 (V c main_arg2) (V c main_arg4) 1) (V c main_v2_3) := by
  refine (dat2 V c).arrAt_eq_of_coversWhere 15 (fun i => layAvg2 (V c main_arg2) (V c main_arg4) 1 (i 1) (i 2) : Big) (fun β => β (0 : Fin 3) = 1)
    (by decide +kernel) (fun t _ y => ?_) (fun j => by blk_simp [Pipeline.Window.cell_apply]; omega)
  blk_simp
  rw [after2_15]
  unfold outsAt2
  dsimp only
  frame_out
  rw [eq_ix3 y]
  obtain ⟨_, _, e2, _⟩ := reads2 V c t (y 1) (y 2)
  refine (out_avg2 _ _ (y 0) (y 1) (y 2)).trans ((congrArg₂ avg2 e2 (sum2 V c t (y 1) (y 2))).trans (congrArg₂ (layAvg2 _ _ _) (Fin.ext ?_) (Fin.ext ?_)))
  all_goals (blk_simp [idx2 t, row] <;> (try dsimp only) <;> try omega)

end Cert.AdamwOutIdeal.Step

end
-- ==== Proof.AdamwOutLayer2.lean ====
module

public import proofs.«01_k».proof.Proof.AdamwOutValue

/-! The call on layer 2 of the sharded step: what its blocks hold, and what the four arrays hold after it. -/

@[expose] public section

set_option maxHeartbeats 1000000
set_option maxRecDepth 16384

noncomputable section

namespace Cert.AdamwOutIdeal.Step

open Idealize.ShloMosaic Idealize.ShloMosaic.TcCoe Idealize.SL.Sem
open Cert.AdamwOutIdeal Cert.AdamwOutIdeal.Gen
open Cert.AdamwInIdeal.Step (avg avg2 step congrStep)

variable (V : (c : Dev nD) → (b : Ref sig .tc) → Buf (Elt Ideal) ((c : Thread nD τ).loc b)) (c : Dev nD)

/-- The blocks of the call on layer 2, and what its inputs' blocks hold. -/
theorem idx1 : ∀ t : Fin cfg1.N,
    win1_0.index t = ![2, (t : ℕ), 0] ∧ win1_1.index t = ![2, (t : ℕ), 0] ∧ win1_2.index t = ![2, (t : ℕ), 0] ∧ win1_3.index t = ![0, (t : ℕ), 0] ∧
    win1_4.index t = ![1, (t : ℕ), 0] ∧ win1_5.index t = ![2, (t : ℕ), 0] ∧ win1_6.index t = ![3, (t : ℕ), 0] ∧ win1_7.index t = ![4, (t : ℕ), 0] ∧
    win1_8.index t = ![5, (t : ℕ), 0] ∧ win1_9.index t = ![6, (t : ℕ), 0] ∧ win1_10.index t = ![7, (t : ℕ), 0] ∧ win1_12.index t = ![2, (t : ℕ), 0] ∧
    win1_13.index t = ![2, (t : ℕ), 0] ∧ win1_14.index t = ![2, (t : ℕ), 0] ∧ win1_15.index t = ![2, (t : ℕ), 0] :=
  (by decide +kernel : ∀ t : Fin grid1.N, _)

theorem reads1 (t : Fin cfg1.N) (r : Fin 64) (j : Fin 4096) :
    (show FVec Ideal S1x64x4096 .f32 from iblk1 V c 0 t) (ix3 0 r j) = (V c main_arg0 : Big) (ix3 2 (row t r) j) ∧
    (show FVec Ideal S1x64x4096 .f32 from iblk1 V c 1 t) (ix3 0 r j) = (V c main_arg1 : Big) (ix3 2 (row t r) j) ∧
    (show FVec Ideal S1x64x4096 .f32 from iblk1 V c 2 t) (ix3 0 r j) = (V c main_arg2 : Big) (ix3 2 (row t r) j) ∧
    (show FVec Ideal S1x64x4096 .bf16 from iblk1 V c 3 t) (ix3 0 r j) = (V c main_arg5 : Land) (ix3 0 (row t r) j) ∧
    (show FVec Ideal S1x64x4096 .bf16 from iblk1 V c 4 t) (ix3 0 r j) = (V c main_arg5 : Land) (ix3 1 (row t r) j) ∧
    (show FVec Ideal S1x64x4096 .bf16 from iblk1 V c 5 t) (ix3 0 r j) = (V c main_arg5 : Land) (ix3 2 (row t r) j) ∧
    (show FVec Ideal S1x64x4096 .bf16 from iblk1 V c 6 t) (ix3 0 r j) = (V c main_arg5 : Land) (ix3 3 (row t r) j) ∧
    (show FVec Ideal S1x64x4096 .bf16 from iblk1 V c 7 t) (ix3 0 r j) = (V c main_arg5 : Land) (ix3 4 (row t r) j) ∧
    (show FVec Ideal S1x64x4096 .bf16 from iblk1 V c 8 t) (ix3 0 r j) = (V c main_arg5 : Land) (ix3 5 (row t r) j) ∧
    (show FVec Ideal S1x64x4096 .bf16 from iblk1 V c 9 t) (ix3 0 r j) = (V c main_arg5 : Land) (ix3 6 (row t r) j) ∧
    (show FVec Ideal S1x64x4096 .bf16 from iblk1 V c 10 t) (ix3 0 r j) = (V c main_arg5 : Land) (ix3 7 (row t r) j) := by
  refine ⟨?_, ?_, ?_, ?_, ?_, ?_, ?_, ?_, ?_, ?_, ?_⟩ <;> (unfold iblk1; blk_ext [idx1 t, row])

/-- The sum of the parts that a block adds is the layer's, in that block's rows. -/
theorem sum1 (t : Fin cfg1.N) (r : Fin 64) (j : Fin 4096) :
    k0_pay3 (F := Ideal) (iblk1 V c 3 t) (iblk1 V c 4 t) (iblk1 V c 5 t) (iblk1 V c 6 t) (iblk1 V c 7 t) (iblk1 V c 8 t)
      (iblk1 V c 9 t) (iblk1 V c 10 t) (ix2 r j) = layGrad (V c main_arg5) (row t r) j := by
  obtain ⟨_, _, _, e3, e4, e5, e6, e7, e8, e9, e10⟩ := reads1 V c t r j
  exact (blk_sum _ _ _ _ _ _ _ _ _ _).trans (congrGrad e3 e4 e5 e6 e7 e8 e9 e10)

theorem grad1 : (dat1 V c).arrAt 12 cfg1.N = put 2 (layGrad (V c main_arg5)) (V c main_v1_0) := by
  refine (dat1 V c).arrAt_eq_of_coversWhere 12 (fun i => layGrad (V c main_arg5) (i 1) (i 2) : Big) (fun β => β (0 : Fin 3) = 2)
    (by decide +kernel) (fun t _ y => ?_) (fun j => by blk_simp [Pipeline.Window.cell_apply]; omega)
  blk_simp
  rw [after1_12]
  unfold outsAt1
  dsimp only
  frame_out
  rw [eq_ix3 y]
  refine (out_grad _ (y 0) (y 1) (y 2)).trans ((sum1 V c t (y 1) (y 2)).trans (congrArg₂ (layGrad _) (Fin.ext ?_) (Fin.ext ?_)))
  all_goals (blk_simp [idx1 t, row] <;> (try dsimp only) <;> try omega)

theorem step1 : (dat1 V c).arrAt 13 cfg1.N = put 2 (layStep (V c main_arg0) (V c main_arg1) (V c main_arg2) (V c main_arg5) 2) (V c main_v1_1) := by
  refine (dat1 V c).arrAt_eq_of_coversWhere 13 (fun i => layStep (V c main_arg0) (V c main_arg1) (V c main_arg2) (V c main_arg5) 2 (i 1) (i 2) : Big) (fun β => β (0 : Fin 3) = 2)
    (by decide +kernel) (fun t _ y => ?_) (fun j => by blk_simp [Pipeline.Window.cell_apply]; omega)
  blk_simp
  rw [after1_13]
  unfold outsAt1
  dsimp only
  frame_out
  rw [eq_ix3 y]
  obtain ⟨e0, e1, e2, _⟩ := reads1 V c t (y 1) (y 2)
  refine (out_step _ _ _ _ (y 0) (y 1) (y 2)).trans ((congrStep e0 (congrArg₂ avg e1 (sum1 V c t (y 1) (y 2))) (congrArg₂ avg2 e2 (sum1 V c t (y 1) (y 2)))).trans (congrArg₂ (layStep _ _ _ _ _) (Fin.ext ?_) (Fin.ext ?_)))
  all_goals (blk_simp [idx1 t, row] <;> (try dsimp only) <;> try omega)

theorem mean1 : (dat1 V c).arrAt 14 cfg1.N = put 2 (layAvg (V c main_arg1) (V c main_arg5) 2) (V c main_v1_2) := by
  refine (dat1 V c).arrAt_eq_of_coversWhere 14 (fun i => layAvg (V c main_arg1) (V c main_arg5) 2 (i 1) (i 2) : Big) (fun β => β (0 : Fin 3) = 2)
    (by decide +kernel) (fun t _ y => ?_) (fun j => by blk_simp [Pipeline.Window.cell_apply]; omega)
  blk_simp
  rw [after1_14]
  unfold outsAt1
  dsimp only
  frame_out
  rw [eq_ix3 y]
  obtain ⟨_, e1, _, _⟩ := reads1 V c t (y 1) (y 2)
  refine (out_avg _ _ (y 0) (y 1) (y 2)).trans ((congrArg₂ avg e1 (sum1 V c t (y 1) (y 2))).trans (congrArg₂ (layAvg _ _ _) (Fin.ext ?_) (Fin.ext ?_)))
  all_goals (blk_simp [idx1 t, row] <;> (try dsimp only) <;> try omega)

theorem square1 : (dat1 V c).arrAt 15 cfg1.N = put 2 (layAvg2 (V c main_arg2) (V c main_arg5) 2) (V c main_v1_3) := by
  refine (dat1 V c).arrAt_eq_of_coversWhere 15 (fun i => layAvg2 (V c main_arg2) (V c main_arg5) 2 (i 1) (i 2) : Big) (fun β => β (0 : Fin 3) = 2)
    (by decide +kernel) (fun t _ y => ?_) (fun j => by blk_simp [Pipeline.Window.cell_apply]; omega)
  blk_simp
  rw [after1_15]
  unfold outsAt1
  dsimp only
  frame_out
  rw [eq_ix3 y]
  obtain ⟨_, _, e2, _⟩ := reads1 V c t (y 1) (y 2)
  refine (out_avg2 _ _ (y 0) (y 1) (y 2)).trans ((congrArg₂ avg2 e2 (sum1 V c t (y 1) (y 2))).trans (congrArg₂ (layAvg2 _ _ _) (Fin.ext ?_) (Fin.ext ?_)))
  all_goals (blk_simp [idx1 t, row] <;> (try dsimp only) <;> try omega)

end Cert.AdamwOutIdeal.Step

end
-- ==== Proof.AdamwOutLayer3.lean ====
module

public import proofs.«01_k».proof.Proof.AdamwOutValue

/-! The call on layer 3 of the sharded step: what its blocks hold, and what the four arrays hold after it. -/

@[expose] public section

set_option maxHeartbeats 1000000
set_option maxRecDepth 16384

noncomputable section

namespace Cert.AdamwOutIdeal.Step

open Idealize.ShloMosaic Idealize.ShloMosaic.TcCoe Idealize.SL.Sem
open Cert.AdamwOutIdeal Cert.AdamwOutIdeal.Gen
open Cert.AdamwInIdeal.Step (avg avg2 step congrStep)

variable (V : (c : Dev nD) → (b : Ref sig .tc) → Buf (Elt Ideal) ((c : Thread nD τ).loc b)) (c : Dev nD)

/-- The blocks of the call on layer 3, and what its inputs' blocks hold. -/
theorem idx0 : ∀ t : Fin cfg0.N,
    win0_0.index t = ![3, (t : ℕ), 0] ∧ win0_1.index t = ![3, (t : ℕ), 0] ∧ win0_2.index t = ![3, (t : ℕ), 0] ∧ win0_3.index t = ![0, (t : ℕ), 0] ∧
    win0_4.index t = ![1, (t : ℕ), 0] ∧ win0_5.index t = ![2, (t : ℕ), 0] ∧ win0_6.index t = ![3, (t : ℕ), 0] ∧ win0_7.index t = ![4, (t : ℕ), 0] ∧
    win0_8.index t = ![5, (t : ℕ), 0] ∧ win0_9.index t = ![6, (t : ℕ), 0] ∧ win0_10.index t = ![7, (t : ℕ), 0] ∧ win0_12.index t = ![3, (t : ℕ), 0] ∧
    win0_13.index t = ![3, (t : ℕ), 0] ∧ win0_14.index t = ![3, (t : ℕ), 0] ∧ win0_15.index t = ![3, (t : ℕ), 0] :=
  (by decide +kernel : ∀ t : Fin grid0.N, _)

theorem reads0 (t : Fin cfg0.N) (r : Fin 64) (j : Fin 4096) :
    (show FVec Ideal S1x64x4096 .f32 from iblk0 V c 0 t) (ix3 0 r j) = (V c main_arg0 : Big) (ix3 3 (row t r) j) ∧
    (show FVec Ideal S1x64x4096 .f32 from iblk0 V c 1 t) (ix3 0 r j) = (V c main_arg1 : Big) (ix3 3 (row t r) j) ∧
    (show FVec Ideal S1x64x4096 .f32 from iblk0 V c 2 t) (ix3 0 r j) = (V c main_arg2 : Big) (ix3 3 (row t r) j) ∧
    (show FVec Ideal S1x64x4096 .bf16 from iblk0 V c 3 t) (ix3 0 r j) = (V c main_arg6 : Land) (ix3 0 (row t r) j) ∧
    (show FVec Ideal S1x64x4096 .bf16 from iblk0 V c 4 t) (ix3 0 r j) = (V c main_arg6 : Land) (ix3 1 (row t r) j) ∧
    (show FVec Ideal S1x64x4096 .bf16 from iblk0 V c 5 t) (ix3 0 r j) = (V c main_arg6 : Land) (ix3 2 (row t r) j) ∧
    (show FVec Ideal S1x64x4096 .bf16 from iblk0 V c 6 t) (ix3 0 r j) = (V c main_arg6 : Land) (ix3 3 (row t r) j) ∧
    (show FVec Ideal S1x64x4096 .bf16 from iblk0 V c 7 t) (ix3 0 r j) = (V c main_arg6 : Land) (ix3 4 (row t r) j) ∧
    (show FVec Ideal S1x64x4096 .bf16 from iblk0 V c 8 t) (ix3 0 r j) = (V c main_arg6 : Land) (ix3 5 (row t r) j) ∧
    (show FVec Ideal S1x64x4096 .bf16 from iblk0 V c 9 t) (ix3 0 r j) = (V c main_arg6 : Land) (ix3 6 (row t r) j) ∧
    (show FVec Ideal S1x64x4096 .bf16 from iblk0 V c 10 t) (ix3 0 r j) = (V c main_arg6 : Land) (ix3 7 (row t r) j) := by
  refine ⟨?_, ?_, ?_, ?_, ?_, ?_, ?_, ?_, ?_, ?_, ?_⟩ <;> (unfold iblk0; blk_ext [idx0 t, row])

/-- The sum of the parts that a block adds is the layer's, in that block's rows. -/
theorem sum0 (t : Fin cfg0.N) (r : Fin 64) (j : Fin 4096) :
    k0_pay3 (F := Ideal) (iblk0 V c 3 t) (iblk0 V c 4 t) (iblk0 V c 5 t) (iblk0 V c 6 t) (iblk0 V c 7 t) (iblk0 V c 8 t)
      (iblk0 V c 9 t) (iblk0 V c 10 t) (ix2 r j) = layGrad (V c main_arg6) (row t r) j := by
  obtain ⟨_, _, _, e3, e4, e5, e6, e7, e8, e9, e10⟩ := reads0 V c t r j
  exact (blk_sum _ _ _ _ _ _ _ _ _ _).trans (congrGrad e3 e4 e5 e6 e7 e8 e9 e10)

theorem grad0 : (dat0 V c).arrAt 12 cfg0.N = put 3 (layGrad (V c main_arg6)) (V c main_v0_0) := by
  refine (dat0 V c).arrAt_eq_of_coversWhere 12 (fun i => layGrad (V c main_arg6) (i 1) (i 2) : Big) (fun β => β (0 : Fin 3) = 3)
    (by decide +kernel) (fun t _ y => ?_) (fun j => by blk_simp [Pipeline.Window.cell_apply]; omega)
  blk_simp
  rw [after0_12]
  unfold outsAt0
  dsimp only
  frame_out
  rw [eq_ix3 y]
  refine (out_grad _ (y 0) (y 1) (y 2)).trans ((sum0 V c t (y 1) (y 2)).trans (congrArg₂ (layGrad _) (Fin.ext ?_) (Fin.ext ?_)))
  all_goals (blk_simp [idx0 t, row] <;> (try dsimp only) <;> try omega)

theorem step0 : (dat0 V c).arrAt 13 cfg0.N = put 3 (layStep (V c main_arg0) (V c main_arg1) (V c main_arg2) (V c main_arg6) 3) (V c main_v0_1) := by
  refine (dat0 V c).arrAt_eq_of_coversWhere 13 (fun i => layStep (V c main_arg0) (V c main_arg1) (V c main_arg2) (V c main_arg6) 3 (i 1) (i 2) : Big) (fun β => β (0 : Fin 3) = 3)
    (by decide +kernel) (fun t _ y => ?_) (fun j => by blk_simp [Pipeline.Window.cell_apply]; omega)
  blk_simp
  rw [after0_13]
  unfold outsAt0
  dsimp only
  frame_out
  rw [eq_ix3 y]
  obtain ⟨e0, e1, e2, _⟩ := reads0 V c t (y 1) (y 2)
  refine (out_step _ _ _ _ (y 0) (y 1) (y 2)).trans ((congrStep e0 (congrArg₂ avg e1 (sum0 V c t (y 1) (y 2))) (congrArg₂ avg2 e2 (sum0 V c t (y 1) (y 2)))).trans (congrArg₂ (layStep _ _ _ _ _) (Fin.ext ?_) (Fin.ext ?_)))
  all_goals (blk_simp [idx0 t, row] <;> (try dsimp only) <;> try omega)

theorem mean0 : (dat0 V c).arrAt 14 cfg0.N = put 3 (layAvg (V c main_arg1) (V c main_arg6) 3) (V c main_v0_2) := by
  refine (dat0 V c).arrAt_eq_of_coversWhere 14 (fun i => layAvg (V c main_arg1) (V c main_arg6) 3 (i 1) (i 2) : Big) (fun β => β (0 : Fin 3) = 3)
    (by decide +kernel) (fun t _ y => ?_) (fun j => by blk_simp [Pipeline.Window.cell_apply]; omega)
  blk_simp
  rw [after0_14]
  unfold outsAt0
  dsimp only
  frame_out
  rw [eq_ix3 y]
  obtain ⟨_, e1, _, _⟩ := reads0 V c t (y 1) (y 2)
  refine (out_avg _ _ (y 0) (y 1) (y 2)).trans ((congrArg₂ avg e1 (sum0 V c t (y 1) (y 2))).trans (congrArg₂ (layAvg _ _ _) (Fin.ext ?_) (Fin.ext ?_)))
  all_goals (blk_simp [idx0 t, row] <;> (try dsimp only) <;> try omega)

theorem square0 : (dat0 V c).arrAt 15 cfg0.N = put 3 (layAvg2 (V c main_arg2) (V c main_arg6) 3) (V c main_v0_3) := by
  refine (dat0 V c).arrAt_eq_of_coversWhere 15 (fun i => layAvg2 (V c main_arg2) (V c main_arg6) 3 (i 1) (i 2) : Big) (fun β => β (0 : Fin 3) = 3)
    (by decide +kernel) (fun t _ y => ?_) (fun j => by blk_simp [Pipeline.Window.cell_apply]; omega)
  blk_simp
  rw [after0_15]
  unfold outsAt0
  dsimp only
  frame_out
  rw [eq_ix3 y]
  obtain ⟨_, _, e2, _⟩ := reads0 V c t (y 1) (y 2)
  refine (out_avg2 _ _ (y 0) (y 1) (y 2)).trans ((congrArg₂ avg2 e2 (sum0 V c t (y 1) (y 2))).trans (congrArg₂ (layAvg2 _ _ _) (Fin.ext ?_) (Fin.ext ?_)))
  all_goals (blk_simp [idx0 t, row] <;> (try dsimp only) <;> try omega)

end Cert.AdamwOutIdeal.Step

end
-- ==== Proof.AdamwOutRun.lean ====
module

public import proofs.«01_k».proof.Proof.AdamwOutLayer0
public import proofs.«01_k».proof.Proof.AdamwOutLayer1
public import proofs.«01_k».proof.Proof.AdamwOutLayer2
public import proofs.«01_k».proof.Proof.AdamwOutLayer3

/-! The four calls in a row: between two, the arrays one left are handed to the next, so that after the last every layer
has been stepped, and nothing is left of what the output arrays held at first. -/

@[expose] public section

set_option maxHeartbeats 1000000
set_option maxRecDepth 16384

noncomputable section

namespace Cert.AdamwOutIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AdamwOutIdeal Cert.AdamwOutIdeal.Gen
open Cert.AdamwInIdeal.Step (avg avg2 step congrStep)

/-- Four layers as one array; putting each in its place leaves nothing of the array before. -/
def stack (f : Fin 4 → Fin 512 → Fin 4096 → EReal) : Big := fun i => f (i 0) (i 1) (i 2)

theorem stack_of (f : Fin 4 → Fin 512 → Fin 4096 → EReal) {o a b d e : Big} (h3 : a = put 3 (f 3) o) (h2 : b = put 2 (f 2) a)
    (h1 : d = put 1 (f 1) b) (h0 : e = put 0 (f 0) d) : e = stack f := by
  subst h3 h2 h1 h0
  funext i
  have hk : ∀ k : Fin 4, i 0 = k → (put 0 (f 0) (put 1 (f 1) (put 2 (f 2) (put 3 (f 3) o)))) i = stack f i := by
    intro k hk
    simp only [put, stack, hk]
    fin_cases k <;> rfl
  exact hk _ rfl

variable (m : (ℓ : Loc nD τ sig) → Buf (Elt Ideal) ℓ) (ρ : Dev nD → PrngReg) (c : Dev nD)

/-- The launch's contents of an argument. -/
abbrev arg (a : Ref sig .tc) : Buf (Elt Ideal) ((c.tc : Thread nD τ).loc a) := m ((c.tc : Thread nD τ).loc a)

/-- The landed parts of a layer. -/
def lands : Fin 4 → Land := ![arg m c main_arg3, arg m c main_arg4, arg m c main_arg5, arg m c main_arg6]

def gradOf (k : Fin 4) := layGrad (lands m c k)
def stepOf (k : Fin 4) := layStep (arg m c main_arg0) (arg m c main_arg1) (arg m c main_arg2) (lands m c k) k
def avgOf (k : Fin 4) := layAvg (arg m c main_arg1) (lands m c k) k
def avg2Of (k : Fin 4) := layAvg2 (arg m c main_arg2) (lands m c k) k

/-- The four arrays with layer `k` stepped, over the four before. -/
def Done (k : Fin 4) (g d a s g' d' a' s' : Big) : Prop :=
  g' = put k (gradOf m c k) g ∧ d' = put k (stepOf m c k) d ∧ a' = put k (avgOf m c k) a ∧ s' = put k (avg2Of m c k) s

theorem done3 : Done m c 3 (W1 m ρ c main_v0_0) (W1 m ρ c main_v0_1) (W1 m ρ c main_v0_2) (W1 m ρ c main_v0_3)
    (W2 m ρ c main_v0_0) (W2 m ρ c main_v0_1) (W2 m ρ c main_v0_2) (W2 m ρ c main_v0_3) := by
  have ha : ∀ a ∈ argRefs, V1 m ρ c a = arg m c a := W1_args m ρ c
  have h := And.intro (grad0 (V1 m ρ) c) (And.intro (step0 (V1 m ρ) c) (And.intro (mean0 (V1 m ρ) c) (square0 (V1 m ρ) c)))
  rw [ha main_arg0 (by decide), ha main_arg1 (by decide), ha main_arg2 (by decide), ha main_arg6 (by decide)] at h
  exact ⟨(W2_arr m ρ c 12).trans h.1, (W2_arr m ρ c 13).trans h.2.1, (W2_arr m ρ c 14).trans h.2.2.1, (W2_arr m ρ c 15).trans h.2.2.2⟩

/-- The call on layer 2 finds the arrays the call before left. -/
theorem handed1 : (V3 m ρ c main_v1_0 : Big) = W2 m ρ c main_v0_0 ∧ (V3 m ρ c main_v1_1 : Big) = W2 m ρ c main_v0_1 ∧
    (V3 m ρ c main_v1_2 : Big) = W2 m ρ c main_v0_2 ∧ (V3 m ρ c main_v1_3 : Big) = W2 m ρ c main_v0_3 := by
  refine ⟨?_, ?_, ?_, ?_⟩ <;> (show StableHlo.after hostOps1 (W2 m ρ c) _ = _; after_results; rfl)

theorem done2 : Done m c 2 (W2 m ρ c main_v0_0) (W2 m ρ c main_v0_1) (W2 m ρ c main_v0_2) (W2 m ρ c main_v0_3)
    (W4 m ρ c main_v1_0) (W4 m ρ c main_v1_1) (W4 m ρ c main_v1_2) (W4 m ρ c main_v1_3) := by
  have ha : ∀ a ∈ argRefs, V3 m ρ c a = arg m c a := W3_args m ρ c
  have h := And.intro (grad1 (V3 m ρ) c) (And.intro (step1 (V3 m ρ) c) (And.intro (mean1 (V3 m ρ) c) (square1 (V3 m ρ) c)))
  rw [ha main_arg0 (by decide), ha main_arg1 (by decide), ha main_arg2 (by decide), ha main_arg5 (by decide), (handed1 m ρ c).1, (handed1 m ρ c).2.1, (handed1 m ρ c).2.2.1, (handed1 m ρ c).2.2.2] at h
  exact ⟨(W4_arr m ρ c 12).trans h.1, (W4_arr m ρ c 13).trans h.2.1, (W4_arr m ρ c 14).trans h.2.2.1, (W4_arr m ρ c 15).trans h.2.2.2⟩

/-- The call on layer 1 finds the arrays the call before left. -/
theorem handed2 : (V5 m ρ c main_v2_0 : Big) = W4 m ρ c main_v1_0 ∧ (V5 m ρ c main_v2_1 : Big) = W4 m ρ c main_v1_1 ∧
    (V5 m ρ c main_v2_2 : Big) = W4 m ρ c main_v1_2 ∧ (V5 m ρ c main_v2_3 : Big) = W4 m ρ c main_v1_3 := by
  refine ⟨?_, ?_, ?_, ?_⟩ <;> (show StableHlo.after hostOps2 (W4 m ρ c) _ = _; after_results; rfl)

theorem done1 : Done m c 1 (W4 m ρ c main_v1_0) (W4 m ρ c main_v1_1) (W4 m ρ c main_v1_2) (W4 m ρ c main_v1_3)
    (W6 m ρ c main_v2_0) (W6 m ρ c main_v2_1) (W6 m ρ c main_v2_2) (W6 m ρ c main_v2_3) := by
  have ha : ∀ a ∈ argRefs, V5 m ρ c a = arg m c a := W5_args m ρ c
  have h := And.intro (grad2 (V5 m ρ) c) (And.intro (step2 (V5 m ρ) c) (And.intro (mean2 (V5 m ρ) c) (square2 (V5 m ρ) c)))
  rw [ha main_arg0 (by decide), ha main_arg1 (by decide), ha main_arg2 (by decide), ha main_arg4 (by decide), (handed2 m ρ c).1, (handed2 m ρ c).2.1, (handed2 m ρ c).2.2.1, (handed2 m ρ c).2.2.2] at h
  exact ⟨(W6_arr m ρ c 12).trans h.1, (W6_arr m ρ c 13).trans h.2.1, (W6_arr m ρ c 14).trans h.2.2.1, (W6_arr m ρ c 15).trans h.2.2.2⟩

/-- The call on layer 0 finds the arrays the call before left. -/
theorem handed3 : (V7 m ρ c main_v3_0 : Big) = W6 m ρ c main_v2_0 ∧ (V7 m ρ c main_v3_1 : Big) = W6 m ρ c main_v2_1 ∧
    (V7 m ρ c main_v3_2 : Big) = W6 m ρ c main_v2_2 ∧ (V7 m ρ c main_v3_3 : Big) = W6 m ρ c main_v2_3 := by
  refine ⟨?_, ?_, ?_, ?_⟩ <;> (show StableHlo.after hostOps3 (W6 m ρ c) _ = _; after_results; rfl)

theorem done0 : Done m c 0 (W6 m ρ c main_v2_0) (W6 m ρ c main_v2_1) (W6 m ρ c main_v2_2) (W6 m ρ c main_v2_3)
    (W8 m ρ c main_v3_0) (W8 m ρ c main_v3_1) (W8 m ρ c main_v3_2) (W8 m ρ c main_v3_3) := by
  have ha : ∀ a ∈ argRefs, V7 m ρ c a = arg m c a := W7_args m ρ c
  have h := And.intro (grad3 (V7 m ρ) c) (And.intro (step3 (V7 m ρ) c) (And.intro (mean3 (V7 m ρ) c) (square3 (V7 m ρ) c)))
  rw [ha main_arg0 (by decide), ha main_arg1 (by decide), ha main_arg2 (by decide), ha main_arg3 (by decide), (handed3 m ρ c).1, (handed3 m ρ c).2.1, (handed3 m ρ c).2.2.1, (handed3 m ρ c).2.2.2] at h
  exact ⟨(W8_arr m ρ c 12).trans h.1, (W8_arr m ρ c 13).trans h.2.1, (W8_arr m ρ c 14).trans h.2.2.1, (W8_arr m ρ c 15).trans h.2.2.2⟩

/-- Every layer of the four arrays, after the last call. -/
theorem stepped : (W8 m ρ c main_v3_0 : Big) = stack (fun k => gradOf m c k) ∧ (W8 m ρ c main_v3_1 : Big) = stack (fun k => stepOf m c k) ∧
    (W8 m ρ c main_v3_2 : Big) = stack (fun k => avgOf m c k) ∧ (W8 m ρ c main_v3_3 : Big) = stack (fun k => avg2Of m c k) :=
  ⟨stack_of _ (done3 m ρ c).1 (done2 m ρ c).1 (done1 m ρ c).1 (done0 m ρ c).1,
    stack_of _ (done3 m ρ c).2.1 (done2 m ρ c).2.1 (done1 m ρ c).2.1 (done0 m ρ c).2.1,
    stack_of _ (done3 m ρ c).2.2.1 (done2 m ρ c).2.2.1 (done1 m ρ c).2.2.1 (done0 m ρ c).2.2.1,
    stack_of _ (done3 m ρ c).2.2.2 (done2 m ρ c).2.2.2 (done1 m ρ c).2.2.2 (done0 m ρ c).2.2.2⟩

local notation "𝕄" => MT nD τ sig Unit (Elt Ideal) ℕ (UR sig nD τ) ℕ

-- the launch lemma's implicit arguments are found by unifying its conclusion with this one, which takes unfolding plain
-- definitions in a metavariable's type
set_option backward.isDefEq.respectTransparency.types false in
/-- The run: it ends, with every layer stepped and the arguments as they were. -/
theorem run : θ_run defs (onTc (τ := τ) (main (F := Ideal))) ⟨m, fun _ => 0, ρ⟩ (fun r => ∀ c : Dev nD,
      (r.2.mem ((c.tc : Thread nD τ).loc main_v3_0) : Big) = stack (fun k => gradOf m c k)
      ∧ (r.2.mem ((c.tc : Thread nD τ).loc main_v3_1) : Big) = stack (fun k => stepOf m c k)
      ∧ (r.2.mem ((c.tc : Thread nD τ).loc main_v3_2) : Big) = stack (fun k => avgOf m c k)
      ∧ (r.2.mem ((c.tc : Thread nD τ).loc main_v3_3) : Big) = stack (fun k => avg2Of m c k)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => fun c =>
      ⟨(h c _ (mem_uc main_v3_0 (by decide))).trans (stepped m ρ c).1,
       (h c _ (mem_uc main_v3_1 (by decide))).trans (stepped m ρ c).2.1,
       (h c _ (mem_uc main_v3_2 (by decide))).trans (stepped m ρ c).2.2.1,
       (h c _ (mem_uc main_v3_3 (by decide))).trans (stepped m ρ c).2.2.2,
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c)⟩)

end Cert.AdamwOutIdeal.Step

end
-- ==== Proof.AdamwOutClaim.lean ====
module

public import proofs.«01_k».proof.Defs
public import proofs.«01_k».proof.Proof.AdamwOutRun
public import proofs.«01_k».proof.Proof.Gen.AdamwOutRefIdeal.Run
public import proofs.«01_k».proof.Proof.Gen.AdamwOutRefIdeal.Read
public import Idealize.ShloMosaic.Lib.Claim

/-! The claim about the four calls on the output weight: the reference adds each layer's parts, lays the layers one after
the other, and steps the whole array at once. -/

@[expose] public section

set_option maxHeartbeats 1000000
set_option maxRecDepth 16384

noncomputable section

namespace Cert.AdamwOutIdeal.Step

open Idealize.ShloMosaic Idealize.ShloMosaic.TcCoe Idealize.SL.Sem

section
open Cert.AdamwOutRefIdeal Cert.AdamwOutRefIdeal.Read

/-- The reference's sum of a layer's parts. -/
theorem ref_sum (l : Land) (r : Fin 512) (j : Fin 4096) : val_main_v1 (F := Ideal) l (ix2 r j) = layGrad l r j := by
  pointwise [val_main_v1, val_main_v0, val_main_cst]
  rw [Fin.sum_univ_eight]
  rfl

theorem ref_piece (l : Land) (z : Fin 1) (r : Fin 512) (j : Fin 4096) : val_main_v8 (F := Ideal) l (ix3 z r j) = layGrad l r j := by
  pointwise [val_main_v8]
  exact ref_sum l r j

/-- A layer, as a piece of the array of all four. -/
theorem ref_pieceAt (l : Land) (k : Fin 4) (r : Fin 512) (j : Fin 4096) (n : ℕ) (v : EReal) (hv : (k : ℕ) = n → layGrad l r j = v) :
    PieceAt (t := S4x512x4096) 0 (ix3 k r j) v S1x512x4096 (val_main_v8 (F := Ideal) l) n := by
  intro hk hr i h0 hb
  have h1 : (i 1 : Fin 512) = r := Fin.ext (hb 1 (by decide))
  have h2 : (i 2 : Fin 4096) = j := Fin.ext (hb 2 (by decide))
  rw [eq_ix3 i]
  refine (ref_piece l (i 0) (i 1) (i 2)).trans ?_
  rw [h1, h2]
  exact hv hk

variable (w m v : Big) (l : Fin 4 → Land)

/-- The reference's gradient. -/
theorem ref_grad (k : Fin 4) (r : Fin 512) (j : Fin 4096) :
    val_main_v12 (F := Ideal) (l 0) (l 1) (l 2) (l 3) (ix3 k r j) = layGrad (l k) r j := by
  unfold val_main_v12
  refine concatenate_unit_eq _ _ _ _ _ rfl ⟨ref_pieceAt _ k r j _ _ ?_, ref_pieceAt _ k r j _ _ ?_, ref_pieceAt _ k r j _ _ ?_,
    ref_pieceAt _ k r j _ _ ?_, trivial⟩
  all_goals exact fun hk => congrArg (fun q : Fin 4 => layGrad (l q) r j) (Fin.ext hk.symm)

theorem ref_avg (k : Fin 4) (r : Fin 512) (j : Fin 4096) :
    val_main_v17 (F := Ideal) m (l 0) (l 1) (l 2) (l 3) (ix3 k r j) = layAvg m (l k) k r j := by
  pointwise [val_main_v17, val_main_v16, val_main_v15, val_main_v14, val_main_v13, val_main_cst_3, val_main_cst_4]
  rw [ref_grad]
  rfl

theorem ref_avg2 (k : Fin 4) (r : Fin 512) (j : Fin 4096) :
    val_main_v23 (F := Ideal) v (l 0) (l 1) (l 2) (l 3) (ix3 k r j) = layAvg2 v (l k) k r j := by
  pointwise [val_main_v23, val_main_v22, val_main_v21, val_main_v20, val_main_v19, val_main_v18, val_main_cst_5, val_main_cst_6]
  rw [ref_grad]
  rfl

theorem ref_step (k : Fin 4) (r : Fin 512) (j : Fin 4096) :
    val_main_v36 (F := Ideal) w m v (l 0) (l 1) (l 2) (l 3) (ix3 k r j) = layStep w m v (l k) k r j := by
  pointwise [val_main_v36, val_main_v35, val_main_v34, val_main_v33, val_main_v32, val_main_v31, val_main_v30, val_main_v29, val_main_v28,
    val_main_v27, val_main_v26, val_main_v25, val_main_v24, val_main_cst_7, val_main_cst_8, val_main_cst_9, val_main_cst_10, val_main_cst_11]
  rw [ref_avg, ref_avg2]
  rfl

/-- An array is the stack of its layers. -/
theorem eq_stack (x : Big) (f : Fin 4 → Fin 512 → Fin 4096 → EReal) (h : ∀ k r j, x (ix3 k r j) = f k r j) : x = stack f := by
  funext i
  conv_lhs => rw [eq_ix3 i]
  exact h (i 0) (i 1) (i 2)
end

/-- The step on the output weight, claimed: its four arrays are the reference's. -/
theorem algebraic : Cert.algebraic_AdamwOutIdeal_AdamwOutRefIdeal := by
  pair_intro
  · run_from run m g
  · run_from Cert.AdamwOutRefIdeal.Value.run m' g'
    · refine (Cert.AdamwOutRefIdeal.Read.val_main_v12_eq _ _ _ _).trans ?_
      obtain ⟨h0, h1, h2, h3, h4, h5, h6, _⟩ := hagree c
      rw [h3, h4, h5, h6]
      exact eq_stack _ _ (ref_grad (lands m c))
    · refine (Cert.AdamwOutRefIdeal.Read.val_main_v36_eq _ _).trans ?_
      obtain ⟨h0, h1, h2, h3, h4, h5, h6, _⟩ := hagree c
      rw [h0, h1, h2, h3, h4, h5, h6]
      exact eq_stack _ _ (ref_step _ _ _ (lands m c))
    · refine (Cert.AdamwOutRefIdeal.Read.val_main_v17_eq _ _ _ _ _).trans ?_
      obtain ⟨h0, h1, h2, h3, h4, h5, h6, _⟩ := hagree c
      rw [h3, h4, h5, h6]
      exact eq_stack _ _ (ref_avg _ (lands m c))
    · refine (Cert.AdamwOutRefIdeal.Read.val_main_v23_eq _ _ _ _ _).trans ?_
      obtain ⟨h0, h1, h2, h3, h4, h5, h6, _⟩ := hagree c
      rw [h3, h4, h5, h6]
      exact eq_stack _ _ (ref_avg2 _ (lands m c))

end Cert.AdamwOutIdeal.Step

end
-- ==== Proof.References.lean ====
module

public import proofs.«01_k».proof.Defs
public import proofs.«01_k».proof.Proof.Gen.ReferenceIdeal.Run
public import proofs.«01_k».proof.Proof.Gen.DWoutRefIdeal.Run
public import proofs.«01_k».proof.Proof.Gen.DYRefIdeal.Run
public import proofs.«01_k».proof.Proof.Gen.AttnFwdRefIdeal.Run
public import proofs.«01_k».proof.Proof.Gen.DWinRefIdeal.Run
public import proofs.«01_k».proof.Proof.Gen.DHRefIdeal.Run
public import proofs.«01_k».proof.Proof.Gen.OutProjRefIdeal.Run
public import proofs.«01_k».proof.Proof.Gen.RmsBwdRefIdeal.Run
public import proofs.«01_k».proof.Proof.Gen.AdamwRefIdeal.Run
public import proofs.«01_k».proof.Proof.Gen.RmsFwdRefIdeal.Run
public import proofs.«01_k».proof.Proof.Gen.LossRefIdeal.Run
public import proofs.«01_k».proof.Proof.Gen.AdamwInRefIdeal.Run
public import proofs.«01_k».proof.Proof.Gen.AdamwOutRefIdeal.Run
public import Idealize.ShloMosaic.Lib.Quiescent

/-! The references' frames: each is its run with the results dropped; a host program declares no semaphore, so every
counter is at zero. -/

@[expose] public section

set_option maxRecDepth 16384

noncomputable section

namespace Cert.References

open Idealize.ShloMosaic Idealize.ShloMosaic.TcCoe Idealize.SL.Sem

theorem ReferenceIdeal : Cert.quiescent_ReferenceIdeal := fun m g _ =>
  (θ_run _ _ _).mono (fun r h => ⟨fun c => (h c).2.2.2, sem_eq_zero_of_no_sems rfl r.2⟩) (Cert.ReferenceIdeal.Value.run m g)

theorem DWoutRefIdeal : Cert.quiescent_DWoutRefIdeal := fun m g _ =>
  (θ_run _ _ _).mono (fun r h => ⟨fun c => (h c).2, sem_eq_zero_of_no_sems rfl r.2⟩) (Cert.DWoutRefIdeal.Value.run m g)

theorem DYRefIdeal : Cert.quiescent_DYRefIdeal := fun m g _ =>
  (θ_run _ _ _).mono (fun r h => ⟨fun c => (h c).2, sem_eq_zero_of_no_sems rfl r.2⟩) (Cert.DYRefIdeal.Value.run m g)

theorem AttnFwdRefIdeal : Cert.quiescent_AttnFwdRefIdeal := fun m g _ =>
  (θ_run _ _ _).mono (fun r h => ⟨fun c => (h c).2.2, sem_eq_zero_of_no_sems rfl r.2⟩) (Cert.AttnFwdRefIdeal.Value.run m g)

theorem DWinRefIdeal : Cert.quiescent_DWinRefIdeal := fun m g _ =>
  (θ_run _ _ _).mono (fun r h => ⟨fun c => (h c).2, sem_eq_zero_of_no_sems rfl r.2⟩) (Cert.DWinRefIdeal.Value.run m g)

theorem DHRefIdeal : Cert.quiescent_DHRefIdeal := fun m g _ =>
  (θ_run _ _ _).mono (fun r h => ⟨fun c => (h c).2, sem_eq_zero_of_no_sems rfl r.2⟩) (Cert.DHRefIdeal.Value.run m g)

theorem OutProjRefIdeal : Cert.quiescent_OutProjRefIdeal := fun m g _ =>
  (θ_run _ _ _).mono (fun r h => ⟨fun c => (h c).2, sem_eq_zero_of_no_sems rfl r.2⟩) (Cert.OutProjRefIdeal.Value.run m g)

theorem RmsBwdRefIdeal : Cert.quiescent_RmsBwdRefIdeal := fun m g _ =>
  (θ_run _ _ _).mono (fun r h => ⟨fun c => (h c).2.2.2, sem_eq_zero_of_no_sems rfl r.2⟩) (Cert.RmsBwdRefIdeal.Value.run m g)

theorem AdamwRefIdeal : Cert.quiescent_AdamwRefIdeal := fun m g _ =>
  (θ_run _ _ _).mono (fun r h => ⟨fun c => (h c).2.2.2, sem_eq_zero_of_no_sems rfl r.2⟩) (Cert.AdamwRefIdeal.Value.run m g)

theorem RmsFwdRefIdeal : Cert.quiescent_RmsFwdRefIdeal := fun m g _ =>
  (θ_run _ _ _).mono (fun r h => ⟨fun c => (h c).2.2, sem_eq_zero_of_no_sems rfl r.2⟩) (Cert.RmsFwdRefIdeal.Value.run m g)

theorem LossRefIdeal : Cert.quiescent_LossRefIdeal := fun m g _ =>
  (θ_run _ _ _).mono (fun r h => ⟨fun c => (h c).2.2.2.2, sem_eq_zero_of_no_sems rfl r.2⟩) (Cert.LossRefIdeal.Value.run m g)

theorem AdamwInRefIdeal : Cert.quiescent_AdamwInRefIdeal := fun m g _ =>
  (θ_run _ _ _).mono (fun r h => ⟨fun c => (h c).2.2.2.2, sem_eq_zero_of_no_sems rfl r.2⟩) (Cert.AdamwInRefIdeal.Value.run m g)

theorem AdamwOutRefIdeal : Cert.quiescent_AdamwOutRefIdeal := fun m g _ =>
  (θ_run _ _ _).mono (fun r h => ⟨fun c => (h c).2.2.2.2, sem_eq_zero_of_no_sems rfl r.2⟩) (Cert.AdamwOutRefIdeal.Value.run m g)

end Cert.References

end
-- ==== Proof.lean ====
module

public import proofs.«01_k».proof.Proof.Gen.RmsFwd.Frame
public import proofs.«01_k».proof.Proof.Gen.RmsFwdIdeal.Value
public import proofs.«01_k».proof.Proof.Gen.RmsFwdRefIdeal.Run
public import proofs.«01_k».proof.Proof.Gen.RmsFwdRefIdeal.Read
public import proofs.«01_k».proof.Proof.Gen.Loss.Frame
public import proofs.«01_k».proof.Proof.Gen.LossIdeal.Value
public import proofs.«01_k».proof.Proof.Gen.LossRefIdeal.Run
public import proofs.«01_k».proof.Proof.Gen.LossRefIdeal.Read
public import proofs.«01_k».proof.Proof.Gen.AdamwIn.Frame
public import proofs.«01_k».proof.Proof.Gen.AdamwOut.Frame
public import proofs.«01_k».proof.Proof.Gen.AdamwInIdeal.Frame
public import proofs.«01_k».proof.Proof.Gen.AdamwInRefIdeal.Run
public import proofs.«01_k».proof.Proof.Gen.AdamwInRefIdeal.Read
public import proofs.«01_k».proof.Proof.Gen.RmsBwd.Frame
public import proofs.«01_k».proof.Proof.Gen.RmsBwdIdeal.Value
public import proofs.«01_k».proof.Proof.Gen.RmsBwdRefIdeal.Run
public import proofs.«01_k».proof.Proof.Gen.RmsBwdRefIdeal.Read
public import proofs.«01_k».proof.Proof.Gen.Adamw.Frame
public import proofs.«01_k».proof.Proof.Gen.AdamwIdeal.Value
public import proofs.«01_k».proof.Proof.Gen.AdamwRefIdeal.Run
public import proofs.«01_k».proof.Proof.Gen.AdamwRefIdeal.Read
public import proofs.«01_k».proof.Proof.Gen.AttnFwd.Frame
public import proofs.«01_k».proof.Proof.Gen.DWin.Frame
public import proofs.«01_k».proof.Proof.Gen.DH.Frame
public import proofs.«01_k».proof.Proof.Gen.OutProj.Frame
public import proofs.«01_k».proof.Proof.Gen.AttnFwdRefIdeal
public import proofs.«01_k».proof.Proof.Gen.DWinRefIdeal
public import proofs.«01_k».proof.Proof.Gen.DHRefIdeal
public import proofs.«01_k».proof.Proof.Gen.OutProjRefIdeal
public import proofs.«01_k».proof.Proof.Gen.Pre_finite_qk
public import proofs.«01_k».proof.Proof.Gen.AttnFwdIdeal.Value
public import proofs.«01_k».proof.Proof.Gen.DWinIdeal.Value
public import proofs.«01_k».proof.Proof.Gen.DHIdeal.Value
public import proofs.«01_k».proof.Proof.Gen.OutProjIdeal.Value
public import proofs.«01_k».proof.Proof.Gen.AttnFwdRefIdeal.Run
public import proofs.«01_k».proof.Proof.Gen.AttnFwdRefIdeal.Read
public import proofs.«01_k».proof.Proof.Gen.DWinRefIdeal.Run
public import proofs.«01_k».proof.Proof.Gen.DWinRefIdeal.Read
public import proofs.«01_k».proof.Proof.Gen.DHRefIdeal.Run
public import proofs.«01_k».proof.Proof.Gen.DHRefIdeal.Read
public import proofs.«01_k».proof.Proof.Gen.OutProjRefIdeal.Run
public import proofs.«01_k».proof.Proof.Gen.OutProjRefIdeal.Read
public import proofs.«01_k».proof.Proof.Gen.KernelIdeal.Value
public import proofs.«01_k».proof.Proof.Gen.DWoutIdeal.Value
public import proofs.«01_k».proof.Proof.Gen.DYIdeal.Value
public import proofs.«01_k».proof.Proof.Gen.ReferenceIdeal.Run
public import proofs.«01_k».proof.Proof.Gen.ReferenceIdeal.Read
public import proofs.«01_k».proof.Proof.Gen.DWoutRefIdeal.Run
public import proofs.«01_k».proof.Proof.Gen.DWoutRefIdeal.Read
public import proofs.«01_k».proof.Proof.Gen.DYRefIdeal.Run
public import proofs.«01_k».proof.Proof.Gen.DYRefIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.DWout
public import proofs.«01_k».proof.Proof.Gen.DWout.Skeleton
public import proofs.«01_k».proof.Proof.Gen.DWout.Launch
public import proofs.«01_k».proof.Proof.Gen.DWout.Points
public import proofs.«01_k».proof.Proof.Gen.DWout.Frame
public import proofs.«01_k».proof.Proof.Gen.DWoutIdeal
public import proofs.«01_k».proof.Proof.Gen.DWoutIdeal.Skeleton
public import proofs.«01_k».proof.Proof.Gen.DWoutIdeal.Launch
public import proofs.«01_k».proof.Proof.Gen.DWoutIdeal.Points
public import proofs.«01_k».proof.Proof.Gen.DWoutIdeal.Frame
public import proofs.«01_k».proof.Proof.Gen.DWoutRefIdeal
public import proofs.«01_k».proof.Proof.Gen.DY
public import proofs.«01_k».proof.Proof.Gen.DY.Skeleton
public import proofs.«01_k».proof.Proof.Gen.DY.Launch
public import proofs.«01_k».proof.Proof.Gen.DY.Points
public import proofs.«01_k».proof.Proof.Gen.DY.Frame
public import proofs.«01_k».proof.Proof.Gen.DYIdeal
public import proofs.«01_k».proof.Proof.Gen.DYIdeal.Skeleton
public import proofs.«01_k».proof.Proof.Gen.DYIdeal.Launch
public import proofs.«01_k».proof.Proof.Gen.DYIdeal.Points
public import proofs.«01_k».proof.Proof.Gen.DYIdeal.Frame
public import proofs.«01_k».proof.Proof.Gen.DYRefIdeal
public import proofs.«01_k».proof.Proof.Gen.Pre_finite
public import Idealize.ShloMosaic.Adequacy
public import Idealize.ShloMosaic.Init
public import proofs.«01_k».proof.Proof.AttnClaim
public import proofs.«01_k».proof.Proof.AttnFwdClaim
public import proofs.«01_k».proof.Proof.DWoutClaim
public import proofs.«01_k».proof.Proof.DYClaim
public import proofs.«01_k».proof.Proof.DWinClaim
public import proofs.«01_k».proof.Proof.DHClaim
public import proofs.«01_k».proof.Proof.OutProjClaim
public import proofs.«01_k».proof.Proof.RmsBwdClaim
public import proofs.«01_k».proof.Proof.AdamwClaim
public import proofs.«01_k».proof.Proof.RmsFwdClaim
public import proofs.«01_k».proof.Proof.LossClaim
public import proofs.«01_k».proof.Proof.AdamwInClaim
public import proofs.«01_k».proof.Proof.AdamwOutClaim
public import proofs.«01_k».proof.Proof.References

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.DWout.Gen.facts, Cert.DWoutIdeal.Gen.facts, Cert.DWoutRefIdeal.Gen.facts, Cert.DY.Gen.facts, Cert.DYIdeal.Gen.facts, Cert.DYRefIdeal.Gen.facts, Cert.AttnFwd.Gen.facts, Cert.AttnFwdIdeal.Gen.facts, Cert.AttnFwdRefIdeal.Gen.facts, Cert.DWin.Gen.facts, Cert.DWinIdeal.Gen.facts, Cert.DWinRefIdeal.Gen.facts, Cert.DH.Gen.facts, Cert.DHIdeal.Gen.facts, Cert.DHRefIdeal.Gen.facts, Cert.OutProj.Gen.facts, Cert.OutProjIdeal.Gen.facts, Cert.OutProjRefIdeal.Gen.facts, Cert.RmsBwd.Gen.facts, Cert.RmsBwdIdeal.Gen.facts, Cert.RmsBwdRefIdeal.Gen.facts, Cert.Adamw.Gen.facts, Cert.AdamwIdeal.Gen.facts, Cert.AdamwRefIdeal.Gen.facts, Cert.RmsFwd.Gen.facts, Cert.RmsFwdIdeal.Gen.facts, Cert.RmsFwdRefIdeal.Gen.facts, Cert.Loss.Gen.facts, Cert.LossIdeal.Gen.facts, Cert.LossRefIdeal.Gen.facts, Cert.AdamwIn.Gen.facts, Cert.AdamwInIdeal.Gen.facts, Cert.AdamwInRefIdeal.Gen.facts, Cert.AdamwOut.Gen.facts, Cert.AdamwOutIdeal.Gen.facts, Cert.AdamwOutRefIdeal.Gen.facts, Cert.Pre_finite.Gen.facts, Cert.Pre_finite_qk.Gen.facts,
   fun m g _ => Cert.Kernel.Gen.frame m g,
   fun m g _ => Cert.KernelIdeal.Gen.frame m g,
   fun m g _ => Cert.KernelIdeal.Gen.frame m g,
   fun m g _ => Cert.References.ReferenceIdeal m g trivial,
   fun m g _ => Cert.References.ReferenceIdeal m g trivial,
   fun m g _ => Cert.DWout.Gen.frame m g,
   fun m g _ => Cert.DWoutIdeal.Gen.frame m g,
   fun m g _ => Cert.References.DWoutRefIdeal m g trivial,
   fun m g _ => Cert.DY.Gen.frame m g,
   fun m g _ => Cert.DYIdeal.Gen.frame m g,
   fun m g _ => Cert.References.DYRefIdeal m g trivial,
   fun m g _ => Cert.AttnFwd.Gen.frame m g,
   fun m g _ => Cert.AttnFwdIdeal.Gen.frame m g,
   fun m g _ => Cert.AttnFwdIdeal.Gen.frame m g,
   fun m g _ => Cert.References.AttnFwdRefIdeal m g trivial,
   fun m g _ => Cert.References.AttnFwdRefIdeal m g trivial,
   fun m g _ => Cert.DWin.Gen.frame m g,
   fun m g _ => Cert.DWinIdeal.Gen.frame m g,
   fun m g _ => Cert.References.DWinRefIdeal m g trivial,
   fun m g _ => Cert.DH.Gen.frame m g,
   fun m g _ => Cert.DHIdeal.Gen.frame m g,
   fun m g _ => Cert.References.DHRefIdeal m g trivial,
   fun m g _ => Cert.OutProj.Gen.frame m g,
   fun m g _ => Cert.OutProjIdeal.Gen.frame m g,
   fun m g _ => Cert.References.OutProjRefIdeal m g trivial,
   fun m g _ => Cert.RmsBwd.Gen.frame m g,
   fun m g _ => Cert.RmsBwdIdeal.Gen.frame m g,
   fun m g _ => Cert.References.RmsBwdRefIdeal m g trivial,
   fun m g _ => Cert.Adamw.Gen.frame m g,
   fun m g _ => Cert.AdamwIdeal.Gen.frame m g,
   fun m g _ => Cert.References.AdamwRefIdeal m g trivial,
   fun m g _ => Cert.RmsFwd.Gen.frame m g,
   fun m g _ => Cert.RmsFwdIdeal.Gen.frame m g,
   fun m g _ => Cert.References.RmsFwdRefIdeal m g trivial,
   fun m g _ => Cert.Loss.Gen.frame m g,
   fun m g _ => Cert.LossIdeal.Gen.frame m g,
   fun m g _ => Cert.References.LossRefIdeal m g trivial,
   fun m g _ => Cert.AdamwIn.Gen.frame m g,
   fun m g _ => Cert.AdamwInIdeal.Gen.frame m g,
   fun m g _ => Cert.References.AdamwInRefIdeal m g trivial,
   fun m g _ => Cert.AdamwOut.Gen.frame m g,
   fun m g _ => Cert.AdamwOutIdeal.Gen.frame m g,
   fun m g _ => Cert.References.AdamwOutRefIdeal m g trivial,
   trivial,
   Cert.KernelIdeal.Attn.algebraic,
   trivial,
   Cert.DWoutIdeal.Product.algebraic,
   trivial,
   Cert.DYIdeal.Product.algebraic,
   trivial,
   Cert.AttnFwdIdeal.Attn.algebraic,
   trivial,
   Cert.DWinIdeal.Product.algebraic,
   trivial,
   Cert.DHIdeal.Product.algebraic,
   trivial,
   Cert.OutProjIdeal.Product.algebraic,
   trivial,
   Cert.RmsBwdIdeal.Norm.algebraic,
   trivial,
   Cert.AdamwIdeal.Step.algebraic,
   trivial,
   Cert.RmsFwdIdeal.Norm.algebraic,
   trivial,
   Cert.LossIdeal.Head.algebraic,
   trivial,
   Cert.AdamwInIdeal.Step.algebraic,
   trivial,
   Cert.AdamwOutIdeal.Step.algebraic⟩

end Cert.Proof

end
